-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_FrontSample (m : (ℓ : Loc Cert.FrontSample.nD Cert.FrontSample.τ Cert.FrontSample.sig) → Buf (Elt Bits) ℓ) : Prop :=
  True

def Pre_FrontSampleIdeal (m : (ℓ : Loc Cert.FrontSampleIdeal.nD Cert.FrontSampleIdeal.τ Cert.FrontSampleIdeal.sig) → Buf (Elt Ideal) ℓ) : Prop :=
  True

def Pre_FrontSampleRefIdeal (m : (ℓ : Loc Cert.FrontSampleRefIdeal.nD Cert.FrontSampleRefIdeal.τ Cert.FrontSampleRefIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleRefIdeal (m : (ℓ : Loc Cert.FfnSampleRefIdeal.nD Cert.FfnSampleRefIdeal.τ Cert.FfnSampleRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_OutSample (m : (ℓ : Loc Cert.OutSample.nD Cert.OutSample.τ Cert.OutSample.sig) → Buf (Elt Bits) ℓ) : Prop :=
  True

def Pre_OutSampleIdeal (m : (ℓ : Loc Cert.OutSampleIdeal.nD Cert.OutSampleIdeal.τ Cert.OutSampleIdeal.sig) → Buf (Elt Ideal) ℓ) : Prop :=
  True

def Pre_OutSampleRefIdeal (m : (ℓ : Loc Cert.OutSampleRefIdeal.nD Cert.OutSampleRefIdeal.τ Cert.OutSampleRefIdeal.sig) → Buf (Elt Ideal) ℓ) : Prop :=
  True

def Pre_PoolSample (m : (ℓ : Loc Cert.PoolSample.nD Cert.PoolSample.τ Cert.PoolSample.sig) → Buf (Elt Bits) ℓ) : Prop :=
  True

def Pre_PoolSampleIdeal (m : (ℓ : Loc Cert.PoolSampleIdeal.nD Cert.PoolSampleIdeal.τ Cert.PoolSampleIdeal.sig) → Buf (Elt Ideal) ℓ) : Prop :=
  True

def Pre_PoolSampleRefIdeal (m : (ℓ : Loc Cert.PoolSampleRefIdeal.nD Cert.PoolSampleRefIdeal.τ Cert.PoolSampleRefIdeal.sig) → Buf (Elt Ideal) ℓ) : Prop :=
  True

def Pre_MixSample (m : (ℓ : Loc Cert.MixSample.nD Cert.MixSample.τ Cert.MixSample.sig) → Buf (Elt Bits) ℓ) : Prop :=
  True

def Pre_MixSampleIdeal (m : (ℓ : Loc Cert.MixSampleIdeal.nD Cert.MixSampleIdeal.τ Cert.MixSampleIdeal.sig) → Buf (Elt Ideal) ℓ) : Prop :=
  True

def Pre_MixSampleRefIdeal (m : (ℓ : Loc Cert.MixSampleRefIdeal.nD Cert.MixSampleRefIdeal.τ Cert.MixSampleRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_FrontSample [hFrontSample : Cert.FrontSample.Facts] : Prop :=
  ∀ (m : (ℓ : Loc Cert.FrontSample.nD Cert.FrontSample.τ Cert.FrontSample.sig) → Buf (Elt Bits) ℓ) (g : Dev Cert.FrontSample.nD → PrngReg), Pre_FrontSample m →
    θ_run (Cert.FrontSample.defs (F := Bits)) (onTc (τ := Cert.FrontSample.τ) (Cert.FrontSample.main (F := Bits))) ⟨m, fun _ => 0, g⟩ (fun r => (∀ c : Dev Cert.FrontSample.nD,
      r.2.mem ((c.tc : Thread Cert.FrontSample.nD Cert.FrontSample.τ).loc Cert.FrontSample.main_arg0) = m ((c.tc : Thread Cert.FrontSample.nD Cert.FrontSample.τ).loc Cert.FrontSample.main_arg0)
      ∧ r.2.mem ((c.tc : Thread Cert.FrontSample.nD Cert.FrontSample.τ).loc Cert.FrontSample.main_arg1) = m ((c.tc : Thread Cert.FrontSample.nD Cert.FrontSample.τ).loc Cert.FrontSample.main_arg1)
      ∧ r.2.mem ((c.tc : Thread Cert.FrontSample.nD Cert.FrontSample.τ).loc Cert.FrontSample.main_arg2) = m ((c.tc : Thread Cert.FrontSample.nD Cert.FrontSample.τ).loc Cert.FrontSample.main_arg2)
      ∧ r.2.mem ((c.tc : Thread Cert.FrontSample.nD Cert.FrontSample.τ).loc Cert.FrontSample.main_arg3) = m ((c.tc : Thread Cert.FrontSample.nD Cert.FrontSample.τ).loc Cert.FrontSample.main_arg3)
      ∧ r.2.mem ((c.tc : Thread Cert.FrontSample.nD Cert.FrontSample.τ).loc Cert.FrontSample.main_arg4) = m ((c.tc : Thread Cert.FrontSample.nD Cert.FrontSample.τ).loc Cert.FrontSample.main_arg4))
      ∧ r.2.sem = fun _ => 0)

def quiescent_FrontSampleIdeal [hFrontSampleIdeal : Cert.FrontSampleIdeal.Facts] : Prop :=
  ∀ (m : (ℓ : Loc Cert.FrontSampleIdeal.nD Cert.FrontSampleIdeal.τ Cert.FrontSampleIdeal.sig) → Buf (Elt Ideal) ℓ) (g : Dev Cert.FrontSampleIdeal.nD → PrngReg), Pre_FrontSampleIdeal m →
    θ_run (Cert.FrontSampleIdeal.defs (F := Ideal)) (onTc (τ := Cert.FrontSampleIdeal.τ) (Cert.FrontSampleIdeal.main (F := Ideal))) ⟨m, fun _ => 0, g⟩ (fun r => (∀ c : Dev Cert.FrontSampleIdeal.nD,
      r.2.mem ((c.tc : Thread Cert.FrontSampleIdeal.nD Cert.FrontSampleIdeal.τ).loc Cert.FrontSampleIdeal.main_arg0) = m ((c.tc : Thread Cert.FrontSampleIdeal.nD Cert.FrontSampleIdeal.τ).loc Cert.FrontSampleIdeal.main_arg0)
      ∧ r.2.mem ((c.tc : Thread Cert.FrontSampleIdeal.nD Cert.FrontSampleIdeal.τ).loc Cert.FrontSampleIdeal.main_arg1) = m ((c.tc : Thread Cert.FrontSampleIdeal.nD Cert.FrontSampleIdeal.τ).loc Cert.FrontSampleIdeal.main_arg1)
      ∧ r.2.mem ((c.tc : Thread Cert.FrontSampleIdeal.nD Cert.FrontSampleIdeal.τ).loc Cert.FrontSampleIdeal.main_arg2) = m ((c.tc : Thread Cert.FrontSampleIdeal.nD Cert.FrontSampleIdeal.τ).loc Cert.FrontSampleIdeal.main_arg2)
      ∧ r.2.mem ((c.tc : Thread Cert.FrontSampleIdeal.nD Cert.FrontSampleIdeal.τ).loc Cert.FrontSampleIdeal.main_arg3) = m ((c.tc : Thread Cert.FrontSampleIdeal.nD Cert.FrontSampleIdeal.τ).loc Cert.FrontSampleIdeal.main_arg3)
      ∧ r.2.mem ((c.tc : Thread Cert.FrontSampleIdeal.nD Cert.FrontSampleIdeal.τ).loc Cert.FrontSampleIdeal.main_arg4) = m ((c.tc : Thread Cert.FrontSampleIdeal.nD Cert.FrontSampleIdeal.τ).loc Cert.FrontSampleIdeal.main_arg4))
      ∧ r.2.sem = fun _ => 0)

def quiescent_FrontSampleRefIdeal [hFrontSampleRefIdeal : Cert.FrontSampleRefIdeal.Facts] : Prop :=
  ∀ (m : (ℓ : Loc Cert.FrontSampleRefIdeal.nD Cert.FrontSampleRefIdeal.τ Cert.FrontSampleRefIdeal.sig) → Buf (Elt Ideal) ℓ) (g : Dev Cert.FrontSampleRefIdeal.nD → PrngReg), Pre_FrontSampleRefIdeal m →
    θ_run (Cert.FrontSampleRefIdeal.defs (F := Ideal)) (onTc (τ := Cert.FrontSampleRefIdeal.τ) (Cert.FrontSampleRefIdeal.main (F := Ideal))) ⟨m, fun _ => 0, g⟩ (fun r => (∀ c : Dev Cert.FrontSampleRefIdeal.nD,
      r.2.mem ((c.tc : Thread Cert.FrontSampleRefIdeal.nD Cert.FrontSampleRefIdeal.τ).loc Cert.FrontSampleRefIdeal.main_arg0) = m ((c.tc : Thread Cert.FrontSampleRefIdeal.nD Cert.FrontSampleRefIdeal.τ).loc Cert.FrontSampleRefIdeal.main_arg0)
      ∧ r.2.mem ((c.tc : Thread Cert.FrontSampleRefIdeal.nD Cert.FrontSampleRefIdeal.τ).loc Cert.FrontSampleRefIdeal.main_arg1) = m ((c.tc : Thread Cert.FrontSampleRefIdeal.nD Cert.FrontSampleRefIdeal.τ).loc Cert.FrontSampleRefIdeal.main_arg1)
      ∧ r.2.mem ((c.tc : Thread Cert.FrontSampleRefIdeal.nD Cert.FrontSampleRefIdeal.τ).loc Cert.FrontSampleRefIdeal.main_arg2) = m ((c.tc : Thread Cert.FrontSampleRefIdeal.nD Cert.FrontSampleRefIdeal.τ).loc Cert.FrontSampleRefIdeal.main_arg2)
      ∧ r.2.mem ((c.tc : Thread Cert.FrontSampleRefIdeal.nD Cert.FrontSampleRefIdeal.τ).loc Cert.FrontSampleRefIdeal.main_arg3) = m ((c.tc : Thread Cert.FrontSampleRefIdeal.nD Cert.FrontSampleRefIdeal.τ).loc Cert.FrontSampleRefIdeal.main_arg3)
      ∧ r.2.mem ((c.tc : Thread Cert.FrontSampleRefIdeal.nD Cert.FrontSampleRefIdeal.τ).loc Cert.FrontSampleRefIdeal.main_arg4) = m ((c.tc : Thread Cert.FrontSampleRefIdeal.nD Cert.FrontSampleRefIdeal.τ).loc Cert.FrontSampleRefIdeal.main_arg4))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5))
      ∧ r.2.sem = fun _ => 0)

def quiescent_FfnSampleRefIdeal [hFfnSampleRefIdeal : Cert.FfnSampleRefIdeal.Facts] : Prop :=
  ∀ (m : (ℓ : Loc Cert.FfnSampleRefIdeal.nD Cert.FfnSampleRefIdeal.τ Cert.FfnSampleRefIdeal.sig) → Buf (Elt Ideal) ℓ) (g : Dev Cert.FfnSampleRefIdeal.nD → PrngReg), Pre_FfnSampleRefIdeal m →
    θ_run (Cert.FfnSampleRefIdeal.defs (F := Ideal)) (onTc (τ := Cert.FfnSampleRefIdeal.τ) (Cert.FfnSampleRefIdeal.main (F := Ideal))) ⟨m, fun _ => 0, g⟩ (fun r => (∀ c : Dev Cert.FfnSampleRefIdeal.nD,
      r.2.mem ((c.tc : Thread Cert.FfnSampleRefIdeal.nD Cert.FfnSampleRefIdeal.τ).loc Cert.FfnSampleRefIdeal.main_arg0) = m ((c.tc : Thread Cert.FfnSampleRefIdeal.nD Cert.FfnSampleRefIdeal.τ).loc Cert.FfnSampleRefIdeal.main_arg0)
      ∧ r.2.mem ((c.tc : Thread Cert.FfnSampleRefIdeal.nD Cert.FfnSampleRefIdeal.τ).loc Cert.FfnSampleRefIdeal.main_arg1) = m ((c.tc : Thread Cert.FfnSampleRefIdeal.nD Cert.FfnSampleRefIdeal.τ).loc Cert.FfnSampleRefIdeal.main_arg1)
      ∧ r.2.mem ((c.tc : Thread Cert.FfnSampleRefIdeal.nD Cert.FfnSampleRefIdeal.τ).loc Cert.FfnSampleRefIdeal.main_arg2) = m ((c.tc : Thread Cert.FfnSampleRefIdeal.nD Cert.FfnSampleRefIdeal.τ).loc Cert.FfnSampleRefIdeal.main_arg2)
      ∧ r.2.mem ((c.tc : Thread Cert.FfnSampleRefIdeal.nD Cert.FfnSampleRefIdeal.τ).loc Cert.FfnSampleRefIdeal.main_arg3) = m ((c.tc : Thread Cert.FfnSampleRefIdeal.nD Cert.FfnSampleRefIdeal.τ).loc Cert.FfnSampleRefIdeal.main_arg3)
      ∧ r.2.mem ((c.tc : Thread Cert.FfnSampleRefIdeal.nD Cert.FfnSampleRefIdeal.τ).loc Cert.FfnSampleRefIdeal.main_arg4) = m ((c.tc : Thread Cert.FfnSampleRefIdeal.nD Cert.FfnSampleRefIdeal.τ).loc Cert.FfnSampleRefIdeal.main_arg4)
      ∧ r.2.mem ((c.tc : Thread Cert.FfnSampleRefIdeal.nD Cert.FfnSampleRefIdeal.τ).loc Cert.FfnSampleRefIdeal.main_arg5) = m ((c.tc : Thread Cert.FfnSampleRefIdeal.nD Cert.FfnSampleRefIdeal.τ).loc Cert.FfnSampleRefIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_OutSample [hOutSample : Cert.OutSample.Facts] : Prop :=
  ∀ (m : (ℓ : Loc Cert.OutSample.nD Cert.OutSample.τ Cert.OutSample.sig) → Buf (Elt Bits) ℓ) (g : Dev Cert.OutSample.nD → PrngReg), Pre_OutSample m →
    θ_run (Cert.OutSample.defs (F := Bits)) (onTc (τ := Cert.OutSample.τ) (Cert.OutSample.main (F := Bits))) ⟨m, fun _ => 0, g⟩ (fun r => (∀ c : Dev Cert.OutSample.nD,
      r.2.mem ((c.tc : Thread Cert.OutSample.nD Cert.OutSample.τ).loc Cert.OutSample.main_arg0) = m ((c.tc : Thread Cert.OutSample.nD Cert.OutSample.τ).loc Cert.OutSample.main_arg0)
      ∧ r.2.mem ((c.tc : Thread Cert.OutSample.nD Cert.OutSample.τ).loc Cert.OutSample.main_arg1) = m ((c.tc : Thread Cert.OutSample.nD Cert.OutSample.τ).loc Cert.OutSample.main_arg1)
      ∧ r.2.mem ((c.tc : Thread Cert.OutSample.nD Cert.OutSample.τ).loc Cert.OutSample.main_arg2) = m ((c.tc : Thread Cert.OutSample.nD Cert.OutSample.τ).loc Cert.OutSample.main_arg2)
      ∧ r.2.mem ((c.tc : Thread Cert.OutSample.nD Cert.OutSample.τ).loc Cert.OutSample.main_arg3) = m ((c.tc : Thread Cert.OutSample.nD Cert.OutSample.τ).loc Cert.OutSample.main_arg3)
      ∧ r.2.mem ((c.tc : Thread Cert.OutSample.nD Cert.OutSample.τ).loc Cert.OutSample.main_arg4) = m ((c.tc : Thread Cert.OutSample.nD Cert.OutSample.τ).loc Cert.OutSample.main_arg4)
      ∧ r.2.mem ((c.tc : Thread Cert.OutSample.nD Cert.OutSample.τ).loc Cert.OutSample.main_arg5) = m ((c.tc : Thread Cert.OutSample.nD Cert.OutSample.τ).loc Cert.OutSample.main_arg5)
      ∧ r.2.mem ((c.tc : Thread Cert.OutSample.nD Cert.OutSample.τ).loc Cert.OutSample.main_arg6) = m ((c.tc : Thread Cert.OutSample.nD Cert.OutSample.τ).loc Cert.OutSample.main_arg6))
      ∧ r.2.sem = fun _ => 0)

def quiescent_OutSampleIdeal [hOutSampleIdeal : Cert.OutSampleIdeal.Facts] : Prop :=
  ∀ (m : (ℓ : Loc Cert.OutSampleIdeal.nD Cert.OutSampleIdeal.τ Cert.OutSampleIdeal.sig) → Buf (Elt Ideal) ℓ) (g : Dev Cert.OutSampleIdeal.nD → PrngReg), Pre_OutSampleIdeal m →
    θ_run (Cert.OutSampleIdeal.defs (F := Ideal)) (onTc (τ := Cert.OutSampleIdeal.τ) (Cert.OutSampleIdeal.main (F := Ideal))) ⟨m, fun _ => 0, g⟩ (fun r => (∀ c : Dev Cert.OutSampleIdeal.nD,
      r.2.mem ((c.tc : Thread Cert.OutSampleIdeal.nD Cert.OutSampleIdeal.τ).loc Cert.OutSampleIdeal.main_arg0) = m ((c.tc : Thread Cert.OutSampleIdeal.nD Cert.OutSampleIdeal.τ).loc Cert.OutSampleIdeal.main_arg0)
      ∧ r.2.mem ((c.tc : Thread Cert.OutSampleIdeal.nD Cert.OutSampleIdeal.τ).loc Cert.OutSampleIdeal.main_arg1) = m ((c.tc : Thread Cert.OutSampleIdeal.nD Cert.OutSampleIdeal.τ).loc Cert.OutSampleIdeal.main_arg1)
      ∧ r.2.mem ((c.tc : Thread Cert.OutSampleIdeal.nD Cert.OutSampleIdeal.τ).loc Cert.OutSampleIdeal.main_arg2) = m ((c.tc : Thread Cert.OutSampleIdeal.nD Cert.OutSampleIdeal.τ).loc Cert.OutSampleIdeal.main_arg2)
      ∧ r.2.mem ((c.tc : Thread Cert.OutSampleIdeal.nD Cert.OutSampleIdeal.τ).loc Cert.OutSampleIdeal.main_arg3) = m ((c.tc : Thread Cert.OutSampleIdeal.nD Cert.OutSampleIdeal.τ).loc Cert.OutSampleIdeal.main_arg3)
      ∧ r.2.mem ((c.tc : Thread Cert.OutSampleIdeal.nD Cert.OutSampleIdeal.τ).loc Cert.OutSampleIdeal.main_arg4) = m ((c.tc : Thread Cert.OutSampleIdeal.nD Cert.OutSampleIdeal.τ).loc Cert.OutSampleIdeal.main_arg4)
      ∧ r.2.mem ((c.tc : Thread Cert.OutSampleIdeal.nD Cert.OutSampleIdeal.τ).loc Cert.OutSampleIdeal.main_arg5) = m ((c.tc : Thread Cert.OutSampleIdeal.nD Cert.OutSampleIdeal.τ).loc Cert.OutSampleIdeal.main_arg5)
      ∧ r.2.mem ((c.tc : Thread Cert.OutSampleIdeal.nD Cert.OutSampleIdeal.τ).loc Cert.OutSampleIdeal.main_arg6) = m ((c.tc : Thread Cert.OutSampleIdeal.nD Cert.OutSampleIdeal.τ).loc Cert.OutSampleIdeal.main_arg6))
      ∧ r.2.sem = fun _ => 0)

def quiescent_OutSampleRefIdeal [hOutSampleRefIdeal : Cert.OutSampleRefIdeal.Facts] : Prop :=
  ∀ (m : (ℓ : Loc Cert.OutSampleRefIdeal.nD Cert.OutSampleRefIdeal.τ Cert.OutSampleRefIdeal.sig) → Buf (Elt Ideal) ℓ) (g : Dev Cert.OutSampleRefIdeal.nD → PrngReg), Pre_OutSampleRefIdeal m →
    θ_run (Cert.OutSampleRefIdeal.defs (F := Ideal)) (onTc (τ := Cert.OutSampleRefIdeal.τ) (Cert.OutSampleRefIdeal.main (F := Ideal))) ⟨m, fun _ => 0, g⟩ (fun r => (∀ c : Dev Cert.OutSampleRefIdeal.nD,
      r.2.mem ((c.tc : Thread Cert.OutSampleRefIdeal.nD Cert.OutSampleRefIdeal.τ).loc Cert.OutSampleRefIdeal.main_arg0) = m ((c.tc : Thread Cert.OutSampleRefIdeal.nD Cert.OutSampleRefIdeal.τ).loc Cert.OutSampleRefIdeal.main_arg0)
      ∧ r.2.mem ((c.tc : Thread Cert.OutSampleRefIdeal.nD Cert.OutSampleRefIdeal.τ).loc Cert.OutSampleRefIdeal.main_arg1) = m ((c.tc : Thread Cert.OutSampleRefIdeal.nD Cert.OutSampleRefIdeal.τ).loc Cert.OutSampleRefIdeal.main_arg1)
      ∧ r.2.mem ((c.tc : Thread Cert.OutSampleRefIdeal.nD Cert.OutSampleRefIdeal.τ).loc Cert.OutSampleRefIdeal.main_arg2) = m ((c.tc : Thread Cert.OutSampleRefIdeal.nD Cert.OutSampleRefIdeal.τ).loc Cert.OutSampleRefIdeal.main_arg2)
      ∧ r.2.mem ((c.tc : Thread Cert.OutSampleRefIdeal.nD Cert.OutSampleRefIdeal.τ).loc Cert.OutSampleRefIdeal.main_arg3) = m ((c.tc : Thread Cert.OutSampleRefIdeal.nD Cert.OutSampleRefIdeal.τ).loc Cert.OutSampleRefIdeal.main_arg3)
      ∧ r.2.mem ((c.tc : Thread Cert.OutSampleRefIdeal.nD Cert.OutSampleRefIdeal.τ).loc Cert.OutSampleRefIdeal.main_arg4) = m ((c.tc : Thread Cert.OutSampleRefIdeal.nD Cert.OutSampleRefIdeal.τ).loc Cert.OutSampleRefIdeal.main_arg4)
      ∧ r.2.mem ((c.tc : Thread Cert.OutSampleRefIdeal.nD Cert.OutSampleRefIdeal.τ).loc Cert.OutSampleRefIdeal.main_arg5) = m ((c.tc : Thread Cert.OutSampleRefIdeal.nD Cert.OutSampleRefIdeal.τ).loc Cert.OutSampleRefIdeal.main_arg5)
      ∧ r.2.mem ((c.tc : Thread Cert.OutSampleRefIdeal.nD Cert.OutSampleRefIdeal.τ).loc Cert.OutSampleRefIdeal.main_arg6) = m ((c.tc : Thread Cert.OutSampleRefIdeal.nD Cert.OutSampleRefIdeal.τ).loc Cert.OutSampleRefIdeal.main_arg6))
      ∧ r.2.sem = fun _ => 0)

def quiescent_PoolSample [hPoolSample : Cert.PoolSample.Facts] : Prop :=
  ∀ (m : (ℓ : Loc Cert.PoolSample.nD Cert.PoolSample.τ Cert.PoolSample.sig) → Buf (Elt Bits) ℓ) (g : Dev Cert.PoolSample.nD → PrngReg), Pre_PoolSample m →
    θ_run (Cert.PoolSample.defs (F := Bits)) (onTc (τ := Cert.PoolSample.τ) (Cert.PoolSample.main (F := Bits))) ⟨m, fun _ => 0, g⟩ (fun r => (∀ c : Dev Cert.PoolSample.nD,
      r.2.mem ((c.tc : Thread Cert.PoolSample.nD Cert.PoolSample.τ).loc Cert.PoolSample.main_arg0) = m ((c.tc : Thread Cert.PoolSample.nD Cert.PoolSample.τ).loc Cert.PoolSample.main_arg0))
      ∧ r.2.sem = fun _ => 0)

def quiescent_PoolSampleIdeal [hPoolSampleIdeal : Cert.PoolSampleIdeal.Facts] : Prop :=
  ∀ (m : (ℓ : Loc Cert.PoolSampleIdeal.nD Cert.PoolSampleIdeal.τ Cert.PoolSampleIdeal.sig) → Buf (Elt Ideal) ℓ) (g : Dev Cert.PoolSampleIdeal.nD → PrngReg), Pre_PoolSampleIdeal m →
    θ_run (Cert.PoolSampleIdeal.defs (F := Ideal)) (onTc (τ := Cert.PoolSampleIdeal.τ) (Cert.PoolSampleIdeal.main (F := Ideal))) ⟨m, fun _ => 0, g⟩ (fun r => (∀ c : Dev Cert.PoolSampleIdeal.nD,
      r.2.mem ((c.tc : Thread Cert.PoolSampleIdeal.nD Cert.PoolSampleIdeal.τ).loc Cert.PoolSampleIdeal.main_arg0) = m ((c.tc : Thread Cert.PoolSampleIdeal.nD Cert.PoolSampleIdeal.τ).loc Cert.PoolSampleIdeal.main_arg0))
      ∧ r.2.sem = fun _ => 0)

def quiescent_PoolSampleRefIdeal [hPoolSampleRefIdeal : Cert.PoolSampleRefIdeal.Facts] : Prop :=
  ∀ (m : (ℓ : Loc Cert.PoolSampleRefIdeal.nD Cert.PoolSampleRefIdeal.τ Cert.PoolSampleRefIdeal.sig) → Buf (Elt Ideal) ℓ) (g : Dev Cert.PoolSampleRefIdeal.nD → PrngReg), Pre_PoolSampleRefIdeal m →
    θ_run (Cert.PoolSampleRefIdeal.defs (F := Ideal)) (onTc (τ := Cert.PoolSampleRefIdeal.τ) (Cert.PoolSampleRefIdeal.main (F := Ideal))) ⟨m, fun _ => 0, g⟩ (fun r => (∀ c : Dev Cert.PoolSampleRefIdeal.nD,
      r.2.mem ((c.tc : Thread Cert.PoolSampleRefIdeal.nD Cert.PoolSampleRefIdeal.τ).loc Cert.PoolSampleRefIdeal.main_arg0) = m ((c.tc : Thread Cert.PoolSampleRefIdeal.nD Cert.PoolSampleRefIdeal.τ).loc Cert.PoolSampleRefIdeal.main_arg0))
      ∧ r.2.sem = fun _ => 0)

def quiescent_MixSample [hMixSample : Cert.MixSample.Facts] : Prop :=
  ∀ (m : (ℓ : Loc Cert.MixSample.nD Cert.MixSample.τ Cert.MixSample.sig) → Buf (Elt Bits) ℓ) (g : Dev Cert.MixSample.nD → PrngReg), Pre_MixSample m →
    θ_run (Cert.MixSample.defs (F := Bits)) (onTc (τ := Cert.MixSample.τ) (Cert.MixSample.main (F := Bits))) ⟨m, fun _ => 0, g⟩ (fun r => (∀ c : Dev Cert.MixSample.nD,
      r.2.mem ((c.tc : Thread Cert.MixSample.nD Cert.MixSample.τ).loc Cert.MixSample.main_arg0) = m ((c.tc : Thread Cert.MixSample.nD Cert.MixSample.τ).loc Cert.MixSample.main_arg0)
      ∧ r.2.mem ((c.tc : Thread Cert.MixSample.nD Cert.MixSample.τ).loc Cert.MixSample.main_arg1) = m ((c.tc : Thread Cert.MixSample.nD Cert.MixSample.τ).loc Cert.MixSample.main_arg1)
      ∧ r.2.mem ((c.tc : Thread Cert.MixSample.nD Cert.MixSample.τ).loc Cert.MixSample.main_arg2) = m ((c.tc : Thread Cert.MixSample.nD Cert.MixSample.τ).loc Cert.MixSample.main_arg2)
      ∧ r.2.mem ((c.tc : Thread Cert.MixSample.nD Cert.MixSample.τ).loc Cert.MixSample.main_arg3) = m ((c.tc : Thread Cert.MixSample.nD Cert.MixSample.τ).loc Cert.MixSample.main_arg3)
      ∧ r.2.mem ((c.tc : Thread Cert.MixSample.nD Cert.MixSample.τ).loc Cert.MixSample.main_arg4) = m ((c.tc : Thread Cert.MixSample.nD Cert.MixSample.τ).loc Cert.MixSample.main_arg4)
      ∧ r.2.mem ((c.tc : Thread Cert.MixSample.nD Cert.MixSample.τ).loc Cert.MixSample.main_arg5) = m ((c.tc : Thread Cert.MixSample.nD Cert.MixSample.τ).loc Cert.MixSample.main_arg5)
      ∧ r.2.mem ((c.tc : Thread Cert.MixSample.nD Cert.MixSample.τ).loc Cert.MixSample.main_arg6) = m ((c.tc : Thread Cert.MixSample.nD Cert.MixSample.τ).loc Cert.MixSample.main_arg6))
      ∧ r.2.sem = fun _ => 0)

def quiescent_MixSampleIdeal [hMixSampleIdeal : Cert.MixSampleIdeal.Facts] : Prop :=
  ∀ (m : (ℓ : Loc Cert.MixSampleIdeal.nD Cert.MixSampleIdeal.τ Cert.MixSampleIdeal.sig) → Buf (Elt Ideal) ℓ) (g : Dev Cert.MixSampleIdeal.nD → PrngReg), Pre_MixSampleIdeal m →
    θ_run (Cert.MixSampleIdeal.defs (F := Ideal)) (onTc (τ := Cert.MixSampleIdeal.τ) (Cert.MixSampleIdeal.main (F := Ideal))) ⟨m, fun _ => 0, g⟩ (fun r => (∀ c : Dev Cert.MixSampleIdeal.nD,
      r.2.mem ((c.tc : Thread Cert.MixSampleIdeal.nD Cert.MixSampleIdeal.τ).loc Cert.MixSampleIdeal.main_arg0) = m ((c.tc : Thread Cert.MixSampleIdeal.nD Cert.MixSampleIdeal.τ).loc Cert.MixSampleIdeal.main_arg0)
      ∧ r.2.mem ((c.tc : Thread Cert.MixSampleIdeal.nD Cert.MixSampleIdeal.τ).loc Cert.MixSampleIdeal.main_arg1) = m ((c.tc : Thread Cert.MixSampleIdeal.nD Cert.MixSampleIdeal.τ).loc Cert.MixSampleIdeal.main_arg1)
      ∧ r.2.mem ((c.tc : Thread Cert.MixSampleIdeal.nD Cert.MixSampleIdeal.τ).loc Cert.MixSampleIdeal.main_arg2) = m ((c.tc : Thread Cert.MixSampleIdeal.nD Cert.MixSampleIdeal.τ).loc Cert.MixSampleIdeal.main_arg2)
      ∧ r.2.mem ((c.tc : Thread Cert.MixSampleIdeal.nD Cert.MixSampleIdeal.τ).loc Cert.MixSampleIdeal.main_arg3) = m ((c.tc : Thread Cert.MixSampleIdeal.nD Cert.MixSampleIdeal.τ).loc Cert.MixSampleIdeal.main_arg3)
      ∧ r.2.mem ((c.tc : Thread Cert.MixSampleIdeal.nD Cert.MixSampleIdeal.τ).loc Cert.MixSampleIdeal.main_arg4) = m ((c.tc : Thread Cert.MixSampleIdeal.nD Cert.MixSampleIdeal.τ).loc Cert.MixSampleIdeal.main_arg4)
      ∧ r.2.mem ((c.tc : Thread Cert.MixSampleIdeal.nD Cert.MixSampleIdeal.τ).loc Cert.MixSampleIdeal.main_arg5) = m ((c.tc : Thread Cert.MixSampleIdeal.nD Cert.MixSampleIdeal.τ).loc Cert.MixSampleIdeal.main_arg5)
      ∧ r.2.mem ((c.tc : Thread Cert.MixSampleIdeal.nD Cert.MixSampleIdeal.τ).loc Cert.MixSampleIdeal.main_arg6) = m ((c.tc : Thread Cert.MixSampleIdeal.nD Cert.MixSampleIdeal.τ).loc Cert.MixSampleIdeal.main_arg6))
      ∧ r.2.sem = fun _ => 0)

def quiescent_MixSampleRefIdeal [hMixSampleRefIdeal : Cert.MixSampleRefIdeal.Facts] : Prop :=
  ∀ (m : (ℓ : Loc Cert.MixSampleRefIdeal.nD Cert.MixSampleRefIdeal.τ Cert.MixSampleRefIdeal.sig) → Buf (Elt Ideal) ℓ) (g : Dev Cert.MixSampleRefIdeal.nD → PrngReg), Pre_MixSampleRefIdeal m →
    θ_run (Cert.MixSampleRefIdeal.defs (F := Ideal)) (onTc (τ := Cert.MixSampleRefIdeal.τ) (Cert.MixSampleRefIdeal.main (F := Ideal))) ⟨m, fun _ => 0, g⟩ (fun r => (∀ c : Dev Cert.MixSampleRefIdeal.nD,
      r.2.mem ((c.tc : Thread Cert.MixSampleRefIdeal.nD Cert.MixSampleRefIdeal.τ).loc Cert.MixSampleRefIdeal.main_arg0) = m ((c.tc : Thread Cert.MixSampleRefIdeal.nD Cert.MixSampleRefIdeal.τ).loc Cert.MixSampleRefIdeal.main_arg0)
      ∧ r.2.mem ((c.tc : Thread Cert.MixSampleRefIdeal.nD Cert.MixSampleRefIdeal.τ).loc Cert.MixSampleRefIdeal.main_arg1) = m ((c.tc : Thread Cert.MixSampleRefIdeal.nD Cert.MixSampleRefIdeal.τ).loc Cert.MixSampleRefIdeal.main_arg1)
      ∧ r.2.mem ((c.tc : Thread Cert.MixSampleRefIdeal.nD Cert.MixSampleRefIdeal.τ).loc Cert.MixSampleRefIdeal.main_arg2) = m ((c.tc : Thread Cert.MixSampleRefIdeal.nD Cert.MixSampleRefIdeal.τ).loc Cert.MixSampleRefIdeal.main_arg2)
      ∧ r.2.mem ((c.tc : Thread Cert.MixSampleRefIdeal.nD Cert.MixSampleRefIdeal.τ).loc Cert.MixSampleRefIdeal.main_arg3) = m ((c.tc : Thread Cert.MixSampleRefIdeal.nD Cert.MixSampleRefIdeal.τ).loc Cert.MixSampleRefIdeal.main_arg3)
      ∧ r.2.mem ((c.tc : Thread Cert.MixSampleRefIdeal.nD Cert.MixSampleRefIdeal.τ).loc Cert.MixSampleRefIdeal.main_arg4) = m ((c.tc : Thread Cert.MixSampleRefIdeal.nD Cert.MixSampleRefIdeal.τ).loc Cert.MixSampleRefIdeal.main_arg4)
      ∧ r.2.mem ((c.tc : Thread Cert.MixSampleRefIdeal.nD Cert.MixSampleRefIdeal.τ).loc Cert.MixSampleRefIdeal.main_arg5) = m ((c.tc : Thread Cert.MixSampleRefIdeal.nD Cert.MixSampleRefIdeal.τ).loc Cert.MixSampleRefIdeal.main_arg5)
      ∧ r.2.mem ((c.tc : Thread Cert.MixSampleRefIdeal.nD Cert.MixSampleRefIdeal.τ).loc Cert.MixSampleRefIdeal.main_arg6) = m ((c.tc : Thread Cert.MixSampleRefIdeal.nD Cert.MixSampleRefIdeal.τ).loc Cert.MixSampleRefIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v28) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v8_0)) (v1 : (c : Dev Cert.OutIdeal.nD) → Buf (Elt Ideal) ((c.tc : Thread Cert.OutIdeal.nD Cert.OutIdeal.τ).loc Cert.OutIdeal.main_v8_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v8_0) = v0 c
          ∧ r.2.mem ((c.tc : Thread Cert.OutIdeal.nD Cert.OutIdeal.τ).loc Cert.OutIdeal.main_v8_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v30) = v0 c
          ∧ r.2.mem ((c.tc : Thread Cert.OutRefIdeal.nD Cert.OutRefIdeal.τ).loc Cert.OutRefIdeal.main_v32) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def preserves_FrontSample_FrontSampleIdeal : Prop :=
  True

def algebraic_FrontSampleIdeal_FrontSampleRefIdeal [hFrontSampleIdeal : Cert.FrontSampleIdeal.Facts] [hFrontSampleRefIdeal : Cert.FrontSampleRefIdeal.Facts] : Prop :=
  ∀ (m : (ℓ : Loc Cert.FrontSampleIdeal.nD Cert.FrontSampleIdeal.τ Cert.FrontSampleIdeal.sig) → Buf (Elt Ideal) ℓ) (g : Dev Cert.FrontSampleIdeal.nD → PrngReg)
    (m' : (ℓ : Loc Cert.FrontSampleRefIdeal.nD Cert.FrontSampleRefIdeal.τ Cert.FrontSampleRefIdeal.sig) → Buf (Elt Ideal) ℓ) (g' : Dev Cert.FrontSampleRefIdeal.nD → PrngReg), Pre_FrontSampleIdeal m →
    (∀ c : Dev Cert.FrontSampleIdeal.nD,
      m' ((c.tc : Thread Cert.FrontSampleRefIdeal.nD Cert.FrontSampleRefIdeal.τ).loc Cert.FrontSampleRefIdeal.main_arg0) = m ((c.tc : Thread Cert.FrontSampleIdeal.nD Cert.FrontSampleIdeal.τ).loc Cert.FrontSampleIdeal.main_arg0)
      ∧ m' ((c.tc : Thread Cert.FrontSampleRefIdeal.nD Cert.FrontSampleRefIdeal.τ).loc Cert.FrontSampleRefIdeal.main_arg1) = m ((c.tc : Thread Cert.FrontSampleIdeal.nD Cert.FrontSampleIdeal.τ).loc Cert.FrontSampleIdeal.main_arg1)
      ∧ m' ((c.tc : Thread Cert.FrontSampleRefIdeal.nD Cert.FrontSampleRefIdeal.τ).loc Cert.FrontSampleRefIdeal.main_arg2) = m ((c.tc : Thread Cert.FrontSampleIdeal.nD Cert.FrontSampleIdeal.τ).loc Cert.FrontSampleIdeal.main_arg2)
      ∧ m' ((c.tc : Thread Cert.FrontSampleRefIdeal.nD Cert.FrontSampleRefIdeal.τ).loc Cert.FrontSampleRefIdeal.main_arg3) = m ((c.tc : Thread Cert.FrontSampleIdeal.nD Cert.FrontSampleIdeal.τ).loc Cert.FrontSampleIdeal.main_arg3)
      ∧ m' ((c.tc : Thread Cert.FrontSampleRefIdeal.nD Cert.FrontSampleRefIdeal.τ).loc Cert.FrontSampleRefIdeal.main_arg4) = m ((c.tc : Thread Cert.FrontSampleIdeal.nD Cert.FrontSampleIdeal.τ).loc Cert.FrontSampleIdeal.main_arg4)) →
    ∃ (v0 : (c : Dev Cert.FrontSampleIdeal.nD) → Buf (Elt Ideal) ((c.tc : Thread Cert.FrontSampleIdeal.nD Cert.FrontSampleIdeal.τ).loc Cert.FrontSampleIdeal.main_v9_0)) (v1 : (c : Dev Cert.FrontSampleIdeal.nD) → Buf (Elt Ideal) ((c.tc : Thread Cert.FrontSampleIdeal.nD Cert.FrontSampleIdeal.τ).loc Cert.FrontSampleIdeal.main_v9_1)),
      θ_run (Cert.FrontSampleIdeal.defs (F := Ideal)) (onTc (τ := Cert.FrontSampleIdeal.τ) (Cert.FrontSampleIdeal.main (F := Ideal))) ⟨m, fun _ => 0, g⟩ (fun r => ∀ c : Dev Cert.FrontSampleIdeal.nD,
          r.2.mem ((c.tc : Thread Cert.FrontSampleIdeal.nD Cert.FrontSampleIdeal.τ).loc Cert.FrontSampleIdeal.main_v9_0) = v0 c
          ∧ r.2.mem ((c.tc : Thread Cert.FrontSampleIdeal.nD Cert.FrontSampleIdeal.τ).loc Cert.FrontSampleIdeal.main_v9_1) = v1 c
          ∧ r.2.mem ((c.tc : Thread Cert.FrontSampleIdeal.nD Cert.FrontSampleIdeal.τ).loc Cert.FrontSampleIdeal.main_arg0) = m ((c.tc : Thread Cert.FrontSampleIdeal.nD Cert.FrontSampleIdeal.τ).loc Cert.FrontSampleIdeal.main_arg0)
          ∧ r.2.mem ((c.tc : Thread Cert.FrontSampleIdeal.nD Cert.FrontSampleIdeal.τ).loc Cert.FrontSampleIdeal.main_arg1) = m ((c.tc : Thread Cert.FrontSampleIdeal.nD Cert.FrontSampleIdeal.τ).loc Cert.FrontSampleIdeal.main_arg1)
          ∧ r.2.mem ((c.tc : Thread Cert.FrontSampleIdeal.nD Cert.FrontSampleIdeal.τ).loc Cert.FrontSampleIdeal.main_arg2) = m ((c.tc : Thread Cert.FrontSampleIdeal.nD Cert.FrontSampleIdeal.τ).loc Cert.FrontSampleIdeal.main_arg2)
          ∧ r.2.mem ((c.tc : Thread Cert.FrontSampleIdeal.nD Cert.FrontSampleIdeal.τ).loc Cert.FrontSampleIdeal.main_arg3) = m ((c.tc : Thread Cert.FrontSampleIdeal.nD Cert.FrontSampleIdeal.τ).loc Cert.FrontSampleIdeal.main_arg3)
          ∧ r.2.mem ((c.tc : Thread Cert.FrontSampleIdeal.nD Cert.FrontSampleIdeal.τ).loc Cert.FrontSampleIdeal.main_arg4) = m ((c.tc : Thread Cert.FrontSampleIdeal.nD Cert.FrontSampleIdeal.τ).loc Cert.FrontSampleIdeal.main_arg4))
      ∧ θ_run (Cert.FrontSampleRefIdeal.defs (F := Ideal)) (onTc (τ := Cert.FrontSampleRefIdeal.τ) (Cert.FrontSampleRefIdeal.main (F := Ideal))) ⟨m', fun _ => 0, g'⟩ (fun r => ∀ c : Dev Cert.FrontSampleRefIdeal.nD,
          r.2.mem ((c.tc : Thread Cert.FrontSampleRefIdeal.nD Cert.FrontSampleRefIdeal.τ).loc Cert.FrontSampleRefIdeal.main_v39) = v0 c
          ∧ r.2.mem ((c.tc : Thread Cert.FrontSampleRefIdeal.nD Cert.FrontSampleRefIdeal.τ).loc Cert.FrontSampleRefIdeal.main_v40) = v1 c
          ∧ r.2.mem ((c.tc : Thread Cert.FrontSampleRefIdeal.nD Cert.FrontSampleRefIdeal.τ).loc Cert.FrontSampleRefIdeal.main_arg0) = m' ((c.tc : Thread Cert.FrontSampleRefIdeal.nD Cert.FrontSampleRefIdeal.τ).loc Cert.FrontSampleRefIdeal.main_arg0)
          ∧ r.2.mem ((c.tc : Thread Cert.FrontSampleRefIdeal.nD Cert.FrontSampleRefIdeal.τ).loc Cert.FrontSampleRefIdeal.main_arg1) = m' ((c.tc : Thread Cert.FrontSampleRefIdeal.nD Cert.FrontSampleRefIdeal.τ).loc Cert.FrontSampleRefIdeal.main_arg1)
          ∧ r.2.mem ((c.tc : Thread Cert.FrontSampleRefIdeal.nD Cert.FrontSampleRefIdeal.τ).loc Cert.FrontSampleRefIdeal.main_arg2) = m' ((c.tc : Thread Cert.FrontSampleRefIdeal.nD Cert.FrontSampleRefIdeal.τ).loc Cert.FrontSampleRefIdeal.main_arg2)
          ∧ r.2.mem ((c.tc : Thread Cert.FrontSampleRefIdeal.nD Cert.FrontSampleRefIdeal.τ).loc Cert.FrontSampleRefIdeal.main_arg3) = m' ((c.tc : Thread Cert.FrontSampleRefIdeal.nD Cert.FrontSampleRefIdeal.τ).loc Cert.FrontSampleRefIdeal.main_arg3)
          ∧ r.2.mem ((c.tc : Thread Cert.FrontSampleRefIdeal.nD Cert.FrontSampleRefIdeal.τ).loc Cert.FrontSampleRefIdeal.main_arg4) = m' ((c.tc : Thread Cert.FrontSampleRefIdeal.nD Cert.FrontSampleRefIdeal.τ).loc Cert.FrontSampleRefIdeal.main_arg4))

def preserves_FfnSample_FfnSampleIdeal : Prop :=
  True

def algebraic_FfnSampleIdeal_FfnSampleRefIdeal [hFfnSampleIdeal : Cert.FfnSampleIdeal.Facts] [hFfnSampleRefIdeal : Cert.FfnSampleRefIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleRefIdeal.nD Cert.FfnSampleRefIdeal.τ Cert.FfnSampleRefIdeal.sig) → Buf (Elt Ideal) ℓ) (g' : Dev Cert.FfnSampleRefIdeal.nD → PrngReg), Pre_FfnSampleIdeal m →
    (∀ c : Dev Cert.FfnSampleIdeal.nD,
      m' ((c.tc : Thread Cert.FfnSampleRefIdeal.nD Cert.FfnSampleRefIdeal.τ).loc Cert.FfnSampleRefIdeal.main_arg0) = m ((c.tc : Thread Cert.FfnSampleIdeal.nD Cert.FfnSampleIdeal.τ).loc Cert.FfnSampleIdeal.main_arg0)
      ∧ m' ((c.tc : Thread Cert.FfnSampleRefIdeal.nD Cert.FfnSampleRefIdeal.τ).loc Cert.FfnSampleRefIdeal.main_arg1) = m ((c.tc : Thread Cert.FfnSampleIdeal.nD Cert.FfnSampleIdeal.τ).loc Cert.FfnSampleIdeal.main_arg1)
      ∧ m' ((c.tc : Thread Cert.FfnSampleRefIdeal.nD Cert.FfnSampleRefIdeal.τ).loc Cert.FfnSampleRefIdeal.main_arg2) = m ((c.tc : Thread Cert.FfnSampleIdeal.nD Cert.FfnSampleIdeal.τ).loc Cert.FfnSampleIdeal.main_arg2)
      ∧ m' ((c.tc : Thread Cert.FfnSampleRefIdeal.nD Cert.FfnSampleRefIdeal.τ).loc Cert.FfnSampleRefIdeal.main_arg3) = m ((c.tc : Thread Cert.FfnSampleIdeal.nD Cert.FfnSampleIdeal.τ).loc Cert.FfnSampleIdeal.main_arg3)
      ∧ m' ((c.tc : Thread Cert.FfnSampleRefIdeal.nD Cert.FfnSampleRefIdeal.τ).loc Cert.FfnSampleRefIdeal.main_arg4) = m ((c.tc : Thread Cert.FfnSampleIdeal.nD Cert.FfnSampleIdeal.τ).loc Cert.FfnSampleIdeal.main_arg4)
      ∧ m' ((c.tc : Thread Cert.FfnSampleRefIdeal.nD Cert.FfnSampleRefIdeal.τ).loc Cert.FfnSampleRefIdeal.main_arg5) = m ((c.tc : Thread Cert.FfnSampleIdeal.nD Cert.FfnSampleIdeal.τ).loc Cert.FfnSampleIdeal.main_arg5)) →
    ∃ (v0 : (c : Dev Cert.FfnSampleIdeal.nD) → Buf (Elt Ideal) ((c.tc : Thread Cert.FfnSampleIdeal.nD Cert.FfnSampleIdeal.τ).loc Cert.FfnSampleIdeal.main_v7)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v7) = v0 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5))
      ∧ θ_run (Cert.FfnSampleRefIdeal.defs (F := Ideal)) (onTc (τ := Cert.FfnSampleRefIdeal.τ) (Cert.FfnSampleRefIdeal.main (F := Ideal))) ⟨m', fun _ => 0, g'⟩ (fun r => ∀ c : Dev Cert.FfnSampleRefIdeal.nD,
          r.2.mem ((c.tc : Thread Cert.FfnSampleRefIdeal.nD Cert.FfnSampleRefIdeal.τ).loc Cert.FfnSampleRefIdeal.main_v28) = v0 c
          ∧ r.2.mem ((c.tc : Thread Cert.FfnSampleRefIdeal.nD Cert.FfnSampleRefIdeal.τ).loc Cert.FfnSampleRefIdeal.main_arg0) = m' ((c.tc : Thread Cert.FfnSampleRefIdeal.nD Cert.FfnSampleRefIdeal.τ).loc Cert.FfnSampleRefIdeal.main_arg0)
          ∧ r.2.mem ((c.tc : Thread Cert.FfnSampleRefIdeal.nD Cert.FfnSampleRefIdeal.τ).loc Cert.FfnSampleRefIdeal.main_arg1) = m' ((c.tc : Thread Cert.FfnSampleRefIdeal.nD Cert.FfnSampleRefIdeal.τ).loc Cert.FfnSampleRefIdeal.main_arg1)
          ∧ r.2.mem ((c.tc : Thread Cert.FfnSampleRefIdeal.nD Cert.FfnSampleRefIdeal.τ).loc Cert.FfnSampleRefIdeal.main_arg2) = m' ((c.tc : Thread Cert.FfnSampleRefIdeal.nD Cert.FfnSampleRefIdeal.τ).loc Cert.FfnSampleRefIdeal.main_arg2)
          ∧ r.2.mem ((c.tc : Thread Cert.FfnSampleRefIdeal.nD Cert.FfnSampleRefIdeal.τ).loc Cert.FfnSampleRefIdeal.main_arg3) = m' ((c.tc : Thread Cert.FfnSampleRefIdeal.nD Cert.FfnSampleRefIdeal.τ).loc Cert.FfnSampleRefIdeal.main_arg3)
          ∧ r.2.mem ((c.tc : Thread Cert.FfnSampleRefIdeal.nD Cert.FfnSampleRefIdeal.τ).loc Cert.FfnSampleRefIdeal.main_arg4) = m' ((c.tc : Thread Cert.FfnSampleRefIdeal.nD Cert.FfnSampleRefIdeal.τ).loc Cert.FfnSampleRefIdeal.main_arg4)
          ∧ r.2.mem ((c.tc : Thread Cert.FfnSampleRefIdeal.nD Cert.FfnSampleRefIdeal.τ).loc Cert.FfnSampleRefIdeal.main_arg5) = m' ((c.tc : Thread Cert.FfnSampleRefIdeal.nD Cert.FfnSampleRefIdeal.τ).loc Cert.FfnSampleRefIdeal.main_arg5))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v8)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v8) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v72) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v3)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v3) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v6) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_OutSample_OutSampleIdeal : Prop :=
  True

def algebraic_OutSampleIdeal_OutSampleRefIdeal [hOutSampleIdeal : Cert.OutSampleIdeal.Facts] [hOutSampleRefIdeal : Cert.OutSampleRefIdeal.Facts] : Prop :=
  ∀ (m : (ℓ : Loc Cert.OutSampleIdeal.nD Cert.OutSampleIdeal.τ Cert.OutSampleIdeal.sig) → Buf (Elt Ideal) ℓ) (g : Dev Cert.OutSampleIdeal.nD → PrngReg)
    (m' : (ℓ : Loc Cert.OutSampleRefIdeal.nD Cert.OutSampleRefIdeal.τ Cert.OutSampleRefIdeal.sig) → Buf (Elt Ideal) ℓ) (g' : Dev Cert.OutSampleRefIdeal.nD → PrngReg), Pre_OutSampleIdeal m →
    (∀ c : Dev Cert.OutSampleIdeal.nD,
      m' ((c.tc : Thread Cert.OutSampleRefIdeal.nD Cert.OutSampleRefIdeal.τ).loc Cert.OutSampleRefIdeal.main_arg0) = m ((c.tc : Thread Cert.OutSampleIdeal.nD Cert.OutSampleIdeal.τ).loc Cert.OutSampleIdeal.main_arg0)
      ∧ m' ((c.tc : Thread Cert.OutSampleRefIdeal.nD Cert.OutSampleRefIdeal.τ).loc Cert.OutSampleRefIdeal.main_arg1) = m ((c.tc : Thread Cert.OutSampleIdeal.nD Cert.OutSampleIdeal.τ).loc Cert.OutSampleIdeal.main_arg1)
      ∧ m' ((c.tc : Thread Cert.OutSampleRefIdeal.nD Cert.OutSampleRefIdeal.τ).loc Cert.OutSampleRefIdeal.main_arg2) = m ((c.tc : Thread Cert.OutSampleIdeal.nD Cert.OutSampleIdeal.τ).loc Cert.OutSampleIdeal.main_arg2)
      ∧ m' ((c.tc : Thread Cert.OutSampleRefIdeal.nD Cert.OutSampleRefIdeal.τ).loc Cert.OutSampleRefIdeal.main_arg3) = m ((c.tc : Thread Cert.OutSampleIdeal.nD Cert.OutSampleIdeal.τ).loc Cert.OutSampleIdeal.main_arg3)
      ∧ m' ((c.tc : Thread Cert.OutSampleRefIdeal.nD Cert.OutSampleRefIdeal.τ).loc Cert.OutSampleRefIdeal.main_arg4) = m ((c.tc : Thread Cert.OutSampleIdeal.nD Cert.OutSampleIdeal.τ).loc Cert.OutSampleIdeal.main_arg4)
      ∧ m' ((c.tc : Thread Cert.OutSampleRefIdeal.nD Cert.OutSampleRefIdeal.τ).loc Cert.OutSampleRefIdeal.main_arg5) = m ((c.tc : Thread Cert.OutSampleIdeal.nD Cert.OutSampleIdeal.τ).loc Cert.OutSampleIdeal.main_arg5)
      ∧ m' ((c.tc : Thread Cert.OutSampleRefIdeal.nD Cert.OutSampleRefIdeal.τ).loc Cert.OutSampleRefIdeal.main_arg6) = m ((c.tc : Thread Cert.OutSampleIdeal.nD Cert.OutSampleIdeal.τ).loc Cert.OutSampleIdeal.main_arg6)) →
    ∃ (v0 : (c : Dev Cert.OutSampleIdeal.nD) → Buf (Elt Ideal) ((c.tc : Thread Cert.OutSampleIdeal.nD Cert.OutSampleIdeal.τ).loc Cert.OutSampleIdeal.main_v11_0)) (v1 : (c : Dev Cert.OutSampleIdeal.nD) → Buf (Elt Ideal) ((c.tc : Thread Cert.OutSampleIdeal.nD Cert.OutSampleIdeal.τ).loc Cert.OutSampleIdeal.main_v11_1)),
      θ_run (Cert.OutSampleIdeal.defs (F := Ideal)) (onTc (τ := Cert.OutSampleIdeal.τ) (Cert.OutSampleIdeal.main (F := Ideal))) ⟨m, fun _ => 0, g⟩ (fun r => ∀ c : Dev Cert.OutSampleIdeal.nD,
          r.2.mem ((c.tc : Thread Cert.OutSampleIdeal.nD Cert.OutSampleIdeal.τ).loc Cert.OutSampleIdeal.main_v11_0) = v0 c
          ∧ r.2.mem ((c.tc : Thread Cert.OutSampleIdeal.nD Cert.OutSampleIdeal.τ).loc Cert.OutSampleIdeal.main_v11_1) = v1 c
          ∧ r.2.mem ((c.tc : Thread Cert.OutSampleIdeal.nD Cert.OutSampleIdeal.τ).loc Cert.OutSampleIdeal.main_arg0) = m ((c.tc : Thread Cert.OutSampleIdeal.nD Cert.OutSampleIdeal.τ).loc Cert.OutSampleIdeal.main_arg0)
          ∧ r.2.mem ((c.tc : Thread Cert.OutSampleIdeal.nD Cert.OutSampleIdeal.τ).loc Cert.OutSampleIdeal.main_arg1) = m ((c.tc : Thread Cert.OutSampleIdeal.nD Cert.OutSampleIdeal.τ).loc Cert.OutSampleIdeal.main_arg1)
          ∧ r.2.mem ((c.tc : Thread Cert.OutSampleIdeal.nD Cert.OutSampleIdeal.τ).loc Cert.OutSampleIdeal.main_arg2) = m ((c.tc : Thread Cert.OutSampleIdeal.nD Cert.OutSampleIdeal.τ).loc Cert.OutSampleIdeal.main_arg2)
          ∧ r.2.mem ((c.tc : Thread Cert.OutSampleIdeal.nD Cert.OutSampleIdeal.τ).loc Cert.OutSampleIdeal.main_arg3) = m ((c.tc : Thread Cert.OutSampleIdeal.nD Cert.OutSampleIdeal.τ).loc Cert.OutSampleIdeal.main_arg3)
          ∧ r.2.mem ((c.tc : Thread Cert.OutSampleIdeal.nD Cert.OutSampleIdeal.τ).loc Cert.OutSampleIdeal.main_arg4) = m ((c.tc : Thread Cert.OutSampleIdeal.nD Cert.OutSampleIdeal.τ).loc Cert.OutSampleIdeal.main_arg4)
          ∧ r.2.mem ((c.tc : Thread Cert.OutSampleIdeal.nD Cert.OutSampleIdeal.τ).loc Cert.OutSampleIdeal.main_arg5) = m ((c.tc : Thread Cert.OutSampleIdeal.nD Cert.OutSampleIdeal.τ).loc Cert.OutSampleIdeal.main_arg5)
          ∧ r.2.mem ((c.tc : Thread Cert.OutSampleIdeal.nD Cert.OutSampleIdeal.τ).loc Cert.OutSampleIdeal.main_arg6) = m ((c.tc : Thread Cert.OutSampleIdeal.nD Cert.OutSampleIdeal.τ).loc Cert.OutSampleIdeal.main_arg6))
      ∧ θ_run (Cert.OutSampleRefIdeal.defs (F := Ideal)) (onTc (τ := Cert.OutSampleRefIdeal.τ) (Cert.OutSampleRefIdeal.main (F := Ideal))) ⟨m', fun _ => 0, g'⟩ (fun r => ∀ c : Dev Cert.OutSampleRefIdeal.nD,
          r.2.mem ((c.tc : Thread Cert.OutSampleRefIdeal.nD Cert.OutSampleRefIdeal.τ).loc Cert.OutSampleRefIdeal.main_v30) = v0 c
          ∧ r.2.mem ((c.tc : Thread Cert.OutSampleRefIdeal.nD Cert.OutSampleRefIdeal.τ).loc Cert.OutSampleRefIdeal.main_v32) = v1 c
          ∧ r.2.mem ((c.tc : Thread Cert.OutSampleRefIdeal.nD Cert.OutSampleRefIdeal.τ).loc Cert.OutSampleRefIdeal.main_arg0) = m' ((c.tc : Thread Cert.OutSampleRefIdeal.nD Cert.OutSampleRefIdeal.τ).loc Cert.OutSampleRefIdeal.main_arg0)
          ∧ r.2.mem ((c.tc : Thread Cert.OutSampleRefIdeal.nD Cert.OutSampleRefIdeal.τ).loc Cert.OutSampleRefIdeal.main_arg1) = m' ((c.tc : Thread Cert.OutSampleRefIdeal.nD Cert.OutSampleRefIdeal.τ).loc Cert.OutSampleRefIdeal.main_arg1)
          ∧ r.2.mem ((c.tc : Thread Cert.OutSampleRefIdeal.nD Cert.OutSampleRefIdeal.τ).loc Cert.OutSampleRefIdeal.main_arg2) = m' ((c.tc : Thread Cert.OutSampleRefIdeal.nD Cert.OutSampleRefIdeal.τ).loc Cert.OutSampleRefIdeal.main_arg2)
          ∧ r.2.mem ((c.tc : Thread Cert.OutSampleRefIdeal.nD Cert.OutSampleRefIdeal.τ).loc Cert.OutSampleRefIdeal.main_arg3) = m' ((c.tc : Thread Cert.OutSampleRefIdeal.nD Cert.OutSampleRefIdeal.τ).loc Cert.OutSampleRefIdeal.main_arg3)
          ∧ r.2.mem ((c.tc : Thread Cert.OutSampleRefIdeal.nD Cert.OutSampleRefIdeal.τ).loc Cert.OutSampleRefIdeal.main_arg4) = m' ((c.tc : Thread Cert.OutSampleRefIdeal.nD Cert.OutSampleRefIdeal.τ).loc Cert.OutSampleRefIdeal.main_arg4)
          ∧ r.2.mem ((c.tc : Thread Cert.OutSampleRefIdeal.nD Cert.OutSampleRefIdeal.τ).loc Cert.OutSampleRefIdeal.main_arg5) = m' ((c.tc : Thread Cert.OutSampleRefIdeal.nD Cert.OutSampleRefIdeal.τ).loc Cert.OutSampleRefIdeal.main_arg5)
          ∧ r.2.mem ((c.tc : Thread Cert.OutSampleRefIdeal.nD Cert.OutSampleRefIdeal.τ).loc Cert.OutSampleRefIdeal.main_arg6) = m' ((c.tc : Thread Cert.OutSampleRefIdeal.nD Cert.OutSampleRefIdeal.τ).loc Cert.OutSampleRefIdeal.main_arg6))

def preserves_PoolSample_PoolSampleIdeal : Prop :=
  True

def algebraic_PoolSampleIdeal_PoolSampleRefIdeal [hPoolSampleIdeal : Cert.PoolSampleIdeal.Facts] [hPoolSampleRefIdeal : Cert.PoolSampleRefIdeal.Facts] : Prop :=
  ∀ (m : (ℓ : Loc Cert.PoolSampleIdeal.nD Cert.PoolSampleIdeal.τ Cert.PoolSampleIdeal.sig) → Buf (Elt Ideal) ℓ) (g : Dev Cert.PoolSampleIdeal.nD → PrngReg)
    (m' : (ℓ : Loc Cert.PoolSampleRefIdeal.nD Cert.PoolSampleRefIdeal.τ Cert.PoolSampleRefIdeal.sig) → Buf (Elt Ideal) ℓ) (g' : Dev Cert.PoolSampleRefIdeal.nD → PrngReg), Pre_PoolSampleIdeal m →
    (∀ c : Dev Cert.PoolSampleIdeal.nD,
      m' ((c.tc : Thread Cert.PoolSampleRefIdeal.nD Cert.PoolSampleRefIdeal.τ).loc Cert.PoolSampleRefIdeal.main_arg0) = m ((c.tc : Thread Cert.PoolSampleIdeal.nD Cert.PoolSampleIdeal.τ).loc Cert.PoolSampleIdeal.main_arg0)) →
    ∃ (v0 : (c : Dev Cert.PoolSampleIdeal.nD) → Buf (Elt Ideal) ((c.tc : Thread Cert.PoolSampleIdeal.nD Cert.PoolSampleIdeal.τ).loc Cert.PoolSampleIdeal.main_v1)),
      θ_run (Cert.PoolSampleIdeal.defs (F := Ideal)) (onTc (τ := Cert.PoolSampleIdeal.τ) (Cert.PoolSampleIdeal.main (F := Ideal))) ⟨m, fun _ => 0, g⟩ (fun r => ∀ c : Dev Cert.PoolSampleIdeal.nD,
          r.2.mem ((c.tc : Thread Cert.PoolSampleIdeal.nD Cert.PoolSampleIdeal.τ).loc Cert.PoolSampleIdeal.main_v1) = v0 c
          ∧ r.2.mem ((c.tc : Thread Cert.PoolSampleIdeal.nD Cert.PoolSampleIdeal.τ).loc Cert.PoolSampleIdeal.main_arg0) = m ((c.tc : Thread Cert.PoolSampleIdeal.nD Cert.PoolSampleIdeal.τ).loc Cert.PoolSampleIdeal.main_arg0))
      ∧ θ_run (Cert.PoolSampleRefIdeal.defs (F := Ideal)) (onTc (τ := Cert.PoolSampleRefIdeal.τ) (Cert.PoolSampleRefIdeal.main (F := Ideal))) ⟨m', fun _ => 0, g'⟩ (fun r => ∀ c : Dev Cert.PoolSampleRefIdeal.nD,
          r.2.mem ((c.tc : Thread Cert.PoolSampleRefIdeal.nD Cert.PoolSampleRefIdeal.τ).loc Cert.PoolSampleRefIdeal.main_v35) = v0 c
          ∧ r.2.mem ((c.tc : Thread Cert.PoolSampleRefIdeal.nD Cert.PoolSampleRefIdeal.τ).loc Cert.PoolSampleRefIdeal.main_arg0) = m' ((c.tc : Thread Cert.PoolSampleRefIdeal.nD Cert.PoolSampleRefIdeal.τ).loc Cert.PoolSampleRefIdeal.main_arg0))

def preserves_MixSample_MixSampleIdeal : Prop :=
  True

def algebraic_MixSampleIdeal_MixSampleRefIdeal [hMixSampleIdeal : Cert.MixSampleIdeal.Facts] [hMixSampleRefIdeal : Cert.MixSampleRefIdeal.Facts] : Prop :=
  ∀ (m : (ℓ : Loc Cert.MixSampleIdeal.nD Cert.MixSampleIdeal.τ Cert.MixSampleIdeal.sig) → Buf (Elt Ideal) ℓ) (g : Dev Cert.MixSampleIdeal.nD → PrngReg)
    (m' : (ℓ : Loc Cert.MixSampleRefIdeal.nD Cert.MixSampleRefIdeal.τ Cert.MixSampleRefIdeal.sig) → Buf (Elt Ideal) ℓ) (g' : Dev Cert.MixSampleRefIdeal.nD → PrngReg), Pre_MixSampleIdeal m →
    (∀ c : Dev Cert.MixSampleIdeal.nD,
      m' ((c.tc : Thread Cert.MixSampleRefIdeal.nD Cert.MixSampleRefIdeal.τ).loc Cert.MixSampleRefIdeal.main_arg0) = m ((c.tc : Thread Cert.MixSampleIdeal.nD Cert.MixSampleIdeal.τ).loc Cert.MixSampleIdeal.main_arg0)
      ∧ m' ((c.tc : Thread Cert.MixSampleRefIdeal.nD Cert.MixSampleRefIdeal.τ).loc Cert.MixSampleRefIdeal.main_arg1) = m ((c.tc : Thread Cert.MixSampleIdeal.nD Cert.MixSampleIdeal.τ).loc Cert.MixSampleIdeal.main_arg1)
      ∧ m' ((c.tc : Thread Cert.MixSampleRefIdeal.nD Cert.MixSampleRefIdeal.τ).loc Cert.MixSampleRefIdeal.main_arg2) = m ((c.tc : Thread Cert.MixSampleIdeal.nD Cert.MixSampleIdeal.τ).loc Cert.MixSampleIdeal.main_arg2)
      ∧ m' ((c.tc : Thread Cert.MixSampleRefIdeal.nD Cert.MixSampleRefIdeal.τ).loc Cert.MixSampleRefIdeal.main_arg3) = m ((c.tc : Thread Cert.MixSampleIdeal.nD Cert.MixSampleIdeal.τ).loc Cert.MixSampleIdeal.main_arg3)
      ∧ m' ((c.tc : Thread Cert.MixSampleRefIdeal.nD Cert.MixSampleRefIdeal.τ).loc Cert.MixSampleRefIdeal.main_arg4) = m ((c.tc : Thread Cert.MixSampleIdeal.nD Cert.MixSampleIdeal.τ).loc Cert.MixSampleIdeal.main_arg4)
      ∧ m' ((c.tc : Thread Cert.MixSampleRefIdeal.nD Cert.MixSampleRefIdeal.τ).loc Cert.MixSampleRefIdeal.main_arg5) = m ((c.tc : Thread Cert.MixSampleIdeal.nD Cert.MixSampleIdeal.τ).loc Cert.MixSampleIdeal.main_arg5)
      ∧ m' ((c.tc : Thread Cert.MixSampleRefIdeal.nD Cert.MixSampleRefIdeal.τ).loc Cert.MixSampleRefIdeal.main_arg6) = m ((c.tc : Thread Cert.MixSampleIdeal.nD Cert.MixSampleIdeal.τ).loc Cert.MixSampleIdeal.main_arg6)) →
    ∃ (v0 : (c : Dev Cert.MixSampleIdeal.nD) → Buf (Elt Ideal) ((c.tc : Thread Cert.MixSampleIdeal.nD Cert.MixSampleIdeal.τ).loc Cert.MixSampleIdeal.main_v8)),
      θ_run (Cert.MixSampleIdeal.defs (F := Ideal)) (onTc (τ := Cert.MixSampleIdeal.τ) (Cert.MixSampleIdeal.main (F := Ideal))) ⟨m, fun _ => 0, g⟩ (fun r => ∀ c : Dev Cert.MixSampleIdeal.nD,
          r.2.mem ((c.tc : Thread Cert.MixSampleIdeal.nD Cert.MixSampleIdeal.τ).loc Cert.MixSampleIdeal.main_v8) = v0 c
          ∧ r.2.mem ((c.tc : Thread Cert.MixSampleIdeal.nD Cert.MixSampleIdeal.τ).loc Cert.MixSampleIdeal.main_arg0) = m ((c.tc : Thread Cert.MixSampleIdeal.nD Cert.MixSampleIdeal.τ).loc Cert.MixSampleIdeal.main_arg0)
          ∧ r.2.mem ((c.tc : Thread Cert.MixSampleIdeal.nD Cert.MixSampleIdeal.τ).loc Cert.MixSampleIdeal.main_arg1) = m ((c.tc : Thread Cert.MixSampleIdeal.nD Cert.MixSampleIdeal.τ).loc Cert.MixSampleIdeal.main_arg1)
          ∧ r.2.mem ((c.tc : Thread Cert.MixSampleIdeal.nD Cert.MixSampleIdeal.τ).loc Cert.MixSampleIdeal.main_arg2) = m ((c.tc : Thread Cert.MixSampleIdeal.nD Cert.MixSampleIdeal.τ).loc Cert.MixSampleIdeal.main_arg2)
          ∧ r.2.mem ((c.tc : Thread Cert.MixSampleIdeal.nD Cert.MixSampleIdeal.τ).loc Cert.MixSampleIdeal.main_arg3) = m ((c.tc : Thread Cert.MixSampleIdeal.nD Cert.MixSampleIdeal.τ).loc Cert.MixSampleIdeal.main_arg3)
          ∧ r.2.mem ((c.tc : Thread Cert.MixSampleIdeal.nD Cert.MixSampleIdeal.τ).loc Cert.MixSampleIdeal.main_arg4) = m ((c.tc : Thread Cert.MixSampleIdeal.nD Cert.MixSampleIdeal.τ).loc Cert.MixSampleIdeal.main_arg4)
          ∧ r.2.mem ((c.tc : Thread Cert.MixSampleIdeal.nD Cert.MixSampleIdeal.τ).loc Cert.MixSampleIdeal.main_arg5) = m ((c.tc : Thread Cert.MixSampleIdeal.nD Cert.MixSampleIdeal.τ).loc Cert.MixSampleIdeal.main_arg5)
          ∧ r.2.mem ((c.tc : Thread Cert.MixSampleIdeal.nD Cert.MixSampleIdeal.τ).loc Cert.MixSampleIdeal.main_arg6) = m ((c.tc : Thread Cert.MixSampleIdeal.nD Cert.MixSampleIdeal.τ).loc Cert.MixSampleIdeal.main_arg6))
      ∧ θ_run (Cert.MixSampleRefIdeal.defs (F := Ideal)) (onTc (τ := Cert.MixSampleRefIdeal.τ) (Cert.MixSampleRefIdeal.main (F := Ideal))) ⟨m', fun _ => 0, g'⟩ (fun r => ∀ c : Dev Cert.MixSampleRefIdeal.nD,
          r.2.mem ((c.tc : Thread Cert.MixSampleRefIdeal.nD Cert.MixSampleRefIdeal.τ).loc Cert.MixSampleRefIdeal.main_v38) = v0 c
          ∧ r.2.mem ((c.tc : Thread Cert.MixSampleRefIdeal.nD Cert.MixSampleRefIdeal.τ).loc Cert.MixSampleRefIdeal.main_arg0) = m' ((c.tc : Thread Cert.MixSampleRefIdeal.nD Cert.MixSampleRefIdeal.τ).loc Cert.MixSampleRefIdeal.main_arg0)
          ∧ r.2.mem ((c.tc : Thread Cert.MixSampleRefIdeal.nD Cert.MixSampleRefIdeal.τ).loc Cert.MixSampleRefIdeal.main_arg1) = m' ((c.tc : Thread Cert.MixSampleRefIdeal.nD Cert.MixSampleRefIdeal.τ).loc Cert.MixSampleRefIdeal.main_arg1)
          ∧ r.2.mem ((c.tc : Thread Cert.MixSampleRefIdeal.nD Cert.MixSampleRefIdeal.τ).loc Cert.MixSampleRefIdeal.main_arg2) = m' ((c.tc : Thread Cert.MixSampleRefIdeal.nD Cert.MixSampleRefIdeal.τ).loc Cert.MixSampleRefIdeal.main_arg2)
          ∧ r.2.mem ((c.tc : Thread Cert.MixSampleRefIdeal.nD Cert.MixSampleRefIdeal.τ).loc Cert.MixSampleRefIdeal.main_arg3) = m' ((c.tc : Thread Cert.MixSampleRefIdeal.nD Cert.MixSampleRefIdeal.τ).loc Cert.MixSampleRefIdeal.main_arg3)
          ∧ r.2.mem ((c.tc : Thread Cert.MixSampleRefIdeal.nD Cert.MixSampleRefIdeal.τ).loc Cert.MixSampleRefIdeal.main_arg4) = m' ((c.tc : Thread Cert.MixSampleRefIdeal.nD Cert.MixSampleRefIdeal.τ).loc Cert.MixSampleRefIdeal.main_arg4)
          ∧ r.2.mem ((c.tc : Thread Cert.MixSampleRefIdeal.nD Cert.MixSampleRefIdeal.τ).loc Cert.MixSampleRefIdeal.main_arg5) = m' ((c.tc : Thread Cert.MixSampleRefIdeal.nD Cert.MixSampleRefIdeal.τ).loc Cert.MixSampleRefIdeal.main_arg5)
          ∧ r.2.mem ((c.tc : Thread Cert.MixSampleRefIdeal.nD Cert.MixSampleRefIdeal.τ).loc Cert.MixSampleRefIdeal.main_arg6) = m' ((c.tc : Thread Cert.MixSampleRefIdeal.nD Cert.MixSampleRefIdeal.τ).loc Cert.MixSampleRefIdeal.main_arg6))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hOut : Cert.Out.Facts) (hOutIdeal : Cert.OutIdeal.Facts) (hOutRefIdeal : Cert.OutRefIdeal.Facts) (hFrontSample : Cert.FrontSample.Facts) (hFrontSampleIdeal : Cert.FrontSampleIdeal.Facts) (hFrontSampleRefIdeal : Cert.FrontSampleRefIdeal.Facts) (hFfnSample : Cert.FfnSample.Facts) (hFfnSampleIdeal : Cert.FfnSampleIdeal.Facts) (hFfnSampleRefIdeal : Cert.FfnSampleRefIdeal.Facts) (hMix : Cert.Mix.Facts) (hMixIdeal : Cert.MixIdeal.Facts) (hMixRefIdeal : Cert.MixRefIdeal.Facts) (hAda : Cert.Ada.Facts) (hAdaIdeal : Cert.AdaIdeal.Facts) (hAdaRefIdeal : Cert.AdaRefIdeal.Facts) (hOutSample : Cert.OutSample.Facts) (hOutSampleIdeal : Cert.OutSampleIdeal.Facts) (hOutSampleRefIdeal : Cert.OutSampleRefIdeal.Facts) (hPoolSample : Cert.PoolSample.Facts) (hPoolSampleIdeal : Cert.PoolSampleIdeal.Facts) (hPoolSampleRefIdeal : Cert.PoolSampleRefIdeal.Facts) (hMixSample : Cert.MixSample.Facts) (hMixSampleIdeal : Cert.MixSampleIdeal.Facts) (hMixSampleRefIdeal : Cert.MixSampleRefIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnRefIdeal (hFfnRefIdeal := hFfnRefIdeal)
    ∧ quiescent_Out (hOut := hOut)
    ∧ quiescent_OutIdeal (hOutIdeal := hOutIdeal)
    ∧ quiescent_OutRefIdeal (hOutRefIdeal := hOutRefIdeal)
    ∧ quiescent_FrontSample (hFrontSample := hFrontSample)
    ∧ quiescent_FrontSampleIdeal (hFrontSampleIdeal := hFrontSampleIdeal)
    ∧ quiescent_FrontSampleRefIdeal (hFrontSampleRefIdeal := hFrontSampleRefIdeal)
    ∧ quiescent_FfnSample (hFfnSample := hFfnSample)
    ∧ quiescent_FfnSampleIdeal (hFfnSampleIdeal := hFfnSampleIdeal)
    ∧ quiescent_FfnSampleRefIdeal (hFfnSampleRefIdeal := hFfnSampleRefIdeal)
    ∧ quiescent_Mix (hMix := hMix)
    ∧ quiescent_MixIdeal (hMixIdeal := hMixIdeal)
    ∧ quiescent_MixRefIdeal (hMixRefIdeal := hMixRefIdeal)
    ∧ quiescent_Ada (hAda := hAda)
    ∧ quiescent_AdaIdeal (hAdaIdeal := hAdaIdeal)
    ∧ quiescent_AdaRefIdeal (hAdaRefIdeal := hAdaRefIdeal)
    ∧ quiescent_OutSample (hOutSample := hOutSample)
    ∧ quiescent_OutSampleIdeal (hOutSampleIdeal := hOutSampleIdeal)
    ∧ quiescent_OutSampleRefIdeal (hOutSampleRefIdeal := hOutSampleRefIdeal)
    ∧ quiescent_PoolSample (hPoolSample := hPoolSample)
    ∧ quiescent_PoolSampleIdeal (hPoolSampleIdeal := hPoolSampleIdeal)
    ∧ quiescent_PoolSampleRefIdeal (hPoolSampleRefIdeal := hPoolSampleRefIdeal)
    ∧ quiescent_MixSample (hMixSample := hMixSample)
    ∧ quiescent_MixSampleIdeal (hMixSampleIdeal := hMixSampleIdeal)
    ∧ quiescent_MixSampleRefIdeal (hMixSampleRefIdeal := hMixSampleRefIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnRefIdeal (hFfnIdeal := hFfnIdeal) (hFfnRefIdeal := hFfnRefIdeal)
    ∧ preserves_Out_OutIdeal
    ∧ algebraic_OutIdeal_OutRefIdeal (hOutIdeal := hOutIdeal) (hOutRefIdeal := hOutRefIdeal)
    ∧ preserves_FrontSample_FrontSampleIdeal
    ∧ algebraic_FrontSampleIdeal_FrontSampleRefIdeal (hFrontSampleIdeal := hFrontSampleIdeal) (hFrontSampleRefIdeal := hFrontSampleRefIdeal)
    ∧ preserves_FfnSample_FfnSampleIdeal
    ∧ algebraic_FfnSampleIdeal_FfnSampleRefIdeal (hFfnSampleIdeal := hFfnSampleIdeal) (hFfnSampleRefIdeal := hFfnSampleRefIdeal)
    ∧ preserves_Mix_MixIdeal
    ∧ algebraic_MixIdeal_MixRefIdeal (hMixIdeal := hMixIdeal) (hMixRefIdeal := hMixRefIdeal)
    ∧ preserves_Ada_AdaIdeal
    ∧ algebraic_AdaIdeal_AdaRefIdeal (hAdaIdeal := hAdaIdeal) (hAdaRefIdeal := hAdaRefIdeal)
    ∧ preserves_OutSample_OutSampleIdeal
    ∧ algebraic_OutSampleIdeal_OutSampleRefIdeal (hOutSampleIdeal := hOutSampleIdeal) (hOutSampleRefIdeal := hOutSampleRefIdeal)
    ∧ preserves_PoolSample_PoolSampleIdeal
    ∧ algebraic_PoolSampleIdeal_PoolSampleRefIdeal (hPoolSampleIdeal := hPoolSampleIdeal) (hPoolSampleRefIdeal := hPoolSampleRefIdeal)
    ∧ preserves_MixSample_MixSampleIdeal
    ∧ algebraic_MixSampleIdeal_MixSampleRefIdeal (hMixSampleIdeal := hMixSampleIdeal) (hMixSampleRefIdeal := hMixSampleRefIdeal)
-- ==== Kernel.lean ====
abbrev S2x4096x2048 : Shape := ⟨3, ![2, 4096, 2048]⟩
abbrev S1x2048 : Shape := ⟨2, ![1, 2048]⟩
abbrev S2x2048 : Shape := ⟨2, ![2, 2048]⟩
abbrev S1x2048x9296 : Shape := ⟨3, ![1, 2048, 9296]⟩
abbrev S2048x9296 : Shape := ⟨2, ![2048, 9296]⟩
abbrev S9296x2048 : Shape := ⟨2, ![9296, 2048]⟩
abbrev S2048 : Shape := ⟨1, ![2048]⟩
abbrev S8192x2048 : Shape := ⟨2, ![8192, 2048]⟩
abbrev S2x1x2048 : Shape := ⟨3, ![2, 1, 2048]⟩
abbrev S8192x8192 : Shape := ⟨2, ![8192, 8192]⟩
abbrev S8192x2560 : Shape := ⟨2, ![8192, 2560]⟩
abbrev S1024x2048 : Shape := ⟨2, ![1024, 2048]⟩
abbrev S1x1x2048 : Shape := ⟨3, ![1, 1, 2048]⟩
abbrev S512x2048 : Shape := ⟨2, ![512, 2048]⟩
abbrev S1024x512 : Shape := ⟨2, ![1024, 512]⟩
abbrev S1024 : Shape := ⟨1, ![1024]⟩
abbrev S1024x1 : Shape := ⟨2, ![1024, 1]⟩

abbrev nBuf : Space → Nat
  | .hbm => 14
  | .vmem => 14
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S2x2048, .f32⟩
  | .hbm, ⟨3, _⟩ => ⟨S2x2048, .f32⟩
  | .hbm, ⟨4, _⟩ => ⟨S1x2048x9296, .f32⟩
  | .hbm, ⟨5, _⟩ => ⟨S2048x9296, .f32⟩
  | .hbm, ⟨6, _⟩ => ⟨S9296x2048, .f32⟩
  | .hbm, ⟨7, _⟩ => ⟨S2048, .f32⟩
  | .hbm, ⟨8, _⟩ => ⟨S1x2048, .f32⟩
  | .hbm, ⟨9, _⟩ => ⟨S8192x2048, .f32⟩
  | .hbm, ⟨10, _⟩ => ⟨S2x1x2048, .f32⟩
  | .hbm, ⟨11, _⟩ => ⟨S2x1x2048, .f32⟩
  | .hbm, ⟨12, _⟩ => ⟨S8192x8192, .bf16⟩
  | .hbm, ⟨13, _⟩ => ⟨S8192x2560, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .f32⟩
  | .local _ .vmem, ⟨8, _⟩ => ⟨S512x2048, .f32⟩
  | .local _ .vmem, ⟨9, _⟩ => ⟨S1024x512, .bf16⟩
  | .local _ .vmem, ⟨10, _⟩ => ⟨S1024x512, .bf16⟩
  | .local _ .vmem, ⟨11, _⟩ => ⟨S1024x512, .f32⟩
  | .local _ .vmem, ⟨12, _⟩ => ⟨S1024x512, .f32⟩
  | .local _ .vmem, ⟨13, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 19], ![false, false]⟩

def k0_cond2 (i : grid0.Coords) : BitVec 1 :=
  let arg1 : BitVec 32 := BitVec.ofNat 32 (i 1).val
  let c14_i32 : BitVec 32 := 14#32
  let v8 : BitVec 1 := Scalar.cmpi .slt arg1 c14_i32
  let c16_i32 : BitVec 32 := 16#32
  let v9 : BitVec 1 := Scalar.cmpi .eq arg1 c16_i32
  let v10 : BitVec 1 := Scalar.ori v8 v9
  let c17_i32 : BitVec 32 := 17#32
  let v11 : BitVec 1 := Scalar.cmpi .eq arg1 c17_i32
  let v12 : BitVec 1 := Scalar.ori v10 v11
  let v13 : BitVec 32 := Scalar.extui v12
  let c0_i32_4 : BitVec 32 := 0#32
  let v14 : BitVec 1 := Scalar.cmpi .ne v13 c0_i32_4
  v14

def k0_cond3 (i : grid0.Coords) : BitVec 1 :=
  let arg1 : BitVec 32 := BitVec.ofNat 32 (i 1).val
  let c14_i32_5 : BitVec 32 := 14#32
  let v15 : BitVec 1 := Scalar.cmpi .sge arg1 c14_i32_5
  let v16 : BitVec 32 := Scalar.extui v15
  let c0_i32_6 : BitVec 32 := 0#32
  let v17 : BitVec 1 := Scalar.cmpi .ne v16 c0_i32_6
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c128_i32 : BitVec 32 := 128#32
  let c640_i32 : BitVec 32 := 640#32
  let v1 : BitVec 32 := Scalar.select v0 c128_i32 c640_i32
  let c1_i32 : BitVec 32 := 1#32
  let v2 : BitVec 1 := Scalar.cmpi .eq arg1 c1_i32
  let c192_i32 : BitVec 32 := 192#32
  let v3 : BitVec 32 := Scalar.select v2 c192_i32 v1
  let c2_i32 : BitVec 32 := 2#32
  let v4 : BitVec 1 := Scalar.cmpi .eq arg1 c2_i32
  let c256_i32 : BitVec 32 := 256#32
  let v5 : BitVec 32 := Scalar.select v4 c256_i32 v3
  let c3_i32 : BitVec 32 := 3#32
  let v6 : BitVec 1 := Scalar.cmpi .eq arg1 c3_i32
  let c320_i32 : BitVec 32 := 320#32
  let v7 : BitVec 32 := Scalar.select v6 c320_i32 v5
  let c4_i32 : BitVec 32 := 4#32
  let v8 : BitVec 1 := Scalar.cmpi .eq arg1 c4_i32
  let c650_i32 : BitVec 32 := 650#32
  let v9 : BitVec 32 := Scalar.select v8 c650_i32 v7
  let c5_i32 : BitVec 32 := 5#32
  let v10 : BitVec 1 := Scalar.cmpi .eq arg1 c5_i32
  let c714_i32 : BitVec 32 := 714#32
  let v11 : BitVec 32 := Scalar.select v10 c714_i32 v9
  let c6_i32 : BitVec 32 := 6#32
  let v12 : BitVec 1 := Scalar.cmpi .eq arg1 c6_i32
  let c778_i32 : BitVec 32 := 778#32
  let v13 : BitVec 32 := Scalar.select v12 c778_i32 v11
  let c7_i32 : BitVec 32 := 7#32
  let v14 : BitVec 1 := Scalar.cmpi .eq arg1 c7_i32
  let c842_i32 : BitVec 32 := 842#32
  let v15 : BitVec 32 := Scalar.select v14 c842_i32 v13
  let c8_i32 : BitVec 32 := 8#32
  let v16 : BitVec 1 := Scalar.cmpi .eq arg1 c8_i32
  let c906_i32 : BitVec 32 := 906#32
  let v17 : BitVec 32 := Scalar.select v16 c906_i32 v15
  let c9_i32 : BitVec 32 := 9#32
  let v18 : BitVec 1 := Scalar.cmpi .eq arg1 c9_i32
  let c970_i32 : BitVec 32 := 970#32
  let v19 : BitVec 32 := Scalar.select v18 c970_i32 v17
  let c10_i32 : BitVec 32 := 10#32
  let v20 : BitVec 1 := Scalar.cmpi .eq arg1 c10_i32
  let c1034_i32 : BitVec 32 := 1034#32
  let v21 : BitVec 32 := Scalar.select v20 c1034_i32 v19
  let c11_i32 : BitVec 32 := 11#32
  let v22 : BitVec 1 := Scalar.cmpi .eq arg1 c11_i32
  let c1098_i32 : BitVec 32 := 1098#32
  let v23 : BitVec 32 := Scalar.select v22 c1098_i32 v21
  let c12_i32 : BitVec 32 := 12#32
  let v24 : BitVec 1 := Scalar.cmpi .eq arg1 c12_i32
  let c512_i32 : BitVec 32 := 512#32
  let v25 : BitVec 32 := Scalar.select v24 c512_i32 v23
  let c13_i32 : BitVec 32 := 13#32
  let v26 : BitVec 1 := Scalar.cmpi .eq arg1 c13_i32
  let c576_i32 : BitVec 32 := 576#32
  let v27 : BitVec 32 := Scalar.select v26 c576_i32 v25
  let c14_i32 : BitVec 32 := 14#32
  let v28 : BitVec 1 := Scalar.cmpi .eq arg1 c14_i32
  let c0_i32_0 : BitVec 32 := 0#32
  let v29 : BitVec 32 := Scalar.select v28 c0_i32_0 v27
  let c15_i32 : BitVec 32 := 15#32
  let v30 : BitVec 1 := Scalar.cmpi .eq arg1 c15_i32
  let c64_i32 : BitVec 32 := 64#32
  let v31 : BitVec 32 := Scalar.select v30 c64_i32 v29
  let c16_i32 : BitVec 32 := 16#32
  let v32 : BitVec 1 := Scalar.cmpi .eq arg1 c16_i32
  let c384_i32 : BitVec 32 := 384#32
  let v33 : BitVec 32 := Scalar.select v32 c384_i32 v31
  let c17_i32 : BitVec 32 := 17#32
  let v34 : BitVec 1 := Scalar.cmpi .eq arg1 c17_i32
  let c448_i32 : BitVec 32 := 448#32
  let v35 : BitVec 32 := Scalar.select v34 c448_i32 v33
  let c8_i32_1 : BitVec 32 := 8#32
  let v36 : BitVec 32 := Scalar.muli v35 c8_i32_1
  let c0_i32_2 : BitVec 32 := 0#32
  let c0_i32_3 : BitVec 32 := 0#32
  ![v36.toNat, c0_i32_2.toNat]

def cc0_transform_5 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 1 := Scalar.cmpi .slt arg1 c14_i32
  let c16_i32 : BitVec 32 := 16#32
  let v1 : BitVec 1 := Scalar.cmpi .slt arg1 c16_i32
  let c17_i32 : BitVec 32 := 17#32
  let v2 : BitVec 1 := Scalar.cmpi .sle arg1 c17_i32
  let c2_i32 : BitVec 32 := 2#32
  let v3 : BitVec 32 := Scalar.subi arg1 c2_i32
  let c15_i32 : BitVec 32 := 15#32
  let v4 : BitVec 32 := Scalar.select v2 v3 c15_i32
  let c13_i32 : BitVec 32 := 13#32
  let v5 : BitVec 32 := Scalar.select v1 c13_i32 v4
  let v6 : BitVec 32 := Scalar.select v0 arg1 v5
  let c0_i32 : BitVec 32 := 0#32
  ![arg0.toNat, v6.toNat]

def cc0_transform_6 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.subi arg1 c14_i32
  let c0_i32 : BitVec 32 := 0#32
  let v1 : BitVec 32 := Scalar.maxsi v0 c0_i32
  let c0_i32_0 : BitVec 32 := 0#32
  ![arg0.toNat, v1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S2x4096x2048 : Shape := ⟨3, ![2, 4096, 2048]⟩
abbrev S1x2048 : Shape := ⟨2, ![1, 2048]⟩
abbrev S2x2048 : Shape := ⟨2, ![2, 2048]⟩
abbrev S1x2048x9296 : Shape := ⟨3, ![1, 2048, 9296]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x1x2048 : Shape := ⟨3, ![2, 1, 2048]⟩
abbrev S2048x9296 : Shape := ⟨2, ![2048, 9296]⟩
abbrev S2x4096x9296 : Shape := ⟨3, ![2, 4096, 9296]⟩
abbrev S2x4096x1024 : Shape := ⟨3, ![2, 4096, 1024]⟩
abbrev S2x4096x512 : Shape := ⟨3, ![2, 4096, 512]⟩
abbrev S2x4096x64 : Shape := ⟨3, ![2, 4096, 64]⟩
abbrev S2x4096x16 : Shape := ⟨3, ![2, 4096, 16]⟩
abbrev S2x4096x8192 : Shape := ⟨3, ![2, 4096, 8192]⟩
abbrev S2x4096x432 : Shape := ⟨3, ![2, 4096, 432]⟩
abbrev S2x4096x2560 : Shape := ⟨3, ![2, 4096, 2560]⟩
abbrev S8192x8192 : Shape := ⟨2, ![8192, 8192]⟩
abbrev S8192x2560 : Shape := ⟨2, ![8192, 2560]⟩

abbrev nBuf : Space → Nat
  | .hbm => 51
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S2x2048, .f32⟩
  | .hbm, ⟨3, _⟩ => ⟨S2x2048, .f32⟩
  | .hbm, ⟨4, _⟩ => ⟨S1x2048x9296, .f32⟩
  | .hbm, ⟨5, _⟩ => ⟨S2048, .f32⟩
  | .hbm, ⟨6, _⟩ => ⟨S2x4096x2048, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S1x1x2048, .f32⟩
  | .hbm, ⟨20, _⟩ => ⟨S2x4096x2048, .f32⟩
  | .hbm, ⟨21, _⟩ => ⟨S2x4096x2048, .f32⟩
  | .hbm, ⟨22, _⟩ => ⟨S2x1x2048, .f32⟩
  | .hbm, ⟨23, _⟩ => ⟨S_, .f32⟩
  | .hbm, ⟨24, _⟩ => ⟨S2x1x2048, .f32⟩
  | .hbm, ⟨25, _⟩ => ⟨S2x1x2048, .f32⟩
  | .hbm, ⟨26, _⟩ => ⟨S2x4096x2048, .f32⟩
  | .hbm, ⟨27, _⟩ => ⟨S2x4096x2048, .f32⟩
  | .hbm, ⟨28, _⟩ => ⟨S2x1x2048, .f32⟩
  | .hbm, ⟨29, _⟩ => ⟨S2x4096x2048, .f32⟩
  | .hbm, ⟨30, _⟩ => ⟨S2x4096x2048, .f32⟩
  | .hbm, ⟨31, _⟩ => ⟨S2048x9296, .f32⟩
  | .hbm, ⟨32, _⟩ => ⟨S2x4096x9296, .f32⟩
  | .hbm, ⟨33, _⟩ => ⟨S2x4096x1024, .f32⟩
  | .hbm, ⟨34, _⟩ => ⟨S2x4096x2048, .f32⟩
  | .hbm, ⟨35, _⟩ => ⟨S2x4096x512, .f32⟩
  | .hbm, ⟨36, _⟩ => ⟨S2x4096x512, .f32⟩
  | .hbm, ⟨37, _⟩ => ⟨S2x4096x1024, .f32⟩
  | .hbm, ⟨38, _⟩ => ⟨S2x4096x64, .f32⟩
  | .hbm, ⟨39, _⟩ => ⟨S2x4096x16, .f32⟩
  | .hbm, ⟨40, _⟩ => ⟨S2x4096x2048, .f32⟩
  | .hbm, ⟨41, _⟩ => ⟨S2x4096x2048, .f32⟩
  | .hbm, ⟨42, _⟩ => ⟨S_, .f32⟩
  | .hbm, ⟨43, _⟩ => ⟨S2x4096x2048, .f32⟩
  | .hbm, ⟨44, _⟩ => ⟨S2x4096x2048, .f32⟩
  | .hbm, ⟨45, _⟩ => ⟨S2x4096x8192, .f32⟩
  | .hbm, ⟨46, _⟩ => ⟨S2x4096x432, .f32⟩
  | .hbm, ⟨47, _⟩ => ⟨S2x4096x2560, .f32⟩
  | .hbm, ⟨48, _⟩ => ⟨S8192x8192, .f32⟩
  | .hbm, ⟨49, _⟩ => ⟨S8192x8192, .bf16⟩
  | .hbm, ⟨50, _⟩ => ⟨S8192x2560, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== Ffn.lean ====
abbrev S8192x2048 : Shape := ⟨2, ![8192, 2048]⟩
abbrev S2x2048 : Shape := ⟨2, ![2, 2048]⟩
abbrev S2048 : Shape := ⟨1, ![2048]⟩
abbrev S1x2048x11264 : Shape := ⟨3, ![1, 2048, 11264]⟩
abbrev S1x5632x2048 : Shape := ⟨3, ![1, 5632, 2048]⟩
abbrev S2x1x2048 : Shape := ⟨3, ![2, 1, 2048]⟩
abbrev S1x2048 : Shape := ⟨2, ![1, 2048]⟩
abbrev S2048x11264 : Shape := ⟨2, ![2048, 11264]⟩
abbrev S5632x2048 : Shape := ⟨2, ![5632, 2048]⟩
abbrev S512x2048 : Shape := ⟨2, ![512, 2048]⟩
abbrev S1x1x2048 : Shape := ⟨3, ![1, 1, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2x2048, .f32⟩
  | .hbm, ⟨3, _⟩ => ⟨S2048, .f32⟩
  | .hbm, ⟨4, _⟩ => ⟨S1x2048x11264, .f32⟩
  | .hbm, ⟨5, _⟩ => ⟨S1x5632x2048, .f32⟩
  | .hbm, ⟨6, _⟩ => ⟨S2x1x2048, .f32⟩
  | .hbm, ⟨7, _⟩ => ⟨S1x2048, .f32⟩
  | .hbm, ⟨8, _⟩ => ⟨S2048x11264, .f32⟩
  | .hbm, ⟨9, _⟩ => ⟨S2048x11264, .bf16⟩
  | .hbm, ⟨10, _⟩ => ⟨S5632x2048, .f32⟩
  | .hbm, ⟨11, _⟩ => ⟨S5632x2048, .bf16⟩
  | .hbm, ⟨12, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnRefIdeal.lean ====
abbrev S8192x2048 : Shape := ⟨2, ![8192, 2048]⟩
abbrev S2x2048 : Shape := ⟨2, ![2, 2048]⟩
abbrev S2048 : Shape := ⟨1, ![2048]⟩
abbrev S1x2048x11264 : Shape := ⟨3, ![1, 2048, 11264]⟩
abbrev S1x5632x2048 : Shape := ⟨3, ![1, 5632, 2048]⟩
abbrev S2x4096x2048 : Shape := ⟨3, ![2, 4096, 2048]⟩
abbrev S2048x11264 : Shape := ⟨2, ![2048, 11264]⟩
abbrev S2x4096x11264 : Shape := ⟨3, ![2, 4096, 11264]⟩
abbrev S2x4096x5632 : Shape := ⟨3, ![2, 4096, 5632]⟩
abbrev S2x1x2048 : Shape := ⟨3, ![2, 1, 2048]⟩
abbrev S_ : Shape := ⟨0, ![]⟩
abbrev S5632x2048 : Shape := ⟨2, ![5632, 2048]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 46
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2x2048, .f32⟩
  | .hbm, ⟨3, _⟩ => ⟨S2048, .f32⟩
  | .hbm, ⟨4, _⟩ => ⟨S1x2048x11264, .f32⟩
  | .hbm, ⟨5, _⟩ => ⟨S1x5632x2048, .f32⟩
  | .hbm, ⟨6, _⟩ => ⟨S8192x2048, .f32⟩
  | .hbm, ⟨7, _⟩ => ⟨S2x4096x2048, .f32⟩
  | .hbm, ⟨8, _⟩ => ⟨S2x4096x2048, .f32⟩
  | .hbm, ⟨9, _⟩ => ⟨S2048x11264, .f32⟩
  | .hbm, ⟨10, _⟩ => ⟨S2x4096x11264, .f32⟩
  | .hbm, ⟨11, _⟩ => ⟨S2x4096x5632, .f32⟩
  | .hbm, ⟨12, _⟩ => ⟨S2x4096x5632, .f32⟩
  | .hbm, ⟨13, _⟩ => ⟨S2x1x2048, .f32⟩
  | .hbm, ⟨14, _⟩ => ⟨S2x4096x5632, .f32⟩
  | .hbm, ⟨15, _⟩ => ⟨S2x4096x5632, .f32⟩
  | .hbm, ⟨16, _⟩ => ⟨S_, .f32⟩
  | .hbm, ⟨17, _⟩ => ⟨S2x4096x5632, .f32⟩
  | .hbm, ⟨18, _⟩ => ⟨S2x4096x5632, .f32⟩
  | .hbm, ⟨19, _⟩ => ⟨S_, .f32⟩
  | .hbm, ⟨20, _⟩ => ⟨S2x4096x5632, .f32⟩
  | .hbm, ⟨21, _⟩ => ⟨S2x4096x5632, .f32⟩
  | .hbm, ⟨22, _⟩ => ⟨S2x4096x5632, .f32⟩
  | .hbm, ⟨23, _⟩ => ⟨S2x4096x5632, .f32⟩
  | .hbm, ⟨24, _⟩ => ⟨S5632x2048, .f32⟩
  | .hbm, ⟨25, _⟩ => ⟨S2x4096x2048, .f32⟩
  | .hbm, ⟨26, _⟩ => ⟨S2x4096x2048, .f32⟩
  | .hbm, ⟨27, _⟩ => ⟨S2x4096x2048, .f32⟩
  | .hbm, ⟨28, _⟩ => ⟨S2x4096x2048, .f32⟩
  | .hbm, ⟨29, _⟩ => ⟨S2x4096x2048, .f32⟩
  | .hbm, ⟨30, _⟩ => ⟨S_, .f32⟩
  | .hbm, ⟨31, _⟩ => ⟨S2x4096, .f32⟩
  | .hbm, ⟨32, _⟩ => ⟨S2x4096x1, .f32⟩
  | .hbm, ⟨33, _⟩ => ⟨S_, .f32⟩
  | .hbm, ⟨34, _⟩ => ⟨S2x4096x1, .f32⟩
  | .hbm, ⟨35, _⟩ => ⟨S2x4096x1, .f32⟩
  | .hbm, ⟨36, _⟩ => ⟨S_, .f32⟩
  | .hbm, ⟨37, _⟩ => ⟨S2x4096x1, .f32⟩
  | .hbm, ⟨38, _⟩ => ⟨S2x4096x1, .f32⟩
  | .hbm, ⟨39, _⟩ => ⟨S2x4096x1, .f32⟩
  | .hbm, ⟨40, _⟩ => ⟨S2x4096x2048, .f32⟩
  | .hbm, ⟨41, _⟩ => ⟨S2x4096x2048, .f32⟩
  | .hbm, ⟨42, _⟩ => ⟨S1x1x2048, .f32⟩
  | .hbm, ⟨43, _⟩ => ⟨S2x4096x2048, .f32⟩
  | .hbm, ⟨44, _⟩ => ⟨S2x4096x2048, .f32⟩
  | .hbm, ⟨45, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_cst_0 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Out.lean ====
abbrev S8192x2048 : Shape := ⟨2, ![8192, 2048]⟩
abbrev S2x4096x2048 : Shape := ⟨3, ![2, 4096, 2048]⟩
abbrev S2x2048 : Shape := ⟨2, ![2, 2048]⟩
abbrev S1x2048 : Shape := ⟨2, ![1, 2048]⟩
abbrev S1x2048x2048 : Shape := ⟨3, ![1, 2048, 2048]⟩
abbrev S2x1x2048 : Shape := ⟨3, ![2, 1, 2048]⟩
abbrev S2048 : Shape := ⟨1, ![2048]⟩
abbrev S2048x2048 : Shape := ⟨2, ![2048, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 17
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S2x4096x2048, .f32⟩
  | .hbm, ⟨2, _⟩ => ⟨S2x2048, .f32⟩
  | .hbm, ⟨3, _⟩ => ⟨S2x2048, .f32⟩
  | .hbm, ⟨4, _⟩ => ⟨S2x2048, .f32⟩
  | .hbm, ⟨5, _⟩ => ⟨S1x2048, .f32⟩
  | .hbm, ⟨6, _⟩ => ⟨S1x2048x2048, .f32⟩
  | .hbm, ⟨7, _⟩ => ⟨S8192x2048, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2048, .f32⟩
  | .hbm, ⟨12, _⟩ => ⟨S1x2048, .f32⟩
  | .hbm, ⟨13, _⟩ => ⟨S2048x2048, .f32⟩
  | .hbm, ⟨14, _⟩ => ⟨S2048x2048, .bf16⟩
  | .hbm, ⟨15, _⟩ => ⟨S8192x2048, .f32⟩
  | .hbm, ⟨16, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x2048, .f32⟩
  | .local _ .vmem, ⟨11, _⟩ => ⟨S2048x2048, .bf16⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutRefIdeal.lean ====
abbrev S8192x2048 : Shape := ⟨2, ![8192, 2048]⟩
abbrev S2x4096x2048 : Shape := ⟨3, ![2, 4096, 2048]⟩
abbrev S2x2048 : Shape := ⟨2, ![2, 2048]⟩
abbrev S1x2048 : Shape := ⟨2, ![1, 2048]⟩
abbrev S1x2048x2048 : Shape := ⟨3, ![1, 2048, 2048]⟩
abbrev S2x1x2048 : Shape := ⟨3, ![2, 1, 2048]⟩
abbrev S2048x2048 : Shape := ⟨2, ![2048, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x4096x2048, .f32⟩
  | .hbm, ⟨2, _⟩ => ⟨S2x2048, .f32⟩
  | .hbm, ⟨3, _⟩ => ⟨S2x2048, .f32⟩
  | .hbm, ⟨4, _⟩ => ⟨S2x2048, .f32⟩
  | .hbm, ⟨5, _⟩ => ⟨S1x2048, .f32⟩
  | .hbm, ⟨6, _⟩ => ⟨S1x2048x2048, .f32⟩
  | .hbm, ⟨7, _⟩ => ⟨S8192x2048, .f32⟩
  | .hbm, ⟨8, _⟩ => ⟨S2x4096x2048, .f32⟩
  | .hbm, ⟨9, _⟩ => ⟨S2x1x2048, .f32⟩
  | .hbm, ⟨10, _⟩ => ⟨S2048x2048, .f32⟩
  | .hbm, ⟨11, _⟩ => ⟨S2x4096x2048, .f32⟩
  | .hbm, ⟨12, _⟩ => ⟨S2x4096x2048, .f32⟩
  | .hbm, ⟨13, _⟩ => ⟨S2x4096x2048, .f32⟩
  | .hbm, ⟨14, _⟩ => ⟨S2x4096x2048, .f32⟩
  | .hbm, ⟨15, _⟩ => ⟨S2048, .f32⟩
  | .hbm, ⟨16, _⟩ => ⟨S2x4096x2048, .f32⟩
  | .hbm, ⟨17, _⟩ => ⟨S_, .f32⟩
  | .hbm, ⟨18, _⟩ => ⟨S2x4096, .f32⟩
  | .hbm, ⟨19, _⟩ => ⟨S2x4096x1, .f32⟩
  | .hbm, ⟨20, _⟩ => ⟨S_, .f32⟩
  | .hbm, ⟨21, _⟩ => ⟨S2x4096x1, .f32⟩
  | .hbm, ⟨22, _⟩ => ⟨S2x4096x1, .f32⟩
  | .hbm, ⟨23, _⟩ => ⟨S_, .f32⟩
  | .hbm, ⟨24, _⟩ => ⟨S2x4096x1, .f32⟩
  | .hbm, ⟨25, _⟩ => ⟨S2x4096x1, .f32⟩
  | .hbm, ⟨26, _⟩ => ⟨S2x4096x1, .f32⟩
  | .hbm, ⟨27, _⟩ => ⟨S2x4096x2048, .f32⟩
  | .hbm, ⟨28, _⟩ => ⟨S2x4096x2048, .f32⟩
  | .hbm, ⟨29, _⟩ => ⟨S1x1x2048, .f32⟩
  | .hbm, ⟨30, _⟩ => ⟨S2x4096x2048, .f32⟩
  | .hbm, ⟨31, _⟩ => ⟨S2x4096x2048, .f32⟩
  | .hbm, ⟨32, _⟩ => ⟨S2x1x2048, .f32⟩
  | .hbm, ⟨33, _⟩ => ⟨S_, .f32⟩
  | .hbm, ⟨34, _⟩ => ⟨S2x1x2048, .f32⟩
  | .hbm, ⟨35, _⟩ => ⟨S2x1x2048, .f32⟩
  | .hbm, ⟨36, _⟩ => ⟨S2x4096x2048, .f32⟩
  | .hbm, ⟨37, _⟩ => ⟨S2x4096x2048, .f32⟩
  | .hbm, ⟨38, _⟩ => ⟨S2x1x2048, .f32⟩
  | .hbm, ⟨39, _⟩ => ⟨S2x4096x2048, .f32⟩
  | .hbm, ⟨40, _⟩ => ⟨S2x4096x2048, .f32⟩
  | .hbm, ⟨41, _⟩ => ⟨S8192x2048, .f32⟩
  | .hbm, ⟨42, _⟩ => ⟨S8192x2048, .f32⟩
  | .hbm, ⟨43, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== FrontSample.lean ====
abbrev S128x4x2048 : Shape := ⟨3, ![128, 4, 2048]⟩
abbrev S1x2048 : Shape := ⟨2, ![1, 2048]⟩
abbrev S128x2048 : Shape := ⟨2, ![128, 2048]⟩
abbrev S1x2048x9296 : Shape := ⟨3, ![1, 2048, 9296]⟩
abbrev S2048x9296 : Shape := ⟨2, ![2048, 9296]⟩
abbrev S9296x2048 : Shape := ⟨2, ![9296, 2048]⟩
abbrev S2048 : Shape := ⟨1, ![2048]⟩
abbrev S512x2048 : Shape := ⟨2, ![512, 2048]⟩
abbrev S512x8192 : Shape := ⟨2, ![512, 8192]⟩
abbrev S512x2560 : Shape := ⟨2, ![512, 2560]⟩
abbrev S512x512 : Shape := ⟨2, ![512, 512]⟩
abbrev S512 : Shape := ⟨1, ![512]⟩
abbrev S512x1 : Shape := ⟨2, ![512, 1]⟩

abbrev nBuf : Space → Nat
  | .hbm => 16
  | .vmem => 11
  | .smem => 0
  | _ => 0

abbrev bufTy : (tb : Table) → Fin (tcTables nBuf tb) → BufTy
  | .hbm, ⟨0, _⟩ => ⟨S128x4x2048, .f32⟩
  | .hbm, ⟨1, _⟩ => ⟨S1x2048, .f32⟩
  | .hbm, ⟨2, _⟩ => ⟨S128x2048, .f32⟩
  | .hbm, ⟨3, _⟩ => ⟨S128x2048, .f32⟩
  | .hbm, ⟨4, _⟩ => ⟨S1x2048x9296, .f32⟩
  | .hbm, ⟨5, _⟩ => ⟨S2048x9296, .f32⟩
  | .hbm, ⟨6, _⟩ => ⟨S9296x2048, .f32⟩
  | .hbm, ⟨7, _⟩ => ⟨S2048, .f32⟩
  | .hbm, ⟨8, _⟩ => ⟨S1x2048, .f32⟩
  | .hbm, ⟨9, _⟩ => ⟨S512x2048, .f32⟩
  | .hbm, ⟨10, _⟩ => ⟨S128x4x2048, .f32⟩
  | .hbm, ⟨11, _⟩ => ⟨S512x2048, .f32⟩
  | .hbm, ⟨12, _⟩ => ⟨S128x4x2048, .f32⟩
  | .hbm, ⟨13, _⟩ => ⟨S512x2048, .f32⟩
  | .hbm, ⟨14, _⟩ => ⟨S512x8192, .bf16⟩
  | .hbm, ⟨15, _⟩ => ⟨S512x2560, .f32⟩
  | .local _ .vmem, ⟨0, _⟩ => ⟨S512x2048, .f32⟩
  | .local _ .vmem, ⟨1, _⟩ => ⟨S1x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x2048, .bf16⟩
  | _, _ => ⟨S128x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![1, 19], ![false, false]⟩

def k0_cond2 (i : grid0.Coords) : BitVec 1 :=
  let arg1 : BitVec 32 := BitVec.ofNat 32 (i 1).val
  let c14_i32 : BitVec 32 := 14#32
  let v8 : BitVec 1 := Scalar.cmpi .slt arg1 c14_i32
  let c16_i32 : BitVec 32 := 16#32
  let v9 : BitVec 1 := Scalar.cmpi .eq arg1 c16_i32
  let v10 : BitVec 1 := Scalar.ori v8 v9
  let c17_i32 : BitVec 32 := 17#32
  let v11 : BitVec 1 := Scalar.cmpi .eq arg1 c17_i32
  let v12 : BitVec 1 := Scalar.ori v10 v11
  let v13 : BitVec 32 := Scalar.extui v12
  let c0_i32_4 : BitVec 32 := 0#32
  let v14 : BitVec 1 := Scalar.cmpi .ne v13 c0_i32_4
  v14

def k0_cond3 (i : grid0.Coords) : BitVec 1 :=
  let arg1 : BitVec 32 := BitVec.ofNat 32 (i 1).val
  let c14_i32_5 : BitVec 32 := 14#32
  let v15 : BitVec 1 := Scalar.cmpi .sge arg1 c14_i32_5
  let v16 : BitVec 32 := Scalar.extui v15
  let c0_i32_6 : BitVec 32 := 0#32
  let v17 : BitVec 1 := Scalar.cmpi .ne v16 c0_i32_6
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c128_i32 : BitVec 32 := 128#32
  let c640_i32 : BitVec 32 := 640#32
  let v1 : BitVec 32 := Scalar.select v0 c128_i32 c640_i32
  let c1_i32 : BitVec 32 := 1#32
  let v2 : BitVec 1 := Scalar.cmpi .eq arg1 c1_i32
  let c192_i32 : BitVec 32 := 192#32
  let v3 : BitVec 32 := Scalar.select v2 c192_i32 v1
  let c2_i32 : BitVec 32 := 2#32
  let v4 : BitVec 1 := Scalar.cmpi .eq arg1 c2_i32
  let c256_i32 : BitVec 32 := 256#32
  let v5 : BitVec 32 := Scalar.select v4 c256_i32 v3
  let c3_i32 : BitVec 32 := 3#32
  let v6 : BitVec 1 := Scalar.cmpi .eq arg1 c3_i32
  let c320_i32 : BitVec 32 := 320#32
  let v7 : BitVec 32 := Scalar.select v6 c320_i32 v5
  let c4_i32 : BitVec 32 := 4#32
  let v8 : BitVec 1 := Scalar.cmpi .eq arg1 c4_i32
  let c650_i32 : BitVec 32 := 650#32
  let v9 : BitVec 32 := Scalar.select v8 c650_i32 v7
  let c5_i32 : BitVec 32 := 5#32
  let v10 : BitVec 1 := Scalar.cmpi .eq arg1 c5_i32
  let c714_i32 : BitVec 32 := 714#32
  let v11 : BitVec 32 := Scalar.select v10 c714_i32 v9
  let c6_i32 : BitVec 32 := 6#32
  let v12 : BitVec 1 := Scalar.cmpi .eq arg1 c6_i32
  let c778_i32 : BitVec 32 := 778#32
  let v13 : BitVec 32 := Scalar.select v12 c778_i32 v11
  let c7_i32 : BitVec 32 := 7#32
  let v14 : BitVec 1 := Scalar.cmpi .eq arg1 c7_i32
  let c842_i32 : BitVec 32 := 842#32
  let v15 : BitVec 32 := Scalar.select v14 c842_i32 v13
  let c8_i32 : BitVec 32 := 8#32
  let v16 : BitVec 1 := Scalar.cmpi .eq arg1 c8_i32
  let c906_i32 : BitVec 32 := 906#32
  let v17 : BitVec 32 := Scalar.select v16 c906_i32 v15
  let c9_i32 : BitVec 32 := 9#32
  let v18 : BitVec 1 := Scalar.cmpi .eq arg1 c9_i32
  let c970_i32 : BitVec 32 := 970#32
  let v19 : BitVec 32 := Scalar.select v18 c970_i32 v17
  let c10_i32 : BitVec 32 := 10#32
  let v20 : BitVec 1 := Scalar.cmpi .eq arg1 c10_i32
  let c1034_i32 : BitVec 32 := 1034#32
  let v21 : BitVec 32 := Scalar.select v20 c1034_i32 v19
  let c11_i32 : BitVec 32 := 11#32
  let v22 : BitVec 1 := Scalar.cmpi .eq arg1 c11_i32
  let c1098_i32 : BitVec 32 := 1098#32
  let v23 : BitVec 32 := Scalar.select v22 c1098_i32 v21
  let c12_i32 : BitVec 32 := 12#32
  let v24 : BitVec 1 := Scalar.cmpi .eq arg1 c12_i32
  let c512_i32 : BitVec 32 := 512#32
  let v25 : BitVec 32 := Scalar.select v24 c512_i32 v23
  let c13_i32 : BitVec 32 := 13#32
  let v26 : BitVec 1 := Scalar.cmpi .eq arg1 c13_i32
  let c576_i32 : BitVec 32 := 576#32
  let v27 : BitVec 32 := Scalar.select v26 c576_i32 v25
  let c14_i32 : BitVec 32 := 14#32
  let v28 : BitVec 1 := Scalar.cmpi .eq arg1 c14_i32
  let c0_i32_0 : BitVec 32 := 0#32
  let v29 : BitVec 32 := Scalar.select v28 c0_i32_0 v27
  let c15_i32 : BitVec 32 := 15#32
  let v30 : BitVec 1 := Scalar.cmpi .eq arg1 c15_i32
  let c64_i32 : BitVec 32 := 64#32
  let v31 : BitVec 32 := Scalar.select v30 c64_i32 v29
  let c16_i32 : BitVec 32 := 16#32
  let v32 : BitVec 1 := Scalar.cmpi .eq arg1 c16_i32
  let c384_i32 : BitVec 32 := 384#32
  let v33 : BitVec 32 := Scalar.select v32 c384_i32 v31
  let c17_i32 : BitVec 32 := 17#32
  let v34 : BitVec 1 := Scalar.cmpi .eq arg1 c17_i32
  let c448_i32 : BitVec 32 := 448#32
  let v35 : BitVec 32 := Scalar.select v34 c448_i32 v33
  let c8_i32_1 : BitVec 32 := 8#32
  let v36 : BitVec 32 := Scalar.muli v35 c8_i32_1
  let c0_i32_2 : BitVec 32 := 0#32
  let c0_i32_3 : BitVec 32 := 0#32
  ![v36.toNat, c0_i32_2.toNat]

def cc0_transform_5 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 1 := Scalar.cmpi .slt arg1 c14_i32
  let c16_i32 : BitVec 32 := 16#32
  let v1 : BitVec 1 := Scalar.cmpi .slt arg1 c16_i32
  let c17_i32 : BitVec 32 := 17#32
  let v2 : BitVec 1 := Scalar.cmpi .sle arg1 c17_i32
  let c2_i32 : BitVec 32 := 2#32
  let v3 : BitVec 32 := Scalar.subi arg1 c2_i32
  let c15_i32 : BitVec 32 := 15#32
  let v4 : BitVec 32 := Scalar.select v2 v3 c15_i32
  let c13_i32 : BitVec 32 := 13#32
  let v5 : BitVec 32 := Scalar.select v1 c13_i32 v4
  let v6 : BitVec 32 := Scalar.select v0 arg1 v5
  let c0_i32 : BitVec 32 := 0#32
  ![arg0.toNat, v6.toNat]

def cc0_transform_6 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.subi arg1 c14_i32
  let c0_i32 : BitVec 32 := 0#32
  let v1 : BitVec 32 := Scalar.maxsi v0 c0_i32
  let c0_i32_0 : BitVec 32 := 0#32
  ![arg0.toNat, v1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FrontSampleRefIdeal.lean ====
abbrev S128x4x2048 : Shape := ⟨3, ![128, 4, 2048]⟩
abbrev S1x2048 : Shape := ⟨2, ![1, 2048]⟩
abbrev S128x2048 : Shape := ⟨2, ![128, 2048]⟩
abbrev S1x2048x9296 : Shape := ⟨3, ![1, 2048, 9296]⟩
abbrev S2048 : Shape := ⟨1, ![2048]⟩
abbrev S_ : Shape := ⟨0, ![]⟩
abbrev S128x4 : Shape := ⟨2, ![128, 4]⟩
abbrev S128x4x1 : Shape := ⟨3, ![128, 4, 1]⟩
abbrev S1x1x2048 : Shape := ⟨3, ![1, 1, 2048]⟩
abbrev S128x1x2048 : Shape := ⟨3, ![128, 1, 2048]⟩
abbrev S2048x9296 : Shape := ⟨2, ![2048, 9296]⟩
abbrev S128x4x9296 : Shape := ⟨3, ![128, 4, 9296]⟩
abbrev S128x4x1024 : Shape := ⟨3, ![128, 4, 1024]⟩
abbrev S128x4x512 : Shape := ⟨3, ![128, 4, 512]⟩
abbrev S128x4x64 : Shape := ⟨3, ![128, 4, 64]⟩
abbrev S128x4x16 : Shape := ⟨3, ![128, 4, 16]⟩
abbrev S128x4x8192 : Shape := ⟨3, ![128, 4, 8192]⟩
abbrev S128x4x432 : Shape := ⟨3, ![128, 4, 432]⟩
abbrev S128x4x2560 : Shape := ⟨3, ![128, 4, 2560]⟩
abbrev S512x8192 : Shape := ⟨2, ![512, 8192]⟩
abbrev S512x2560 : Shape := ⟨2, ![512, 2560]⟩

abbrev nBuf : Space → Nat
  | .hbm => 51
  | .vmem => 0
  | .smem => 0
  | _ => 0

abbrev bufTy : (tb : Table) → Fin (tcTables nBuf tb) → BufTy
  | .hbm, ⟨0, _⟩ => ⟨S128x4x2048, .f32⟩
  | .hbm, ⟨1, _⟩ => ⟨S1x2048, .f32⟩
  | .hbm, ⟨2, _⟩ => ⟨S128x2048, .f32⟩
  | .hbm, ⟨3, _⟩ => ⟨S128x2048, .f32⟩
  | .hbm, ⟨4, _⟩ => ⟨S1x2048x9296, .f32⟩
  | .hbm, ⟨5, _⟩ => ⟨S2048, .f32⟩
  | .hbm, ⟨6, _⟩ => ⟨S128x4x2048, .f32⟩
  | .hbm, ⟨7, _⟩ => ⟨S_, .f32⟩
  | .hbm, ⟨8, _⟩ => ⟨S128x4, .f32⟩
  | .hbm, ⟨9, _⟩ => ⟨S128x4x1, .f32⟩
  | .hbm, ⟨10, _⟩ => ⟨S_, .f32⟩
  | .hbm, ⟨11, _⟩ => ⟨S128x4x1, .f32⟩
  | .hbm, ⟨12, _⟩ => ⟨S128x4x1, .f32⟩
  | .hbm, ⟨13, _⟩ => ⟨S_, .f32⟩
  | .hbm, ⟨14, _⟩ => ⟨S128x4x1, .f32⟩
  | .hbm, ⟨15, _⟩ => ⟨S128x4x1, .f32⟩
  | .hbm, ⟨16, _⟩ => ⟨S128x4x1, .f32⟩
  | .hbm, ⟨17, _⟩ => ⟨S128x4x2048, .f32⟩
  | .hbm, ⟨18, _⟩ => ⟨S128x4x2048, .f32⟩
  | .hbm, ⟨19, _⟩ => ⟨S1x1x2048, .f32⟩
  | .hbm, ⟨20, _⟩ => ⟨S128x4x2048, .f32⟩
  | .hbm, ⟨21, _⟩ => ⟨S128x4x2048, .f32⟩
  | .hbm, ⟨22, _⟩ => ⟨S128x1x2048, .f32⟩
  | .hbm, ⟨23, _⟩ => ⟨S_, .f32⟩
  | .hbm, ⟨24, _⟩ => ⟨S128x1x2048, .f32⟩
  | .hbm, ⟨25, _⟩ => ⟨S128x1x2048, .f32⟩
  | .hbm, ⟨26, _⟩ => ⟨S128x4x2048, .f32⟩
  | .hbm, ⟨27, _⟩ => ⟨S128x4x2048, .f32⟩
  | .hbm, ⟨28, _⟩ => ⟨S128x1x2048, .f32⟩
  | .hbm, ⟨29, _⟩ => ⟨S128x4x2048, .f32⟩
  | .hbm, ⟨30, _⟩ => ⟨S128x4x2048, .f32⟩
  | .hbm, ⟨31, _⟩ => ⟨S2048x9296, .f32⟩
  | .hbm, ⟨32, _⟩ => ⟨S128x4x9296, .f32⟩
  | .hbm, ⟨33, _⟩ => ⟨S128x4x1024, .f32⟩
  | .hbm, ⟨34, _⟩ => ⟨S128x4x2048, .f32⟩
  | .hbm, ⟨35, _⟩ => ⟨S128x4x512, .f32⟩
  | .hbm, ⟨36, _⟩ => ⟨S128x4x512, .f32⟩
  | .hbm, ⟨37, _⟩ => ⟨S128x4x1024, .f32⟩
  | .hbm, ⟨38, _⟩ => ⟨S128x4x64, .f32⟩
  | .hbm, ⟨39, _⟩ => ⟨S128x4x16, .f32⟩
  | .hbm, ⟨40, _⟩ => ⟨S128x4x2048, .f32⟩
  | .hbm, ⟨41, _⟩ => ⟨S128x4x2048, .f32⟩
  | .hbm, ⟨42, _⟩ => ⟨S_, .f32⟩
  | .hbm, ⟨43, _⟩ => ⟨S128x4x2048, .f32⟩
  | .hbm, ⟨44, _⟩ => ⟨S128x4x2048, .f32⟩
  | .hbm, ⟨45, _⟩ => ⟨S128x4x8192, .f32⟩
  | .hbm, ⟨46, _⟩ => ⟨S128x4x432, .f32⟩
  | .hbm, ⟨47, _⟩ => ⟨S128x4x2560, .f32⟩
  | .hbm, ⟨48, _⟩ => ⟨S512x8192, .f32⟩
  | .hbm, ⟨49, _⟩ => ⟨S512x8192, .bf16⟩
  | .hbm, ⟨50, _⟩ => ⟨S512x2560, .f32⟩
  | _, _ => ⟨S128x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== FfnSample.lean ====
abbrev S512x2048 : Shape := ⟨2, ![512, 2048]⟩
abbrev S128x2048 : Shape := ⟨2, ![128, 2048]⟩
abbrev S2048 : Shape := ⟨1, ![2048]⟩
abbrev S1x2048x11264 : Shape := ⟨3, ![1, 2048, 11264]⟩
abbrev S1x5632x2048 : Shape := ⟨3, ![1, 5632, 2048]⟩
abbrev S128x4x2048 : Shape := ⟨3, ![128, 4, 2048]⟩
abbrev S1x2048 : Shape := ⟨2, ![1, 2048]⟩
abbrev S2048x11264 : Shape := ⟨2, ![2048, 11264]⟩
abbrev S5632x2048 : Shape := ⟨2, ![5632, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 14
  | .vmem => 12
  | .smem => 0
  | _ => 0

abbrev bufTy : (tb : Table) → Fin (tcTables nBuf tb) → BufTy
  | .hbm, ⟨0, _⟩ => ⟨S512x2048, .bf16⟩
  | .hbm, ⟨1, _⟩ => ⟨S512x2048, .f32⟩
  | .hbm, ⟨2, _⟩ => ⟨S128x2048, .f32⟩
  | .hbm, ⟨3, _⟩ => ⟨S2048, .f32⟩
  | .hbm, ⟨4, _⟩ => ⟨S1x2048x11264, .f32⟩
  | .hbm, ⟨5, _⟩ => ⟨S1x5632x2048, .f32⟩
  | .hbm, ⟨6, _⟩ => ⟨S128x4x2048, .f32⟩
  | .hbm, ⟨7, _⟩ => ⟨S512x2048, .f32⟩
  | .hbm, ⟨8, _⟩ => ⟨S1x2048, .f32⟩
  | .hbm, ⟨9, _⟩ => ⟨S2048x11264, .f32⟩
  | .hbm, ⟨10, _⟩ => ⟨S2048x11264, .bf16⟩
  | .hbm, ⟨11, _⟩ => ⟨S5632x2048, .f32⟩
  | .hbm, ⟨12, _⟩ => ⟨S5632x2048, .bf16⟩
  | .hbm, ⟨13, _⟩ => ⟨S512x2048, .f32⟩
  | .local _ .vmem, ⟨0, _⟩ => ⟨S512x2048, .bf16⟩
  | .local _ .vmem, ⟨1, _⟩ => ⟨S512x2048, .f32⟩
  | .local _ .vmem, ⟨2, _⟩ => ⟨S512x2048, .f32⟩
  | .local _ .vmem, ⟨3, _⟩ => ⟨S1x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .f32⟩
  | .local _ .vmem, ⟨11, _⟩ => ⟨S512x2048, .f32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S512x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== FfnSampleRefIdeal.lean ====
abbrev S512x2048 : Shape := ⟨2, ![512, 2048]⟩
abbrev S128x2048 : Shape := ⟨2, ![128, 2048]⟩
abbrev S2048 : Shape := ⟨1, ![2048]⟩
abbrev S1x2048x11264 : Shape := ⟨3, ![1, 2048, 11264]⟩
abbrev S1x5632x2048 : Shape := ⟨3, ![1, 5632, 2048]⟩
abbrev S128x4x2048 : Shape := ⟨3, ![128, 4, 2048]⟩
abbrev S2048x11264 : Shape := ⟨2, ![2048, 11264]⟩
abbrev S128x4x11264 : Shape := ⟨3, ![128, 4, 11264]⟩
abbrev S128x4x5632 : Shape := ⟨3, ![128, 4, 5632]⟩
abbrev S128x1x2048 : Shape := ⟨3, ![128, 1, 2048]⟩
abbrev S_ : Shape := ⟨0, ![]⟩
abbrev S5632x2048 : Shape := ⟨2, ![5632, 2048]⟩
abbrev S128x4 : Shape := ⟨2, ![128, 4]⟩
abbrev S128x4x1 : Shape := ⟨3, ![128, 4, 1]⟩
abbrev S1x1x2048 : Shape := ⟨3, ![1, 1, 2048]⟩

abbrev nBuf : Space → Nat
  | .hbm => 46
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S512x2048, .f32⟩
  | .hbm, ⟨2, _⟩ => ⟨S128x2048, .f32⟩
  | .hbm, ⟨3, _⟩ => ⟨S2048, .f32⟩
  | .hbm, ⟨4, _⟩ => ⟨S1x2048x11264, .f32⟩
  | .hbm, ⟨5, _⟩ => ⟨S1x5632x2048, .f32⟩
  | .hbm, ⟨6, _⟩ => ⟨S512x2048, .f32⟩
  | .hbm, ⟨7, _⟩ => ⟨S128x4x2048, .f32⟩
  | .hbm, ⟨8, _⟩ => ⟨S128x4x2048, .f32⟩
  | .hbm, ⟨9, _⟩ => ⟨S2048x11264, .f32⟩
  | .hbm, ⟨10, _⟩ => ⟨S128x4x11264, .f32⟩
  | .hbm, ⟨11, _⟩ => ⟨S128x4x5632, .f32⟩
  | .hbm, ⟨12, _⟩ => ⟨S128x4x5632, .f32⟩
  | .hbm, ⟨13, _⟩ => ⟨S128x1x2048, .f32⟩
  | .hbm, ⟨14, _⟩ => ⟨S128x4x5632, .f32⟩
  | .hbm, ⟨15, _⟩ => ⟨S128x4x5632, .f32⟩
  | .hbm, ⟨16, _⟩ => ⟨S_, .f32⟩
  | .hbm, ⟨17, _⟩ => ⟨S128x4x5632, .f32⟩
  | .hbm, ⟨18, _⟩ => ⟨S128x4x5632, .f32⟩
  | .hbm, ⟨19, _⟩ => ⟨S_, .f32⟩
  | .hbm, ⟨20, _⟩ => ⟨S128x4x5632, .f32⟩
  | .hbm, ⟨21, _⟩ => ⟨S128x4x5632, .f32⟩
  | .hbm, ⟨22, _⟩ => ⟨S128x4x5632, .f32⟩
  | .hbm, ⟨23, _⟩ => ⟨S128x4x5632, .f32⟩
  | .hbm, ⟨24, _⟩ => ⟨S5632x2048, .f32⟩
  | .hbm, ⟨25, _⟩ => ⟨S128x4x2048, .f32⟩
  | .hbm, ⟨26, _⟩ => ⟨S128x4x2048, .f32⟩
  | .hbm, ⟨27, _⟩ => ⟨S128x4x2048, .f32⟩
  | .hbm, ⟨28, _⟩ => ⟨S128x4x2048, .f32⟩
  | .hbm, ⟨29, _⟩ => ⟨S128x4x2048, .f32⟩
  | .hbm, ⟨30, _⟩ => ⟨S_, .f32⟩
  | .hbm, ⟨31, _⟩ => ⟨S128x4, .f32⟩
  | .hbm, ⟨32, _⟩ => ⟨S128x4x1, .f32⟩
  | .hbm, ⟨33, _⟩ => ⟨S_, .f32⟩
  | .hbm, ⟨34, _⟩ => ⟨S128x4x1, .f32⟩
  | .hbm, ⟨35, _⟩ => ⟨S128x4x1, .f32⟩
  | .hbm, ⟨36, _⟩ => ⟨S_, .f32⟩
  | .hbm, ⟨37, _⟩ => ⟨S128x4x1, .f32⟩
  | .hbm, ⟨38, _⟩ => ⟨S128x4x1, .f32⟩
  | .hbm, ⟨39, _⟩ => ⟨S128x4x1, .f32⟩
  | .hbm, ⟨40, _⟩ => ⟨S128x4x2048, .f32⟩
  | .hbm, ⟨41, _⟩ => ⟨S128x4x2048, .f32⟩
  | .hbm, ⟨42, _⟩ => ⟨S1x1x2048, .f32⟩
  | .hbm, ⟨43, _⟩ => ⟨S128x4x2048, .f32⟩
  | .hbm, ⟨44, _⟩ => ⟨S128x4x2048, .f32⟩
  | .hbm, ⟨45, _⟩ => ⟨S512x2048, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_cst_0 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Mix.lean ====
abbrev S8192x2560 : Shape := ⟨2, ![8192, 2560]⟩
abbrev S8192x2048 : Shape := ⟨2, ![8192, 2048]⟩
abbrev S8192x8192 : Shape := ⟨2, ![8192, 8192]⟩
abbrev S1x4x256x256 : Shape := ⟨4, ![1, 4, 256, 256]⟩
abbrev S1x1024 : Shape := ⟨2, ![1, 1024]⟩
abbrev S1x1024x2048 : Shape := ⟨3, ![1, 1024, 2048]⟩
abbrev S1x2048x2048 : Shape := ⟨3, ![1, 2048, 2048]⟩
abbrev S4x256x256 : Shape := ⟨3, ![4, 256, 256]⟩
abbrev S1024 : Shape := ⟨1, ![1024]⟩
abbrev S1024x2048 : Shape := ⟨2, ![1024, 2048]⟩
abbrev S2048x2048 : Shape := ⟨2, ![2048, 2048]⟩
abbrev S512x1024 : Shape := ⟨2, ![512, 1024]⟩
abbrev S16x1024 : Shape := ⟨2, ![16, 1024]⟩
abbrev S512x2048 : Shape := ⟨2, ![512, 2048]⟩
abbrev S528x1024 : Shape := ⟨2, ![528, 1024]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 16
  | .vmem => 17
  | .smem => 0
  | _ => 0

abbrev bufTy : (tb : Table) → Fin (tcTables nBuf tb) → BufTy
  | .hbm, ⟨0, _⟩ => ⟨S8192x2560, .f32⟩
  | .hbm, ⟨1, _⟩ => ⟨S8192x2048, .bf16⟩
  | .hbm, ⟨2, _⟩ => ⟨S8192x8192, .bf16⟩
  | .hbm, ⟨3, _⟩ => ⟨S1x4x256x256, .f32⟩
  | .hbm, ⟨4, _⟩ => ⟨S1x1024, .f32⟩
  | .hbm, ⟨5, _⟩ => ⟨S1x1024x2048, .f32⟩
  | .hbm, ⟨6, _⟩ => ⟨S1x2048x2048, .f32⟩
  | .hbm, ⟨7, _⟩ => ⟨S4x256x256, .f32⟩
  | .hbm, ⟨8, _⟩ => ⟨S4x256x256, .bf16⟩
  | .hbm, ⟨9, _⟩ => ⟨S1024, .f32⟩
  | .hbm, ⟨10, _⟩ => ⟨S1x1024, .f32⟩
  | .hbm, ⟨11, _⟩ => ⟨S1024x2048, .f32⟩
  | .hbm, ⟨12, _⟩ => ⟨S1024x2048, .bf16⟩
  | .hbm, ⟨13, _⟩ => ⟨S2048x2048, .f32⟩
  | .hbm, ⟨14, _⟩ => ⟨S2048x2048, .bf16⟩
  | .hbm, ⟨15, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S4x256x256, .bf16⟩
  | .local _ .vmem, ⟨11, _⟩ => ⟨S1x1024, .f32⟩
  | .local _ .vmem, ⟨12, _⟩ => ⟨S1024x2048, .bf16⟩
  | .local _ .vmem, ⟨13, _⟩ => ⟨S2048x2048, .bf16⟩
  | .local _ .vmem, ⟨14, _⟩ => ⟨S512x2048, .bf16⟩
  | .local _ .vmem, ⟨15, _⟩ => ⟨S512x2048, .bf16⟩
  | .local _ .vmem, ⟨16, _⟩ => ⟨S528x1024, .f32⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixRefIdeal.lean ====
abbrev S8192x2560 : Shape := ⟨2, ![8192, 2560]⟩
abbrev S8192x2048 : Shape := ⟨2, ![8192, 2048]⟩
abbrev S8192x8192 : Shape := ⟨2, ![8192, 8192]⟩
abbrev S1x4x256x256 : Shape := ⟨4, ![1, 4, 256, 256]⟩
abbrev S1x1024 : Shape := ⟨2, ![1, 1024]⟩
abbrev S1x1024x2048 : Shape := ⟨3, ![1, 1024, 2048]⟩
abbrev S1x2048x2048 : Shape := ⟨3, ![1, 2048, 2048]⟩
abbrev S4 : Shape := ⟨1, ![4]⟩
abbrev S8192x1024 : Shape := ⟨2, ![8192, 1024]⟩
abbrev S2x4096x4x256 : Shape := ⟨4, ![2, 4096, 4, 256]⟩
abbrev S2x4096x2048 : Shape := ⟨3, ![2, 4096, 2048]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x1x1 : Shape := ⟨3, ![4, 1, 1]⟩
abbrev S1x4096x4096 : Shape := ⟨3, ![1, 4096, 4096]⟩
abbrev S4x4096x4096 : Shape := ⟨3, ![4, 4096, 4096]⟩
abbrev S4x2x256x4096 : Shape := ⟨4, ![4, 2, 256, 4096]⟩
abbrev S_ : Shape := ⟨0, ![]⟩
abbrev S1x4 : Shape := ⟨2, ![1, 4]⟩
abbrev S4096x4 : Shape := ⟨2, ![4096, 4]⟩
abbrev S1x4096x4x1 : Shape := ⟨4, ![1, 4096, 4, 1]⟩
abbrev S4x256x256 : Shape := ⟨3, ![4, 256, 256]⟩
abbrev S4x256x2x4096 : Shape := ⟨4, ![4, 256, 2, 4096]⟩
abbrev S2x4096x1024 : Shape := ⟨3, ![2, 4096, 1024]⟩
abbrev S1024 : Shape := ⟨1, ![1024]⟩
abbrev S1x1x1024 : Shape := ⟨3, ![1, 1, 1024]⟩
abbrev S1024x2048 : Shape := ⟨2, ![1024, 2048]⟩
abbrev S2048x2048 : Shape := ⟨2, ![2048, 2048]⟩

abbrev nBuf : Space → Nat
  | .hbm => 86
  | .vmem => 0
  | .smem => 0
  | _ => 0

abbrev bufTy : (tb : Table) → Fin (tcTables nBuf tb) → BufTy
  | .hbm, ⟨0, _⟩ => ⟨S8192x2560, .f32⟩
  | .hbm, ⟨1, _⟩ => ⟨S8192x2048, .bf16⟩
  | .hbm, ⟨2, _⟩ => ⟨S8192x8192, .bf16⟩
  | .hbm, ⟨3, _⟩ => ⟨S1x4x256x256, .f32⟩
  | .hbm, ⟨4, _⟩ => ⟨S1x1024, .f32⟩
  | .hbm, ⟨5, _⟩ => ⟨S1x1024x2048, .f32⟩
  | .hbm, ⟨6, _⟩ => ⟨S1x2048x2048, .f32⟩
  | .hbm, ⟨7, _⟩ => ⟨S4, .i32⟩
  | .hbm, ⟨8, _⟩ => ⟨S8192x1024, .f32⟩
  | .hbm, ⟨9, _⟩ => ⟨S2x4096x4x256, .f32⟩
  | .hbm, ⟨10, _⟩ => ⟨S8192x2048, .bf16⟩
  | .hbm, ⟨11, _⟩ => ⟨S8192x2048, .f32⟩
  | .hbm, ⟨12, _⟩ => ⟨S2x4096x2048, .f32⟩
  | .hbm, ⟨13, _⟩ => ⟨S8192x2048, .bf16⟩
  | .hbm, ⟨14, _⟩ => ⟨S8192x2048, .f32⟩
  | .hbm, ⟨15, _⟩ => ⟨S2x4096x2048, .f32⟩
  | .hbm, ⟨16, _⟩ => ⟨S8192x2048, .f32⟩
  | .hbm, ⟨17, _⟩ => ⟨S2x4096x2048, .f32⟩
  | .hbm, ⟨18, _⟩ => ⟨S4096, .i32⟩
  | .hbm, ⟨19, _⟩ => ⟨S1x4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S4096x1, .i32⟩
  | .hbm, ⟨25, _⟩ => ⟨S1x4096, .i32⟩
  | .hbm, ⟨26, _⟩ => ⟨S4096x4096, .i32⟩
  | .hbm, ⟨27, _⟩ => ⟨S4096x4096, .i32⟩
  | .hbm, ⟨28, _⟩ => ⟨S4096x4096, .i32⟩
  | .hbm, ⟨29, _⟩ => ⟨S4x1x1, .i32⟩
  | .hbm, ⟨30, _⟩ => ⟨S1x4096x4096, .i32⟩
  | .hbm, ⟨31, _⟩ => ⟨S4x4096x4096, .i32⟩
  | .hbm, ⟨32, _⟩ => ⟨S4x4096x4096, .i32⟩
  | .hbm, ⟨33, _⟩ => ⟨S4x4096x4096, .i1⟩
  | .hbm, ⟨34, _⟩ => ⟨S1x4096x4096, .i1⟩
  | .hbm, ⟨35, _⟩ => ⟨S4x4096x4096, .i1⟩
  | .hbm, ⟨36, _⟩ => ⟨S4x4096x4096, .i1⟩
  | .hbm, ⟨37, _⟩ => ⟨S4x4096x4096, .f32⟩
  | .hbm, ⟨38, _⟩ => ⟨S4x2x256x4096, .f32⟩
  | .hbm, ⟨39, _⟩ => ⟨S2x4096x4x256, .f32⟩
  | .hbm, ⟨40, _⟩ => ⟨S4096x1, .i32⟩
  | .hbm, ⟨41, _⟩ => ⟨S_, .i32⟩
  | .hbm, ⟨42, _⟩ => ⟨S4096x1, .i32⟩
  | .hbm, ⟨43, _⟩ => ⟨S4096x1, .i32⟩
  | .hbm, ⟨44, _⟩ => ⟨S1x4, .i32⟩
  | .hbm, ⟨45, _⟩ => ⟨S4096x4, .i32⟩
  | .hbm, ⟨46, _⟩ => ⟨S4096x4, .i32⟩
  | .hbm, ⟨47, _⟩ => ⟨S4096x4, .i32⟩
  | .hbm, ⟨48, _⟩ => ⟨S4096x4, .f32⟩
  | .hbm, ⟨49, _⟩ => ⟨S1x4096x4x1, .f32⟩
  | .hbm, ⟨50, _⟩ => ⟨S2x4096x4x256, .f32⟩
  | .hbm, ⟨51, _⟩ => ⟨S2x4096x4x256, .f32⟩
  | .hbm, ⟨52, _⟩ => ⟨S2x4096x4x256, .f32⟩
  | .hbm, ⟨53, _⟩ => ⟨S4x256x256, .f32⟩
  | .hbm, ⟨54, _⟩ => ⟨S4x256x2x4096, .f32⟩
  | .hbm, ⟨55, _⟩ => ⟨S2x4096x4x256, .f32⟩
  | .hbm, ⟨56, _⟩ => ⟨S2x4096x1024, .f32⟩
  | .hbm, ⟨57, _⟩ => ⟨S1024, .f32⟩
  | .hbm, ⟨58, _⟩ => ⟨S1x1x1024, .f32⟩
  | .hbm, ⟨59, _⟩ => ⟨S2x4096x1024, .f32⟩
  | .hbm, ⟨60, _⟩ => ⟨S2x4096x1024, .f32⟩
  | .hbm, ⟨61, _⟩ => ⟨S2x4096x2048, .f32⟩
  | .hbm, ⟨62, _⟩ => ⟨S2x4096x2048, .f32⟩
  | .hbm, ⟨63, _⟩ => ⟨S_, .f32⟩
  | .hbm, ⟨64, _⟩ => ⟨S2x4096x2048, .f32⟩
  | .hbm, ⟨65, _⟩ => ⟨S2x4096x2048, .f32⟩
  | .hbm, ⟨66, _⟩ => ⟨S_, .f32⟩
  | .hbm, ⟨67, _⟩ => ⟨S2x4096x2048, .f32⟩
  | .hbm, ⟨68, _⟩ => ⟨S2x4096x2048, .f32⟩
  | .hbm, ⟨69, _⟩ => ⟨S1024x2048, .f32⟩
  | .hbm, ⟨70, _⟩ => ⟨S2x4096x2048, .f32⟩
  | .hbm, ⟨71, _⟩ => ⟨S2x4096x2048, .f32⟩
  | .hbm, ⟨72, _⟩ => ⟨S2x4096x2048, .f32⟩
  | .hbm, ⟨73, _⟩ => ⟨S2x4096x2048, .f32⟩
  | .hbm, ⟨74, _⟩ => ⟨S_, .f32⟩
  | .hbm, ⟨75, _⟩ => ⟨S2x4096x2048, .f32⟩
  | .hbm, ⟨76, _⟩ => ⟨S2x4096x2048, .f32⟩
  | .hbm, ⟨77, _⟩ => ⟨S_, .f32⟩
  | .hbm, ⟨78, _⟩ => ⟨S2x4096x2048, .f32⟩
  | .hbm, ⟨79, _⟩ => ⟨S2x4096x2048, .f32⟩
  | .hbm, ⟨80, _⟩ => ⟨S2048x2048, .f32⟩
  | .hbm, ⟨81, _⟩ => ⟨S2x4096x2048, .f32⟩
  | .hbm, ⟨82, _⟩ => ⟨S2x4096x2048, .f32⟩
  | .hbm, ⟨83, _⟩ => ⟨S2x4096x2048, .f32⟩
  | .hbm, ⟨84, _⟩ => ⟨S8192x2048, .f32⟩
  | .hbm, ⟨85, _⟩ => ⟨S8192x2048, .bf16⟩
  | _, _ => ⟨S8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c_0 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst : Ref sig .tc := ⟨.hbm, 63, rfl⟩
abbrev main_v54 : Ref sig .tc := ⟨.hbm, 64, rfl⟩
abbrev main_v55 : Ref sig .tc := ⟨.hbm, 65, rfl⟩
abbrev main_cst_1 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_cst_2 : Ref sig .tc := ⟨.hbm, 74, rfl⟩
abbrev main_v63 : Ref sig .tc := ⟨.hbm, 75, rfl⟩
abbrev main_v64 : Ref sig .tc := ⟨.hbm, 76, rfl⟩
abbrev main_cst_3 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩

abbrev nD : Nat := 1
abbrev τ : Topo := Topo.v7x

variable {F : FTy → Type} [FloatOps F]
-- ==== Ada.lean ====
abbrev S136x2048 : Shape := ⟨2, ![136, 2048]⟩
abbrev S1x2048x12288 : Shape := ⟨3, ![1, 2048, 12288]⟩
abbrev S1x12288 : Shape := ⟨2, ![1, 12288]⟩
abbrev S2048x12288 : Shape := ⟨2, ![2048, 12288]⟩
abbrev S12288 : Shape := ⟨1, ![12288]⟩
abbrev S136x12288 : Shape := ⟨2, ![136, 12288]⟩
abbrev S2048x512 : Shape := ⟨2, ![2048, 512]⟩
abbrev S1x512 : Shape := ⟨2, ![1, 512]⟩
abbrev S136x512 : Shape := ⟨2, ![136, 512]⟩

abbrev nBuf : Space → Nat
  | .hbm => 7
  | .vmem => 7
  | .smem => 0
  | _ => 0

abbrev bufTy : (tb : Table) → Fin (tcTables nBuf tb) → BufTy
  | .hbm, ⟨0, _⟩ => ⟨S136x2048, .f32⟩
  | .hbm, ⟨1, _⟩ => ⟨S1x2048x12288, .f32⟩
  | .hbm, ⟨2, _⟩ => ⟨S1x12288, .f32⟩
  | .hbm, ⟨3, _⟩ => ⟨S2048x12288, .f32⟩
  | .hbm, ⟨4, _⟩ => ⟨S12288, .f32⟩
  | .hbm, ⟨5, _⟩ => ⟨S1x12288, .f32⟩
  | .hbm, ⟨6, _⟩ => ⟨S136x12288, .f32⟩
  | .local _ .vmem, ⟨0, _⟩ => ⟨S136x2048, .f32⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S136x512, .f32⟩
  | .local _ .vmem, ⟨6, _⟩ => ⟨S136x512, .f32⟩
  | _, _ => ⟨S136x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S136x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S136x2048 : Shape := ⟨2, ![136, 2048]⟩
abbrev S1x2048x12288 : Shape := ⟨3, ![1, 2048, 12288]⟩
abbrev S1x12288 : Shape := ⟨2, ![1, 12288]⟩
abbrev S_ : Shape := ⟨0, ![]⟩
abbrev S2048x12288 : Shape := ⟨2, ![2048, 12288]⟩
abbrev S136x12288 : Shape := ⟨2, ![136, 12288]⟩
abbrev S12288 : Shape := ⟨1, ![12288]⟩

abbrev nBuf : Space → Nat
  | .hbm => 18
  | .vmem => 0
  | .smem => 0
  | _ => 0

abbrev bufTy : (tb : Table) → Fin (tcTables nBuf tb) → BufTy
  | .hbm, ⟨0, _⟩ => ⟨S136x2048, .f32⟩
  | .hbm, ⟨1, _⟩ => ⟨S1x2048x12288, .f32⟩
  | .hbm, ⟨2, _⟩ => ⟨S1x12288, .f32⟩
  | .hbm, ⟨3, _⟩ => ⟨S136x2048, .f32⟩
  | .hbm, ⟨4, _⟩ => ⟨S136x2048, .f32⟩
  | .hbm, ⟨5, _⟩ => ⟨S_, .f32⟩
  | .hbm, ⟨6, _⟩ => ⟨S136x2048, .f32⟩
  | .hbm, ⟨7, _⟩ => ⟨S136x2048, .f32⟩
  | .hbm, ⟨8, _⟩ => ⟨S_, .f32⟩
  | .hbm, ⟨9, _⟩ => ⟨S136x2048, .f32⟩
  | .hbm, ⟨10, _⟩ => ⟨S136x2048, .f32⟩
  | .hbm, ⟨11, _⟩ => ⟨S136x2048, .f32⟩
  | .hbm, ⟨12, _⟩ => ⟨S2048x12288, .f32⟩
  | .hbm, ⟨13, _⟩ => ⟨S136x12288, .f32⟩
  | .hbm, ⟨14, _⟩ => ⟨S12288, .f32⟩
  | .hbm, ⟨15, _⟩ => ⟨S1x12288, .f32⟩
  | .hbm, ⟨16, _⟩ => ⟨S136x12288, .f32⟩
  | .hbm, ⟨17, _⟩ => ⟨S136x12288, .f32⟩
  | _, _ => ⟨S136x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== OutSample.lean ====
abbrev S512x2048 : Shape := ⟨2, ![512, 2048]⟩
abbrev S128x4x2048 : Shape := ⟨3, ![128, 4, 2048]⟩
abbrev S128x2048 : Shape := ⟨2, ![128, 2048]⟩
abbrev S1x2048 : Shape := ⟨2, ![1, 2048]⟩
abbrev S1x2048x2048 : Shape := ⟨3, ![1, 2048, 2048]⟩
abbrev S2048 : Shape := ⟨1, ![2048]⟩
abbrev S2048x2048 : Shape := ⟨2, ![2048, 2048]⟩
abbrev S512 : Shape := ⟨1, ![512]⟩
abbrev S512x1 : Shape := ⟨2, ![512, 1]⟩

abbrev nBuf : Space → Nat
  | .hbm => 20
  | .vmem => 9
  | .smem => 0
  | _ => 0

abbrev bufTy : (tb : Table) → Fin (tcTables nBuf tb) → BufTy
  | .hbm, ⟨0, _⟩ => ⟨S512x2048, .bf16⟩
  | .hbm, ⟨1, _⟩ => ⟨S128x4x2048, .f32⟩
  | .hbm, ⟨2, _⟩ => ⟨S128x2048, .f32⟩
  | .hbm, ⟨3, _⟩ => ⟨S128x2048, .f32⟩
  | .hbm, ⟨4, _⟩ => ⟨S128x2048, .f32⟩
  | .hbm, ⟨5, _⟩ => ⟨S1x2048, .f32⟩
  | .hbm, ⟨6, _⟩ => ⟨S1x2048x2048, .f32⟩
  | .hbm, ⟨7, _⟩ => ⟨S512x2048, .f32⟩
  | .hbm, ⟨8, _⟩ => ⟨S128x4x2048, .f32⟩
  | .hbm, ⟨9, _⟩ => ⟨S512x2048, .f32⟩
  | .hbm, ⟨10, _⟩ => ⟨S128x4x2048, .f32⟩
  | .hbm, ⟨11, _⟩ => ⟨S512x2048, .f32⟩
  | .hbm, ⟨12, _⟩ => ⟨S128x4x2048, .f32⟩
  | .hbm, ⟨13, _⟩ => ⟨S512x2048, .f32⟩
  | .hbm, ⟨14, _⟩ => ⟨S2048, .f32⟩
  | .hbm, ⟨15, _⟩ => ⟨S1x2048, .f32⟩
  | .hbm, ⟨16, _⟩ => ⟨S2048x2048, .f32⟩
  | .hbm, ⟨17, _⟩ => ⟨S2048x2048, .bf16⟩
  | .hbm, ⟨18, _⟩ => ⟨S512x2048, .f32⟩
  | .hbm, ⟨19, _⟩ => ⟨S512x2048, .bf16⟩
  | .local _ .vmem, ⟨0, _⟩ => ⟨S512x2048, .bf16⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S2048x2048, .bf16⟩
  | .local _ .vmem, ⟨7, _⟩ => ⟨S512x2048, .f32⟩
  | .local _ .vmem, ⟨8, _⟩ => ⟨S512x2048, .bf16⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== OutSampleRefIdeal.lean ====
abbrev S512x2048 : Shape := ⟨2, ![512, 2048]⟩
abbrev S128x4x2048 : Shape := ⟨3, ![128, 4, 2048]⟩
abbrev S128x2048 : Shape := ⟨2, ![128, 2048]⟩
abbrev S1x2048 : Shape := ⟨2, ![1, 2048]⟩
abbrev S1x2048x2048 : Shape := ⟨3, ![1, 2048, 2048]⟩
abbrev S128x1x2048 : Shape := ⟨3, ![128, 1, 2048]⟩
abbrev S2048x2048 : Shape := ⟨2, ![2048, 2048]⟩
abbrev S2048 : Shape := ⟨1, ![2048]⟩
abbrev S_ : Shape := ⟨0, ![]⟩
abbrev S128x4 : Shape := ⟨2, ![128, 4]⟩
abbrev S128x4x1 : Shape := ⟨3, ![128, 4, 1]⟩
abbrev S1x1x2048 : Shape := ⟨3, ![1, 1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S128x4x2048, .f32⟩
  | .hbm, ⟨2, _⟩ => ⟨S128x2048, .f32⟩
  | .hbm, ⟨3, _⟩ => ⟨S128x2048, .f32⟩
  | .hbm, ⟨4, _⟩ => ⟨S128x2048, .f32⟩
  | .hbm, ⟨5, _⟩ => ⟨S1x2048, .f32⟩
  | .hbm, ⟨6, _⟩ => ⟨S1x2048x2048, .f32⟩
  | .hbm, ⟨7, _⟩ => ⟨S512x2048, .f32⟩
  | .hbm, ⟨8, _⟩ => ⟨S128x4x2048, .f32⟩
  | .hbm, ⟨9, _⟩ => ⟨S128x1x2048, .f32⟩
  | .hbm, ⟨10, _⟩ => ⟨S2048x2048, .f32⟩
  | .hbm, ⟨11, _⟩ => ⟨S128x4x2048, .f32⟩
  | .hbm, ⟨12, _⟩ => ⟨S128x4x2048, .f32⟩
  | .hbm, ⟨13, _⟩ => ⟨S128x4x2048, .f32⟩
  | .hbm, ⟨14, _⟩ => ⟨S128x4x2048, .f32⟩
  | .hbm, ⟨15, _⟩ => ⟨S2048, .f32⟩
  | .hbm, ⟨16, _⟩ => ⟨S128x4x2048, .f32⟩
  | .hbm, ⟨17, _⟩ => ⟨S_, .f32⟩
  | .hbm, ⟨18, _⟩ => ⟨S128x4, .f32⟩
  | .hbm, ⟨19, _⟩ => ⟨S128x4x1, .f32⟩
  | .hbm, ⟨20, _⟩ => ⟨S_, .f32⟩
  | .hbm, ⟨21, _⟩ => ⟨S128x4x1, .f32⟩
  | .hbm, ⟨22, _⟩ => ⟨S128x4x1, .f32⟩
  | .hbm, ⟨23, _⟩ => ⟨S_, .f32⟩
  | .hbm, ⟨24, _⟩ => ⟨S128x4x1, .f32⟩
  | .hbm, ⟨25, _⟩ => ⟨S128x4x1, .f32⟩
  | .hbm, ⟨26, _⟩ => ⟨S128x4x1, .f32⟩
  | .hbm, ⟨27, _⟩ => ⟨S128x4x2048, .f32⟩
  | .hbm, ⟨28, _⟩ => ⟨S128x4x2048, .f32⟩
  | .hbm, ⟨29, _⟩ => ⟨S1x1x2048, .f32⟩
  | .hbm, ⟨30, _⟩ => ⟨S128x4x2048, .f32⟩
  | .hbm, ⟨31, _⟩ => ⟨S128x4x2048, .f32⟩
  | .hbm, ⟨32, _⟩ => ⟨S128x1x2048, .f32⟩
  | .hbm, ⟨33, _⟩ => ⟨S_, .f32⟩
  | .hbm, ⟨34, _⟩ => ⟨S128x1x2048, .f32⟩
  | .hbm, ⟨35, _⟩ => ⟨S128x1x2048, .f32⟩
  | .hbm, ⟨36, _⟩ => ⟨S128x4x2048, .f32⟩
  | .hbm, ⟨37, _⟩ => ⟨S128x4x2048, .f32⟩
  | .hbm, ⟨38, _⟩ => ⟨S128x1x2048, .f32⟩
  | .hbm, ⟨39, _⟩ => ⟨S128x4x2048, .f32⟩
  | .hbm, ⟨40, _⟩ => ⟨S128x4x2048, .f32⟩
  | .hbm, ⟨41, _⟩ => ⟨S512x2048, .f32⟩
  | .hbm, ⟨42, _⟩ => ⟨S512x2048, .f32⟩
  | .hbm, ⟨43, _⟩ => ⟨S512x2048, .bf16⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== PoolSample.lean ====
abbrev S128x19x1024 : Shape := ⟨3, ![128, 19, 1024]⟩
abbrev S19x128x1024 : Shape := ⟨3, ![19, 128, 1024]⟩
abbrev S4x128x1024 : Shape := ⟨3, ![4, 128, 1024]⟩
abbrev S1x128x256 : Shape := ⟨3, ![1, 128, 256]⟩
abbrev S128x256 : Shape := ⟨2, ![128, 256]⟩

abbrev nBuf : Space → Nat
  | .hbm => 3
  | .vmem => 2
  | .smem => 0
  | _ => 0

abbrev bufTy : (tb : Table) → Fin (tcTables nBuf tb) → BufTy
  | .hbm, ⟨0, _⟩ => ⟨S128x19x1024, .f32⟩
  | .hbm, ⟨1, _⟩ => ⟨S19x128x1024, .f32⟩
  | .hbm, ⟨2, _⟩ => ⟨S4x128x1024, .bf16⟩
  | .local _ .vmem, ⟨0, _⟩ => ⟨S19x128x1024, .f32⟩
  | .local _ .vmem, ⟨1, _⟩ => ⟨S4x128x1024, .bf16⟩
  | _, _ => ⟨S128x19x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S19x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== PoolSampleRefIdeal.lean ====
abbrev S128x19x1024 : Shape := ⟨3, ![128, 19, 1024]⟩
abbrev S4 : Shape := ⟨1, ![4]⟩
abbrev S128x19x4x256 : Shape := ⟨4, ![128, 19, 4, 256]⟩
abbrev S_ : Shape := ⟨0, ![]⟩
abbrev S19 : Shape := ⟨1, ![19]⟩
abbrev S1x19 : Shape := ⟨2, ![1, 19]⟩
abbrev S4x1 : Shape := ⟨2, ![4, 1]⟩
abbrev S4x19 : Shape := ⟨2, ![4, 19]⟩
abbrev S4x1x1 : Shape := ⟨3, ![4, 1, 1]⟩
abbrev S1x4x19 : Shape := ⟨3, ![1, 4, 19]⟩
abbrev S4x4x19 : Shape := ⟨3, ![4, 4, 19]⟩
abbrev S4x128x256x4 : Shape := ⟨4, ![4, 128, 256, 4]⟩
abbrev S128x4x4x256 : Shape := ⟨4, ![128, 4, 4, 256]⟩
abbrev S1x1x4x1 : Shape := ⟨4, ![1, 1, 4, 1]⟩
abbrev S128x4x1024 : Shape := ⟨3, ![128, 4, 1024]⟩
abbrev S4x128x1024 : Shape := ⟨3, ![4, 128, 1024]⟩

abbrev nBuf : Space → Nat
  | .hbm => 39
  | .vmem => 0
  | .smem => 0
  | _ => 0

abbrev bufTy : (tb : Table) → Fin (tcTables nBuf tb) → BufTy
  | .hbm, ⟨0, _⟩ => ⟨S128x19x1024, .f32⟩
  | .hbm, ⟨1, _⟩ => ⟨S4, .i32⟩
  | .hbm, ⟨2, _⟩ => ⟨S128x19x4x256, .f32⟩
  | .hbm, ⟨3, _⟩ => ⟨S4, .i32⟩
  | .hbm, ⟨4, _⟩ => ⟨S_, .i32⟩
  | .hbm, ⟨5, _⟩ => ⟨S4, .i32⟩
  | .hbm, ⟨6, _⟩ => ⟨S4, .i32⟩
  | .hbm, ⟨7, _⟩ => ⟨S19, .i32⟩
  | .hbm, ⟨8, _⟩ => ⟨S1x19, .i32⟩
  | .hbm, ⟨9, _⟩ => ⟨S4x1, .i32⟩
  | .hbm, ⟨10, _⟩ => ⟨S4x19, .i32⟩
  | .hbm, ⟨11, _⟩ => ⟨S4x19, .i32⟩
  | .hbm, ⟨12, _⟩ => ⟨S4x19, .i1⟩
  | .hbm, ⟨13, _⟩ => ⟨S4x1, .i32⟩
  | .hbm, ⟨14, _⟩ => ⟨S1x19, .i32⟩
  | .hbm, ⟨15, _⟩ => ⟨S4x19, .i32⟩
  | .hbm, ⟨16, _⟩ => ⟨S4x19, .i32⟩
  | .hbm, ⟨17, _⟩ => ⟨S4x19, .i32⟩
  | .hbm, ⟨18, _⟩ => ⟨S4x1x1, .i32⟩
  | .hbm, ⟨19, _⟩ => ⟨S1x4x19, .i32⟩
  | .hbm, ⟨20, _⟩ => ⟨S4x4x19, .i32⟩
  | .hbm, ⟨21, _⟩ => ⟨S4x4x19, .i32⟩
  | .hbm, ⟨22, _⟩ => ⟨S4x4x19, .i1⟩
  | .hbm, ⟨23, _⟩ => ⟨S1x4x19, .i1⟩
  | .hbm, ⟨24, _⟩ => ⟨S4x4x19, .i1⟩
  | .hbm, ⟨25, _⟩ => ⟨S4x4x19, .i1⟩
  | .hbm, ⟨26, _⟩ => ⟨S4x4x19, .f32⟩
  | .hbm, ⟨27, _⟩ => ⟨S4x128x256x4, .f32⟩
  | .hbm, ⟨28, _⟩ => ⟨S128x4x4x256, .f32⟩
  | .hbm, ⟨29, _⟩ => ⟨S4, .f32⟩
  | .hbm, ⟨30, _⟩ => ⟨S4x1, .f32⟩
  | .hbm, ⟨31, _⟩ => ⟨S1x1x4x1, .f32⟩
  | .hbm, ⟨32, _⟩ => ⟨S128x4x4x256, .f32⟩
  | .hbm, ⟨33, _⟩ => ⟨S128x4x4x256, .f32⟩
  | .hbm, ⟨34, _⟩ => ⟨S128x4x4x256, .f32⟩
  | .hbm, ⟨35, _⟩ => ⟨S128x4x4x256, .f32⟩
  | .hbm, ⟨36, _⟩ => ⟨S128x4x1024, .f32⟩
  | .hbm, ⟨37, _⟩ => ⟨S4x128x1024, .f32⟩
  | .hbm, ⟨38, _⟩ => ⟨S4x128x1024, .bf16⟩
  | _, _ => ⟨S128x19x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_c_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩

abbrev nD : Nat := 1
abbrev τ : Topo := Topo.v7x

variable {F : FTy → Type} [FloatOps F]
-- ==== MixSample.lean ====
abbrev S512x1024 : Shape := ⟨2, ![512, 1024]⟩
abbrev S512x2048 : Shape := ⟨2, ![512, 2048]⟩
abbrev S512x8192 : Shape := ⟨2, ![512, 8192]⟩
abbrev S1x4x256x256 : Shape := ⟨4, ![1, 4, 256, 256]⟩
abbrev S1x1024 : Shape := ⟨2, ![1, 1024]⟩
abbrev S1x1024x2048 : Shape := ⟨3, ![1, 1024, 2048]⟩
abbrev S1x2048x2048 : Shape := ⟨3, ![1, 2048, 2048]⟩
abbrev S4x256x256 : Shape := ⟨3, ![4, 256, 256]⟩
abbrev S1024 : Shape := ⟨1, ![1024]⟩
abbrev S1024x2048 : Shape := ⟨2, ![1024, 2048]⟩
abbrev S2048x2048 : Shape := ⟨2, ![2048, 2048]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 16
  | .vmem => 9
  | .smem => 0
  | _ => 0

abbrev bufTy : (tb : Table) → Fin (tcTables nBuf tb) → BufTy
  | .hbm, ⟨0, _⟩ => ⟨S512x1024, .bf16⟩
  | .hbm, ⟨1, _⟩ => ⟨S512x2048, .bf16⟩
  | .hbm, ⟨2, _⟩ => ⟨S512x8192, .bf16⟩
  | .hbm, ⟨3, _⟩ => ⟨S1x4x256x256, .f32⟩
  | .hbm, ⟨4, _⟩ => ⟨S1x1024, .f32⟩
  | .hbm, ⟨5, _⟩ => ⟨S1x1024x2048, .f32⟩
  | .hbm, ⟨6, _⟩ => ⟨S1x2048x2048, .f32⟩
  | .hbm, ⟨7, _⟩ => ⟨S4x256x256, .f32⟩
  | .hbm, ⟨8, _⟩ => ⟨S4x256x256, .bf16⟩
  | .hbm, ⟨9, _⟩ => ⟨S1024, .f32⟩
  | .hbm, ⟨10, _⟩ => ⟨S1x1024, .f32⟩
  | .hbm, ⟨11, _⟩ => ⟨S1024x2048, .f32⟩
  | .hbm, ⟨12, _⟩ => ⟨S1024x2048, .bf16⟩
  | .hbm, ⟨13, _⟩ => ⟨S2048x2048, .f32⟩
  | .hbm, ⟨14, _⟩ => ⟨S2048x2048, .bf16⟩
  | .hbm, ⟨15, _⟩ => ⟨S512x2048, .bf16⟩
  | .local _ .vmem, ⟨0, _⟩ => ⟨S512x1024, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S4x256x256, .bf16⟩
  | .local _ .vmem, ⟨5, _⟩ => ⟨S1x1024, .f32⟩
  | .local _ .vmem, ⟨6, _⟩ => ⟨S1024x2048, .bf16⟩
  | .local _ .vmem, ⟨7, _⟩ => ⟨S2048x2048, .bf16⟩
  | .local _ .vmem, ⟨8, _⟩ => ⟨S512x2048, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== MixSampleRefIdeal.lean ====
abbrev S512x1024 : Shape := ⟨2, ![512, 1024]⟩
abbrev S512x2048 : Shape := ⟨2, ![512, 2048]⟩
abbrev S512x8192 : Shape := ⟨2, ![512, 8192]⟩
abbrev S1x4x256x256 : Shape := ⟨4, ![1, 4, 256, 256]⟩
abbrev S1x1024 : Shape := ⟨2, ![1, 1024]⟩
abbrev S1x1024x2048 : Shape := ⟨3, ![1, 1024, 2048]⟩
abbrev S1x2048x2048 : Shape := ⟨3, ![1, 2048, 2048]⟩
abbrev S128x4x4x256 : Shape := ⟨4, ![128, 4, 4, 256]⟩
abbrev S128x4x2048 : Shape := ⟨3, ![128, 4, 2048]⟩
abbrev S4x256x256 : Shape := ⟨3, ![4, 256, 256]⟩
abbrev S4x256x128x4 : Shape := ⟨4, ![4, 256, 128, 4]⟩
abbrev S128x4x1024 : Shape := ⟨3, ![128, 4, 1024]⟩
abbrev S1024 : Shape := ⟨1, ![1024]⟩
abbrev S1x1x1024 : Shape := ⟨3, ![1, 1, 1024]⟩
abbrev S_ : Shape := ⟨0, ![]⟩
abbrev S1024x2048 : Shape := ⟨2, ![1024, 2048]⟩
abbrev S2048x2048 : Shape := ⟨2, ![2048, 2048]⟩

abbrev nBuf : Space → Nat
  | .hbm => 50
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S512x2048, .bf16⟩
  | .hbm, ⟨2, _⟩ => ⟨S512x8192, .bf16⟩
  | .hbm, ⟨3, _⟩ => ⟨S1x4x256x256, .f32⟩
  | .hbm, ⟨4, _⟩ => ⟨S1x1024, .f32⟩
  | .hbm, ⟨5, _⟩ => ⟨S1x1024x2048, .f32⟩
  | .hbm, ⟨6, _⟩ => ⟨S1x2048x2048, .f32⟩
  | .hbm, ⟨7, _⟩ => ⟨S512x1024, .f32⟩
  | .hbm, ⟨8, _⟩ => ⟨S128x4x4x256, .f32⟩
  | .hbm, ⟨9, _⟩ => ⟨S512x2048, .bf16⟩
  | .hbm, ⟨10, _⟩ => ⟨S512x2048, .f32⟩
  | .hbm, ⟨11, _⟩ => ⟨S128x4x2048, .f32⟩
  | .hbm, ⟨12, _⟩ => ⟨S512x2048, .bf16⟩
  | .hbm, ⟨13, _⟩ => ⟨S512x2048, .f32⟩
  | .hbm, ⟨14, _⟩ => ⟨S128x4x2048, .f32⟩
  | .hbm, ⟨15, _⟩ => ⟨S512x2048, .f32⟩
  | .hbm, ⟨16, _⟩ => ⟨S128x4x2048, .f32⟩
  | .hbm, ⟨17, _⟩ => ⟨S4x256x256, .f32⟩
  | .hbm, ⟨18, _⟩ => ⟨S4x256x128x4, .f32⟩
  | .hbm, ⟨19, _⟩ => ⟨S128x4x4x256, .f32⟩
  | .hbm, ⟨20, _⟩ => ⟨S128x4x1024, .f32⟩
  | .hbm, ⟨21, _⟩ => ⟨S1024, .f32⟩
  | .hbm, ⟨22, _⟩ => ⟨S1x1x1024, .f32⟩
  | .hbm, ⟨23, _⟩ => ⟨S128x4x1024, .f32⟩
  | .hbm, ⟨24, _⟩ => ⟨S128x4x1024, .f32⟩
  | .hbm, ⟨25, _⟩ => ⟨S128x4x2048, .f32⟩
  | .hbm, ⟨26, _⟩ => ⟨S128x4x2048, .f32⟩
  | .hbm, ⟨27, _⟩ => ⟨S_, .f32⟩
  | .hbm, ⟨28, _⟩ => ⟨S128x4x2048, .f32⟩
  | .hbm, ⟨29, _⟩ => ⟨S128x4x2048, .f32⟩
  | .hbm, ⟨30, _⟩ => ⟨S_, .f32⟩
  | .hbm, ⟨31, _⟩ => ⟨S128x4x2048, .f32⟩
  | .hbm, ⟨32, _⟩ => ⟨S128x4x2048, .f32⟩
  | .hbm, ⟨33, _⟩ => ⟨S1024x2048, .f32⟩
  | .hbm, ⟨34, _⟩ => ⟨S128x4x2048, .f32⟩
  | .hbm, ⟨35, _⟩ => ⟨S128x4x2048, .f32⟩
  | .hbm, ⟨36, _⟩ => ⟨S128x4x2048, .f32⟩
  | .hbm, ⟨37, _⟩ => ⟨S128x4x2048, .f32⟩
  | .hbm, ⟨38, _⟩ => ⟨S_, .f32⟩
  | .hbm, ⟨39, _⟩ => ⟨S128x4x2048, .f32⟩
  | .hbm, ⟨40, _⟩ => ⟨S128x4x2048, .f32⟩
  | .hbm, ⟨41, _⟩ => ⟨S_, .f32⟩
  | .hbm, ⟨42, _⟩ => ⟨S128x4x2048, .f32⟩
  | .hbm, ⟨43, _⟩ => ⟨S128x4x2048, .f32⟩
  | .hbm, ⟨44, _⟩ => ⟨S2048x2048, .f32⟩
  | .hbm, ⟨45, _⟩ => ⟨S128x4x2048, .f32⟩
  | .hbm, ⟨46, _⟩ => ⟨S128x4x2048, .f32⟩
  | .hbm, ⟨47, _⟩ => ⟨S128x4x2048, .f32⟩
  | .hbm, ⟨48, _⟩ => ⟨S512x2048, .f32⟩
  | .hbm, ⟨49, _⟩ => ⟨S512x2048, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_1 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Proof.FrontBody.lean ====
/-
  The front call's kernel body, run once per way its three conditions can fall, and what each run leaves: the
  modulated rows in the scratch, the product of the scratch with the weight rows in the narrow output (scaled on the
  query tiles) and in the wide one. Every store is of a whole buffer, so each buffer ends at the stored value.
-/
module

public import proofs.«01_k».proof.Proof.Gen.KernelIdeal.Frame
public import proofs.«01_k».proof.Proof.Gen.KernelIdeal.Skeleton
public import Idealize.ShloMosaic.Lib.VecWindow
public import Idealize.ShloMosaic.Lib.Pipeline.Value

@[expose] public section

set_option maxRecDepth 16384

noncomputable section

namespace Cert.KernelIdeal.Front

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The three conditions over the grid -/

/-- The body fills the scratch at this point: its second coordinate is zero. -/
abbrev fills (i : grid0.Coords) : Prop :=
  (Scalar.cmpi .ne (Scalar.extui (Scalar.cmpi .eq (BitVec.ofNat 32 (i 1).val) 0#32)) 0#32) = 1#1
/-- The body stores the narrow output at this point. -/
abbrev narrow (i : grid0.Coords) : Prop := k0_cond2 i = 1#1
/-- The body stores the wide output at this point. -/
abbrev wide (i : grid0.Coords) : Prop := k0_cond3 i = 1#1

theorem fills_iff (t : Fin cfg0.N) : fills (grid0.coords t) ↔ t.val % 19 = 0 :=
  (by decide +kernel : ∀ t : Fin grid0.N, fills (grid0.coords t) ↔ t.val % 19 = 0) t
theorem narrow_iff (t : Fin cfg0.N) : narrow (grid0.coords t) ↔ (t.val % 19 < 14 ∨ t.val % 19 = 16 ∨ t.val % 19 = 17) :=
  (by decide +kernel : ∀ t : Fin grid0.N, narrow (grid0.coords t) ↔ (t.val % 19 < 14 ∨ t.val % 19 = 16 ∨ t.val % 19 = 17)) t
theorem wide_iff (t : Fin cfg0.N) : wide (grid0.coords t) ↔ 14 ≤ t.val % 19 :=
  (by decide +kernel : ∀ t : Fin grid0.N, wide (grid0.coords t) ↔ 14 ≤ t.val % 19) t

/-! ## The runs -/

section Runs

variable (c : Dev nD) (i : grid0.Coords)
  (a2 : Memref sig .tc .vmem S1024x2048 .f32) (h2 : a2.IsWhole) (a3 : Memref sig .tc .vmem S1x2048 .f32) (h3 : a3.IsWhole)
  (a4 : Memref sig .tc .vmem S1x1x2048 .f32) (h4 : a4.IsWhole) (a5 : Memref sig .tc .vmem S1x1x2048 .f32) (h5 : a5.IsWhole)
  (a6 : Memref sig .tc .vmem S512x2048 .f32) (h6 : a6.IsWhole) (a7 : Memref sig .tc .vmem S1024x512 .bf16) (h7 : a7.IsWhole)
  (a8 : Memref sig .tc .vmem S1024x512 .f32) (h8 : a8.IsWhole) (a9 : Memref sig .tc .vmem S1024x2048 .bf16) (h9 : a9.IsWhole)
  (x : Vec F S1024x2048 .f32) (g : Vec F S1x2048 .f32) (sh sc : Vec F S1x1x2048 .f32) (w : Vec F S512x2048 .f32)
  (u : Vec F S1024x2048 .bf16) (y7 : Vec F S1024x512 .bf16) (y8 : Vec F S1024x512 .f32)

/-- The modulated rows from whole-buffer loads of the four operands are those of the operands themselves. -/
theorem rows_congr (f2 : a2.view.ty.Contents (Elt F)) (f3 : a3.view.ty.Contents (Elt F)) (f4 : a4.view.ty.Contents (Elt F)) (f5 : a5.view.ty.Contents (Elt F))
    (b2 : ∀ a, (![0, 0] : Fin 2 → ℕ) a + S1024x2048.size a ≤ S1024x2048.size a) (b3 : ∀ a, (![0, 0] : Fin 2 → ℕ) a + S1x2048.size a ≤ S1x2048.size a)
    (b4 b5 : ∀ a, (![0, 0, 0] : Fin 3 → ℕ) a + S1x1x2048.size a ≤ S1x1x2048.size a)
    (e2 : a2.view.read (Elt F) f2 = x) (e3 : a3.view.read (Elt F) f3 = g) (e5 : a5.view.read (Elt F) f5 = sc) (e4 : a4.view.read (Elt F) f4 = sh) :
    k0_pay1 (a2.view.readAt (Elt F) (Rect.unit (s := S1024x2048) ![0, 0] S1024x2048.size b2).toLoadRect f2)
      (a3.view.readAt (Elt F) (Rect.unit (s := S1x2048) ![0, 0] S1x2048.size b3).toLoadRect f3)
      (a5.view.readAt (Elt F) (Rect.unit (s := S1x1x2048) ![0, 0, 0] S1x1x2048.size b5).toLoadRect f5)
      (a4.view.readAt (Elt F) (Rect.unit (s := S1x1x2048) ![0, 0, 0] S1x1x2048.size b4).toLoadRect f4) = k0_pay1 x g sc sh := by
  rw [View.readAt_full, View.readAt_full, View.readAt_full, View.readAt_full, e2, e3, e4, e5]

/-- The first point of a row block: the rows are normalised and modulated into the scratch, then multiplied. -/
theorem run_fill (hc0 : fills i) (hc1 : narrow i) (hc2 : ¬wide i) (E : Set ℕ) (K : PUnit → sProp 𝕄) :
    iprop(owns (c : Thread nD τ) a2 fullShare x ∗ owns (c : Thread nD τ) a3 fullShare g ∗ owns (c : Thread nD τ) a4 fullShare sh
        ∗ owns (c : Thread nD τ) a5 fullShare sc ∗ owns (c : Thread nD τ) a6 fullShare w ∗ owns (c : Thread nD τ) a7 fullShare y7
        ∗ owns (c : Thread nD τ) a8 fullShare y8 ∗ (∃ d, owns (c : Thread nD τ) a9 fullShare d)
        ∗ (iprop(owns (c : Thread nD τ) a2 fullShare x ∗ owns (c : Thread nD τ) a3 fullShare g ∗ owns (c : Thread nD τ) a4 fullShare sh
            ∗ owns (c : Thread nD τ) a5 fullShare sc ∗ owns (c : Thread nD τ) a6 fullShare w
            ∗ owns (c : Thread nD τ) a7 fullShare (k0_pay3 i (k0_pay1 x g sc sh) w) ∗ owns (c : Thread nD τ) a8 fullShare y8
            ∗ owns (c : Thread nD τ) a9 fullShare (k0_pay1 x g sc sh)) -∗ K ⟨⟩))
      ⊢ wp frame (wpE (defs₀ (F := F)) Variants.none c none) E (cc0_front i a2 h2 a3 h3 a4 h4 a5 h5 a6 h6 a7 h7 a8 h8 a9 h9) K := by
  simp only [cc0_front_eq_skeleton]; unfold cc0_front_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, Hk⟩
  sl_exec (disch := first | sl_exact hc0 | sl_exact hc1 | sl_exact hc2)
  sl_step
  iapply Hk
  isplitl [H2]; · (iexists _; isplitr; (ipureintro; exact e2); iexact H2)
  isplitl [H3]; · (iexists _; isplitr; (ipureintro; exact e3); iexact H3)
  isplitl [H4]; · (iexists _; isplitr; (ipureintro; exact e4); iexact H4)
  isplitl [H5]; · (iexists _; isplitr; (ipureintro; exact e5); iexact H5)
  isplitl [H6]; · (iexists _; isplitr; (ipureintro; exact e6); iexact H6)
  isplitl [H7]
  · iexists _; isplitr
    swap; · iexact H7
    ipureintro
    sl_unfold_words
    exact (View.read_writes_full _ _ _ _ _).trans (congrArg₂ (k0_pay3 i) ((View.readCov_full _ _ _ _ _).trans (rows_congr _ _ _ _ _ _ _ _ _ _ _ _ _ _ _ _ e2 e3 e5 e4)) ((View.readAt_full _ _ _).trans e6))
  isplitl [H8]; · (iexists _; isplitr; (ipureintro; exact e8); iexact H8)
  iexists _; isplitr
  swap; · iexact H9
  ipureintro
  sl_unfold_words
  exact (View.read_writes_full _ _ _ _ _).trans (rows_congr _ _ _ _ _ _ _ _ _ _ _ _ _ _ _ _ e2 e3 e5 e4)

/-- A point that stores the narrow output alone. -/
theorem run_narrow (hc0 : ¬fills i) (hc1 : narrow i) (hc2 : ¬wide i) (E : Set ℕ) (K : PUnit → sProp 𝕄) :
    iprop(owns (c : Thread nD τ) a2 fullShare x ∗ owns (c : Thread nD τ) a3 fullShare g ∗ owns (c : Thread nD τ) a4 fullShare sh
        ∗ owns (c : Thread nD τ) a5 fullShare sc ∗ owns (c : Thread nD τ) a6 fullShare w ∗ owns (c : Thread nD τ) a7 fullShare y7
        ∗ owns (c : Thread nD τ) a8 fullShare y8 ∗ owns (c : Thread nD τ) a9 fullShare u
        ∗ (iprop(owns (c : Thread nD τ) a2 fullShare x ∗ owns (c : Thread nD τ) a3 fullShare g ∗ owns (c : Thread nD τ) a4 fullShare sh
            ∗ owns (c : Thread nD τ) a5 fullShare sc ∗ owns (c : Thread nD τ) a6 fullShare w
            ∗ owns (c : Thread nD τ) a7 fullShare (k0_pay3 i u w) ∗ owns (c : Thread nD τ) a8 fullShare y8
            ∗ owns (c : Thread nD τ) a9 fullShare u) -∗ K ⟨⟩))
      ⊢ wp frame (wpE (defs₀ (F := F)) Variants.none c none) E (cc0_front i a2 h2 a3 h3 a4 h4 a5 h5 a6 h6 a7 h7 a8 h8 a9 h9) K := by
  simp only [cc0_front_eq_skeleton]; unfold cc0_front_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, Hk⟩
  sl_exec (disch := first | sl_exact hc0 | sl_exact hc1 | sl_exact hc2)
  sl_step
  iapply Hk
  isplitl [H2]; · (iexists _; isplitr; (ipureintro; exact e2); iexact H2)
  isplitl [H3]; · (iexists _; isplitr; (ipureintro; exact e3); iexact H3)
  isplitl [H4]; · (iexists _; isplitr; (ipureintro; exact e4); iexact H4)
  isplitl [H5]; · (iexists _; isplitr; (ipureintro; exact e5); iexact H5)
  isplitl [H6]; · (iexists _; isplitr; (ipureintro; exact e6); iexact H6)
  isplitl [H7]
  · iexists _; isplitr
    swap; · iexact H7
    ipureintro
    sl_unfold_words
    exact (View.read_writes_full _ _ _ _ _).trans (congrArg₂ (k0_pay3 i) ((View.readAt_full _ _ _).trans e9) ((View.readAt_full _ _ _).trans e6))
  isplitl [H8]; · (iexists _; isplitr; (ipureintro; exact e8); iexact H8)
  iexists _; isplitr; (ipureintro; exact e9); iexact H9

/-- A point that stores the wide output alone. -/
theorem run_wide (hc0 : ¬fills i) (hc1 : ¬narrow i) (hc2 : wide i) (E : Set ℕ) (K : PUnit → sProp 𝕄) :
    iprop(owns (c : Thread nD τ) a2 fullShare x ∗ owns (c : Thread nD τ) a3 fullShare g ∗ owns (c : Thread nD τ) a4 fullShare sh
        ∗ owns (c : Thread nD τ) a5 fullShare sc ∗ owns (c : Thread nD τ) a6 fullShare w ∗ owns (c : Thread nD τ) a7 fullShare y7
        ∗ owns (c : Thread nD τ) a8 fullShare y8 ∗ owns (c : Thread nD τ) a9 fullShare u
        ∗ (iprop(owns (c : Thread nD τ) a2 fullShare x ∗ owns (c : Thread nD τ) a3 fullShare g ∗ owns (c : Thread nD τ) a4 fullShare sh
            ∗ owns (c : Thread nD τ) a5 fullShare sc ∗ owns (c : Thread nD τ) a6 fullShare w
            ∗ owns (c : Thread nD τ) a7 fullShare y7 ∗ owns (c : Thread nD τ) a8 fullShare (k0_pay2 u w)
            ∗ owns (c : Thread nD τ) a9 fullShare u) -∗ K ⟨⟩))
      ⊢ wp frame (wpE (defs₀ (F := F)) Variants.none c none) E (cc0_front i a2 h2 a3 h3 a4 h4 a5 h5 a6 h6 a7 h7 a8 h8 a9 h9) K := by
  simp only [cc0_front_eq_skeleton]; unfold cc0_front_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, Hk⟩
  sl_exec (disch := first | sl_exact hc0 | sl_exact hc1 | sl_exact hc2)
  sl_step
  iapply Hk
  isplitl [H2]; · (iexists _; isplitr; (ipureintro; exact e2); iexact H2)
  isplitl [H3]; · (iexists _; isplitr; (ipureintro; exact e3); iexact H3)
  isplitl [H4]; · (iexists _; isplitr; (ipureintro; exact e4); iexact H4)
  isplitl [H5]; · (iexists _; isplitr; (ipureintro; exact e5); iexact H5)
  isplitl [H6]; · (iexists _; isplitr; (ipureintro; exact e6); iexact H6)
  isplitl [H7]; · (iexists _; isplitr; (ipureintro; exact e7); iexact H7)
  isplitl [H8]
  · iexists _; isplitr
    swap; · iexact H8
    ipureintro
    sl_unfold_words
    exact (View.read_writes_full _ _ _ _ _).trans (congrArg₂ (k0_pay2) ((View.readAt_full _ _ _).trans e9) ((View.readAt_full _ _ _).trans e6))
  iexists _; isplitr; (ipureintro; exact e9); iexact H9

/-- A point that stores both outputs. -/
theorem run_both (hc0 : ¬fills i) (hc1 : narrow i) (hc2 : wide i) (E : Set ℕ) (K : PUnit → sProp 𝕄) :
    iprop(owns (c : Thread nD τ) a2 fullShare x ∗ owns (c : Thread nD τ) a3 fullShare g ∗ owns (c : Thread nD τ) a4 fullShare sh
        ∗ owns (c : Thread nD τ) a5 fullShare sc ∗ owns (c : Thread nD τ) a6 fullShare w ∗ owns (c : Thread nD τ) a7 fullShare y7
        ∗ owns (c : Thread nD τ) a8 fullShare y8 ∗ owns (c : Thread nD τ) a9 fullShare u
        ∗ (iprop(owns (c : Thread nD τ) a2 fullShare x ∗ owns (c : Thread nD τ) a3 fullShare g ∗ owns (c : Thread nD τ) a4 fullShare sh
            ∗ owns (c : Thread nD τ) a5 fullShare sc ∗ owns (c : Thread nD τ) a6 fullShare w
            ∗ owns (c : Thread nD τ) a7 fullShare (k0_pay3 i u w) ∗ owns (c : Thread nD τ) a8 fullShare (k0_pay2 u w)
            ∗ owns (c : Thread nD τ) a9 fullShare u) -∗ K ⟨⟩))
      ⊢ wp frame (wpE (defs₀ (F := F)) Variants.none c none) E (cc0_front i a2 h2 a3 h3 a4 h4 a5 h5 a6 h6 a7 h7 a8 h8 a9 h9) K := by
  simp only [cc0_front_eq_skeleton]; unfold cc0_front_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, Hk⟩
  sl_exec (disch := first | sl_exact hc0 | sl_exact hc1 | sl_exact hc2)
  sl_step
  iapply Hk
  isplitl [H2]; · (iexists _; isplitr; (ipureintro; exact e2); iexact H2)
  isplitl [H3]; · (iexists _; isplitr; (ipureintro; exact e3); iexact H3)
  isplitl [H4]; · (iexists _; isplitr; (ipureintro; exact e4); iexact H4)
  isplitl [H5]; · (iexists _; isplitr; (ipureintro; exact e5); iexact H5)
  isplitl [H6]; · (iexists _; isplitr; (ipureintro; exact e6); iexact H6)
  isplitl [H7]
  · iexists _; isplitr
    swap; · iexact H7
    ipureintro
    sl_unfold_words
    exact (View.read_writes_full _ _ _ _ _).trans (congrArg₂ (k0_pay3 i) ((View.readAt_full _ _ _).trans e9) ((View.readAt_full _ _ _).trans e6))
  isplitl [H8]
  · iexists _; isplitr
    swap; · iexact H8
    ipureintro
    sl_unfold_words
    exact (View.read_writes_full _ _ _ _ _).trans (congrArg₂ (k0_pay2) ((View.readAt_full _ _ _).trans e9) ((View.readAt_full _ _ _).trans e6))
  iexists _; isplitr; (ipureintro; exact e9); iexact H9

end Runs

end Cert.KernelIdeal.Front

end
-- ==== Proof.FrontRun.lean ====
/-
  The front call's run. What each window's buffer and the carried scratch hold after every grid point is named: the
  scratch holds the modulated rows of the point's row block, the wide output's buffer their product with the point's
  weight rows, and the narrow output's buffer the last narrow block stored, which stays there over the points that
  store nothing into it until it is written back.
-/
module

public import proofs.«01_k».proof.Proof.FrontBody
public import Idealize.ShloMosaic.Lib.Claim

@[expose] public section

set_option maxRecDepth 16384

noncomputable section

namespace Cert.KernelIdeal.Front

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the outputs are idle and written back -/

theorem idle_narrow (t : Fin cfg0.N) (h : t.val % 19 = 14 ∨ t.val % 19 = 15 ∨ t.val % 19 = 18) : cfg0.idle 5 (grid0.coords t) = true :=
  (by decide +kernel : ∀ t : Fin grid0.N, (t.val % 19 = 14 ∨ t.val % 19 = 15 ∨ t.val % 19 = 18) → cfg0.idle 5 (grid0.coords t) = true) t h
theorem live_narrow (t : Fin cfg0.N) (h : t.val % 19 < 14 ∨ t.val % 19 = 16 ∨ t.val % 19 = 17) : cfg0.idle 5 (grid0.coords t) = false :=
  (by decide +kernel : ∀ t : Fin grid0.N, (t.val % 19 < 14 ∨ t.val % 19 = 16 ∨ t.val % 19 = 17) → cfg0.idle 5 (grid0.coords t) = false) t h
theorem idle_wide (t : Fin cfg0.N) (h : t.val % 19 < 14) : cfg0.idle 6 (grid0.coords t) = true :=
  (by decide +kernel : ∀ t : Fin grid0.N, t.val % 19 < 14 → cfg0.idle 6 (grid0.coords t) = true) t h
theorem live_wide (t : Fin cfg0.N) (h : 14 ≤ t.val % 19) : cfg0.idle 6 (grid0.coords t) = false :=
  (by decide +kernel : ∀ t : Fin grid0.N, 14 ≤ t.val % 19 → cfg0.idle 6 (grid0.coords t) = false) t h
theorem flush_narrow (t : Fin cfg0.N) : (cfg0.win 5).flush t = true ↔ ¬(t.val % 19 = 13 ∨ t.val % 19 = 14 ∨ t.val % 19 = 17) :=
  (by decide +kernel : ∀ t : Fin grid0.N, win0_5.flush t = true ↔ ¬(t.val % 19 = 13 ∨ t.val % 19 = 14 ∨ t.val % 19 = 17)) t
theorem flush_wide (t : Fin cfg0.N) : (cfg0.win 6).flush t = true ↔ 14 ≤ t.val % 19 :=
  (by decide +kernel : ∀ t : Fin grid0.N, win0_6.flush t = true ↔ 14 ≤ t.val % 19) t
theorem fetch_narrow (t : Fin cfg0.N) : (cfg0.win 5).fetch t = false :=
  (by decide +kernel : ∀ t : Fin grid0.N, win0_5.fetch t = false) t

theorem noFlush_narrow (t : Fin cfg0.N) (h : t.val % 19 = 13 ∨ t.val % 19 = 14 ∨ t.val % 19 = 17) : (cfg0.win 5).flush t = false := by
  cases hf : (cfg0.win 5).flush t
  · rfl
  · exact absurd h ((flush_narrow t).mp hf)
theorem noFlush_wide (t : Fin cfg0.N) (h : t.val % 19 < 14) : (cfg0.win 6).flush t = false := by
  cases hf : (cfg0.win 6).flush t
  · rfl
  · have := (flush_wide t).mp hf; omega

/-! ## What the buffers hold -/

/-- The first point of the row block that point `n` is in. -/
abbrev rowPt (n : ℕ) (h : n < cfg0.N) : Fin cfg0.N := ⟨19 * (n / 19), lt_of_le_of_lt (Nat.mul_div_le n 19) h⟩

/-- The modulated rows of point `n`'s row block. -/
def rows (c : Dev nD) (n : ℕ) (h : n < cfg0.N) : Vec F S1024x2048 .bf16 :=
  k0_pay1 (iblk m c 0 (rowPt n h)) (iblk m c 1 (rowPt n h)) (iblk m c 3 (rowPt n h)) (iblk m c 2 (rowPt n h))

/-- The last point up to `t` that stores the narrow output. -/
def lastPt (t : Fin cfg0.N) : Fin cfg0.N :=
  if t.val % 19 = 14 ∨ t.val % 19 = 18 then ⟨t.val - 1, lt_of_le_of_lt (Nat.sub_le _ _) t.isLt⟩
  else if t.val % 19 = 15 then ⟨t.val - 2, lt_of_le_of_lt (Nat.sub_le _ _) t.isLt⟩ else t

/-- The narrow output's buffer after a point `t` that stores it. -/
def narrowStored (c : Dev nD) (t : Fin cfg0.N) : Vec F S1024x512 .bf16 :=
  k0_pay3 (grid0.coords t) (rows m c t.val t.isLt) (iblk m c 4 t)

/-- The narrow output's buffer after any point `t`. -/
def narrowAt (c : Dev nD) (t : Fin cfg0.N) : Vec F S1024x512 .bf16 := narrowStored m c (lastPt t)

/-- The wide output's buffer after a point `t` that stores it. -/
def wideAt (c : Dev nD) (t : Fin cfg0.N) : Vec F S1024x512 .f32 := k0_pay2 (rows m c t.val t.isLt) (iblk m c 4 t)

theorem rows_eq (c : Dev nD) (n n' : ℕ) (h : n < cfg0.N) (h' : n' < cfg0.N) (e : n / 19 = n' / 19) : rows m c n h = rows m c n' h' := by
  have : rowPt n h = rowPt n' h' := Fin.ext (by show 19 * (n / 19) = 19 * (n' / 19); rw [e])
  unfold rows; rw [this]

theorem rows_first (c : Dev nD) (t : Fin cfg0.N) (h : t.val % 19 = 0) :
    rows m c t.val t.isLt = k0_pay1 (iblk m c 0 t) (iblk m c 1 t) (iblk m c 3 t) (iblk m c 2 t) := by
  have : rowPt t.val t.isLt = t := Fin.ext (by show 19 * (t.val / 19) = t.val; omega)
  unfold rows; rw [this]

theorem narrowAt_store (c : Dev nD) (t : Fin cfg0.N) (h : t.val % 19 < 14 ∨ t.val % 19 = 16 ∨ t.val % 19 = 17) :
    narrowAt m c t = k0_pay3 (grid0.coords t) (rows m c t.val t.isLt) (iblk m c 4 t) := by
  have : lastPt t = t := by unfold lastPt; rw [if_neg (by omega), if_neg (by omega)]
  exact congrArg (narrowStored m c) this

theorem narrowAt_stay (c : Dev nD) (t t' : Fin cfg0.N) (h : t.val % 19 = 14 ∨ t.val % 19 = 15 ∨ t.val % 19 = 18) (ht : t'.val = t.val - 1) :
    narrowAt m c t = narrowAt m c t' := by
  have : lastPt t = lastPt t' := by
    unfold lastPt
    rcases h with h | h | h
    · rw [if_pos (by omega), if_neg (by omega), if_neg (by omega)]; exact Fin.ext ht.symm
    · rw [if_neg (by omega), if_pos (by omega), if_pos (by omega)]; exact Fin.ext (by show t.val - 2 = t'.val - 1; omega)
    · rw [if_pos (by omega), if_neg (by omega), if_neg (by omega)]; exact Fin.ext ht.symm
  exact congrArg (narrowStored m c) this

/-! ## The proof data -/

/-- The scratch operand. -/
abbrev scr : Memref sig .tc .vmem S1024x2048 .bf16 := Memref.whole cc0_scratch0

/-- The launch's invariant with the scratch as a memref owned at some contents. -/
theorem launch_inv (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- The invariant before position `n`: nothing is known of the scratch before the first point, and afterwards it holds
    the rows of the block the point before was in. -/
def inv (c : Dev nD) : (n : ℕ) → n ≤ cfg0.N → sProp 𝕄
  | 0, _ => Pipeline.ΦA spec0 c
  | n + 1, hn => iprop(iprop(owns (c : Thread nD τ) scr fullShare (rows m c n hn)) ∗ (∃ r, prngReg c r))

theorem inv_pos (c : Dev nD) (n : ℕ) (h : n ≤ cfg0.N) (hz : n ≠ 0) :
    inv m c n h = iprop(iprop(owns (c : Thread nD τ) scr fullShare (rows m c (n - 1) (by omega))) ∗ (∃ r, prngReg c r)) := by
  cases n with
  | zero => exact absurd rfl hz
  | succ n => rfl

/-- Whatever the position, the scratch is owned at something. -/
theorem inv_any (c : Dev nD) (n : ℕ) (h : n ≤ cfg0.N) :
    inv m c n h ⊢ iprop(iprop((∃ d, owns (c : Thread nD τ) scr fullShare d)) ∗ (∃ r, prngReg c r)) := by
  by_cases hz : n = 0
  · subst hz
    rw [show inv m c 0 h = Pipeline.ΦA spec0 c from rfl, launch_inv]
  · rw [inv_pos m c n h hz]
    iintro ⟨HS, Hg⟩
    isplitl [HS]
    · iexists _; iexact HS
    iexact Hg

/-- The pipeline's data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => narrowAt m c t
    | ⟨6, _⟩ => wideAt m c t
  Φ t := inv m c t.val (Nat.le_of_lt_succ t.isLt)
  q _ := fullShare
  owed _ := 0

theorem data_arr (c : Dev nD) (w : Fin cfg0.W) : (dats m 0 c).A w = V m c (Pipeline.arrRef spec0 w) := by
  dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = narrowAt m c t := by dsimp only [dats]
theorem after_6 (c : Dev nD) (t : Fin cfg0.N) : (dats m 0 c).after 6 t = wideAt m c t := by dsimp only [dats]

theorem before_0 (c : Dev nD) (t : Fin cfg0.N) (d) : (dats m 0 c).before 0 t d = iblk m c 0 t :=
  before0_0_of m (dats m 0 c) (data_arr m c 0) (after_0 m c) t d
theorem before_1 (c : Dev nD) (t : Fin cfg0.N) (d) : (dats m 0 c).before 1 t d = iblk m c 1 t :=
  before0_1_of m (dats m 0 c) (data_arr m c 1) (after_1 m c) t d
theorem before_2 (c : Dev nD) (t : Fin cfg0.N) (d) : (dats m 0 c).before 2 t d = iblk m c 2 t :=
  before0_2_of m (dats m 0 c) (data_arr m c 2) (after_2 m c) t d
theorem before_3 (c : Dev nD) (t : Fin cfg0.N) (d) : (dats m 0 c).before 3 t d = iblk m c 3 t :=
  before0_3_of m (dats m 0 c) (data_arr m c 3) (after_3 m c) t d
theorem before_4 (c : Dev nD) (t : Fin cfg0.N) (d) : (dats m 0 c).before 4 t d = iblk m c 4 t :=
  before0_4_of m (dats m 0 c) (data_arr m c 4) (after_4 m c) t d

/-- At a point that stores nothing into the narrow output, right after one that stored it without writing it back, its
    buffer still holds what was stored. -/
theorem before_narrow_live (c : Dev nD) (t t' : Fin cfg0.N) (ht : t'.val = t.val - 1)
    (h : t.val % 19 = 14 ∨ t.val % 19 = 18) (d) : (dats m 0 c).before 5 t d = narrowAt m c t := by
  have ht' : (⟨t.val - 1, Nat.lt_of_le_of_lt (Nat.sub_le _ _) t.isLt⟩ : Fin cfg0.N) = t' := Fin.ext ht.symm
  rw [Dat.before_of_pos _ 5 t (by omega) (fetch_narrow t), ht', noFlush_narrow t' (by omega), if_neg Bool.false_ne_true]
  unfold Dat.left
  rw [live_narrow t' (by omega)]
  show (dats m 0 c).kept 5 t' d = _
  rw [narrowAt_stay m c t t' (by omega) ht]
  unfold Dat.kept
  rw [after_5]
  rfl

/-- And one point further on. -/
theorem before_narrow_idle (c : Dev nD) (t : Fin cfg0.N) (h : t.val % 19 = 15) (d) : (dats m 0 c).before 5 t d = narrowAt m c t := by
  have hN : t.val < 152 := lt_of_lt_of_eq t.isLt (show cfg0.N = 152 from N_0)
  obtain ⟨t', ht⟩ : ∃ t' : Fin cfg0.N, t'.val = t.val - 1 := ⟨⟨t.val - 1, lt_of_le_of_lt (Nat.sub_le _ _) t.isLt⟩, rfl⟩
  obtain ⟨t'', ht2⟩ : ∃ t'' : Fin cfg0.N, t''.val = t'.val - 1 := ⟨⟨t'.val - 1, lt_of_le_of_lt (Nat.sub_le _ _) t'.isLt⟩, rfl⟩
  have ht' : (⟨t.val - 1, Nat.lt_of_le_of_lt (Nat.sub_le _ _) t.isLt⟩ : Fin cfg0.N) = t' := Fin.ext ht.symm
  rw [Dat.before_of_pos _ 5 t (by omega) (fetch_narrow t), ht', noFlush_narrow t' (by omega), if_neg Bool.false_ne_true]
  unfold Dat.left
  rw [idle_narrow t' (by omega)]
  show (dats m 0 c).before 5 t' d = _
  rw [narrowAt_stay m c t t' (by omega) ht, before_narrow_live m c t' t'' ht2 (by omega)]

/-! ## The body's obligation at every point -/

abbrev st0 (t : Fin cfg0.N) : Memref sig .tc .vmem S1024x2048 .f32 := win0_0.stage (cfg0.slots t 0)
abbrev st1 (t : Fin cfg0.N) : Memref sig .tc .vmem S1x2048 .f32 := win0_1.stage (cfg0.slots t 1)
abbrev st2 (t : Fin cfg0.N) : Memref sig .tc .vmem S1x1x2048 .f32 := win0_2.stage (cfg0.slots t 2)
abbrev st3 (t : Fin cfg0.N) : Memref sig .tc .vmem S1x1x2048 .f32 := win0_3.stage (cfg0.slots t 3)
abbrev st4 (t : Fin cfg0.N) : Memref sig .tc .vmem S512x2048 .f32 := win0_4.stage (cfg0.slots t 4)
abbrev st5 (t : Fin cfg0.N) : Memref sig .tc .vmem S1024x512 .bf16 := win0_5.stage (cfg0.slots t 5)
abbrev st6 (t : Fin cfg0.N) : Memref sig .tc .vmem S1024x512 .f32 := win0_6.stage (cfg0.slots t 6)

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d)))

/-- What it returns. -/
def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t)

/-- A window the body stores into, or only reads, is left at the contents named for it. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- So is one it leaves alone at a point that writes the block back. -/
theorem leaves_flush (c : Dev nD) (w : Fin cfg0.W) (t : Fin cfg0.N) (h : cfg0.idle w (grid0.coords t) = true) (hf : (cfg0.win w).flush t = true) :
    (dats m 0 c).leavesExact w t = owns (c : Thread nD τ) ((cfg0.win w).stage (cfg0.slots t w)) fullShare ((dats m 0 c).after w t) := by
  unfold Dat.leavesExact; rw [h, hf]

theorem leaves_narrow_stay (c : Dev nD) (t : Fin cfg0.N) (h : t.val % 19 = 14 ∨ t.val % 19 = 15 ∨ t.val % 19 = 18) (d) :
    owns (c : Thread nD τ) (st5 t) fullShare ((dats m 0 c).before 5 t d) ⊢ (dats m 0 c).leavesExact 5 t := by
  obtain ⟨t', ht⟩ : ∃ t' : Fin cfg0.N, t'.val = t.val - 1 := ⟨⟨t.val - 1, lt_of_le_of_lt (Nat.sub_le _ _) t.isLt⟩, rfl⟩
  rcases h with h | h | h
  · rw [Dat.leavesExact_idle (dats m 0 c) 5 t (idle_narrow t (by omega)) (noFlush_narrow t (by omega))]
    iintro H
    iexists d; iexact H
  · rw [leaves_flush m c 5 t (idle_narrow t (by omega)) ((flush_narrow t).mpr (by omega)), after_5, before_narrow_idle m c t h]
  · rw [leaves_flush m c 5 t (idle_narrow t (by omega)) ((flush_narrow t).mpr (by omega)), after_5, before_narrow_live m c t t' ht (by omega)]

theorem leaves_wide_stay (c : Dev nD) (t : Fin cfg0.N) (h : t.val % 19 < 14) (d) :
    owns (c : Thread nD τ) (st6 t) fullShare ((dats m 0 c).before 6 t d) ⊢ (dats m 0 c).leavesExact 6 t := by
  rw [Dat.leavesExact_idle (dats m 0 c) 6 t (idle_wide t h) (noFlush_wide t h)]
  iintro H
  iexists d; iexact H

set_option maxHeartbeats 4000000 in
/-- The body at any point, by the way its conditions fall there. -/
theorem body_at (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4]
  rw [show (dats m 0 c).owesAt () t.succ = (dats m 0 c).owesAt () t.castSucc from rfl]
  rw [show (dats m 0 c).Φ t.succ = inv m c (t.val + 1) t.isLt from rfl]
  rw [show inv m c (t.val + 1) t.isLt = iprop(iprop(owns (c : Thread nD τ) scr fullShare (rows m c t.val t.isLt)) ∗ (∃ r, prngReg c r)) from rfl]
  rw [leaves_live m c 0 t rfl, leaves_live m c 1 t rfl, leaves_live m c 2 t rfl, leaves_live m c 3 t rfl, leaves_live m c 4 t rfl]
  rw [after_0, after_1, after_2, after_3, after_4, inv_castSucc]
  have hN : t.val < 152 := lt_of_lt_of_eq t.isLt (show cfg0.N = 152 from N_0)
  by_cases h0 : t.val % 19 = 0
  · rw [leaves_live m c 5 t (live_narrow t (by omega)), after_5, narrowAt_store m c t (by omega), rows_first m c t h0]
    iintro ⟨HI, Ho, ⟨%d0, H0⟩, ⟨%d1, H1⟩, ⟨%d2, H2⟩, ⟨%d3, H3⟩, ⟨%d4, H4⟩, ⟨%d5, H5⟩, ⟨%d6, H6⟩⟩
    ihave HI' := (inv_any m c t.val (Nat.le_of_lt t.isLt)) $$ HI
    icases HI' with ⟨HS, Hg⟩
    iapply (run_fill c (grid0.coords t) _ _ _ _ _ _ _ _ _ _ _ _ _ _ _ _ _ _ _ _ _ _ _
      ((fills_iff t).mpr h0) ((narrow_iff t).mpr (by omega)) (fun h => by have := (wide_iff t).mp h; omega) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]; · (isplitl [HS]; · iexact HS
                        iexact Hg)
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves_wide_stay m c t (by omega) d6) $$ [H6]
    iexact H6
  have hz : t.val ≠ 0 := by omega
  rw [inv_pos m c _ _ hz, rows_eq m c (t.val - 1) t.val _ t.isLt (by omega)]
  by_cases h1 : t.val % 19 < 14
  · rw [leaves_live m c 5 t (live_narrow t (by omega)), after_5, narrowAt_store m c t (by omega)]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (run_narrow c (grid0.coords t) _ _ _ _ _ _ _ _ _ _ _ _ _ _ _ _ _ _ _ _ _ _ _ _
      (fun h => h0 ((fills_iff t).mp h)) ((narrow_iff t).mpr (by omega)) (fun h => by have := (wide_iff t).mp h; omega) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]; · (isplitl [HS]; · iexact HS
                        iexact Hg)
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves_wide_stay m c t (by omega) d6) $$ [H6]
    iexact H6
  rw [leaves_live m c 6 t (live_wide t (by omega)), after_6, show wideAt m c t = k0_pay2 (rows m c t.val t.isLt) (iblk m c 4 t) from rfl]
  by_cases h2 : t.val % 19 = 16 ∨ t.val % 19 = 17
  · rw [leaves_live m c 5 t (live_narrow t (by omega)), after_5, narrowAt_store m c t (by omega)]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (run_both c (grid0.coords t) _ _ _ _ _ _ _ _ _ _ _ _ _ _ _ _ _ _ _ _ _ _ _ _
      (fun h => h0 ((fills_iff t).mp h)) ((narrow_iff t).mpr (by omega)) ((wide_iff t).mpr (by omega)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]; · (isplitl [HS]; · iexact HS
                        iexact Hg)
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (run_wide c (grid0.coords t) _ _ _ _ _ _ _ _ _ _ _ _ _ _ _ _ _ _ _ _ _ _ _ _
      (fun h => h0 ((fills_iff t).mp h)) (fun h => by have := (narrow_iff t).mp h; omega) ((wide_iff t).mpr (by omega)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]; · (isplitl [HS]; · iexact HS
                        iexact Hg)
    isplitl [Ho]; · iexact Ho
    isplitl [H0]; · iexact H0
    isplitl [H1]; · iexact H1
    isplitl [H2]; · iexact H2
    isplitl [H3]; · iexact H3
    isplitl [H4]; · iexact H4
    isplitl [H5]; · (iapply (leaves_narrow_stay m c t (by omega) d5) $$ [H5]; iexact H5)
    iexact H6

/-- The body table's row at point `t`'s slots is the body. -/
theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (body_at m c t) rfl .rfl fun _ => .rfl

theorem inv_in (c : Dev nD) : Pipeline.ΦA spec0 c ⊢ (dats m 0 c).Φ 0 := by
  rw [show (dats m 0 c).Φ 0 = Pipeline.ΦA spec0 c from rfl]

theorem inv_out (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl, launch_inv]
  exact inv_any m c _ _

/-! ## The run -/

set_option backward.isDefEq.respectTransparency.types false in
/-- Every fair run ends, with the arrays at what the data name and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := data_arr m) (hin := inv_in m) (hout := inv_out m)

theorem run_post : θ_run defs (onTc (τ := τ) (main (F := F))) (s₀ m ρ) (Pipeline.FramePost cfgs (dats m) 0 (V m)) :=
  (θ_run defs _ _).mono (fun _ h => h.1) (run_quiet m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (data_arr m) (run_post m ρ)

/-- The frame, over any values. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_quiet m ρ))

end Cert.KernelIdeal.Front

end
-- ==== Proof.FrontMath.lean ====
/-
  The mathematics of the front call over the extended reals, in coordinates: the modulated rows, their projection, and
  which column of the projection each column of the two results is.
-/
module

public import Idealize.ShloMosaic.Lib.Pointwise

@[expose] public section

noncomputable section

namespace Cert.Front

open Idealize.ShloMosaic

/-- Batch row `b`, position `s`, feature `k` of x after the normalisation and the modulation. -/
def unit (x : FVec Ideal ⟨3, ![2, 4096, 2048]⟩ .f32) (g : FVec Ideal ⟨2, ![1, 2048]⟩ .f32) (sh sc : FVec Ideal ⟨2, ![2, 2048]⟩ .f32)
    (b : Fin 2) (s : Fin 4096) (k : Fin 2048) : EReal :=
  x (ix3 b s k) * Ideal.rsqrt (Ideal.div (∑ i : Fin 2048, x (ix3 b s i) * x (ix3 b s i)) (Ideal.ofBits .f32 0x45000000#32) + Ideal.ofBits .f32 0x358637BD#32)
    * g (ix2 0 k) * (1 + sc (ix2 b k)) + sh (ix2 b k)

/-- Column `j` of the projection of row `(b, s)`. -/
def proj (x : FVec Ideal ⟨3, ![2, 4096, 2048]⟩ .f32) (g : FVec Ideal ⟨2, ![1, 2048]⟩ .f32) (sh sc : FVec Ideal ⟨2, ![2, 2048]⟩ .f32)
    (w : FVec Ideal ⟨3, ![1, 2048, 9296]⟩ .f32) (b : Fin 2) (s : Fin 4096) (j : Fin 9296) : EReal :=
  ∑ k : Fin 2048, unit x g sh sc b s k * w (ix3 0 k j)

/-- The projection's column that column `C` of the narrow result is. -/
def narrowCol (C : ℕ) : ℕ :=
  if C < 2048 then 1024 + C else if C < 4096 then 3152 + C else if C < 6144 then 3152 + C else if C < 7168 then C - 2048
  else if C < 7680 then C - 4096 else C - 4096

/-- The projection's column that column `C` of the wide result is. -/
def wideCol (C : ℕ) : ℕ := if C < 1024 then C else if C < 2048 then 2048 + C else 3072 + C

theorem narrowCol_lt (C : ℕ) (h : C < 8192) : narrowCol C < 9296 := by unfold narrowCol; split_ifs <;> omega
theorem wideCol_lt (C : ℕ) (h : C < 2560) : wideCol C < 9296 := by unfold wideCol; split_ifs <;> omega

/-- What the narrow result's column `C` is multiplied by. -/
def narrowScale (C : ℕ) : EReal := if C < 2048 then Ideal.ofBits .f32 0x3E0293EE#32 else 1

/-- Entry `(R, C)` of the narrow result. -/
def narrowOut (x : FVec Ideal ⟨3, ![2, 4096, 2048]⟩ .f32) (g : FVec Ideal ⟨2, ![1, 2048]⟩ .f32) (sh sc : FVec Ideal ⟨2, ![2, 2048]⟩ .f32)
    (w : FVec Ideal ⟨3, ![1, 2048, 9296]⟩ .f32) (R : Fin 8192) (C : Fin 8192) : EReal :=
  proj x g sh sc w ⟨R.val / 4096, by omega⟩ ⟨R.val % 4096, by omega⟩ ⟨narrowCol C.val, narrowCol_lt _ C.isLt⟩ * narrowScale C.val

/-- Entry `(R, C)` of the wide result. -/
def wideOut (x : FVec Ideal ⟨3, ![2, 4096, 2048]⟩ .f32) (g : FVec Ideal ⟨2, ![1, 2048]⟩ .f32) (sh sc : FVec Ideal ⟨2, ![2, 2048]⟩ .f32)
    (w : FVec Ideal ⟨3, ![1, 2048, 9296]⟩ .f32) (R : Fin 8192) (C : Fin 2560) : EReal :=
  proj x g sh sc w ⟨R.val / 4096, by omega⟩ ⟨R.val % 4096, by omega⟩ ⟨wideCol C.val, wideCol_lt _ C.isLt⟩

end Cert.Front

end
-- ==== Proof.FrontValue.lean ====
/-
  The front call's results. The arrays after the run are read off the buffers written back, the buffers off the blocks
  the windows bring, and the blocks off the arguments; over the extended reals every entry is a column of the projection.
-/
module

public import proofs.«01_k».proof.Proof.FrontRun
public import proofs.«01_k».proof.Proof.FrontMath
public import Idealize.ShloMosaic.Lib.Pipeline.Value

@[expose] public section

set_option maxRecDepth 16384

noncomputable section

namespace Cert.KernelIdeal.Front

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ)

/-! ## The host's reshapes -/

theorem host_x (c : Dev nD) : V m c main_v4 = shapeCast S8192x2048 (m ((c : Thread nD τ).loc main_arg0)) shapeCasts_S2x4096x2048_S8192x2048 := by
  show StableHlo.after hostOps0 (fun b => m (c, b)) _ = _
  after_results <;> rfl
theorem host_g (c : Dev nD) : V m c main_v3 = shapeCast S1x2048 (shapeCast S2048 (m ((c : Thread nD τ).loc main_arg1)) shapeCasts_S1x2048_S2048) shapeCasts_S2048_S1x2048 := by
  show StableHlo.after hostOps0 (fun b => m (c, b)) _ = _
  after_results <;> rfl
theorem host_shift (c : Dev nD) : V m c main_v5 = shapeCast S2x1x2048 (m ((c : Thread nD τ).loc main_arg2)) shapeCasts_S2x2048_S2x1x2048 := by
  show StableHlo.after hostOps0 (fun b => m (c, b)) _ = _
  after_results <;> rfl
theorem host_scale (c : Dev nD) : V m c main_v6 = shapeCast S2x1x2048 (m ((c : Thread nD τ).loc main_arg3)) shapeCasts_S2x2048_S2x1x2048 := by
  show StableHlo.after hostOps0 (fun b => m (c, b)) _ = _
  after_results <;> rfl
theorem host_w (c : Dev nD) : V m c main_v1 = transpose S9296x2048 [1, 0] (shapeCast S2048x9296 (m ((c : Thread nD τ).loc main_arg4)) shapeCasts_S1x2048x9296_S2048x9296) transposes_S2048x9296_S9296x2048_1_0 := by
  show StableHlo.after hostOps0 (fun b => m (c, b)) _ = _
  after_results <;> rfl

/-! ## Where the blocks lie -/

/-- The first of the weight rows that a tile takes. -/
def tileRow (n : ℕ) : ℕ :=
  if n < 4 then 1024 + 512 * n else if n < 12 then 3152 + 512 * n else if n < 14 then 512 * n - 2048
  else if n < 16 then 512 * n - 7168 else if n < 18 then 512 * n - 5120 else 5120

theorem index_x : ∀ t : Fin cfg0.N, win0_0.index t (0 : Fin 2) = t.val / 19 ∧ win0_0.index t (1 : Fin 2) = 0 :=
  (by decide +kernel : ∀ t : Fin grid0.N, _)
theorem index_g : ∀ t : Fin cfg0.N, win0_1.index t (0 : Fin 2) = 0 ∧ win0_1.index t (1 : Fin 2) = 0 :=
  (by decide +kernel : ∀ t : Fin grid0.N, _)
theorem index_shift : ∀ t : Fin cfg0.N, win0_2.index t (0 : Fin 3) = t.val / 76 ∧ win0_2.index t (1 : Fin 3) = 0 ∧ win0_2.index t (2 : Fin 3) = 0 :=
  (by decide +kernel : ∀ t : Fin grid0.N, _)
theorem index_scale : ∀ t : Fin cfg0.N, win0_3.index t (0 : Fin 3) = t.val / 76 ∧ win0_3.index t (1 : Fin 3) = 0 ∧ win0_3.index t (2 : Fin 3) = 0 :=
  (by decide +kernel : ∀ t : Fin grid0.N, _)

theorem block_x (c : Dev nD) (t : Fin cfg0.N) (r : Fin 1024) (k : Fin 2048) (hR : 1024 * (t.val / 19) + r.val < 8192) :
    (iblk m c 0 t : Vec F S1024x2048 .f32) (ix2 r k) = V m c main_v4 (ix2 ⟨1024 * (t.val / 19) + r.val, hR⟩ k) := by
  unfold iblk
  rw [View.read_apply]
  show V m c main_v4 _ = _
  congr 1
  obtain ⟨e0, e1⟩ := index_x t
  funext a; apply Fin.ext
  match a with
  | ⟨0, _⟩ => show win0_0.index t (0 : Fin 2) * 1024 + 1 * r.val = _; rw [e0]; show _ = 1024 * (t.val / 19) + r.val; omega
  | ⟨1, _⟩ => show win0_0.index t (1 : Fin 2) * 2048 + 1 * k.val = _; rw [e1]; show _ = k.val; omega

theorem offset_w : ∀ t : Fin cfg0.N, cc0_transform_4 (grid0.coords t) (0 : Fin 2) = tileRow (t.val % 19) ∧ cc0_transform_4 (grid0.coords t) (1 : Fin 2) = 0 :=
  (by decide +kernel : ∀ t : Fin grid0.N, _)

theorem block_w (c : Dev nD) (t : Fin cfg0.N) (r : Fin 512) (k : Fin 2048) (hR : tileRow (t.val % 19) + r.val < 9296) :
    (iblk m c 4 t : Vec F S512x2048 .f32) (ix2 r k) = V m c main_v1 (ix2 ⟨tileRow (t.val % 19) + r.val, hR⟩ k) := by
  unfold iblk
  rw [View.read_apply]
  show V m c main_v1 _ = _
  congr 1
  obtain ⟨e0, e1⟩ := offset_w t
  funext a; apply Fin.ext
  match a with
  | ⟨0, _⟩ => show cc0_transform_4 (grid0.coords t) (0 : Fin 2) + 1 * r.val = _; rw [e0]; show _ = tileRow (t.val % 19) + r.val; omega
  | ⟨1, _⟩ => show cc0_transform_4 (grid0.coords t) (1 : Fin 2) + 1 * k.val = _; rw [e1]; show _ = k.val; omega

theorem block_g (c : Dev nD) (t : Fin cfg0.N) (k : Fin 2048) :
    (iblk m c 1 t : Vec F S1x2048 .f32) (ix2 0 k) = V m c main_v3 (ix2 0 k) := by
  unfold iblk
  rw [View.read_apply]
  show V m c main_v3 _ = _
  congr 1
  obtain ⟨e0, e1⟩ := index_g t
  funext a; apply Fin.ext
  match a with
  | ⟨0, _⟩ => show win0_1.index t (0 : Fin 2) * 1 + 1 * 0 = _; rw [e0]; rfl
  | ⟨1, _⟩ => show win0_1.index t (1 : Fin 2) * 2048 + 1 * k.val = _; rw [e1]; show _ = k.val; omega

theorem block_shift (c : Dev nD) (t : Fin cfg0.N) (k : Fin 2048) (hb : t.val / 76 < 2) :
    (iblk m c 2 t : Vec F S1x1x2048 .f32) (ix3 0 0 k) = V m c main_v5 (ix3 ⟨t.val / 76, hb⟩ 0 k) := by
  unfold iblk
  rw [View.read_apply]
  show V m c main_v5 _ = _
  congr 1
  obtain ⟨e0, e1, e2⟩ := index_shift t
  funext a; apply Fin.ext
  match a with
  | ⟨0, _⟩ => show win0_2.index t (0 : Fin 3) * 1 + 1 * 0 = _; rw [e0]; show _ = t.val / 76; omega
  | ⟨1, _⟩ => show win0_2.index t (1 : Fin 3) * 1 + 1 * 0 = _; rw [e1]; rfl
  | ⟨2, _⟩ => show win0_2.index t (2 : Fin 3) * 2048 + 1 * k.val = _; rw [e2]; show _ = k.val; omega

theorem block_scale (c : Dev nD) (t : Fin cfg0.N) (k : Fin 2048) (hb : t.val / 76 < 2) :
    (iblk m c 3 t : Vec F S1x1x2048 .f32) (ix3 0 0 k) = V m c main_v6 (ix3 ⟨t.val / 76, hb⟩ 0 k) := by
  unfold iblk
  rw [View.read_apply]
  show V m c main_v6 _ = _
  congr 1
  obtain ⟨e0, e1, e2⟩ := index_scale t
  funext a; apply Fin.ext
  match a with
  | ⟨0, _⟩ => show win0_3.index t (0 : Fin 3) * 1 + 1 * 0 = _; rw [e0]; show _ = t.val / 76; omega
  | ⟨1, _⟩ => show win0_3.index t (1 : Fin 3) * 1 + 1 * 0 = _; rw [e1]; rfl
  | ⟨2, _⟩ => show win0_3.index t (2 : Fin 3) * 2048 + 1 * k.val = _; rw [e2]; show _ = k.val; omega

/-! ## The blocks in the arguments' terms -/

theorem reshape_x {α : Type} (x : S2x4096x2048.Idx → α) (R : Fin 8192) (k : Fin 2048) :
    shapeCast S8192x2048 x shapeCasts_S2x4096x2048_S8192x2048 (ix2 R k) = x (ix3 ⟨R.val / 4096, by omega⟩ ⟨R.val % 4096, by omega⟩ k) := by
  pointwise

theorem reshape_w {α : Type} (x : S1x2048x9296.Idx → α) (j : Fin 9296) (k : Fin 2048) :
    transpose S9296x2048 [1, 0] (shapeCast S2048x9296 x shapeCasts_S1x2048x9296_S2048x9296) transposes_S2048x9296_S9296x2048_1_0 (ix2 j k) = x (ix3 0 k j) := by
  pointwise

theorem x_at (c : Dev nD) (t : Fin cfg0.N) (r : Fin 1024) (k : Fin 2048) (hb : t.val / 76 < 2) (hs : 1024 * (t.val / 19 % 4) + r.val < 4096) :
    (iblk m c 0 t : Vec F S1024x2048 .f32) (ix2 r k)
      = (m ((c : Thread nD τ).loc main_arg0) : Vec F S2x4096x2048 .f32) (ix3 ⟨t.val / 76, hb⟩ ⟨1024 * (t.val / 19 % 4) + r.val, hs⟩ k) := by
  have hN : t.val < 152 := lt_of_lt_of_eq t.isLt (show cfg0.N = 152 from N_0)
  rw [block_x m c t r k (by omega), host_x, reshape_x]
  congr 1
  refine congrArg₂ (fun b s => ix3 b s k) (Fin.ext ?_) (Fin.ext ?_)
  · show (1024 * (t.val / 19) + r.val) / 4096 = t.val / 76; omega
  · show (1024 * (t.val / 19) + r.val) % 4096 = 1024 * (t.val / 19 % 4) + r.val; omega

theorem g_at (c : Dev nD) (t : Fin cfg0.N) (k : Fin 2048) :
    (iblk m c 1 t : Vec F S1x2048 .f32) (ix2 0 k) = (m ((c : Thread nD τ).loc main_arg1) : Vec F S1x2048 .f32) (ix2 0 k) := by
  rw [block_g, host_g]
  generalize (m ((c : Thread nD τ).loc main_arg1) : Vec F S1x2048 .f32) = x
  pointwise

theorem shift_at (c : Dev nD) (t : Fin cfg0.N) (k : Fin 2048) (hb : t.val / 76 < 2) :
    (iblk m c 2 t : Vec F S1x1x2048 .f32) (ix3 0 0 k) = (m ((c : Thread nD τ).loc main_arg2) : Vec F S2x2048 .f32) (ix2 ⟨t.val / 76, hb⟩ k) := by
  rw [block_shift m c t k hb, host_shift]
  generalize (m ((c : Thread nD τ).loc main_arg2) : Vec F S2x2048 .f32) = x
  pointwise

theorem scale_at (c : Dev nD) (t : Fin cfg0.N) (k : Fin 2048) (hb : t.val / 76 < 2) :
    (iblk m c 3 t : Vec F S1x1x2048 .f32) (ix3 0 0 k) = (m ((c : Thread nD τ).loc main_arg3) : Vec F S2x2048 .f32) (ix2 ⟨t.val / 76, hb⟩ k) := by
  rw [block_scale m c t k hb, host_scale]
  generalize (m ((c : Thread nD τ).loc main_arg3) : Vec F S2x2048 .f32) = x
  pointwise

theorem w_at (c : Dev nD) (t : Fin cfg0.N) (r : Fin 512) (k : Fin 2048) (hR : tileRow (t.val % 19) + r.val < 9296) :
    (iblk m c 4 t : Vec F S512x2048 .f32) (ix2 r k)
      = (m ((c : Thread nD τ).loc main_arg4) : Vec F S1x2048x9296 .f32) (ix3 0 k ⟨tileRow (t.val % 19) + r.val, hR⟩) := by
  rw [block_w m c t r k hR, host_w, reshape_w]

/-! ## The arrays after the run -/

theorem index_narrow : ∀ t : Fin cfg0.N, win0_5.flush t = true →
    win0_5.index t (0 : Fin 2) = t.val / 19 ∧ win0_5.index t (1 : Fin 2) = (if t.val % 19 < 13 then t.val % 19 else if t.val % 19 = 18 then 15 else t.val % 19 - 2) :=
  (by decide +kernel : ∀ t : Fin grid0.N, _)
theorem index_wide : ∀ t : Fin cfg0.N, win0_6.flush t = true →
    win0_6.index t (0 : Fin 2) = t.val / 19 ∧ win0_6.index t (1 : Fin 2) = t.val % 19 - 14 :=
  (by decide +kernel : ∀ t : Fin grid0.N, _)

/-- The tile whose product fills column block `b` of the narrow result. -/
def narrowTile (b : ℕ) : ℕ := if b < 14 then b else b + 2

/-- The grid's point of row block `i` and tile `n`. -/
def pt (i n : ℕ) (hi : i < 8) (hn : n < 19) : Fin cfg0.N := ⟨19 * i + n, lt_of_lt_of_eq (by omega) (show 152 = cfg0.N from N_0.symm)⟩

theorem narrowTile_lt (b : ℕ) (h : b < 16) : narrowTile b < 19 := by unfold narrowTile; split_ifs <;> omega

/-- The narrow result. -/
def narrowArr (c : Dev nD) : Vec F S8192x8192 .bf16 := fun i =>
  narrowStored m c (pt ((i 0).val / 1024) (narrowTile ((i 1).val / 512))
    (Nat.div_lt_of_lt_mul (i 0).isLt) (narrowTile_lt _ (Nat.div_lt_of_lt_mul (i 1).isLt)))
    (ix2 ⟨(i 0).val % 1024, Nat.mod_lt _ (by omega)⟩ ⟨(i 1).val % 512, Nat.mod_lt _ (by omega)⟩)

/-- The wide result. -/
def wideArr (c : Dev nD) : Vec F S8192x2560 .f32 := fun i =>
  wideAt m c (pt ((i 0).val / 1024) (14 + (i 1).val / 512)
    (Nat.div_lt_of_lt_mul (i 0).isLt) (by have : (i 1).val / 512 < 5 := Nat.div_lt_of_lt_mul (i 1).isLt; omega))
    (ix2 ⟨(i 0).val % 1024, Nat.mod_lt _ (by omega)⟩ ⟨(i 1).val % 512, Nat.mod_lt _ (by omega)⟩)

theorem stored_congr (c : Dev nD) (t t' : Fin cfg0.N) (y y' : S1024x512.Idx) (ht : t = t') (hy : y = y') :
    narrowStored m c t y = narrowStored m c t' y' := by rw [ht, hy]
theorem wide_congr (c : Dev nD) (t t' : Fin cfg0.N) (y y' : S1024x512.Idx) (ht : t = t') (hy : y = y') :
    wideAt m c t y = wideAt m c t' y' := by rw [ht, hy]

theorem flushed_narrow (c : Dev nD) (t : Fin cfg0.N) (hf : (cfg0.win 5).flush t = true) :
    (dats m 0 c).flushed 5 t = ((cfg0.win 5).blk t).view.read (Elt F) (narrowArr m c) := by
  show (cfg0.win 5).cut (grid0.coords t) ((dats m 0 c).after 5 t) = _
  rw [after_5]
  obtain ⟨e0, e1⟩ := index_narrow t hf
  have hm := (flush_narrow t).mp hf
  have hN : t.val < 152 := lt_of_lt_of_eq t.isLt (show cfg0.N = 152 from N_0)
  funext y
  have hy0 : (y 0).val < 1024 := (y 0).isLt
  have hy1 : (y 1).val < 512 := (y 1).isLt
  have hb0 : (((cfg0.win 5).blk t).view.emb y 0).val = win0_5.index t (0 : Fin 2) * 1024 + 1 * (y 0).val := rfl
  have hb1 : (((cfg0.win 5).blk t).view.emb y 1).val = win0_5.index t (1 : Fin 2) * 512 + 1 * (y 1).val := rfl
  show narrowStored m c (lastPt t) ((cfg0.win 5).xinj (grid0.coords t) y) = narrowArr m c (((cfg0.win 5).blk t).view.emb y)
  unfold narrowArr
  refine stored_congr m c _ _ _ _ ?_ ?_
  · apply Fin.ext
    show _ = 19 * ((((cfg0.win 5).blk t).view.emb y 0).val / 1024) + narrowTile ((((cfg0.win 5).blk t).view.emb y 1).val / 512)
    rw [hb0, hb1, e0, e1]
    unfold lastPt narrowTile
    split_ifs <;> (try dsimp only) <;> omega
  · funext a; apply Fin.ext
    match a with
    | ⟨0, _⟩ => show (y 0).val = (((cfg0.win 5).blk t).view.emb y 0).val % 1024; rw [hb0]; omega
    | ⟨1, _⟩ => show (y 1).val = (((cfg0.win 5).blk t).view.emb y 1).val % 512; rw [hb1]; omega

theorem flushed_wide (c : Dev nD) (t : Fin cfg0.N) (hf : (cfg0.win 6).flush t = true) :
    (dats m 0 c).flushed 6 t = ((cfg0.win 6).blk t).view.read (Elt F) (wideArr m c) := by
  show (cfg0.win 6).cut (grid0.coords t) ((dats m 0 c).after 6 t) = _
  rw [after_6]
  obtain ⟨e0, e1⟩ := index_wide t hf
  have hm := (flush_wide t).mp hf
  have hN : t.val < 152 := lt_of_lt_of_eq t.isLt (show cfg0.N = 152 from N_0)
  funext y
  have hy0 : (y 0).val < 1024 := (y 0).isLt
  have hy1 : (y 1).val < 512 := (y 1).isLt
  have hb0 : (((cfg0.win 6).blk t).view.emb y 0).val = win0_6.index t (0 : Fin 2) * 1024 + 1 * (y 0).val := rfl
  have hb1 : (((cfg0.win 6).blk t).view.emb y 1).val = win0_6.index t (1 : Fin 2) * 512 + 1 * (y 1).val := rfl
  show wideAt m c t ((cfg0.win 6).xinj (grid0.coords t) y) = wideArr m c (((cfg0.win 6).blk t).view.emb y)
  unfold wideArr
  refine wide_congr m c _ _ _ _ ?_ ?_
  · apply Fin.ext
    show t.val = 19 * ((((cfg0.win 6).blk t).view.emb y 0).val / 1024) + (14 + (((cfg0.win 6).blk t).view.emb y 1).val / 512)
    rw [hb0, hb1, e0, e1]
    omega
  · funext a; apply Fin.ext
    match a with
    | ⟨0, _⟩ => show (y 0).val = (((cfg0.win 6).blk t).view.emb y 0).val % 1024; rw [hb0]; omega
    | ⟨1, _⟩ => show (y 1).val = (((cfg0.win 6).blk t).view.emb y 1).val % 512; rw [hb1]; omega

theorem mem_narrow (t : Fin cfg0.N) (i : S8192x8192.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v7_0).slice (win0_5.rect t)).set ↔ _
  rw [View.set_slice_whole, Rect.mem_set_unit]
  exact Iff.rfl
theorem mem_wide (t : Fin cfg0.N) (i : S8192x2560.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v7_1).slice (win0_6.rect t)).set ↔ _
  rw [View.set_slice_whole, Rect.mem_set_unit]
  exact Iff.rfl

/-- The narrow result's array. -/
theorem final_narrow (c : Dev nD) : (dats m 0 c).arrAt 5 cfg0.N = narrowArr m c :=
  (dats m 0 c).arrAt_eq_of_cover 5 _ (fun t hf => flushed_narrow m c t hf) fun i => by
    have h0 : (i 0).val < 8192 := (i 0).isLt
    have h1 : (i 1).val < 8192 := (i 1).isLt
    obtain ⟨b, hb⟩ : ∃ b, b = (i 1).val / 512 := ⟨_, rfl⟩
    obtain ⟨n, hn⟩ : ∃ n, n = if b < 13 then b else if b = 15 then 18 else b + 2 := ⟨_, rfl⟩
    have hn19 : n < 19 := by rw [hn]; split_ifs <;> omega
    have hv : (pt ((i 0).val / 1024) n (by omega) hn19).val = 19 * ((i 0).val / 1024) + n := rfl
    have hf : (cfg0.win 5).flush (pt ((i 0).val / 1024) n (by omega) hn19) = true :=
      (flush_narrow _).mpr (by rw [hv]; split_ifs at hn <;> omega)
    refine ⟨pt ((i 0).val / 1024) n (by omega) hn19, hf, ?_⟩
    obtain ⟨e0, e1⟩ := index_narrow _ hf
    rw [hv] at e0 e1
    rw [mem_narrow]
    intro a
    match a with
    | ⟨0, _⟩ => show win0_5.index _ (0 : Fin 2) * 1024 ≤ (i 0).val ∧ (i 0).val < win0_5.index _ (0 : Fin 2) * 1024 + 1024; rw [e0]; omega
    | ⟨1, _⟩ =>
      show win0_5.index _ (1 : Fin 2) * 512 ≤ (i 1).val ∧ (i 1).val < win0_5.index _ (1 : Fin 2) * 512 + 512; rw [e1]
      split_ifs at hn ⊢ <;> omega

/-- The wide result's array. -/
theorem final_wide (c : Dev nD) : (dats m 0 c).arrAt 6 cfg0.N = wideArr m c :=
  (dats m 0 c).arrAt_eq_of_cover 6 _ (fun t hf => flushed_wide m c t hf) fun i => by
    have h0 : (i 0).val < 8192 := (i 0).isLt
    have h1 : (i 1).val < 2560 := (i 1).isLt
    obtain ⟨n, hn⟩ : ∃ n, n = 14 + (i 1).val / 512 := ⟨_, rfl⟩
    have hn19 : n < 19 := by omega
    have hv : (pt ((i 0).val / 1024) n (by omega) hn19).val = 19 * ((i 0).val / 1024) + n := rfl
    have hf : (cfg0.win 6).flush (pt ((i 0).val / 1024) n (by omega) hn19) = true :=
      (flush_wide _).mpr (by rw [hv]; omega)
    refine ⟨pt ((i 0).val / 1024) n (by omega) hn19, hf, ?_⟩
    obtain ⟨e0, e1⟩ := index_wide _ hf
    rw [hv] at e0 e1
    rw [mem_wide]
    intro a
    match a with
    | ⟨0, _⟩ => show win0_6.index _ (0 : Fin 2) * 1024 ≤ (i 0).val ∧ (i 0).val < win0_6.index _ (0 : Fin 2) * 1024 + 1024; rw [e0]; omega
    | ⟨1, _⟩ => show win0_6.index _ (1 : Fin 2) * 512 ≤ (i 1).val ∧ (i 1).val < win0_6.index _ (1 : Fin 2) * 512 + 512; rw [e1]; omega

/-! ## The entries, over the extended reals -/

section
variable (m : (ℓ : Loc nD τ sig) → Buf (Elt Ideal) ℓ)

/-- The arguments, by name. -/
abbrev argX (c : Dev nD) : FVec Ideal ⟨3, ![2, 4096, 2048]⟩ .f32 := m ((c : Thread nD τ).loc main_arg0)
abbrev argG (c : Dev nD) : FVec Ideal ⟨2, ![1, 2048]⟩ .f32 := m ((c : Thread nD τ).loc main_arg1)
abbrev argShift (c : Dev nD) : FVec Ideal ⟨2, ![2, 2048]⟩ .f32 := m ((c : Thread nD τ).loc main_arg2)
abbrev argScale (c : Dev nD) : FVec Ideal ⟨2, ![2, 2048]⟩ .f32 := m ((c : Thread nD τ).loc main_arg3)
abbrev argW (c : Dev nD) : FVec Ideal ⟨3, ![1, 2048, 9296]⟩ .f32 := m ((c : Thread nD τ).loc main_arg4)

theorem rows_payload (x : Vec Ideal S1024x2048 .f32) (g : Vec Ideal S1x2048 .f32) (sc sh : Vec Ideal S1x1x2048 .f32) (r : Fin 1024) (k : Fin 2048) :
    k0_pay1 x g sc sh (ix2 r k) = x (ix2 r k) * Ideal.rsqrt (Ideal.div (∑ i : Fin 2048, x (ix2 r i) * x (ix2 r i)) (Ideal.ofBits .f32 0x45000000#32) + Ideal.ofBits .f32 0x358637BD#32)
      * g (ix2 0 k) * (1 + sc (ix3 0 0 k)) + sh (ix3 0 0 k) := by
  pointwise [k0_pay1]

theorem product_payload (u : Vec Ideal S1024x2048 .bf16) (w : Vec Ideal S512x2048 .f32) (r : Fin 1024) (q : Fin 512) :
    k0_pay2 u w (ix2 r q) = ∑ k : Fin 2048, u (ix2 r k) * w (ix2 q k) := by
  pointwise [k0_pay2]

theorem rows_at (c : Dev nD) (n : ℕ) (h : n < cfg0.N) (r : Fin 1024) (k : Fin 2048) (hb : n / 76 < 2) (hs : 1024 * (n / 19 % 4) + r.val < 4096) :
    rows m c n h (ix2 r k) = Cert.Front.unit (argX m c) (argG m c) (argShift m c) (argScale m c) ⟨n / 76, hb⟩ ⟨1024 * (n / 19 % 4) + r.val, hs⟩ k := by
  have hv : (rowPt n h).val = 19 * (n / 19) := rfl
  have e1 : (rowPt n h).val / 76 = n / 76 := by rw [hv]; omega
  have e2 : (rowPt n h).val / 19 % 4 = n / 19 % 4 := by rw [hv]; omega
  unfold rows
  rw [rows_payload, g_at, shift_at m c _ _ (by rw [e1]; exact hb), scale_at m c _ _ (by rw [e1]; exact hb)]
  simp only [x_at m c _ _ _ (show (rowPt n h).val / 76 < 2 by rw [e1]; exact hb) (show 1024 * ((rowPt n h).val / 19 % 4) + r.val < 4096 by rw [e2]; exact hs), e1, e2]
  rfl

theorem tileRow_lt (n r : ℕ) (hn : n < 19) (hr : r < 512) : tileRow n + r < 9296 := by unfold tileRow; split_ifs <;> omega

theorem wideAt_at (c : Dev nD) (t : Fin cfg0.N) (r : Fin 1024) (q : Fin 512) (hb : t.val / 76 < 2) (hs : 1024 * (t.val / 19 % 4) + r.val < 4096)
    (hR : tileRow (t.val % 19) + q.val < 9296) :
    k0_pay2 (rows m c t.val t.isLt) (iblk m c 4 t) (ix2 r q)
      = Cert.Front.proj (argX m c) (argG m c) (argShift m c) (argScale m c) (argW m c) ⟨t.val / 76, hb⟩ ⟨1024 * (t.val / 19 % 4) + r.val, hs⟩ ⟨tileRow (t.val % 19) + q.val, hR⟩ := by
  rw [product_payload]
  exact Finset.sum_congr rfl fun k _ => by rw [rows_at m c t.val t.isLt r k hb hs, w_at m c t q k hR]

theorem proj_congr (x : FVec Ideal ⟨3, ![2, 4096, 2048]⟩ .f32) (g : FVec Ideal ⟨2, ![1, 2048]⟩ .f32) (sh sc : FVec Ideal ⟨2, ![2, 2048]⟩ .f32)
    (w : FVec Ideal ⟨3, ![1, 2048, 9296]⟩ .f32) (b b' : Fin 2) (s s' : Fin 4096) (j j' : Fin 9296) (hb : b.val = b'.val) (hs : s.val = s'.val) (hj : j.val = j'.val) :
    Cert.Front.proj x g sh sc w b s j = Cert.Front.proj x g sh sc w b' s' j' := by
  rw [Fin.ext hb, Fin.ext hs, Fin.ext hj]

theorem wideArr_apply (c : Dev nD) (R : Fin 8192) (C : Fin 2560) :
    wideArr m c (ix2 R C) = Cert.Front.wideOut (argX m c) (argG m c) (argShift m c) (argScale m c) (argW m c) R C := by
  have hR := R.isLt
  have hC := C.isLt
  obtain ⟨t, ht⟩ : ∃ t, t = pt (R.val / 1024) (14 + C.val / 512) (by omega) (by omega) := ⟨_, rfl⟩
  have hv : t.val = 19 * (R.val / 1024) + (14 + C.val / 512) := by rw [ht]; rfl
  show wideAt m c (pt (R.val / 1024) (14 + C.val / 512) (by omega) (by omega)) (ix2 ⟨R.val % 1024, by omega⟩ ⟨C.val % 512, by omega⟩) = _
  rw [← ht]
  refine (wideAt_at m c t ⟨R.val % 1024, by omega⟩ ⟨C.val % 512, by omega⟩ (by omega) (by show _ + R.val % 1024 < _; omega) (tileRow_lt _ _ (by omega) (by show C.val % 512 < _; omega))).trans ?_
  refine proj_congr _ _ _ _ _ _ _ _ _ _ _ ?_ ?_ ?_
  · show t.val / 76 = R.val / 4096; omega
  · show 1024 * (t.val / 19 % 4) + R.val % 1024 = R.val % 4096; omega
  · show tileRow (t.val % 19) + C.val % 512 = Cert.Front.wideCol C.val
    have : t.val % 19 = 14 + C.val / 512 := by omega
    rw [this]; unfold tileRow Cert.Front.wideCol
    split_ifs <;> omega

theorem narrow_factor : ∀ t : Fin grid0.N, Scalar.cmpi .slt (BitVec.ofNat 32 (grid0.coords t 1).val) 4#32 = if t.val % 19 < 4 then 1#1 else 0#1 := by
  decide +kernel

theorem stored_at (c : Dev nD) (t : Fin cfg0.N) (r : Fin 1024) (q : Fin 512) :
    narrowStored m c t (ix2 r q) = k0_pay2 (rows m c t.val t.isLt) (iblk m c 4 t) (ix2 r q) * (if t.val % 19 < 4 then Ideal.ofBits .f32 0x3E0293EE#32 else 1) := by
  unfold narrowStored k0_pay3
  generalize k0_pay2 (rows m c t.val t.isLt) (iblk m c 4 t) = p
  pointwise
  rw [narrow_factor t]
  congr 1
  split_ifs <;> simp [Scalar.select]

theorem narrowArr_apply (c : Dev nD) (R : Fin 8192) (C : Fin 8192) :
    narrowArr m c (ix2 R C) = Cert.Front.narrowOut (argX m c) (argG m c) (argShift m c) (argScale m c) (argW m c) R C := by
  have hR := R.isLt
  have hC := C.isLt
  have hn : narrowTile (C.val / 512) < 19 := narrowTile_lt _ (by omega)
  obtain ⟨t, ht⟩ : ∃ t, t = pt (R.val / 1024) (narrowTile (C.val / 512)) (by omega) hn := ⟨_, rfl⟩
  have hv : t.val = 19 * (R.val / 1024) + narrowTile (C.val / 512) := by rw [ht]; rfl
  have hm : t.val % 19 = narrowTile (C.val / 512) := by omega
  refine (stored_at m c (pt (R.val / 1024) (narrowTile (C.val / 512)) (by omega) hn) ⟨R.val % 1024, by omega⟩ ⟨C.val % 512, by omega⟩).trans ?_
  rw [← ht, wideAt_at m c t ⟨R.val % 1024, by omega⟩ ⟨C.val % 512, by omega⟩ (by omega) (by show _ + R.val % 1024 < _; omega) (tileRow_lt _ _ (by omega) (by show C.val % 512 < _; omega))]
  unfold Cert.Front.narrowOut
  refine congrArg₂ (· * ·) (proj_congr _ _ _ _ _ _ _ _ _ _ _ ?_ ?_ ?_) ?_
  · show t.val / 76 = R.val / 4096; omega
  · show 1024 * (t.val / 19 % 4) + R.val % 1024 = R.val % 4096; omega
  · show tileRow (t.val % 19) + C.val % 512 = Cert.Front.narrowCol C.val
    rw [hm]; unfold tileRow Cert.Front.narrowCol narrowTile
    split_ifs <;> omega
  · rw [hm]; unfold Cert.Front.narrowScale narrowTile
    split_ifs <;> first | rfl | omega

end

/-! ## The run, read -/

theorem run_values (ρ : Dev nD → PrngReg) : θ_run defs (onTc (τ := τ) (main (F := F))) ⟨m, fun _ => 0, ρ⟩ (fun r => ∀ c : Dev nD,
      r.2.mem ((c.tc : Thread nD τ).loc main_v7_0) = narrowArr m c
      ∧ r.2.mem ((c.tc : Thread nD τ).loc main_v7_1) = wideArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 5).trans (final_narrow m c), ((h.1 c).1 6).trans (final_wide m c), h.2 c⟩)
    (θ_run_and (run_post m ρ) (unchanged m ρ))

end Cert.KernelIdeal.Front

end
-- ==== Proof.FrontRef.lean ====
/-
  The front call's reference, read at an index: one projection of the modulated rows of x, of which the two results are
  columns.
-/
module

public import proofs.«01_k».proof.Proof.Gen.ReferenceIdeal.Run
public import proofs.«01_k».proof.Proof.FrontMath

@[expose] public section

set_option maxRecDepth 16384

noncomputable section

namespace Cert.ReferenceIdeal.Front

open Cert.ReferenceIdeal Cert.ReferenceIdeal.Gen Idealize.ShloMosaic Idealize.ShloMosaic.TcCoe

variable {F : FTy → Type} [FloatOps F]

/-- The modulated rows, as the reference computes them. -/
def modulated (x : FVec F S2x4096x2048 .f32) (g : FVec F S1x2048 .f32) (sh sc : FVec F S2x2048 .f32) : FVec F S2x4096x2048 .f32 :=
  addf (mulf (mulf (mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32))))))
    (broadcastInDim S2x4096x2048 ![0, 1, 2] bcast_S1x1x2048_S2x4096x2048_0_1_2 (broadcastInDim S1x1x2048 ![2] bcast_S2048_S1x1x2048_2 (shapeCast _ g shapeCasts_S1x2048_S2048))))
    (broadcastInDim S2x4096x2048 ![0, 1, 2] bcast_S2x1x2048_S2x4096x2048_0_1_2 (addf (broadcastInDim S2x1x2048 ![] bcast_S_S2x1x2048 (constant S_ .f32 0x3F800000#32)) (broadcastInDim S2x1x2048 ![0, 2] bcast_S2x2048_S2x1x2048_0_2 sc))))
    (broadcastInDim S2x4096x2048 ![0, 1, 2] bcast_S2x1x2048_S2x4096x2048_0_1_2 (broadcastInDim S2x1x2048 ![0, 2] bcast_S2x2048_S2x1x2048_0_2 sh))

theorem modulated_apply (x : FVec Ideal S2x4096x2048 .f32) (g : FVec Ideal S1x2048 .f32) (sh sc : FVec Ideal S2x2048 .f32)
    (b : Fin 2) (s : Fin 4096) (k : Fin 2048) : modulated x g sh sc (ix3 b s k) = Cert.Front.unit x g sh sc b s k := by
  pointwise [modulated, Cert.Front.unit]

/-- The projection, as the reference computes it. -/
def product (x : FVec F S2x4096x2048 .f32) (g : FVec F S1x2048 .f32) (sh sc : FVec F S2x2048 .f32) (w : FVec F S1x2048x9296 .f32) : FVec F S2x4096x9296 .f32 :=
  Host.dotGeneral dot_S2x4096x2048_S2048x9296_S2x4096x9296_2_0_01_1_n_n none (modulated x g sh sc) (shapeCast _ w shapeCasts_S1x2048x9296_S2048x9296)

theorem product_apply (x : FVec Ideal S2x4096x2048 .f32) (g : FVec Ideal S1x2048 .f32) (sh sc : FVec Ideal S2x2048 .f32) (w : FVec Ideal S1x2048x9296 .f32)
    (b : Fin 2) (s : Fin 4096) (j : Fin 9296) : product x g sh sc w (ix3 b s j) = Cert.Front.proj x g sh sc w b s j := by
  unfold product
  pointwise
  simp only [modulated_apply]
  rfl

/-- The wide result's columns, put together from a projection's. -/
def wideOf (p : FVec F S2x4096x9296 .f32) : FVec F S8192x2560 .f32 :=
  shapeCast _ ((concatenate S2x4096x2560 2 [⟨S2x4096x1024, (extractStridedSlice S2x4096x1024 ![0, 0, 0] p slices_S2x4096x9296_S2x4096x1024_0_0_0 : (⟨S2x4096x1024, .f32⟩ : BufTy).Contents (Elt F))⟩,
    ⟨S2x4096x512, (extractStridedSlice S2x4096x512 ![0, 0, 3072] p slices_S2x4096x9296_S2x4096x512_0_0_3072 : (⟨S2x4096x512, .f32⟩ : BufTy).Contents (Elt F))⟩,
    ⟨S2x4096x512, (extractStridedSlice S2x4096x512 ![0, 0, 3584] p slices_S2x4096x9296_S2x4096x512_0_0_3584 : (⟨S2x4096x512, .f32⟩ : BufTy).Contents (Elt F))⟩,
    ⟨S2x4096x64, (extractStridedSlice S2x4096x64 ![0, 0, 5120] p slices_S2x4096x9296_S2x4096x64_0_0_5120 : (⟨S2x4096x64, .f32⟩ : BufTy).Contents (Elt F))⟩,
    ⟨S2x4096x16, (extractStridedSlice S2x4096x16 ![0, 0, 5184] p slices_S2x4096x9296_S2x4096x16_0_0_5184 : (⟨S2x4096x16, .f32⟩ : BufTy).Contents (Elt F))⟩,
    ⟨S2x4096x432, (extractStridedSlice S2x4096x432 ![0, 0, 0] (extractStridedSlice S2x4096x2048 ![0, 0, 5200] p slices_S2x4096x9296_S2x4096x2048_0_0_5200) slices_S2x4096x2048_S2x4096x432_0_0_0 : (⟨S2x4096x432, .f32⟩ : BufTy).Contents (Elt F))⟩]
    concatenates_S2x4096x1024_S2x4096x512_S2x4096x512_S2x4096x64_S2x4096x16_S2x4096x432_S2x4096x2560_d2 : (⟨S2x4096x2560, .f32⟩ : BufTy).Contents (Elt F))) shapeCasts_S2x4096x2560_S8192x2560

/-- The narrow result's columns, put together from a projection's. -/
def narrowOf (p : FVec F S2x4096x9296 .f32) : FVec F S8192x8192 .bf16 :=
  truncf .bf16 (shapeCast _ ((concatenate S2x4096x8192 2 [⟨S2x4096x2048, (mulf (extractStridedSlice S2x4096x2048 ![0, 0, 1024] p slices_S2x4096x9296_S2x4096x2048_0_0_1024) (broadcastInDim S2x4096x2048 ![] bcast_S_S2x4096x2048 (constant S_ .f32 0x3E0293EE#32)) : (⟨S2x4096x2048, .f32⟩ : BufTy).Contents (Elt F))⟩,
    ⟨S2x4096x2048, (extractStridedSlice S2x4096x2048 ![0, 0, 5200] p slices_S2x4096x9296_S2x4096x2048_0_0_5200 : (⟨S2x4096x2048, .f32⟩ : BufTy).Contents (Elt F))⟩,
    ⟨S2x4096x2048, (extractStridedSlice S2x4096x2048 ![0, 0, 7248] p slices_S2x4096x9296_S2x4096x2048_0_0_7248 : (⟨S2x4096x2048, .f32⟩ : BufTy).Contents (Elt F))⟩,
    ⟨S2x4096x1024, (extractStridedSlice S2x4096x1024 ![0, 0, 4096] p slices_S2x4096x9296_S2x4096x1024_0_0_4096 : (⟨S2x4096x1024, .f32⟩ : BufTy).Contents (Elt F))⟩,
    ⟨S2x4096x512, (extractStridedSlice S2x4096x512 ![0, 0, 3072] p slices_S2x4096x9296_S2x4096x512_0_0_3072 : (⟨S2x4096x512, .f32⟩ : BufTy).Contents (Elt F))⟩,
    ⟨S2x4096x512, (extractStridedSlice S2x4096x512 ![0, 0, 3584] p slices_S2x4096x9296_S2x4096x512_0_0_3584 : (⟨S2x4096x512, .f32⟩ : BufTy).Contents (Elt F))⟩]
    concatenates_S2x4096x2048_S2x4096x2048_S2x4096x2048_S2x4096x1024_S2x4096x512_S2x4096x512_S2x4096x8192_d2 : (⟨S2x4096x8192, .f32⟩ : BufTy).Contents (Elt F))) shapeCasts_S2x4096x8192_S8192x8192) bitsLt_bf16_f32

/-- A projection at an index, by the coordinates' values. -/
theorem at_congr {α : Type} (p : S2x4096x9296.Idx → α) (b b' : Fin 2) (s s' : Fin 4096) (j j' : Fin 9296) (hb : b.val = b'.val) (hs : s.val = s'.val) (hj : j.val = j'.val) :
    p (ix3 b s j) = p (ix3 b' s' j') := by
  rw [Fin.ext hb, Fin.ext hs, Fin.ext hj]

theorem wideOf_apply (p : FVec Ideal S2x4096x9296 .f32) (R : Fin 8192) (C : Fin 2560) :
    wideOf p (ix2 R C) = p (ix3 ⟨R.val / 4096, by omega⟩ ⟨R.val % 4096, by omega⟩ ⟨Cert.Front.wideCol C.val, Cert.Front.wideCol_lt _ C.isLt⟩) := by
  unfold wideOf
  pointwise
  have hC := C.isLt
  split_ifs <;> refine at_congr p _ _ _ _ _ _ rfl rfl ?_ <;> dsimp only [Cert.Front.wideCol] <;> split_ifs <;> omega

theorem narrowOf_apply (p : FVec Ideal S2x4096x9296 .f32) (R : Fin 8192) (C : Fin 8192) :
    narrowOf p (ix2 R C) = p (ix3 ⟨R.val / 4096, by omega⟩ ⟨R.val % 4096, by omega⟩ ⟨Cert.Front.narrowCol C.val, Cert.Front.narrowCol_lt _ C.isLt⟩) * Cert.Front.narrowScale C.val := by
  unfold narrowOf
  pointwise
  have hC := C.isLt
  have key : ∀ (j : Fin 9296) (q : EReal), j.val = Cert.Front.narrowCol C.val → q = Cert.Front.narrowScale C.val →
      p (ix3 ⟨R.val / 4096, by omega⟩ ⟨R.val % 4096, by omega⟩ j) * q
        = p (ix3 ⟨R.val / 4096, by omega⟩ ⟨R.val % 4096, by omega⟩ ⟨Cert.Front.narrowCol C.val, Cert.Front.narrowCol_lt _ C.isLt⟩) * Cert.Front.narrowScale C.val :=
    fun j q hj hq => by rw [hq, at_congr p _ _ _ _ j ⟨Cert.Front.narrowCol C.val, Cert.Front.narrowCol_lt _ C.isLt⟩ rfl rfl hj]
  have key1 : ∀ (j : Fin 9296), j.val = Cert.Front.narrowCol C.val → 2048 ≤ C.val →
      p (ix3 ⟨R.val / 4096, by omega⟩ ⟨R.val % 4096, by omega⟩ j)
        = p (ix3 ⟨R.val / 4096, by omega⟩ ⟨R.val % 4096, by omega⟩ ⟨Cert.Front.narrowCol C.val, Cert.Front.narrowCol_lt _ C.isLt⟩) * Cert.Front.narrowScale C.val :=
    fun j hj hC' => (mul_one _).symm.trans (key j 1 hj (by unfold Cert.Front.narrowScale; rw [if_neg (by omega)]))
  by_cases h0 : C.val < 2048
  · rw [dif_pos h0]
    exact key _ _ (by dsimp only [Cert.Front.narrowCol]; rw [if_pos h0]) (by unfold Cert.Front.narrowScale; rw [if_pos h0])
  rw [dif_neg h0]
  split_ifs <;> refine key1 _ ?_ (by omega) <;> dsimp only [Cert.Front.narrowCol] <;> split_ifs <;> omega

section
variable (m : (ℓ : Loc nD τ sig) → Buf (Elt F) ℓ) (c : Dev nD)

/-- The projection of the launch's arguments. -/
abbrev productAt : FVec F S2x4096x9296 .f32 :=
  product (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

theorem narrow_eq : Cert.ReferenceIdeal.Value.res_out0 m c = narrowOf (productAt m c) := by
  unfold Cert.ReferenceIdeal.Value.res_out0 Cert.ReferenceIdeal.Value.res_main_v39; rfl

theorem wide_eq : Cert.ReferenceIdeal.Value.res_out1 m c = wideOf (productAt m c) := by
  unfold Cert.ReferenceIdeal.Value.res_out1 Cert.ReferenceIdeal.Value.res_main_v40; rfl
end

/-- The narrow result at an index. -/
theorem narrow_apply (m : (ℓ : Loc nD τ sig) → Buf (Elt Ideal) ℓ) (c : Dev nD) (R : Fin 8192) (C : Fin 8192) :
    (Cert.ReferenceIdeal.Value.res_out0 m c : FVec Ideal S8192x8192 .bf16) (ix2 R C)
      = Cert.Front.narrowOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) R C :=
  (congrFun (narrow_eq m c) (ix2 R C)).trans ((narrowOf_apply _ R C).trans (congrArg (· * _) (product_apply _ _ _ _ _ _ _ _)))

/-- The wide result at an index. -/
theorem wide_apply (m : (ℓ : Loc nD τ sig) → Buf (Elt Ideal) ℓ) (c : Dev nD) (R : Fin 8192) (C : Fin 2560) :
    (Cert.ReferenceIdeal.Value.res_out1 m c : FVec Ideal S8192x2560 .f32) (ix2 R C)
      = Cert.Front.wideOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) R C :=
  (congrFun (wide_eq m c) (ix2 R C)).trans ((wideOf_apply _ R C).trans (product_apply _ _ _ _ _ _ _ _))

end Cert.ReferenceIdeal.Front

end
-- ==== Proof.FrontClaims.lean ====
/-
  The claims about the front call.
-/
module

public import proofs.«01_k».proof.Defs
public import proofs.«01_k».proof.Proof.FrontValue
public import proofs.«01_k».proof.Proof.FrontRef
public import proofs.«01_k».proof.Proof.Gen.Kernel

@[expose] public section

noncomputable section

namespace Cert.Proof.Front

open Idealize.ShloMosaic Idealize.ShloMosaic.TcCoe Idealize.SL.Sem

theorem frame_kernel_ideal : Cert.quiescent_KernelIdeal := fun m ρ _ => Cert.KernelIdeal.Front.frame_any m ρ

/-- The two prints of the kernel have one text: their body tables are one table. -/
theorem bodies_eq {F : FTy → Type} [FloatOps F] : Cert.Kernel.defs₀ (F := F) = Cert.KernelIdeal.defs₀ (F := F) := by
  unfold Cert.Kernel.defs₀ Cert.KernelIdeal.defs₀
  refine congrArg _ (funext fun l => funext fun a => ?_)
  match l, a with
  | 0, (t, s) => rfl
  | ⟨_ + 1, h⟩, _ => exact absurd h (Nat.not_lt.2 (Nat.le_add_left _ _))

theorem defs_eq {F : FTy → Type} [FloatOps F] : Cert.Kernel.defs (F := F) = Cert.KernelIdeal.defs (F := F) := by
  unfold Cert.Kernel.defs Cert.KernelIdeal.defs
  rw [bodies_eq]
  rfl

/-- So the kernel's run at the machine's floats is the run above there. -/
theorem frame_kernel : Cert.quiescent_Kernel := fun m ρ _ => by
  rw [defs_eq]
  exact Cert.KernelIdeal.Front.frame_any (F := Bits) m ρ

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem preserves : Cert.preserves_Kernel_KernelIdeal := trivial

/-- The kernel's two arrays and the reference's two results are the same columns of the same projection. -/
theorem algebraic : Cert.algebraic_KernelIdeal_ReferenceIdeal := by
  intro m ρ m' ρ' _ hagree
  refine ⟨fun c => Cert.KernelIdeal.Front.narrowArr m c, fun c => Cert.KernelIdeal.Front.wideArr m c,
    Cert.KernelIdeal.Front.run_values (F := Ideal) m ρ, ?_⟩
  refine (θ_run Cert.ReferenceIdeal.defs _ _).mono (fun _ h c => ?_) (Cert.ReferenceIdeal.Value.run (F := Ideal) m' ρ')
  obtain ⟨a0, a1, a2, a3, a4⟩ := hagree c
  refine ⟨(h c).1.trans (funext fun i => ?_), (h c).2.1.trans (funext fun i => ?_), (h c).2.2⟩
  · refine (congrArg _ (eq_ix2 (n0 := 8192) (n1 := 8192) i)).trans ((Cert.ReferenceIdeal.Front.narrow_apply m' c _ _).trans ?_)
    rw [a0, a1, a2, a3, a4]
    exact ((congrArg (Cert.KernelIdeal.Front.narrowArr m c) (eq_ix2 i)).trans (Cert.KernelIdeal.Front.narrowArr_apply m c _ _)).symm
  · refine (congrArg _ (eq_ix2 i)).trans ((Cert.ReferenceIdeal.Front.wide_apply m' c _ _).trans ?_)
    rw [a0, a1, a2, a3, a4]
    exact ((congrArg (Cert.KernelIdeal.Front.wideArr m c) (eq_ix2 i)).trans (Cert.KernelIdeal.Front.wideArr_apply m c _ _)).symm

end Cert.Proof.Front

end
-- ==== Proof.FfnMath.lean ====
/-
  The mathematics of the feed-forward call over the extended reals, in coordinates: the gated hidden features, their
  projection added to the residual, and the final normalisation.
-/
module

public import Idealize.ShloMosaic.Lib.Pointwise

@[expose] public section

noncomputable section

namespace Cert.Ffn.Math

open Idealize.ShloMosaic

/-- Column `j` of the first product in row `R`. -/
def lin (hn : FVec Ideal ⟨2, ![8192, 2048]⟩ .bf16) (w : FVec Ideal ⟨3, ![1, 2048, 11264]⟩ .f32) (R : Fin 8192) (j : Fin 11264) : EReal :=
  ∑ k : Fin 2048, hn (ix2 R k) * w (ix3 0 k j)

/-- The logistic function of `a`. -/
def sigm (a : EReal) : EReal := Ideal.div 1 (1 + Ideal.exp (-a))

/-- Hidden feature `j` of row `R`: the gate's column times its logistic, times the column beside it. -/
def hidden (hn : FVec Ideal ⟨2, ![8192, 2048]⟩ .bf16) (w : FVec Ideal ⟨3, ![1, 2048, 11264]⟩ .f32) (R : Fin 8192) (j : Fin 5632) : EReal :=
  lin hn w R ⟨j.val, by omega⟩ * sigm (lin hn w R ⟨j.val, by omega⟩) * lin hn w R ⟨5632 + j.val, by omega⟩

/-- Row `R`, feature `q` before the final normalisation. -/
def row (hn : FVec Ideal ⟨2, ![8192, 2048]⟩ .bf16) (h : FVec Ideal ⟨2, ![8192, 2048]⟩ .f32) (gate : FVec Ideal ⟨2, ![2, 2048]⟩ .f32)
    (w : FVec Ideal ⟨3, ![1, 2048, 11264]⟩ .f32) (wo : FVec Ideal ⟨3, ![1, 5632, 2048]⟩ .f32) (R : Fin 8192) (q : Fin 2048) : EReal :=
  h (ix2 R q) + gate (ix2 ⟨R.val / 4096, by omega⟩ q) * ∑ j : Fin 5632, hidden hn w R j * wo (ix3 0 j q)

/-- Feature `q` of a row `y` normalised by its mean square, with the gain `g`. -/
def normRow (y : Fin 2048 → EReal) (g : FVec Ideal ⟨1, ![2048]⟩ .f32) (q : Fin 2048) : EReal :=
  y q * Ideal.rsqrt (Ideal.div (∑ i : Fin 2048, y i * y i) (Ideal.ofBits .f32 0x45000000#32) + Ideal.ofBits .f32 0x358637BD#32) * g (ix1 q)

end Cert.Ffn.Math

end
-- ==== Proof.FfnValue.lean ====
/-
  The feed-forward call's result: the accumulator after each tile is the sum over the hidden features so far, and the
  last tile's point stores the normalised rows.
-/
module

public import proofs.«01_k».proof.Proof.Gen.FfnIdeal.Value
public import proofs.«01_k».proof.Proof.FfnMath

@[expose] public section

set_option maxRecDepth 16384

noncomputable section

namespace Cert.FfnIdeal.Ffn

open Idealize.ShloMosaic Idealize.ShloMosaic.TcCoe Idealize.ShloMosaic.Tactic
open Idealize.SL.Sem
open Idealize.ShloMosaic.Pipeline (Dat Cfg Window)
open Cert.FfnIdeal Cert.FfnIdeal.Gen Cert.FfnIdeal.Value Cert.Ffn.Math

variable {F : FTy → Type} [FloatOps F]
variable (m : (ℓ : Loc nD τ sig) → Buf (Elt F) ℓ)

/-! ## What a point leaves in the accumulator and in the result's buffer -/

theorem hz : (![0, 0] : Fin 2 → ℕ) = fun _ => 0 := by decide
theorem hz3 : (![0, 0, 0] : Fin 3 → ℕ) = fun _ => 0 := by decide

theorem acc_first (c : Dev nD) (t : Fin cfg0.N) (h0 : t.val % 11 = 0) :
    (outsAt0 m c t.val t.isLt).2 = k0_pay2 (iblk m c 0 t) (iblk m c 4 t) (iblk m c 5 t) k0_pay1 (iblk m c 6 t) := by
  rw [outsAt0_A m c t h0 (by omega)]
  dsimp only
  unfold sout0_A_0
  rw [View.read_writes_eq_canon _ _ _ (fun y => scover0_A_0 ..)]
  unfold kernelRun0_A
  dsimp only
  sl_unfold_words
  rw [View.canon_cons_unit_zero (S := S512x2048) hz, View.readCov_unit_zero (S := S512x2048) _ hz]
  simp only [View.readAt_eq_ld, (hs0_0 t).read_unread, (hs0_4 t).read_unread, (hs0_5 t).read_unread, (hs0_6 t).read_unread, View.ld_unit_zero (S := S512x2048) hz, View.ld_unit_zero (S := S2048x512) hz]

theorem acc_next (c : Dev nD) (t : Fin cfg0.N) (h0 : ¬t.val % 11 = 0) :
    (outsAt0 m c t.val t.isLt).2 = k0_pay2 (iblk m c 0 t) (iblk m c 4 t) (iblk m c 5 t) (outsAt0 m c (t.val - 1) (Nat.lt_of_le_of_lt (Nat.sub_le _ _) t.isLt)).2 (iblk m c 6 t) := by
  by_cases h1 : t.val % 11 = 10
  · rw [outsAt0_C m c t h0 h1]
    dsimp only
    unfold sout0_C_0
    rw [View.read_writes_eq_canon _ _ _ (fun y => scover0_C_0 ..)]
    unfold kernelRun0_C
    dsimp only
    sl_unfold_words
    rw [View.canon_unit_zero hz]
    simp only [View.readAt_eq_ld, (hs0_0 t).read_unread, (hs0_4 t).read_unread, (hs0_5 t).read_unread, (hs0_6 t).read_unread, (Memref.isWhole_whole _).read_unread, View.ld_unit_zero (S := S512x2048) hz, View.ld_unit_zero (S := S2048x512) hz]
  · rw [outsAt0_B m c t h0 h1]
    dsimp only
    unfold sout0_B_0
    rw [View.read_writes_eq_canon _ _ _ (fun y => scover0_B_0 ..)]
    unfold kernelRun0_B
    dsimp only
    sl_unfold_words
    rw [View.canon_unit_zero hz]
    simp only [View.readAt_eq_ld, (hs0_0 t).read_unread, (hs0_4 t).read_unread, (hs0_5 t).read_unread, (hs0_6 t).read_unread, (Memref.isWhole_whole _).read_unread, View.ld_unit_zero (S := S512x2048) hz, View.ld_unit_zero (S := S2048x512) hz]

theorem stored_last (c : Dev nD) (t : Fin cfg0.N) (h1 : t.val % 11 = 10) :
    (outsAt0 m c t.val t.isLt).1 = k0_pay3 (iblk m c 1 t) (iblk m c 2 t) (outsAt0 m c t.val t.isLt).2 (iblk m c 3 t) := by
  rw [acc_next m c t (by omega), outsAt0_C m c t (by omega) h1]
  dsimp only
  unfold out0_C_7
  rw [View.read_writes_eq_canon _ _ _ (fun y => cover0_C_7 ..)]
  unfold kernelRun0_C
  dsimp only
  sl_unfold_words
  rw [View.canon_unit_zero hz, View.readCov_unit_zero (S := S512x2048) _ hz]
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole _).read_unread, View.ld_unit_zero (S := S512x2048) hz, View.ld_unit_zero (S := S2048x512) hz, View.ld_unit_zero (S := S1x2048) hz, View.ld_unit_zero (S := S1x1x2048) hz3]

/-! ## The host's casts and reshapes -/

theorem host_gate (c : Dev nD) : V m c main_v0 = shapeCast S2x1x2048 (m ((c : Thread nD τ).loc main_arg2)) shapeCasts_S2x2048_S2x1x2048 := by
  show StableHlo.after hostOps0 (fun b => m (c, b)) _ = _
  after_results <;> rfl
theorem host_g (c : Dev nD) : V m c main_v1 = shapeCast S1x2048 (m ((c : Thread nD τ).loc main_arg3)) shapeCasts_S2048_S1x2048 := by
  show StableHlo.after hostOps0 (fun b => m (c, b)) _ = _
  after_results <;> rfl
theorem host_in (c : Dev nD) : V m c main_v3 = truncf .bf16 (shapeCast S2048x11264 (m ((c : Thread nD τ).loc main_arg4)) shapeCasts_S1x2048x11264_S2048x11264 : FVec F S2048x11264 .f32) bitsLt_bf16_f32 := by
  show StableHlo.after hostOps0 (fun b => m (c, b)) _ = _
  after_results <;> rfl
theorem host_out (c : Dev nD) : V m c main_v5 = truncf .bf16 (shapeCast S5632x2048 (m ((c : Thread nD τ).loc main_arg5)) shapeCasts_S1x5632x2048_S5632x2048 : FVec F S5632x2048 .f32) bitsLt_bf16_f32 := by
  show StableHlo.after hostOps0 (fun b => m (c, b)) _ = _
  after_results <;> rfl

/-! ## Where the blocks lie -/

theorem index_hn : ∀ t : Fin cfg0.N, win0_0.index t (0 : Fin 2) = t.val / 11 ∧ win0_0.index t (1 : Fin 2) = 0 :=
  (by decide +kernel : ∀ t : Fin grid0.N, _)
theorem index_h : ∀ t : Fin cfg0.N, win0_1.index t (0 : Fin 2) = t.val / 11 ∧ win0_1.index t (1 : Fin 2) = 0 :=
  (by decide +kernel : ∀ t : Fin grid0.N, _)
theorem index_gate : ∀ t : Fin cfg0.N, win0_2.index t (0 : Fin 3) = t.val / 88 ∧ win0_2.index t (1 : Fin 3) = 0 ∧ win0_2.index t (2 : Fin 3) = 0 :=
  (by decide +kernel : ∀ t : Fin grid0.N, _)
theorem index_g : ∀ t : Fin cfg0.N, win0_3.index t (0 : Fin 2) = 0 ∧ win0_3.index t (1 : Fin 2) = 0 :=
  (by decide +kernel : ∀ t : Fin grid0.N, _)
theorem index_first : ∀ t : Fin cfg0.N, win0_4.index t (0 : Fin 2) = 0 ∧ win0_4.index t (1 : Fin 2) = t.val % 11 :=
  (by decide +kernel : ∀ t : Fin grid0.N, _)
theorem index_second : ∀ t : Fin cfg0.N, win0_5.index t (0 : Fin 2) = 0 ∧ win0_5.index t (1 : Fin 2) = t.val % 11 + 11 :=
  (by decide +kernel : ∀ t : Fin grid0.N, _)
theorem index_out : ∀ t : Fin cfg0.N, win0_6.index t (0 : Fin 2) = t.val % 11 ∧ win0_6.index t (1 : Fin 2) = 0 :=
  (by decide +kernel : ∀ t : Fin grid0.N, _)

theorem block_hn (c : Dev nD) (t : Fin cfg0.N) (r : Fin 512) (k : Fin 2048) (hR : 512 * (t.val / 11) + r.val < 8192) :
    (iblk m c 0 t : Vec F S512x2048 .bf16) (ix2 r k) = V m c main_arg0 (ix2 ⟨512 * (t.val / 11) + r.val, hR⟩ k) := by
  unfold iblk
  rw [View.read_apply]
  show V m c main_arg0 _ = _
  congr 1
  obtain ⟨e0, e1⟩ := index_hn t
  funext a; apply Fin.ext
  match a with
  | ⟨0, _⟩ => show win0_0.index t (0 : Fin 2) * 512 + 1 * r.val = _; rw [e0]; show _ = 512 * (t.val / 11) + r.val; omega
  | ⟨1, _⟩ => show win0_0.index t (1 : Fin 2) * 2048 + 1 * k.val = _; rw [e1]; show _ = k.val; omega

theorem block_h (c : Dev nD) (t : Fin cfg0.N) (r : Fin 512) (k : Fin 2048) (hR : 512 * (t.val / 11) + r.val < 8192) :
    (iblk m c 1 t : Vec F S512x2048 .f32) (ix2 r k) = V m c main_arg1 (ix2 ⟨512 * (t.val / 11) + r.val, hR⟩ k) := by
  unfold iblk
  rw [View.read_apply]
  show V m c main_arg1 _ = _
  congr 1
  obtain ⟨e0, e1⟩ := index_h t
  funext a; apply Fin.ext
  match a with
  | ⟨0, _⟩ => show win0_1.index t (0 : Fin 2) * 512 + 1 * r.val = _; rw [e0]; show _ = 512 * (t.val / 11) + r.val; omega
  | ⟨1, _⟩ => show win0_1.index t (1 : Fin 2) * 2048 + 1 * k.val = _; rw [e1]; show _ = k.val; omega

theorem block_gate (c : Dev nD) (t : Fin cfg0.N) (k : Fin 2048) (hb : t.val / 88 < 2) :
    (iblk m c 2 t : Vec F S1x1x2048 .f32) (ix3 0 0 k) = V m c main_v0 (ix3 ⟨t.val / 88, hb⟩ 0 k) := by
  unfold iblk
  rw [View.read_apply]
  show V m c main_v0 _ = _
  congr 1
  obtain ⟨e0, e1, e2⟩ := index_gate t
  funext a; apply Fin.ext
  match a with
  | ⟨0, _⟩ => show win0_2.index t (0 : Fin 3) * 1 + 1 * 0 = _; rw [e0]; show _ = t.val / 88; omega
  | ⟨1, _⟩ => show win0_2.index t (1 : Fin 3) * 1 + 1 * 0 = _; rw [e1]; show _ = 0; omega
  | ⟨2, _⟩ => show win0_2.index t (2 : Fin 3) * 2048 + 1 * k.val = _; rw [e2]; show _ = k.val; omega

theorem block_g (c : Dev nD) (t : Fin cfg0.N) (k : Fin 2048) :
    (iblk m c 3 t : Vec F S1x2048 .f32) (ix2 0 k) = V m c main_v1 (ix2 0 k) := by
  unfold iblk
  rw [View.read_apply]
  show V m c main_v1 _ = _
  congr 1
  obtain ⟨e0, e1⟩ := index_g t
  funext a; apply Fin.ext
  match a with
  | ⟨0, _⟩ => show win0_3.index t (0 : Fin 2) * 1 + 1 * 0 = _; rw [e0]; show _ = 0; omega
  | ⟨1, _⟩ => show win0_3.index t (1 : Fin 2) * 2048 + 1 * k.val = _; rw [e1]; show _ = k.val; omega

theorem block_first (c : Dev nD) (t : Fin cfg0.N) (k : Fin 2048) (j : Fin 512) :
    (iblk m c 4 t : Vec F S2048x512 .bf16) (ix2 k j) = V m c main_v3 (ix2 k ⟨512 * (t.val % 11) + j.val, by omega⟩) := by
  unfold iblk
  rw [View.read_apply]
  show V m c main_v3 _ = _
  congr 1
  obtain ⟨e0, e1⟩ := index_first t
  funext a; apply Fin.ext
  match a with
  | ⟨0, _⟩ => show win0_4.index t (0 : Fin 2) * 2048 + 1 * k.val = _; rw [e0]; show _ = k.val; omega
  | ⟨1, _⟩ => show win0_4.index t (1 : Fin 2) * 512 + 1 * j.val = _; rw [e1]; show _ = 512 * (t.val % 11) + j.val; omega

theorem block_second (c : Dev nD) (t : Fin cfg0.N) (k : Fin 2048) (j : Fin 512) :
    (iblk m c 5 t : Vec F S2048x512 .bf16) (ix2 k j) = V m c main_v3 (ix2 k ⟨5632 + (512 * (t.val % 11) + j.val), by omega⟩) := by
  unfold iblk
  rw [View.read_apply]
  show V m c main_v3 _ = _
  congr 1
  obtain ⟨e0, e1⟩ := index_second t
  funext a; apply Fin.ext
  match a with
  | ⟨0, _⟩ => show win0_5.index t (0 : Fin 2) * 2048 + 1 * k.val = _; rw [e0]; show _ = k.val; omega
  | ⟨1, _⟩ => show win0_5.index t (1 : Fin 2) * 512 + 1 * j.val = _; rw [e1]; show _ = 5632 + (512 * (t.val % 11) + j.val); omega

theorem block_out (c : Dev nD) (t : Fin cfg0.N) (j : Fin 512) (k : Fin 2048) :
    (iblk m c 6 t : Vec F S512x2048 .bf16) (ix2 j k) = V m c main_v5 (ix2 ⟨512 * (t.val % 11) + j.val, by omega⟩ k) := by
  unfold iblk
  rw [View.read_apply]
  show V m c main_v5 _ = _
  congr 1
  obtain ⟨e0, e1⟩ := index_out t
  funext a; apply Fin.ext
  match a with
  | ⟨0, _⟩ => show win0_6.index t (0 : Fin 2) * 512 + 1 * j.val = _; rw [e0]; show _ = 512 * (t.val % 11) + j.val; omega
  | ⟨1, _⟩ => show win0_6.index t (1 : Fin 2) * 2048 + 1 * k.val = _; rw [e1]; show _ = k.val; omega

/-! ## The blocks in the arguments' terms, over the extended reals -/

section
variable (m : (ℓ : Loc nD τ sig) → Buf (Elt Ideal) ℓ)

/-- The arguments, by name. -/
abbrev argHn (c : Dev nD) : FVec Ideal ⟨2, ![8192, 2048]⟩ .bf16 := m ((c : Thread nD τ).loc main_arg0)
abbrev argH (c : Dev nD) : FVec Ideal ⟨2, ![8192, 2048]⟩ .f32 := m ((c : Thread nD τ).loc main_arg1)
abbrev argGate (c : Dev nD) : FVec Ideal ⟨2, ![2, 2048]⟩ .f32 := m ((c : Thread nD τ).loc main_arg2)
abbrev argG (c : Dev nD) : FVec Ideal ⟨1, ![2048]⟩ .f32 := m ((c : Thread nD τ).loc main_arg3)
abbrev argIn (c : Dev nD) : FVec Ideal ⟨3, ![1, 2048, 11264]⟩ .f32 := m ((c : Thread nD τ).loc main_arg4)
abbrev argOut (c : Dev nD) : FVec Ideal ⟨3, ![1, 5632, 2048]⟩ .f32 := m ((c : Thread nD τ).loc main_arg5)

theorem cast_gate {α : Type} (x : S2x2048.Idx → α) (b : Fin 2) (k : Fin 2048) : shapeCast S2x1x2048 x shapeCasts_S2x2048_S2x1x2048 (ix3 b 0 k) = x (ix2 b k) := by
  pointwise
theorem cast_g {α : Type} (x : S2048.Idx → α) (k : Fin 2048) : shapeCast S1x2048 x shapeCasts_S2048_S1x2048 (ix2 0 k) = x (ix1 k) := by
  pointwise
theorem cast_in (x : FVec Ideal S1x2048x11264 .f32) (k : Fin 2048) (j : Fin 11264) :
    truncf .bf16 (shapeCast S2048x11264 x shapeCasts_S1x2048x11264_S2048x11264 : FVec Ideal S2048x11264 .f32) bitsLt_bf16_f32 (ix2 k j) = x (ix3 0 k j) := by
  pointwise
theorem cast_out (x : FVec Ideal S1x5632x2048 .f32) (j : Fin 5632) (k : Fin 2048) :
    truncf .bf16 (shapeCast S5632x2048 x shapeCasts_S1x5632x2048_S5632x2048 : FVec Ideal S5632x2048 .f32) bitsLt_bf16_f32 (ix2 j k) = x (ix3 0 j k) := by
  pointwise

theorem tile_payload (x : Vec Ideal S512x2048 .bf16) (wg wu : Vec Ideal S2048x512 .bf16) (a : Vec Ideal S512x2048 .f32) (wo : Vec Ideal S512x2048 .bf16) (r : Fin 512) (q : Fin 2048) :
    k0_pay2 x wg wu a wo (ix2 r q) = a (ix2 r q) + ∑ j : Fin 512, ((∑ k : Fin 2048, x (ix2 r k) * wg (ix2 k j)) * sigm (∑ k : Fin 2048, x (ix2 r k) * wg (ix2 k j))
      * ∑ k : Fin 2048, x (ix2 r k) * wu (ix2 k j)) * wo (ix2 j q) := by
  pointwise [k0_pay2, sigm]
  rfl

theorem zero_payload (r : Fin 512) (q : Fin 2048) : (k0_pay1 (F := Ideal)) (ix2 r q) = 0 := by
  pointwise [k0_pay1]

theorem last_payload (h : Vec Ideal S512x2048 .f32) (gate : Vec Ideal S1x1x2048 .f32) (a : Vec Ideal S512x2048 .f32) (g : Vec Ideal S1x2048 .f32) (r : Fin 512) (q : Fin 2048) :
    k0_pay3 h gate a g (ix2 r q) = (fun i => h (ix2 r i) + gate (ix3 0 0 i) * a (ix2 r i)) q * Ideal.rsqrt (Ideal.div (∑ i : Fin 2048, (fun i => h (ix2 r i) + gate (ix3 0 0 i) * a (ix2 r i)) i * (fun i => h (ix2 r i) + gate (ix3 0 0 i) * a (ix2 r i)) i)
      (Ideal.ofBits .f32 0x45000000#32) + Ideal.ofBits .f32 0x358637BD#32) * g (ix2 0 q) := by
  pointwise [k0_pay3]

/-! ## The accumulator, point by point -/

theorem first_at (c : Dev nD) (t : Fin cfg0.N) (k : Fin 2048) (j : Fin 512) :
    (iblk m c 4 t : Vec Ideal S2048x512 .bf16) (ix2 k j) = argIn m c (ix3 0 k ⟨512 * (t.val % 11) + j.val, by omega⟩) := by
  rw [block_first, host_in, cast_in]
theorem second_at (c : Dev nD) (t : Fin cfg0.N) (k : Fin 2048) (j : Fin 512) :
    (iblk m c 5 t : Vec Ideal S2048x512 .bf16) (ix2 k j) = argIn m c (ix3 0 k ⟨5632 + (512 * (t.val % 11) + j.val), by omega⟩) := by
  rw [block_second, host_in, cast_in]
theorem out_at (c : Dev nD) (t : Fin cfg0.N) (j : Fin 512) (q : Fin 2048) :
    (iblk m c 6 t : Vec Ideal S512x2048 .bf16) (ix2 j q) = argOut m c (ix3 0 ⟨512 * (t.val % 11) + j.val, by omega⟩ q) := by
  rw [block_out, host_out, cast_out]
theorem hn_at (c : Dev nD) (t : Fin cfg0.N) (r : Fin 512) (k : Fin 2048) (hR : 512 * (t.val / 11) + r.val < 8192) :
    (iblk m c 0 t : Vec Ideal S512x2048 .bf16) (ix2 r k) = argHn m c (ix2 ⟨512 * (t.val / 11) + r.val, hR⟩ k) := by
  rw [block_hn m c t r k hR, V_main_arg0]
theorem h_at (c : Dev nD) (t : Fin cfg0.N) (r : Fin 512) (k : Fin 2048) (hR : 512 * (t.val / 11) + r.val < 8192) :
    (iblk m c 1 t : Vec Ideal S512x2048 .f32) (ix2 r k) = argH m c (ix2 ⟨512 * (t.val / 11) + r.val, hR⟩ k) := by
  rw [block_h m c t r k hR, V_main_arg1]
theorem gate_at (c : Dev nD) (t : Fin cfg0.N) (k : Fin 2048) (hb : t.val / 88 < 2) :
    (iblk m c 2 t : Vec Ideal S1x1x2048 .f32) (ix3 0 0 k) = argGate m c (ix2 ⟨t.val / 88, hb⟩ k) := by
  rw [block_gate m c t k hb, host_gate, cast_gate]
theorem g_at (c : Dev nD) (t : Fin cfg0.N) (k : Fin 2048) :
    (iblk m c 3 t : Vec Ideal S1x2048 .f32) (ix2 0 k) = argG m c (ix1 k) := by
  rw [block_g, host_g, cast_g]

/-- What hidden feature `n` adds to entry `(R, q)` of the second product; nothing past the last feature. -/
def term (c : Dev nD) (R : Fin 8192) (q : Fin 2048) (n : ℕ) : EReal :=
  if h : n < 5632 then hidden (argHn m c) (argIn m c) R ⟨n, h⟩ * argOut m c (ix3 0 ⟨n, h⟩ q) else 0

/-- The blocks a point reads, as arrays of extended reals. -/
abbrev blkHn (c : Dev nD) (t : Fin cfg0.N) : Vec Ideal S512x2048 .bf16 := iblk m c 0 t
abbrev blkH (c : Dev nD) (t : Fin cfg0.N) : Vec Ideal S512x2048 .f32 := iblk m c 1 t
abbrev blkGate (c : Dev nD) (t : Fin cfg0.N) : Vec Ideal S1x1x2048 .f32 := iblk m c 2 t
abbrev blkFirst (c : Dev nD) (t : Fin cfg0.N) : Vec Ideal S2048x512 .bf16 := iblk m c 4 t
abbrev blkSecond (c : Dev nD) (t : Fin cfg0.N) : Vec Ideal S2048x512 .bf16 := iblk m c 5 t
abbrev accAfter (c : Dev nD) (n : ℕ) (hn : n < cfg0.N) : Vec Ideal S512x2048 .f32 := (outsAt0 m c n hn).2

/-- A point adds its tile's features to whatever the accumulator held. -/
theorem tile_at (c : Dev nD) (t : Fin cfg0.N) (a : Vec Ideal S512x2048 .f32) (r : Fin 512) (q : Fin 2048) (hR : 512 * (t.val / 11) + r.val < 8192) :
    k0_pay2 (iblk m c 0 t) (iblk m c 4 t) (iblk m c 5 t) a (iblk m c 6 t) (ix2 r q)
      = a (ix2 r q) + ∑ j ∈ Finset.range 512, term m c ⟨512 * (t.val / 11) + r.val, hR⟩ q (512 * (t.val % 11) + j) := by
  refine (tile_payload _ _ _ _ _ r q).trans (congrArg (a (ix2 r q) + ·) ?_)
  rw [Finset.sum_range]
  refine Finset.sum_congr rfl fun j _ => ?_
  have hj : 512 * (t.val % 11) + j.val < 5632 := by omega
  have e4 : (∑ k : Fin 2048, blkHn m c t (ix2 r k) * blkFirst m c t (ix2 k j))
      = lin (argHn m c) (argIn m c) ⟨512 * (t.val / 11) + r.val, hR⟩ ⟨512 * (t.val % 11) + j.val, by omega⟩ :=
    Finset.sum_congr rfl fun k _ => congrArg₂ (· * ·) (hn_at m c t r k hR) (first_at m c t k j)
  have e5 : (∑ k : Fin 2048, blkHn m c t (ix2 r k) * blkSecond m c t (ix2 k j))
      = lin (argHn m c) (argIn m c) ⟨512 * (t.val / 11) + r.val, hR⟩ ⟨5632 + (512 * (t.val % 11) + j.val), by omega⟩ :=
    Finset.sum_congr rfl fun k _ => congrArg₂ (· * ·) (hn_at m c t r k hR) (second_at m c t k j)
  rw [e4, e5, out_at m c t j q]
  unfold term
  rw [dif_pos hj]
  rfl

/-- After tile `j` of a row block the accumulator holds the sum over the features of tiles 0 to `j`. -/
theorem acc_at (c : Dev nD) (i : ℕ) (hi : i < 16) (r : Fin 512) (q : Fin 2048) : ∀ (j : ℕ) (hj : j < 11) (hn : 11 * i + j < cfg0.N),
    (outsAt0 m c (11 * i + j) hn).2 (ix2 r q) = ∑ n ∈ Finset.range (512 * (j + 1)), term m c ⟨512 * i + r.val, by omega⟩ q n
  | 0, hj, hn => by
    have hR : (⟨512 * ((11 * i + 0) / 11) + r.val, by omega⟩ : Fin 8192) = ⟨512 * i + r.val, by omega⟩ := Fin.ext (by dsimp only; omega)
    have h0 : (11 * i + 0) % 11 = 0 := by omega
    refine (congrFun (acc_first m c ⟨11 * i + 0, hn⟩ h0) (ix2 r q)).trans ((tile_at m c ⟨11 * i + 0, hn⟩ _ r q (by dsimp only; omega)).trans ?_)
    rw [zero_payload, zero_add, hR]
    refine Finset.sum_congr rfl fun n _ => ?_
    show term m c _ q (512 * ((11 * i + 0) % 11) + n) = _
    rw [h0, Nat.mul_zero, Nat.zero_add]
  | j + 1, hj, hn => by
    have hR : (⟨512 * ((11 * i + (j + 1)) / 11) + r.val, by omega⟩ : Fin 8192) = ⟨512 * i + r.val, by omega⟩ := Fin.ext (by dsimp only; omega)
    have h0 : (11 * i + (j + 1)) % 11 = j + 1 := by omega
    refine (congrFun (acc_next m c ⟨11 * i + (j + 1), hn⟩ (by dsimp only; omega)) (ix2 r q)).trans ((tile_at m c ⟨11 * i + (j + 1), hn⟩ _ r q (by dsimp only; omega)).trans ?_)
    rw [hR]
    have ih := acc_at c i hi r q j (by omega) (by omega)
    rw [show 512 * (j + 1 + 1) = 512 * (j + 1) + 512 by omega, Finset.sum_range_add]
    refine congrArg₂ (· + ·) ih (Finset.sum_congr rfl fun n _ => ?_)
    show term m c _ q (512 * ((11 * i + (j + 1)) % 11) + n) = _
    rw [h0]

/-! ## The result -/

/-- The result at the row block's last point, normalised. -/
theorem stored_at (c : Dev nD) (i : ℕ) (hi : i < 16) (r : Fin 512) (q : Fin 2048) (hn : 11 * i + 10 < cfg0.N) :
    (outsAt0 m c (11 * i + 10) hn).1 (ix2 r q)
      = normRow (row (argHn m c) (argH m c) (argGate m c) (argIn m c) (argOut m c) ⟨512 * i + r.val, by omega⟩) (argG m c) q := by
  have hR : (⟨512 * ((11 * i + 10) / 11) + r.val, by omega⟩ : Fin 8192) = ⟨512 * i + r.val, by omega⟩ := Fin.ext (by dsimp only; omega)
  have hb : (⟨(11 * i + 10) / 88, by omega⟩ : Fin 2) = ⟨(512 * i + r.val) / 4096, by omega⟩ := Fin.ext (by dsimp only; omega)
  refine (congrFun (stored_last m c ⟨11 * i + 10, hn⟩ (by dsimp only; omega)) (ix2 r q)).trans ((last_payload _ _ _ _ r q).trans ?_)
  have e : (fun k : Fin 2048 => blkH m c ⟨11 * i + 10, hn⟩ (ix2 r k) + blkGate m c ⟨11 * i + 10, hn⟩ (ix3 0 0 k) * accAfter m c (11 * i + 10) hn (ix2 r k)) = row (argHn m c) (argH m c) (argGate m c) (argIn m c) (argOut m c) ⟨512 * i + r.val, by omega⟩ := by
    funext k
    have eh := (h_at m c ⟨11 * i + 10, hn⟩ r k (by dsimp only; omega)).trans (congrArg (fun R => argH m c (ix2 R k)) hR)
    have eg := (gate_at m c ⟨11 * i + 10, hn⟩ k (by dsimp only; omega)).trans (congrArg (fun b => argGate m c (ix2 b k)) hb)
    refine congrArg₂ (· + ·) eh (congrArg₂ (· * ·) eg ((acc_at m c i hi r k 10 (by omega) hn).trans ?_))
    rw [Finset.sum_range]
    refine Finset.sum_congr rfl fun n _ => ?_
    unfold term
    rw [dif_pos n.isLt]
  unfold normRow
  rw [← e, ← g_at m c ⟨11 * i + 10, hn⟩ q]

/-- The kernel's result at an index. -/
theorem result_apply (c : Dev nD) (R : Fin 8192) (q : Fin 2048) :
    (G7 m c : FVec Ideal S8192x2048 .f32) (ix2 R q)
      = normRow (row (argHn m c) (argH m c) (argGate m c) (argIn m c) (argOut m c) R) (argG m c) q := by
  have hR := R.isLt
  have hq := q.isLt
  have hp : pt7Of (ix2 R q) = 11 * (R.val / 512) + 10 := by
    show 11 * (1 * (R.val / 512 - 0) + 1 * (q.val / 2048 - 0)) + 10 = _
    omega
  have hl : loc7Of (ix2 R q) = ix2 (⟨R.val % 512, by omega⟩ : Fin 512) q := by
    funext a; apply Fin.ext
    match a with
    | ⟨0, _⟩ => rfl
    | ⟨1, _⟩ => show q.val % 2048 = q.val; omega
  have hn : 11 * (R.val / 512) + 10 < cfg0.N := by show _ < 176; omega
  have hN : pt7Of (ix2 R q) < cfg0.N := by rw [hp]; exact hn
  have key : ∀ n (h : n < cfg0.N), n = 11 * (R.val / 512) + 10 → (outsAt0 m c n h).1 (ix2 ⟨R.val % 512, by omega⟩ q)
      = normRow (row (argHn m c) (argH m c) (argGate m c) (argIn m c) (argOut m c) R) (argG m c) q := by
    intro n h e
    subst e
    refine (stored_at m c (R.val / 512) (by omega) ⟨R.val % 512, by omega⟩ q h).trans ?_
    congr 2
    exact Fin.ext (by dsimp only; omega)
  unfold G7
  rw [dif_pos hN, hl, ← outsAt0_sweep m c _ hN]
  exact key _ hN hp

end

end Cert.FfnIdeal.Ffn

end
-- ==== Proof.FfnRef.lean ====
/-
  The feed-forward call's reference, read at an index.
-/
module

public import proofs.«01_k».proof.Proof.Gen.FfnRefIdeal.Run
public import proofs.«01_k».proof.Proof.FfnMath

@[expose] public section

set_option maxRecDepth 16384

noncomputable section

namespace Cert.FfnRefIdeal.Ffn

open Cert.FfnRefIdeal Cert.FfnRefIdeal.Gen Idealize.ShloMosaic Idealize.ShloMosaic.TcCoe
open Cert.Ffn.Math

variable {F : FTy → Type} [FloatOps F]

/-- The first product, as the reference computes it. -/
def linear (hn : FVec F S8192x2048 .bf16) (w : FVec F S1x2048x11264 .f32) : FVec F S2x4096x11264 .f32 :=
  Host.dotGeneral dot_S2x4096x2048_S2048x11264_S2x4096x11264_2_0_01_1_n_n none (shapeCast _ (extf .f32 hn bitsLt_bf16_f32) shapeCasts_S8192x2048_S2x4096x2048) (shapeCast _ w shapeCasts_S1x2048x11264_S2048x11264)

/-- The gated hidden features of a product's two halves. -/
def gated (p : FVec F S2x4096x11264 .f32) : FVec F S2x4096x5632 .f32 :=
  mulf (mulf (extractStridedSlice S2x4096x5632 ![0, 0, 0] p slices_S2x4096x11264_S2x4096x5632_0_0_0)
    (Host.divf (broadcastInDim S2x4096x5632 ![] bcast_S_S2x4096x5632 (constant S_ .f32 0x3F800000#32)) (addf (broadcastInDim S2x4096x5632 ![] bcast_S_S2x4096x5632 (constant S_ .f32 0x3F800000#32)) (Host.exp (Host.negf (extractStridedSlice S2x4096x5632 ![0, 0, 0] p slices_S2x4096x11264_S2x4096x5632_0_0_0))))))
    (extractStridedSlice S2x4096x5632 ![0, 0, 5632] p slices_S2x4096x11264_S2x4096x5632_0_0_5632)

/-- The residual with the second product added. -/
def added (z : FVec F S2x4096x5632 .f32) (h : FVec F S8192x2048 .f32) (gate : FVec F S2x2048 .f32) (wo : FVec F S1x5632x2048 .f32) : FVec F S2x4096x2048 .f32 :=
  addf (shapeCast _ h shapeCasts_S8192x2048_S2x4096x2048) (mulf (broadcastInDim S2x4096x2048 ![0, 1, 2] bcast_S2x1x2048_S2x4096x2048_0_1_2 (broadcastInDim S2x1x2048 ![0, 2] bcast_S2x2048_S2x1x2048_0_2 gate))
    (Host.dotGeneral dot_S2x4096x5632_S5632x2048_S2x4096x2048_2_0_01_1_n_n none z (shapeCast _ wo shapeCasts_S1x5632x2048_S5632x2048)))

/-- The normalised rows. -/
def normed (y : FVec F S2x4096x2048 .f32) (g : FVec F S2048 .f32) : FVec F S8192x2048 .f32 :=
  shapeCast _ (mulf (mulf y (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf y y) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32))))))
    (broadcastInDim S2x4096x2048 ![0, 1, 2] bcast_S1x1x2048_S2x4096x2048_0_1_2 (broadcastInDim S1x1x2048 ![2] bcast_S2048_S1x1x2048_2 g))) shapeCasts_S2x4096x2048_S8192x2048

theorem result_eq (m : (ℓ : Loc nD τ sig) → Buf (Elt F) ℓ) (c : Dev nD) : Cert.FfnRefIdeal.Value.res_out0 m c
    = normed (added (gated (linear (m ((c.tc : Thread nD τ).loc main_arg0)) (m ((c.tc : Thread nD τ).loc main_arg4)))) (m ((c.tc : Thread nD τ).loc main_arg1)) (m ((c.tc : Thread nD τ).loc main_arg2)) (m ((c.tc : Thread nD τ).loc main_arg5))) (m ((c.tc : Thread nD τ).loc main_arg3)) := by
  unfold Cert.FfnRefIdeal.Value.res_out0 Cert.FfnRefIdeal.Value.res_main_v28; rfl

theorem linear_apply (hn : FVec Ideal S8192x2048 .bf16) (w : FVec Ideal S1x2048x11264 .f32) (b : Fin 2) (s : Fin 4096) (j : Fin 11264) :
    linear hn w (ix3 b s j) = lin hn w ⟨b.val * 4096 + s.val, by omega⟩ j := by
  pointwise [linear, lin]

theorem gated_apply (p : FVec Ideal S2x4096x11264 .f32) (b : Fin 2) (s : Fin 4096) (j : Fin 5632) :
    gated p (ix3 b s j) = p (ix3 b s ⟨j.val, by omega⟩) * sigm (p (ix3 b s ⟨j.val, by omega⟩)) * p (ix3 b s ⟨5632 + j.val, by omega⟩) := by
  pointwise [gated, sigm]

theorem added_apply (z : FVec Ideal S2x4096x5632 .f32) (h : FVec Ideal S8192x2048 .f32) (gate : FVec Ideal S2x2048 .f32) (wo : FVec Ideal S1x5632x2048 .f32)
    (b : Fin 2) (s : Fin 4096) (q : Fin 2048) :
    added z h gate wo (ix3 b s q) = h (ix2 ⟨b.val * 4096 + s.val, by omega⟩ q) + gate (ix2 b q) * ∑ j : Fin 5632, z (ix3 b s j) * wo (ix3 0 j q) := by
  pointwise [added]

theorem normed_apply (y : FVec Ideal S2x4096x2048 .f32) (g : FVec Ideal S2048 .f32) (R : Fin 8192) (q : Fin 2048) :
    normed y g (ix2 R q) = normRow (fun i => y (ix3 ⟨R.val / 4096, by omega⟩ ⟨R.val % 4096, by omega⟩ i)) g q := by
  pointwise [normed, normRow]

/-- The reference's result at an index. -/
theorem result_apply (m : (ℓ : Loc nD τ sig) → Buf (Elt Ideal) ℓ) (c : Dev nD) (R : Fin 8192) (q : Fin 2048) :
    (Cert.FfnRefIdeal.Value.res_out0 m c : FVec Ideal S8192x2048 .f32) (ix2 R q)
      = normRow (row (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) R)
          (m ((c.tc : Thread nD τ).loc main_arg3)) q := by
  have hR : (⟨(⟨R.val / 4096, by omega⟩ : Fin 2).val * 4096 + (⟨R.val % 4096, by omega⟩ : Fin 4096).val, by dsimp only; omega⟩ : Fin 8192) = R :=
    Fin.ext (by dsimp only; omega)
  refine (congrFun (result_eq m c) (ix2 R q)).trans ((normed_apply _ _ R q).trans (congrArg (fun y => normRow y _ q) (funext fun i => ?_)))
  rw [added_apply, hR]
  unfold row
  refine congrArg₂ (· + ·) rfl (congrArg₂ (· * ·) rfl (Finset.sum_congr rfl fun j _ => ?_))
  rw [gated_apply, linear_apply, linear_apply, hR]
  rfl

end Cert.FfnRefIdeal.Ffn

end
-- ==== Proof.FfnClaims.lean ====
/-
  The claims about the feed-forward call.
-/
module

public import proofs.«01_k».proof.Defs
public import proofs.«01_k».proof.Proof.FfnValue
public import proofs.«01_k».proof.Proof.FfnRef
public import proofs.«01_k».proof.Proof.Gen.Ffn

@[expose] public section

noncomputable section

namespace Cert.Proof.Ffn

open Idealize.ShloMosaic Idealize.ShloMosaic.TcCoe Idealize.SL.Sem

theorem frame_kernel_ideal : Cert.quiescent_FfnIdeal := fun m ρ _ => Cert.FfnIdeal.Gen.frame m ρ

/-- The two prints of the kernel have one text: their body tables are one table. -/
theorem bodies_eq {F : FTy → Type} [FloatOps F] : Cert.Ffn.defs₀ (F := F) = Cert.FfnIdeal.defs₀ (F := F) := by
  unfold Cert.Ffn.defs₀ Cert.FfnIdeal.defs₀
  refine congrArg _ (funext fun l => funext fun a => ?_)
  match l, a with
  | 0, (t, s) => rfl
  | ⟨_ + 1, h⟩, _ => exact absurd h (Nat.not_lt.2 (Nat.le_add_left _ _))

theorem defs_eq {F : FTy → Type} [FloatOps F] : Cert.Ffn.defs (F := F) = Cert.FfnIdeal.defs (F := F) := by
  unfold Cert.Ffn.defs Cert.FfnIdeal.defs
  rw [bodies_eq]
  rfl

/-- So the kernel's run at the machine's floats is the run above there. -/
theorem frame_kernel : Cert.quiescent_Ffn := fun m ρ _ => by
  rw [defs_eq]
  exact Cert.FfnIdeal.Gen.frame (F := Bits) m ρ

theorem frame_reference : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem preserves : Cert.preserves_Ffn_FfnIdeal := trivial

/-- Both results are the normalised rows of the same residual and second product. -/
theorem algebraic : Cert.algebraic_FfnIdeal_FfnRefIdeal := by
  intro m ρ m' ρ' _ hagree
  refine ⟨fun c => Cert.FfnIdeal.Value.G7 m c, Cert.FfnIdeal.Value.run (F := Ideal) m ρ, ?_⟩
  refine (θ_run Cert.FfnRefIdeal.defs _ _).mono (fun _ h c => ?_) (Cert.FfnRefIdeal.Value.run (F := Ideal) m' ρ')
  obtain ⟨a0, a1, a2, a3, a4, a5⟩ := hagree c
  refine ⟨(h c).1.trans (funext fun i => ?_), (h c).2⟩
  refine (congrArg _ (eq_ix2 (n0 := 8192) (n1 := 2048) i)).trans ((Cert.FfnRefIdeal.Ffn.result_apply m' c _ _).trans ?_)
  rw [a0, a1, a2, a3, a4, a5]
  exact ((congrArg (Cert.FfnIdeal.Value.G7 m c) (eq_ix2 i)).trans (Cert.FfnIdeal.Ffn.result_apply m c _ _)).symm

end Cert.Proof.Ffn

end
-- ==== Proof.OutMath.lean ====
/-
  The mathematics of the output call over the extended reals, in coordinates: the mixed rows' projection added to the
  residual, and the modulated normalisation of the sum.
-/
module

public import Idealize.ShloMosaic.Lib.Pointwise

@[expose] public section

noncomputable section

namespace Cert.Out.Math

open Idealize.ShloMosaic

/-- Row `R`, feature `q` of the residual with the gated projection added. -/
def row (mix : FVec Ideal ⟨2, ![8192, 2048]⟩ .bf16) (x : FVec Ideal ⟨3, ![2, 4096, 2048]⟩ .f32) (gate : FVec Ideal ⟨2, ![2, 2048]⟩ .f32)
    (w : FVec Ideal ⟨3, ![1, 2048, 2048]⟩ .f32) (R : Fin 8192) (q : Fin 2048) : EReal :=
  x (ix3 ⟨R.val / 4096, by omega⟩ ⟨R.val % 4096, by omega⟩ q) + gate (ix2 ⟨R.val / 4096, by omega⟩ q) * ∑ k : Fin 2048, mix (ix2 R k) * w (ix3 0 k q)

/-- Feature `q` of a row `y` normalised by its mean square, with the gain, the scale and the shift of batch row `b`. -/
def modRow (y : Fin 2048 → EReal) (g : FVec Ideal ⟨2, ![1, 2048]⟩ .f32) (sh sc : FVec Ideal ⟨2, ![2, 2048]⟩ .f32) (b : Fin 2) (q : Fin 2048) : EReal :=
  y q * Ideal.rsqrt (Ideal.div (∑ i : Fin 2048, y i * y i) (Ideal.ofBits .f32 0x45000000#32) + Ideal.ofBits .f32 0x358637BD#32)
    * g (ix2 0 q) * (1 + sc (ix2 b q)) + sh (ix2 b q)

end Cert.Out.Math

end
-- ==== Proof.OutValue.lean ====
/-
  The output call's two results: each row block is the projection of the mixed rows added to the residual, and its
  modulated normalisation.
-/
module

public import proofs.«01_k».proof.Proof.Gen.OutIdeal.Value
public import proofs.«01_k».proof.Proof.OutMath

@[expose] public section

set_option maxRecDepth 16384

noncomputable section

namespace Cert.OutIdeal.Out

open Idealize.ShloMosaic Idealize.ShloMosaic.TcCoe Idealize.ShloMosaic.Tactic
open Idealize.SL.Sem
open Idealize.ShloMosaic.Pipeline (Dat Cfg Window)
open Cert.OutIdeal Cert.OutIdeal.Gen Cert.Out.Math

variable {F : FTy → Type} [FloatOps F]
variable (m : (ℓ : Loc nD τ sig) → Buf (Elt F) ℓ)

theorem hz : (![0, 0] : Fin 2 → ℕ) = fun _ => 0 := by decide
theorem hz3 : (![0, 0, 0] : Fin 3 → ℕ) = fun _ => 0 := by decide

/-! ## The two results' arrays -/

/-- What a point stores in this result's block. -/
def sumAt (c : Dev nD) (t : Fin cfg0.N) : Vec F S512x2048 .f32 := k0_pay2 (iblk m c 1 t) (iblk m c 2 t) (iblk m c 0 t) (iblk m c 6 t)

theorem sumAt_eq (c : Dev nD) (t : Fin cfg0.N) : out0_7 (iblk m c 0 t) (iblk m c 1 t) (iblk m c 2 t) (iblk m c 3 t) (iblk m c 4 t) (iblk m c 5 t) (iblk m c 6 t) = sumAt m c t := by
  unfold out0_7 sumAt
  rw [View.canon_unit_zero hz]
  simp only [View.ld_unit_zero (S := S512x2048) hz, View.ld_unit_zero (S := S1x2048) hz, View.ld_unit_zero (S := S2048x2048) hz, View.ld_unit_zero (S := S1x1x2048) hz3]

/-- The point whose block holds an index, and the index's place there. -/
abbrev sumPt (i : S8192x2048.Idx) : Fin cfg0.N := ⟨(i 0).val / 512, by have h : (i 0).val < 8192 := (i 0).isLt; show _ < 16; omega⟩
abbrev sumLoc (i : S8192x2048.Idx) : S512x2048.Idx := fun a => match a with
  | ⟨0, _⟩ => ⟨(i 0).val % 512, Nat.mod_lt _ (by decide)⟩
  | ⟨1, _⟩ => ⟨(i 1).val, (i 1).isLt⟩

/-- The result's array: each row block as its point stores it. -/
def sumArr (c : Dev nD) : Vec F S8192x2048 .f32 := fun i => sumAt m c (sumPt i) (sumLoc i)

theorem index_sum : ∀ t : Fin cfg0.N, win0_7.index t (0 : Fin 2) = t.val ∧ win0_7.index t (1 : Fin 2) = 0 :=
  (by decide +kernel : ∀ t : Fin grid0.N, _)
theorem writes_sum : ∀ t : Fin cfg0.N, (cfg0.win 7).flush t = true :=
  (by decide +kernel : ∀ t : Fin grid0.N, win0_7.flush t = true)

theorem flushed_sum (c : Dev nD) (t : Fin cfg0.N) : (dats m 0 c).flushed 7 t = ((cfg0.win 7).blk t).view.read (Elt F) (sumArr m c) := by
  rw [Value.flushed7, sumAt_eq]
  obtain ⟨e0, e1⟩ := index_sum t
  funext y
  have hy0 : (y 0).val < 512 := (y 0).isLt
  have hy1 : (y 1).val < 2048 := (y 1).isLt
  have hb0 : (((cfg0.win 7).blk t).view.emb y 0).val = win0_7.index t (0 : Fin 2) * 512 + 1 * (y 0).val := rfl
  have hb1 : (((cfg0.win 7).blk t).view.emb y 1).val = win0_7.index t (1 : Fin 2) * 2048 + 1 * (y 1).val := rfl
  have hp : sumPt (((cfg0.win 7).blk t).view.emb y) = t := by
    apply Fin.ext
    show (((cfg0.win 7).blk t).view.emb y 0).val / 512 = t.val
    rw [hb0]; omega
  have hl : sumLoc (((cfg0.win 7).blk t).view.emb y) = (cfg0.win 7).xinj (grid0.coords t) y := by
    funext a; apply Fin.ext
    match a with
    | ⟨0, _⟩ => show (((cfg0.win 7).blk t).view.emb y 0).val % 512 = (y 0).val; rw [hb0]; omega
    | ⟨1, _⟩ => show (((cfg0.win 7).blk t).view.emb y 1).val = (y 1).val; rw [hb1]; omega
  show sumAt m c t ((cfg0.win 7).xinj (grid0.coords t) y) = sumArr m c (((cfg0.win 7).blk t).view.emb y)
  unfold sumArr
  rw [hp, hl]

theorem final_sum (c : Dev nD) : (dats m 0 c).arrAt 7 cfg0.N = sumArr m c :=
  (dats m 0 c).arrAt_eq_of_cover 7 _ (fun t _ => flushed_sum m c t) fun i => by
    have h0 : (i 0).val < 8192 := (i 0).isLt
    have h1 : (i 1).val < 2048 := (i 1).isLt
    obtain ⟨t, ht⟩ : ∃ t, t = sumPt i := ⟨_, rfl⟩
    have hv : t.val = (i 0).val / 512 := by rw [ht]
    obtain ⟨e0, e1⟩ := index_sum t
    refine ⟨t, writes_sum t, ?_⟩
    show i ∈ ((View.whole (Pipeline.arrRef spec0 7)).slice (win0_7.rect t)).set
    rw [View.set_slice_whole, Rect.mem_set_unit]
    intro a
    match a with
    | ⟨0, _⟩ => show win0_7.index t (0 : Fin 2) * 512 ≤ (i 0).val ∧ (i 0).val < win0_7.index t (0 : Fin 2) * 512 + 512; rw [e0]; omega
    | ⟨1, _⟩ => show win0_7.index t (1 : Fin 2) * 2048 ≤ (i 1).val ∧ (i 1).val < win0_7.index t (1 : Fin 2) * 2048 + 2048; rw [e1]; omega

/-- What a point stores in this result's block. -/
def modAt (c : Dev nD) (t : Fin cfg0.N) : Vec F S512x2048 .bf16 := k0_pay1 (k0_pay3 (iblk m c 1 t) (iblk m c 2 t) (iblk m c 0 t) (iblk m c 6 t) (iblk m c 5 t) (iblk m c 4 t)) (k0_pay4 (iblk m c 3 t))

theorem modAt_eq (c : Dev nD) (t : Fin cfg0.N) : out0_8 (iblk m c 0 t) (iblk m c 1 t) (iblk m c 2 t) (iblk m c 3 t) (iblk m c 4 t) (iblk m c 5 t) (iblk m c 6 t) = modAt m c t := by
  unfold out0_8 modAt
  rw [View.canon_unit_zero hz]
  simp only [View.ld_unit_zero (S := S512x2048) hz, View.ld_unit_zero (S := S1x2048) hz, View.ld_unit_zero (S := S2048x2048) hz, View.ld_unit_zero (S := S1x1x2048) hz3]

/-- The point whose block holds an index, and the index's place there. -/
abbrev modPt (i : S8192x2048.Idx) : Fin cfg0.N := ⟨(i 0).val / 512, by have h : (i 0).val < 8192 := (i 0).isLt; show _ < 16; omega⟩
abbrev modLoc (i : S8192x2048.Idx) : S512x2048.Idx := fun a => match a with
  | ⟨0, _⟩ => ⟨(i 0).val % 512, Nat.mod_lt _ (by decide)⟩
  | ⟨1, _⟩ => ⟨(i 1).val, (i 1).isLt⟩

/-- The result's array: each row block as its point stores it. -/
def modArr (c : Dev nD) : Vec F S8192x2048 .bf16 := fun i => modAt m c (modPt i) (modLoc i)

theorem index_mod : ∀ t : Fin cfg0.N, win0_8.index t (0 : Fin 2) = t.val ∧ win0_8.index t (1 : Fin 2) = 0 :=
  (by decide +kernel : ∀ t : Fin grid0.N, _)
theorem writes_mod : ∀ t : Fin cfg0.N, (cfg0.win 8).flush t = true :=
  (by decide +kernel : ∀ t : Fin grid0.N, win0_8.flush t = true)

theorem flushed_mod (c : Dev nD) (t : Fin cfg0.N) : (dats m 0 c).flushed 8 t = ((cfg0.win 8).blk t).view.read (Elt F) (modArr m c) := by
  rw [Value.flushed8, modAt_eq]
  obtain ⟨e0, e1⟩ := index_mod t
  funext y
  have hy0 : (y 0).val < 512 := (y 0).isLt
  have hy1 : (y 1).val < 2048 := (y 1).isLt
  have hb0 : (((cfg0.win 8).blk t).view.emb y 0).val = win0_8.index t (0 : Fin 2) * 512 + 1 * (y 0).val := rfl
  have hb1 : (((cfg0.win 8).blk t).view.emb y 1).val = win0_8.index t (1 : Fin 2) * 2048 + 1 * (y 1).val := rfl
  have hp : modPt (((cfg0.win 8).blk t).view.emb y) = t := by
    apply Fin.ext
    show (((cfg0.win 8).blk t).view.emb y 0).val / 512 = t.val
    rw [hb0]; omega
  have hl : modLoc (((cfg0.win 8).blk t).view.emb y) = (cfg0.win 8).xinj (grid0.coords t) y := by
    funext a; apply Fin.ext
    match a with
    | ⟨0, _⟩ => show (((cfg0.win 8).blk t).view.emb y 0).val % 512 = (y 0).val; rw [hb0]; omega
    | ⟨1, _⟩ => show (((cfg0.win 8).blk t).view.emb y 1).val = (y 1).val; rw [hb1]; omega
  show modAt m c t ((cfg0.win 8).xinj (grid0.coords t) y) = modArr m c (((cfg0.win 8).blk t).view.emb y)
  unfold modArr
  rw [hp, hl]

theorem final_mod (c : Dev nD) : (dats m 0 c).arrAt 8 cfg0.N = modArr m c :=
  (dats m 0 c).arrAt_eq_of_cover 8 _ (fun t _ => flushed_mod m c t) fun i => by
    have h0 : (i 0).val < 8192 := (i 0).isLt
    have h1 : (i 1).val < 2048 := (i 1).isLt
    obtain ⟨t, ht⟩ : ∃ t, t = modPt i := ⟨_, rfl⟩
    have hv : t.val = (i 0).val / 512 := by rw [ht]
    obtain ⟨e0, e1⟩ := index_mod t
    refine ⟨t, writes_mod t, ?_⟩
    show i ∈ ((View.whole (Pipeline.arrRef spec0 8)).slice (win0_8.rect t)).set
    rw [View.set_slice_whole, Rect.mem_set_unit]
    intro a
    match a with
    | ⟨0, _⟩ => show win0_8.index t (0 : Fin 2) * 512 ≤ (i 0).val ∧ (i 0).val < win0_8.index t (0 : Fin 2) * 512 + 512; rw [e0]; omega
    | ⟨1, _⟩ => show win0_8.index t (1 : Fin 2) * 2048 ≤ (i 1).val ∧ (i 1).val < win0_8.index t (1 : Fin 2) * 2048 + 2048; rw [e1]; omega

/-! ## The host's casts and reshapes -/

theorem host_x (c : Dev nD) : V m c main_v0 = shapeCast S8192x2048 (m ((c : Thread nD τ).loc main_arg1)) shapeCasts_S2x4096x2048_S8192x2048 := by
  show StableHlo.after hostOps0 (fun b => m (c, b)) _ = _
  after_results <;> rfl
theorem host_gate (c : Dev nD) : V m c main_v1 = shapeCast S2x1x2048 (m ((c : Thread nD τ).loc main_arg2)) shapeCasts_S2x2048_S2x1x2048 := by
  show StableHlo.after hostOps0 (fun b => m (c, b)) _ = _
  after_results <;> rfl
theorem host_shift (c : Dev nD) : V m c main_v2 = shapeCast S2x1x2048 (m ((c : Thread nD τ).loc main_arg3)) shapeCasts_S2x2048_S2x1x2048 := by
  show StableHlo.after hostOps0 (fun b => m (c, b)) _ = _
  after_results <;> rfl
theorem host_scale (c : Dev nD) : V m c main_v3 = shapeCast S2x1x2048 (m ((c : Thread nD τ).loc main_arg4)) shapeCasts_S2x2048_S2x1x2048 := by
  show StableHlo.after hostOps0 (fun b => m (c, b)) _ = _
  after_results <;> rfl
theorem host_g (c : Dev nD) : V m c main_v5 = shapeCast S1x2048 (shapeCast S2048 (m ((c : Thread nD τ).loc main_arg5)) shapeCasts_S1x2048_S2048) shapeCasts_S2048_S1x2048 := by
  show StableHlo.after hostOps0 (fun b => m (c, b)) _ = _
  after_results <;> rfl
theorem host_w (c : Dev nD) : V m c main_v7 = truncf .bf16 (shapeCast S2048x2048 (m ((c : Thread nD τ).loc main_arg6)) shapeCasts_S1x2048x2048_S2048x2048 : FVec F S2048x2048 .f32) bitsLt_bf16_f32 := by
  show StableHlo.after hostOps0 (fun b => m (c, b)) _ = _
  after_results <;> rfl

/-! ## Where the blocks lie -/

theorem index_mix : ∀ t : Fin cfg0.N, win0_0.index t (0 : Fin 2) = t.val ∧ win0_0.index t (1 : Fin 2) = 0 :=
  (by decide +kernel : ∀ t : Fin grid0.N, _)
theorem index_x : ∀ t : Fin cfg0.N, win0_1.index t (0 : Fin 2) = t.val ∧ win0_1.index t (1 : Fin 2) = 0 :=
  (by decide +kernel : ∀ t : Fin grid0.N, _)
theorem index_gate : ∀ t : Fin cfg0.N, win0_2.index t (0 : Fin 3) = t.val / 8 ∧ win0_2.index t (1 : Fin 3) = 0 ∧ win0_2.index t (2 : Fin 3) = 0 :=
  (by decide +kernel : ∀ t : Fin grid0.N, _)
theorem index_shift : ∀ t : Fin cfg0.N, win0_3.index t (0 : Fin 3) = t.val / 8 ∧ win0_3.index t (1 : Fin 3) = 0 ∧ win0_3.index t (2 : Fin 3) = 0 :=
  (by decide +kernel : ∀ t : Fin grid0.N, _)
theorem index_scale : ∀ t : Fin cfg0.N, win0_4.index t (0 : Fin 3) = t.val / 8 ∧ win0_4.index t (1 : Fin 3) = 0 ∧ win0_4.index t (2 : Fin 3) = 0 :=
  (by decide +kernel : ∀ t : Fin grid0.N, _)
theorem index_g : ∀ t : Fin cfg0.N, win0_5.index t (0 : Fin 2) = 0 ∧ win0_5.index t (1 : Fin 2) = 0 :=
  (by decide +kernel : ∀ t : Fin grid0.N, _)
theorem index_w : ∀ t : Fin cfg0.N, win0_6.index t (0 : Fin 2) = 0 ∧ win0_6.index t (1 : Fin 2) = 0 :=
  (by decide +kernel : ∀ t : Fin grid0.N, _)

theorem block_mix (c : Dev nD) (t : Fin cfg0.N) (r : Fin 512) (k : Fin 2048) (hR : 512 * t.val + r.val < 8192) :
    (iblk m c 0 t : Vec F S512x2048 .bf16) (ix2 r k) = V m c main_arg0 (ix2 ⟨512 * t.val + r.val, hR⟩ k) := by
  unfold iblk
  rw [View.read_apply]
  show V m c main_arg0 _ = _
  congr 1
  obtain ⟨e0, e1⟩ := index_mix t
  funext a; apply Fin.ext
  match a with
  | ⟨0, _⟩ => show win0_0.index t (0 : Fin 2) * 512 + 1 * r.val = _; rw [e0]; show _ = 512 * t.val + r.val; omega
  | ⟨1, _⟩ => show win0_0.index t (1 : Fin 2) * 2048 + 1 * k.val = _; rw [e1]; show _ = k.val; omega

theorem block_x (c : Dev nD) (t : Fin cfg0.N) (r : Fin 512) (k : Fin 2048) (hR : 512 * t.val + r.val < 8192) :
    (iblk m c 1 t : Vec F S512x2048 .f32) (ix2 r k) = V m c main_v0 (ix2 ⟨512 * t.val + r.val, hR⟩ k) := by
  unfold iblk
  rw [View.read_apply]
  show V m c main_v0 _ = _
  congr 1
  obtain ⟨e0, e1⟩ := index_x t
  funext a; apply Fin.ext
  match a with
  | ⟨0, _⟩ => show win0_1.index t (0 : Fin 2) * 512 + 1 * r.val = _; rw [e0]; show _ = 512 * t.val + r.val; omega
  | ⟨1, _⟩ => show win0_1.index t (1 : Fin 2) * 2048 + 1 * k.val = _; rw [e1]; show _ = k.val; omega

theorem block_gate (c : Dev nD) (t : Fin cfg0.N) (k : Fin 2048) (hb : t.val / 8 < 2) :
    (iblk m c 2 t : Vec F S1x1x2048 .f32) (ix3 0 0 k) = V m c main_v1 (ix3 ⟨t.val / 8, hb⟩ 0 k) := by
  unfold iblk
  rw [View.read_apply]
  show V m c main_v1 _ = _
  congr 1
  obtain ⟨e0, e1, e2⟩ := index_gate t
  funext a; apply Fin.ext
  match a with
  | ⟨0, _⟩ => show win0_2.index t (0 : Fin 3) * 1 + 1 * 0 = _; rw [e0]; show _ = t.val / 8; omega
  | ⟨1, _⟩ => show win0_2.index t (1 : Fin 3) * 1 + 1 * 0 = _; rw [e1]; show _ = 0; omega
  | ⟨2, _⟩ => show win0_2.index t (2 : Fin 3) * 2048 + 1 * k.val = _; rw [e2]; show _ = k.val; omega

theorem block_shift (c : Dev nD) (t : Fin cfg0.N) (k : Fin 2048) (hb : t.val / 8 < 2) :
    (iblk m c 3 t : Vec F S1x1x2048 .f32) (ix3 0 0 k) = V m c main_v2 (ix3 ⟨t.val / 8, hb⟩ 0 k) := by
  unfold iblk
  rw [View.read_apply]
  show V m c main_v2 _ = _
  congr 1
  obtain ⟨e0, e1, e2⟩ := index_shift t
  funext a; apply Fin.ext
  match a with
  | ⟨0, _⟩ => show win0_3.index t (0 : Fin 3) * 1 + 1 * 0 = _; rw [e0]; show _ = t.val / 8; omega
  | ⟨1, _⟩ => show win0_3.index t (1 : Fin 3) * 1 + 1 * 0 = _; rw [e1]; show _ = 0; omega
  | ⟨2, _⟩ => show win0_3.index t (2 : Fin 3) * 2048 + 1 * k.val = _; rw [e2]; show _ = k.val; omega

theorem block_scale (c : Dev nD) (t : Fin cfg0.N) (k : Fin 2048) (hb : t.val / 8 < 2) :
    (iblk m c 4 t : Vec F S1x1x2048 .f32) (ix3 0 0 k) = V m c main_v3 (ix3 ⟨t.val / 8, hb⟩ 0 k) := by
  unfold iblk
  rw [View.read_apply]
  show V m c main_v3 _ = _
  congr 1
  obtain ⟨e0, e1, e2⟩ := index_scale t
  funext a; apply Fin.ext
  match a with
  | ⟨0, _⟩ => show win0_4.index t (0 : Fin 3) * 1 + 1 * 0 = _; rw [e0]; show _ = t.val / 8; omega
  | ⟨1, _⟩ => show win0_4.index t (1 : Fin 3) * 1 + 1 * 0 = _; rw [e1]; show _ = 0; omega
  | ⟨2, _⟩ => show win0_4.index t (2 : Fin 3) * 2048 + 1 * k.val = _; rw [e2]; show _ = k.val; omega

theorem block_g (c : Dev nD) (t : Fin cfg0.N) (k : Fin 2048) :
    (iblk m c 5 t : Vec F S1x2048 .f32) (ix2 0 k) = V m c main_v5 (ix2 0 k) := by
  unfold iblk
  rw [View.read_apply]
  show V m c main_v5 _ = _
  congr 1
  obtain ⟨e0, e1⟩ := index_g t
  funext a; apply Fin.ext
  match a with
  | ⟨0, _⟩ => show win0_5.index t (0 : Fin 2) * 1 + 1 * 0 = _; rw [e0]; show _ = 0; omega
  | ⟨1, _⟩ => show win0_5.index t (1 : Fin 2) * 2048 + 1 * k.val = _; rw [e1]; show _ = k.val; omega

theorem block_w (c : Dev nD) (t : Fin cfg0.N) (j k : Fin 2048) :
    (iblk m c 6 t : Vec F S2048x2048 .bf16) (ix2 j k) = V m c main_v7 (ix2 j k) := by
  unfold iblk
  rw [View.read_apply]
  show V m c main_v7 _ = _
  congr 1
  obtain ⟨e0, e1⟩ := index_w t
  funext a; apply Fin.ext
  match a with
  | ⟨0, _⟩ => show win0_6.index t (0 : Fin 2) * 2048 + 1 * j.val = _; rw [e0]; show _ = j.val; omega
  | ⟨1, _⟩ => show win0_6.index t (1 : Fin 2) * 2048 + 1 * k.val = _; rw [e1]; show _ = k.val; omega

/-! ## The entries, over the extended reals -/

section
variable (m : (ℓ : Loc nD τ sig) → Buf (Elt Ideal) ℓ)

/-- The arguments, by name. -/
abbrev argMix (c : Dev nD) : FVec Ideal ⟨2, ![8192, 2048]⟩ .bf16 := m ((c : Thread nD τ).loc main_arg0)
abbrev argX (c : Dev nD) : FVec Ideal ⟨3, ![2, 4096, 2048]⟩ .f32 := m ((c : Thread nD τ).loc main_arg1)
abbrev argGate (c : Dev nD) : FVec Ideal ⟨2, ![2, 2048]⟩ .f32 := m ((c : Thread nD τ).loc main_arg2)
abbrev argShift (c : Dev nD) : FVec Ideal ⟨2, ![2, 2048]⟩ .f32 := m ((c : Thread nD τ).loc main_arg3)
abbrev argScale (c : Dev nD) : FVec Ideal ⟨2, ![2, 2048]⟩ .f32 := m ((c : Thread nD τ).loc main_arg4)
abbrev argG (c : Dev nD) : FVec Ideal ⟨2, ![1, 2048]⟩ .f32 := m ((c : Thread nD τ).loc main_arg5)
abbrev argW (c : Dev nD) : FVec Ideal ⟨3, ![1, 2048, 2048]⟩ .f32 := m ((c : Thread nD τ).loc main_arg6)

theorem cast_x {α : Type} (x : S2x4096x2048.Idx → α) (R : Fin 8192) (k : Fin 2048) :
    shapeCast S8192x2048 x shapeCasts_S2x4096x2048_S8192x2048 (ix2 R k) = x (ix3 ⟨R.val / 4096, by omega⟩ ⟨R.val % 4096, by omega⟩ k) := by
  pointwise
theorem cast_mod {α : Type} (x : S2x2048.Idx → α) (b : Fin 2) (k : Fin 2048) : shapeCast S2x1x2048 x shapeCasts_S2x2048_S2x1x2048 (ix3 b 0 k) = x (ix2 b k) := by
  pointwise
theorem cast_g {α : Type} (x : S1x2048.Idx → α) (k : Fin 2048) :
    shapeCast S1x2048 (shapeCast S2048 x shapeCasts_S1x2048_S2048) shapeCasts_S2048_S1x2048 (ix2 0 k) = x (ix2 0 k) := by
  pointwise
theorem cast_w (x : FVec Ideal S1x2048x2048 .f32) (j k : Fin 2048) :
    truncf .bf16 (shapeCast S2048x2048 x shapeCasts_S1x2048x2048_S2048x2048 : FVec Ideal S2048x2048 .f32) bitsLt_bf16_f32 (ix2 j k) = x (ix3 0 j k) := by
  pointwise

theorem mix_at (c : Dev nD) (t : Fin cfg0.N) (r : Fin 512) (k : Fin 2048) (hR : 512 * t.val + r.val < 8192) :
    (iblk m c 0 t : Vec Ideal S512x2048 .bf16) (ix2 r k) = argMix m c (ix2 ⟨512 * t.val + r.val, hR⟩ k) := by
  rw [block_mix m c t r k hR, V_main_arg0]
theorem x_at (c : Dev nD) (t : Fin cfg0.N) (r : Fin 512) (k : Fin 2048) (hR : 512 * t.val + r.val < 8192) :
    (iblk m c 1 t : Vec Ideal S512x2048 .f32) (ix2 r k) = argX m c (ix3 ⟨(512 * t.val + r.val) / 4096, by omega⟩ ⟨(512 * t.val + r.val) % 4096, by omega⟩ k) := by
  rw [block_x m c t r k hR, host_x, cast_x]
theorem g_at (c : Dev nD) (t : Fin cfg0.N) (k : Fin 2048) : (iblk m c 5 t : Vec Ideal S1x2048 .f32) (ix2 0 k) = argG m c (ix2 0 k) := by
  rw [block_g, host_g, cast_g]
theorem w_at (c : Dev nD) (t : Fin cfg0.N) (j k : Fin 2048) : (iblk m c 6 t : Vec Ideal S2048x2048 .bf16) (ix2 j k) = argW m c (ix3 0 j k) := by
  rw [block_w, host_w, cast_w]
theorem gate_at (c : Dev nD) (t : Fin cfg0.N) (r : Fin 512) (k : Fin 2048) (hR : 512 * t.val + r.val < 8192) :
    (iblk m c 2 t : Vec Ideal S1x1x2048 .f32) (ix3 0 0 k) = argGate m c (ix2 ⟨(512 * t.val + r.val) / 4096, by omega⟩ k) := by
  rw [block_gate m c t k (by omega), host_gate, cast_mod]
  exact congrArg (fun b => argGate m c (ix2 b k)) (Fin.ext (by dsimp only; omega))
theorem shift_at (c : Dev nD) (t : Fin cfg0.N) (r : Fin 512) (k : Fin 2048) (hR : 512 * t.val + r.val < 8192) :
    (iblk m c 3 t : Vec Ideal S1x1x2048 .f32) (ix3 0 0 k) = argShift m c (ix2 ⟨(512 * t.val + r.val) / 4096, by omega⟩ k) := by
  rw [block_shift m c t k (by omega), host_shift, cast_mod]
  exact congrArg (fun b => argShift m c (ix2 b k)) (Fin.ext (by dsimp only; omega))
theorem scale_at (c : Dev nD) (t : Fin cfg0.N) (r : Fin 512) (k : Fin 2048) (hR : 512 * t.val + r.val < 8192) :
    (iblk m c 4 t : Vec Ideal S1x1x2048 .f32) (ix3 0 0 k) = argScale m c (ix2 ⟨(512 * t.val + r.val) / 4096, by omega⟩ k) := by
  rw [block_scale m c t k (by omega), host_scale, cast_mod]
  exact congrArg (fun b => argScale m c (ix2 b k)) (Fin.ext (by dsimp only; omega))

theorem sum_payload (x : Vec Ideal S512x2048 .f32) (gate : Vec Ideal S1x1x2048 .f32) (mix : Vec Ideal S512x2048 .bf16) (w : Vec Ideal S2048x2048 .bf16) (r : Fin 512) (q : Fin 2048) :
    k0_pay2 x gate mix w (ix2 r q) = x (ix2 r q) + gate (ix3 0 0 q) * ∑ k : Fin 2048, mix (ix2 r k) * w (ix2 k q) := by
  pointwise [k0_pay2]

/-- The second payload is the modulated normalisation of the first. -/
theorem mod_payload (x : Vec Ideal S512x2048 .f32) (gate : Vec Ideal S1x1x2048 .f32) (mix : Vec Ideal S512x2048 .bf16) (w : Vec Ideal S2048x2048 .bf16)
    (g : Vec Ideal S1x2048 .f32) (sc sh : Vec Ideal S1x1x2048 .f32) (r : Fin 512) (q : Fin 2048) :
    k0_pay1 (k0_pay3 x gate mix w g sc) (k0_pay4 sh) (ix2 r q)
      = k0_pay2 x gate mix w (ix2 r q) * Ideal.rsqrt (Ideal.div (∑ i : Fin 2048, k0_pay2 x gate mix w (ix2 r i) * k0_pay2 x gate mix w (ix2 r i)) (Ideal.ofBits .f32 0x45000000#32) + Ideal.ofBits .f32 0x358637BD#32)
        * g (ix2 0 q) * (1 + sc (ix3 0 0 q)) + sh (ix3 0 0 q) := by
  unfold k0_pay3
  generalize k0_pay2 x gate mix w = p
  pointwise [k0_pay1, k0_pay4]

theorem sumAt_apply (c : Dev nD) (t : Fin cfg0.N) (r : Fin 512) (q : Fin 2048) (hR : 512 * t.val + r.val < 8192) :
    sumAt m c t (ix2 r q) = row (argMix m c) (argX m c) (argGate m c) (argW m c) ⟨512 * t.val + r.val, hR⟩ q := by
  refine (sum_payload _ _ _ _ r q).trans ?_
  refine congrArg₂ (· + ·) (x_at m c t r q hR) (congrArg₂ (· * ·) (gate_at m c t r q hR) (Finset.sum_congr rfl fun k _ => ?_))
  exact congrArg₂ (· * ·) (mix_at m c t r k hR) (w_at m c t k q)

theorem modAt_apply (c : Dev nD) (t : Fin cfg0.N) (r : Fin 512) (q : Fin 2048) (hR : 512 * t.val + r.val < 8192) :
    modAt m c t (ix2 r q) = modRow (row (argMix m c) (argX m c) (argGate m c) (argW m c) ⟨512 * t.val + r.val, hR⟩) (argG m c) (argShift m c) (argScale m c)
      ⟨(512 * t.val + r.val) / 4096, by omega⟩ q := by
  refine (mod_payload _ _ _ _ _ _ _ r q).trans ?_
  have e : ∀ i : Fin 2048, k0_pay2 (iblk m c 1 t) (iblk m c 2 t) (iblk m c 0 t) (iblk m c 6 t) (ix2 r i) = _ := fun i => sumAt_apply m c t r i hR
  unfold modRow
  simp only [e]
  exact congrArg₂ (· + ·) (congrArg₂ (· * ·) (congrArg₂ (· * ·) rfl (g_at m c t q)) (congrArg (1 + ·) (scale_at m c t r q hR))) (shift_at m c t r q hR)

theorem row_of (R : Fin 8192) : (⟨512 * (R.val / 512) + R.val % 512, by omega⟩ : Fin 8192) = R := Fin.ext (by dsimp only; omega)

theorem sum_apply (c : Dev nD) (R : Fin 8192) (q : Fin 2048) :
    sumArr m c (ix2 R q) = row (argMix m c) (argX m c) (argGate m c) (argW m c) R q := by
  have hl : sumLoc (ix2 R q) = ix2 (⟨R.val % 512, by omega⟩ : Fin 512) q := by
    funext a; match a with
    | ⟨0, _⟩ => rfl
    | ⟨1, _⟩ => rfl
  unfold sumArr
  rw [hl]
  refine (sumAt_apply m c (sumPt (ix2 R q)) ⟨R.val % 512, by omega⟩ q (by show 512 * (R.val / 512) + R.val % 512 < 8192; omega)).trans ?_
  exact congrArg (fun R => row _ _ _ _ R q) (row_of R)

theorem mod_apply (c : Dev nD) (R : Fin 8192) (q : Fin 2048) :
    modArr m c (ix2 R q) = modRow (row (argMix m c) (argX m c) (argGate m c) (argW m c) R) (argG m c) (argShift m c) (argScale m c) ⟨R.val / 4096, by omega⟩ q := by
  have hl : modLoc (ix2 R q) = ix2 (⟨R.val % 512, by omega⟩ : Fin 512) q := by
    funext a; match a with
    | ⟨0, _⟩ => rfl
    | ⟨1, _⟩ => rfl
  unfold modArr
  rw [hl]
  refine (modAt_apply m c (modPt (ix2 R q)) ⟨R.val % 512, by omega⟩ q (by show 512 * (R.val / 512) + R.val % 512 < 8192; omega)).trans ?_
  exact congrArg (fun R : Fin 8192 => modRow (row _ _ _ _ R) _ _ _ ⟨R.val / 4096, by omega⟩ q) (row_of R)

end

/-! ## The run, read -/

theorem run_values (ρ : Dev nD → PrngReg) : θ_run defs (onTc (τ := τ) (main (F := F))) ⟨m, fun _ => 0, ρ⟩ (fun r => ∀ c : Dev nD,
      r.2.mem ((c.tc : Thread nD τ).loc main_v8_0) = sumArr m c
      ∧ r.2.mem ((c.tc : Thread nD τ).loc main_v8_1) = modArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (final_sum m c), (h c).2.1.trans (final_mod m c), (h c).2.2⟩) (Cert.OutIdeal.Value.run_blocks m ρ)

end Cert.OutIdeal.Out

end
-- ==== Proof.OutRef.lean ====
/-
  The output call's reference, read at an index.
-/
module

public import proofs.«01_k».proof.Proof.Gen.OutRefIdeal.Run
public import proofs.«01_k».proof.Proof.OutMath

@[expose] public section

set_option maxRecDepth 16384

noncomputable section

namespace Cert.OutRefIdeal.Out

open Cert.OutRefIdeal Cert.OutRefIdeal.Gen Idealize.ShloMosaic Idealize.ShloMosaic.TcCoe Idealize.SL.Sem
open Cert.Out.Math

variable {F : FTy → Type} [FloatOps F]

/-- The residual with the gated projection added, as the reference computes it. -/
def added (mix : FVec F S8192x2048 .bf16) (x : FVec F S2x4096x2048 .f32) (gate : FVec F S2x2048 .f32) (w : FVec F S1x2048x2048 .f32) : FVec F S2x4096x2048 .f32 :=
  addf x (mulf (broadcastInDim S2x4096x2048 ![0, 1, 2] bcast_S2x1x2048_S2x4096x2048_0_1_2 (broadcastInDim S2x1x2048 ![0, 2] bcast_S2x2048_S2x1x2048_0_2 gate))
    (Host.dotGeneral dot_S2x4096x2048_S2048x2048_S2x4096x2048_2_0_01_1_n_n none (shapeCast _ (extf .f32 mix bitsLt_bf16_f32) shapeCasts_S8192x2048_S2x4096x2048) (shapeCast _ w shapeCasts_S1x2048x2048_S2048x2048)))

/-- The rows normalised and modulated. -/
def modulated (y : FVec F S2x4096x2048 .f32) (g : FVec F S1x2048 .f32) (sh sc : FVec F S2x2048 .f32) : FVec F S2x4096x2048 .f32 :=
  addf (mulf (mulf (mulf y (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf y y) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32))))))
      (broadcastInDim S2x4096x2048 ![0, 1, 2] bcast_S1x1x2048_S2x4096x2048_0_1_2 (broadcastInDim S1x1x2048 ![2] bcast_S2048_S1x1x2048_2 (shapeCast _ g shapeCasts_S1x2048_S2048))))
      (broadcastInDim S2x4096x2048 ![0, 1, 2] bcast_S2x1x2048_S2x4096x2048_0_1_2 (addf (broadcastInDim S2x1x2048 ![] bcast_S_S2x1x2048 (constant S_ .f32 0x3F800000#32)) (broadcastInDim S2x1x2048 ![0, 2] bcast_S2x2048_S2x1x2048_0_2 sc))))
    (broadcastInDim S2x4096x2048 ![0, 1, 2] bcast_S2x1x2048_S2x4096x2048_0_1_2 (broadcastInDim S2x1x2048 ![0, 2] bcast_S2x2048_S2x1x2048_0_2 sh))

/-- The two results as arrays of the arguments. -/
def sumArr (m : (ℓ : Loc nD τ sig) → Buf (Elt F) ℓ) (c : Dev nD) : FVec F S8192x2048 .f32 :=
  shapeCast _ (added (m ((c.tc : Thread nD τ).loc main_arg0)) (m ((c.tc : Thread nD τ).loc main_arg1)) (m ((c.tc : Thread nD τ).loc main_arg2)) (m ((c.tc : Thread nD τ).loc main_arg6))) shapeCasts_S2x4096x2048_S8192x2048
def modArr (m : (ℓ : Loc nD τ sig) → Buf (Elt F) ℓ) (c : Dev nD) : FVec F S8192x2048 .bf16 :=
  truncf .bf16 (shapeCast _ (modulated (added (m ((c.tc : Thread nD τ).loc main_arg0)) (m ((c.tc : Thread nD τ).loc main_arg1)) (m ((c.tc : Thread nD τ).loc main_arg2)) (m ((c.tc : Thread nD τ).loc main_arg6))) (m ((c.tc : Thread nD τ).loc main_arg5)) (m ((c.tc : Thread nD τ).loc main_arg3)) (m ((c.tc : Thread nD τ).loc main_arg4))) shapeCasts_S2x4096x2048_S8192x2048 : FVec F S8192x2048 .f32) bitsLt_bf16_f32

theorem run_values (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30) = sumArr m c
      ∧ r.2.mem ((c.tc : Thread nD τ).loc main_v32) = modArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans rfl, (h c).2.1.trans rfl, (h c).2.2⟩) (Cert.OutRefIdeal.Value.run m ρ)

theorem added_apply (mix : FVec Ideal S8192x2048 .bf16) (x : FVec Ideal S2x4096x2048 .f32) (gate : FVec Ideal S2x2048 .f32) (w : FVec Ideal S1x2048x2048 .f32)
    (b : Fin 2) (s : Fin 4096) (q : Fin 2048) :
    added mix x gate w (ix3 b s q) = x (ix3 b s q) + gate (ix2 b q) * ∑ k : Fin 2048, mix (ix2 ⟨b.val * 4096 + s.val, by omega⟩ k) * w (ix3 0 k q) := by
  pointwise [added]

theorem modulated_apply (y : FVec Ideal S2x4096x2048 .f32) (g : FVec Ideal S1x2048 .f32) (sh sc : FVec Ideal S2x2048 .f32) (b : Fin 2) (s : Fin 4096) (q : Fin 2048) :
    modulated y g sh sc (ix3 b s q) = modRow (fun i => y (ix3 b s i)) g sh sc b q := by
  pointwise [modulated, modRow]

theorem flat_apply {α : Type} (y : S2x4096x2048.Idx → α) (R : Fin 8192) (q : Fin 2048) :
    shapeCast S8192x2048 y shapeCasts_S2x4096x2048_S8192x2048 (ix2 R q) = y (ix3 ⟨R.val / 4096, by omega⟩ ⟨R.val % 4096, by omega⟩ q) := by
  pointwise

theorem flat_trunc (y : FVec Ideal S2x4096x2048 .f32) (R : Fin 8192) (q : Fin 2048) :
    truncf .bf16 (shapeCast S8192x2048 y shapeCasts_S2x4096x2048_S8192x2048 : FVec Ideal S8192x2048 .f32) bitsLt_bf16_f32 (ix2 R q) = y (ix3 ⟨R.val / 4096, by omega⟩ ⟨R.val % 4096, by omega⟩ q) := by
  pointwise

variable (m : (ℓ : Loc nD τ sig) → Buf (Elt Ideal) ℓ)

theorem row_eq (mix : FVec Ideal S8192x2048 .bf16) (x : FVec Ideal S2x4096x2048 .f32) (gate : FVec Ideal S2x2048 .f32) (w : FVec Ideal S1x2048x2048 .f32) (R : Fin 8192) (q : Fin 2048) :
    added mix x gate w (ix3 ⟨R.val / 4096, by omega⟩ ⟨R.val % 4096, by omega⟩ q) = row mix x gate w R q := by
  have hR : (⟨(⟨R.val / 4096, by omega⟩ : Fin 2).val * 4096 + (⟨R.val % 4096, by omega⟩ : Fin 4096).val, by dsimp only; omega⟩ : Fin 8192) = R :=
    Fin.ext (by dsimp only; omega)
  rw [added_apply, hR]
  rfl

theorem sum_apply (c : Dev nD) (R : Fin 8192) (q : Fin 2048) : sumArr m c (ix2 R q) = row (m ((c.tc : Thread nD τ).loc main_arg0)) (m ((c.tc : Thread nD τ).loc main_arg1)) (m ((c.tc : Thread nD τ).loc main_arg2)) (m ((c.tc : Thread nD τ).loc main_arg6)) R q :=
  (flat_apply _ R q).trans (row_eq _ _ _ _ R q)

theorem mod_apply (c : Dev nD) (R : Fin 8192) (q : Fin 2048) :
    modArr m c (ix2 R q) = modRow (row (m ((c.tc : Thread nD τ).loc main_arg0)) (m ((c.tc : Thread nD τ).loc main_arg1)) (m ((c.tc : Thread nD τ).loc main_arg2)) (m ((c.tc : Thread nD τ).loc main_arg6)) R) (m ((c.tc : Thread nD τ).loc main_arg5)) (m ((c.tc : Thread nD τ).loc main_arg3)) (m ((c.tc : Thread nD τ).loc main_arg4)) ⟨R.val / 4096, by omega⟩ q :=
  (flat_trunc _ R q).trans ((modulated_apply _ _ _ _ _ _ q).trans (congrArg (fun y => modRow y _ _ _ _ q) (funext fun i => row_eq _ _ _ _ R i)))

end Cert.OutRefIdeal.Out

end
-- ==== Proof.OutClaims.lean ====
/-
  The claims about the output call.
-/
module

public import proofs.«01_k».proof.Defs
public import proofs.«01_k».proof.Proof.OutValue
public import proofs.«01_k».proof.Proof.OutRef
public import proofs.«01_k».proof.Proof.Gen.Out

@[expose] public section

noncomputable section

namespace Cert.Proof.Out

open Idealize.ShloMosaic Idealize.ShloMosaic.TcCoe Idealize.SL.Sem

theorem frame_kernel_ideal : Cert.quiescent_OutIdeal := fun m ρ _ => Cert.OutIdeal.Gen.frame m ρ

/-- The two prints of the kernel have one text: their body tables are one table. -/
theorem bodies_eq {F : FTy → Type} [FloatOps F] : Cert.Out.defs₀ (F := F) = Cert.OutIdeal.defs₀ (F := F) := by
  unfold Cert.Out.defs₀ Cert.OutIdeal.defs₀
  refine congrArg _ (funext fun l => funext fun a => ?_)
  match l, a with
  | 0, (t, s) => rfl
  | ⟨_ + 1, h⟩, _ => exact absurd h (Nat.not_lt.2 (Nat.le_add_left _ _))

theorem defs_eq {F : FTy → Type} [FloatOps F] : Cert.Out.defs (F := F) = Cert.OutIdeal.defs (F := F) := by
  unfold Cert.Out.defs Cert.OutIdeal.defs
  rw [bodies_eq]
  rfl

/-- So the kernel's run at the machine's floats is the run above there. -/
theorem frame_kernel : Cert.quiescent_Out := fun m ρ _ => by
  rw [defs_eq]
  exact Cert.OutIdeal.Gen.frame (F := Bits) m ρ

theorem frame_reference : Cert.quiescent_OutRefIdeal := fun m ρ _ =>
  (θ_run Cert.OutRefIdeal.defs _ _).mono (fun r h => ⟨fun c => (h c).2.2, sem_eq_zero_of_no_sems (by decide) r.2⟩)
    (Cert.OutRefIdeal.Value.run (F := Ideal) m ρ)

theorem preserves : Cert.preserves_Out_OutIdeal := trivial

/-- Both pairs of results are the same rows and the same modulated rows. -/
theorem algebraic : Cert.algebraic_OutIdeal_OutRefIdeal := by
  intro m ρ m' ρ' _ hagree
  refine ⟨fun c => Cert.OutIdeal.Out.sumArr m c, fun c => Cert.OutIdeal.Out.modArr m c, Cert.OutIdeal.Out.run_values (F := Ideal) m ρ, ?_⟩
  refine (θ_run Cert.OutRefIdeal.defs _ _).mono (fun _ h c => ?_) (Cert.OutRefIdeal.Out.run_values (F := Ideal) m' ρ')
  obtain ⟨a0, a1, a2, a3, a4, a5, a6⟩ := hagree c
  refine ⟨(h c).1.trans (funext fun i => ?_), (h c).2.1.trans (funext fun i => ?_), (h c).2.2⟩
  · refine (congrArg _ (eq_ix2 (n0 := 8192) (n1 := 2048) i)).trans ((Cert.OutRefIdeal.Out.sum_apply m' c _ _).trans ?_)
    rw [a0, a1, a2, a6]
    exact ((congrArg (Cert.OutIdeal.Out.sumArr m c) (eq_ix2 i)).trans (Cert.OutIdeal.Out.sum_apply m c _ _)).symm
  · refine (congrArg _ (eq_ix2 (n0 := 8192) (n1 := 2048) i)).trans ((Cert.OutRefIdeal.Out.mod_apply m' c _ _).trans ?_)
    rw [a0, a1, a2, a3, a4, a5, a6]
    exact ((congrArg (Cert.OutIdeal.Out.modArr m c) (eq_ix2 i)).trans (Cert.OutIdeal.Out.mod_apply m c _ _)).symm

end Cert.Proof.Out

end
-- ==== Proof.FrontSampleBody.lean ====
/-
  The front call for the samples' kernel body, run once per way its three conditions can fall, and what each run leaves: the
  modulated rows in the scratch, the product of the scratch with the weight rows in the narrow output (scaled on the
  query tiles) and in the wide one. Every store is of a whole buffer, so each buffer ends at the stored value.
-/
module

public import proofs.«01_k».proof.Proof.Gen.FrontSampleIdeal.Frame
public import proofs.«01_k».proof.Proof.Gen.FrontSampleIdeal.Skeleton
public import Idealize.ShloMosaic.Lib.VecWindow
public import Idealize.ShloMosaic.Lib.Pipeline.Value

@[expose] public section

set_option maxRecDepth 16384

noncomputable section

namespace Cert.FrontSampleIdeal.Front

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FrontSampleIdeal Cert.FrontSampleIdeal.Gen

variable {F : FTy → Type} [FloatOps F]

local notation "𝕄" => MT nD τ sig Unit (Elt F) ℕ (UR sig nD τ) ℕ

/-! ## The three conditions over the grid -/

/-- The body fills the scratch at this point: its second coordinate is zero. -/
abbrev fills (i : grid0.Coords) : Prop :=
  (Scalar.cmpi .ne (Scalar.extui (Scalar.cmpi .eq (BitVec.ofNat 32 (i 1).val) 0#32)) 0#32) = 1#1
/-- The body stores the narrow output at this point. -/
abbrev narrow (i : grid0.Coords) : Prop := k0_cond2 i = 1#1
/-- The body stores the wide output at this point. -/
abbrev wide (i : grid0.Coords) : Prop := k0_cond3 i = 1#1

theorem fills_iff (t : Fin cfg0.N) : fills (grid0.coords t) ↔ t.val % 19 = 0 :=
  (by decide +kernel : ∀ t : Fin grid0.N, fills (grid0.coords t) ↔ t.val % 19 = 0) t
theorem narrow_iff (t : Fin cfg0.N) : narrow (grid0.coords t) ↔ (t.val % 19 < 14 ∨ t.val % 19 = 16 ∨ t.val % 19 = 17) :=
  (by decide +kernel : ∀ t : Fin grid0.N, narrow (grid0.coords t) ↔ (t.val % 19 < 14 ∨ t.val % 19 = 16 ∨ t.val % 19 = 17)) t
theorem wide_iff (t : Fin cfg0.N) : wide (grid0.coords t) ↔ 14 ≤ t.val % 19 :=
  (by decide +kernel : ∀ t : Fin grid0.N, wide (grid0.coords t) ↔ 14 ≤ t.val % 19) t

/-! ## The runs -/

section Runs

variable (c : Dev nD) (i : grid0.Coords)
  (a2 : Memref sig .tc .vmem S512x2048 .f32) (h2 : a2.IsWhole) (a3 : Memref sig .tc .vmem S1x2048 .f32) (h3 : a3.IsWhole)
  (a4 : Memref sig .tc .vmem S512x2048 .f32) (h4 : a4.IsWhole) (a5 : Memref sig .tc .vmem S512x2048 .f32) (h5 : a5.IsWhole)
  (a6 : Memref sig .tc .vmem S512x2048 .f32) (h6 : a6.IsWhole) (a7 : Memref sig .tc .vmem S512x512 .bf16) (h7 : a7.IsWhole)
  (a8 : Memref sig .tc .vmem S512x512 .f32) (h8 : a8.IsWhole) (a9 : Memref sig .tc .vmem S512x2048 .bf16) (h9 : a9.IsWhole)
  (x : Vec F S512x2048 .f32) (g : Vec F S1x2048 .f32) (sh sc : Vec F S512x2048 .f32) (w : Vec F S512x2048 .f32)
  (u : Vec F S512x2048 .bf16) (y7 : Vec F S512x512 .bf16) (y8 : Vec F S512x512 .f32)

/-- The modulated rows from whole-buffer loads of the four operands are those of the operands themselves. -/
theorem rows_congr (f2 : a2.view.ty.Contents (Elt F)) (f3 : a3.view.ty.Contents (Elt F)) (f4 : a4.view.ty.Contents (Elt F)) (f5 : a5.view.ty.Contents (Elt F))
    (b2 : ∀ a, (![0, 0] : Fin 2 → ℕ) a + S512x2048.size a ≤ S512x2048.size a) (b3 : ∀ a, (![0, 0] : Fin 2 → ℕ) a + S1x2048.size a ≤ S1x2048.size a)
    (b4 b5 : ∀ a, (![0, 0] : Fin 2 → ℕ) a + S512x2048.size a ≤ S512x2048.size a)
    (e2 : a2.view.read (Elt F) f2 = x) (e3 : a3.view.read (Elt F) f3 = g) (e5 : a5.view.read (Elt F) f5 = sc) (e4 : a4.view.read (Elt F) f4 = sh) :
    k0_pay1 (a2.view.readAt (Elt F) (Rect.unit (s := S512x2048) ![0, 0] S512x2048.size b2).toLoadRect f2)
      (a3.view.readAt (Elt F) (Rect.unit (s := S1x2048) ![0, 0] S1x2048.size b3).toLoadRect f3)
      (a5.view.readAt (Elt F) (Rect.unit (s := S512x2048) ![0, 0] S512x2048.size b5).toLoadRect f5)
      (a4.view.readAt (Elt F) (Rect.unit (s := S512x2048) ![0, 0] S512x2048.size b4).toLoadRect f4) = k0_pay1 x g sc sh := by
  rw [View.readAt_full, View.readAt_full, View.readAt_full, View.readAt_full, e2, e3, e4, e5]

/-- The first point of a row block: the rows are normalised and modulated into the scratch, then multiplied. -/
theorem run_fill (hc0 : fills i) (hc1 : narrow i) (hc2 : ¬wide i) (E : Set ℕ) (K : PUnit → sProp 𝕄) :
    iprop(owns (c : Thread nD τ) a2 fullShare x ∗ owns (c : Thread nD τ) a3 fullShare g ∗ owns (c : Thread nD τ) a4 fullShare sh
        ∗ owns (c : Thread nD τ) a5 fullShare sc ∗ owns (c : Thread nD τ) a6 fullShare w ∗ owns (c : Thread nD τ) a7 fullShare y7
        ∗ owns (c : Thread nD τ) a8 fullShare y8 ∗ (∃ d, owns (c : Thread nD τ) a9 fullShare d)
        ∗ (iprop(owns (c : Thread nD τ) a2 fullShare x ∗ owns (c : Thread nD τ) a3 fullShare g ∗ owns (c : Thread nD τ) a4 fullShare sh
            ∗ owns (c : Thread nD τ) a5 fullShare sc ∗ owns (c : Thread nD τ) a6 fullShare w
            ∗ owns (c : Thread nD τ) a7 fullShare (k0_pay3 i (k0_pay1 x g sc sh) w) ∗ owns (c : Thread nD τ) a8 fullShare y8
            ∗ owns (c : Thread nD τ) a9 fullShare (k0_pay1 x g sc sh)) -∗ K ⟨⟩))
      ⊢ wp frame (wpE (defs₀ (F := F)) Variants.none c none) E (cc0_front i a2 h2 a3 h3 a4 h4 a5 h5 a6 h6 a7 h7 a8 h8 a9 h9) K := by
  simp only [cc0_front_eq_skeleton]; unfold cc0_front_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, Hk⟩
  sl_exec (disch := first | sl_exact hc0 | sl_exact hc1 | sl_exact hc2)
  sl_step
  iapply Hk
  isplitl [H2]; · (iexists _; isplitr; (ipureintro; exact e2); iexact H2)
  isplitl [H3]; · (iexists _; isplitr; (ipureintro; exact e3); iexact H3)
  isplitl [H4]; · (iexists _; isplitr; (ipureintro; exact e4); iexact H4)
  isplitl [H5]; · (iexists _; isplitr; (ipureintro; exact e5); iexact H5)
  isplitl [H6]; · (iexists _; isplitr; (ipureintro; exact e6); iexact H6)
  isplitl [H7]
  · iexists _; isplitr
    swap; · iexact H7
    ipureintro
    sl_unfold_words
    exact (View.read_writes_full _ _ _ _ _).trans (congrArg₂ (k0_pay3 i) ((View.readCov_full _ _ _ _ _).trans (rows_congr _ _ _ _ _ _ _ _ _ _ _ _ _ _ _ _ e2 e3 e5 e4)) ((View.readAt_full _ _ _).trans e6))
  isplitl [H8]; · (iexists _; isplitr; (ipureintro; exact e8); iexact H8)
  iexists _; isplitr
  swap; · iexact H9
  ipureintro
  sl_unfold_words
  exact (View.read_writes_full _ _ _ _ _).trans (rows_congr _ _ _ _ _ _ _ _ _ _ _ _ _ _ _ _ e2 e3 e5 e4)

/-- A point that stores the narrow output alone. -/
theorem run_narrow (hc0 : ¬fills i) (hc1 : narrow i) (hc2 : ¬wide i) (E : Set ℕ) (K : PUnit → sProp 𝕄) :
    iprop(owns (c : Thread nD τ) a2 fullShare x ∗ owns (c : Thread nD τ) a3 fullShare g ∗ owns (c : Thread nD τ) a4 fullShare sh
        ∗ owns (c : Thread nD τ) a5 fullShare sc ∗ owns (c : Thread nD τ) a6 fullShare w ∗ owns (c : Thread nD τ) a7 fullShare y7
        ∗ owns (c : Thread nD τ) a8 fullShare y8 ∗ owns (c : Thread nD τ) a9 fullShare u
        ∗ (iprop(owns (c : Thread nD τ) a2 fullShare x ∗ owns (c : Thread nD τ) a3 fullShare g ∗ owns (c : Thread nD τ) a4 fullShare sh
            ∗ owns (c : Thread nD τ) a5 fullShare sc ∗ owns (c : Thread nD τ) a6 fullShare w
            ∗ owns (c : Thread nD τ) a7 fullShare (k0_pay3 i u w) ∗ owns (c : Thread nD τ) a8 fullShare y8
            ∗ owns (c : Thread nD τ) a9 fullShare u) -∗ K ⟨⟩))
      ⊢ wp frame (wpE (defs₀ (F := F)) Variants.none c none) E (cc0_front i a2 h2 a3 h3 a4 h4 a5 h5 a6 h6 a7 h7 a8 h8 a9 h9) K := by
  simp only [cc0_front_eq_skeleton]; unfold cc0_front_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, Hk⟩
  sl_exec (disch := first | sl_exact hc0 | sl_exact hc1 | sl_exact hc2)
  sl_step
  iapply Hk
  isplitl [H2]; · (iexists _; isplitr; (ipureintro; exact e2); iexact H2)
  isplitl [H3]; · (iexists _; isplitr; (ipureintro; exact e3); iexact H3)
  isplitl [H4]; · (iexists _; isplitr; (ipureintro; exact e4); iexact H4)
  isplitl [H5]; · (iexists _; isplitr; (ipureintro; exact e5); iexact H5)
  isplitl [H6]; · (iexists _; isplitr; (ipureintro; exact e6); iexact H6)
  isplitl [H7]
  · iexists _; isplitr
    swap; · iexact H7
    ipureintro
    sl_unfold_words
    exact (View.read_writes_full _ _ _ _ _).trans (congrArg₂ (k0_pay3 i) ((View.readAt_full _ _ _).trans e9) ((View.readAt_full _ _ _).trans e6))
  isplitl [H8]; · (iexists _; isplitr; (ipureintro; exact e8); iexact H8)
  iexists _; isplitr; (ipureintro; exact e9); iexact H9

/-- A point that stores the wide output alone. -/
theorem run_wide (hc0 : ¬fills i) (hc1 : ¬narrow i) (hc2 : wide i) (E : Set ℕ) (K : PUnit → sProp 𝕄) :
    iprop(owns (c : Thread nD τ) a2 fullShare x ∗ owns (c : Thread nD τ) a3 fullShare g ∗ owns (c : Thread nD τ) a4 fullShare sh
        ∗ owns (c : Thread nD τ) a5 fullShare sc ∗ owns (c : Thread nD τ) a6 fullShare w ∗ owns (c : Thread nD τ) a7 fullShare y7
        ∗ owns (c : Thread nD τ) a8 fullShare y8 ∗ owns (c : Thread nD τ) a9 fullShare u
        ∗ (iprop(owns (c : Thread nD τ) a2 fullShare x ∗ owns (c : Thread nD τ) a3 fullShare g ∗ owns (c : Thread nD τ) a4 fullShare sh
            ∗ owns (c : Thread nD τ) a5 fullShare sc ∗ owns (c : Thread nD τ) a6 fullShare w
            ∗ owns (c : Thread nD τ) a7 fullShare y7 ∗ owns (c : Thread nD τ) a8 fullShare (k0_pay2 u w)
            ∗ owns (c : Thread nD τ) a9 fullShare u) -∗ K ⟨⟩))
      ⊢ wp frame (wpE (defs₀ (F := F)) Variants.none c none) E (cc0_front i a2 h2 a3 h3 a4 h4 a5 h5 a6 h6 a7 h7 a8 h8 a9 h9) K := by
  simp only [cc0_front_eq_skeleton]; unfold cc0_front_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, Hk⟩
  sl_exec (disch := first | sl_exact hc0 | sl_exact hc1 | sl_exact hc2)
  sl_step
  iapply Hk
  isplitl [H2]; · (iexists _; isplitr; (ipureintro; exact e2); iexact H2)
  isplitl [H3]; · (iexists _; isplitr; (ipureintro; exact e3); iexact H3)
  isplitl [H4]; · (iexists _; isplitr; (ipureintro; exact e4); iexact H4)
  isplitl [H5]; · (iexists _; isplitr; (ipureintro; exact e5); iexact H5)
  isplitl [H6]; · (iexists _; isplitr; (ipureintro; exact e6); iexact H6)
  isplitl [H7]; · (iexists _; isplitr; (ipureintro; exact e7); iexact H7)
  isplitl [H8]
  · iexists _; isplitr
    swap; · iexact H8
    ipureintro
    sl_unfold_words
    exact (View.read_writes_full _ _ _ _ _).trans (congrArg₂ (k0_pay2) ((View.readAt_full _ _ _).trans e9) ((View.readAt_full _ _ _).trans e6))
  iexists _; isplitr; (ipureintro; exact e9); iexact H9

/-- A point that stores both outputs. -/
theorem run_both (hc0 : ¬fills i) (hc1 : narrow i) (hc2 : wide i) (E : Set ℕ) (K : PUnit → sProp 𝕄) :
    iprop(owns (c : Thread nD τ) a2 fullShare x ∗ owns (c : Thread nD τ) a3 fullShare g ∗ owns (c : Thread nD τ) a4 fullShare sh
        ∗ owns (c : Thread nD τ) a5 fullShare sc ∗ owns (c : Thread nD τ) a6 fullShare w ∗ owns (c : Thread nD τ) a7 fullShare y7
        ∗ owns (c : Thread nD τ) a8 fullShare y8 ∗ owns (c : Thread nD τ) a9 fullShare u
        ∗ (iprop(owns (c : Thread nD τ) a2 fullShare x ∗ owns (c : Thread nD τ) a3 fullShare g ∗ owns (c : Thread nD τ) a4 fullShare sh
            ∗ owns (c : Thread nD τ) a5 fullShare sc ∗ owns (c : Thread nD τ) a6 fullShare w
            ∗ owns (c : Thread nD τ) a7 fullShare (k0_pay3 i u w) ∗ owns (c : Thread nD τ) a8 fullShare (k0_pay2 u w)
            ∗ owns (c : Thread nD τ) a9 fullShare u) -∗ K ⟨⟩))
      ⊢ wp frame (wpE (defs₀ (F := F)) Variants.none c none) E (cc0_front i a2 h2 a3 h3 a4 h4 a5 h5 a6 h6 a7 h7 a8 h8 a9 h9) K := by
  simp only [cc0_front_eq_skeleton]; unfold cc0_front_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, Hk⟩
  sl_exec (disch := first | sl_exact hc0 | sl_exact hc1 | sl_exact hc2)
  sl_step
  iapply Hk
  isplitl [H2]; · (iexists _; isplitr; (ipureintro; exact e2); iexact H2)
  isplitl [H3]; · (iexists _; isplitr; (ipureintro; exact e3); iexact H3)
  isplitl [H4]; · (iexists _; isplitr; (ipureintro; exact e4); iexact H4)
  isplitl [H5]; · (iexists _; isplitr; (ipureintro; exact e5); iexact H5)
  isplitl [H6]; · (iexists _; isplitr; (ipureintro; exact e6); iexact H6)
  isplitl [H7]
  · iexists _; isplitr
    swap; · iexact H7
    ipureintro
    sl_unfold_words
    exact (View.read_writes_full _ _ _ _ _).trans (congrArg₂ (k0_pay3 i) ((View.readAt_full _ _ _).trans e9) ((View.readAt_full _ _ _).trans e6))
  isplitl [H8]
  · iexists _; isplitr
    swap; · iexact H8
    ipureintro
    sl_unfold_words
    exact (View.read_writes_full _ _ _ _ _).trans (congrArg₂ (k0_pay2) ((View.readAt_full _ _ _).trans e9) ((View.readAt_full _ _ _).trans e6))
  iexists _; isplitr; (ipureintro; exact e9); iexact H9

end Runs

end Cert.FrontSampleIdeal.Front

end
-- ==== Proof.FrontSampleRun.lean ====
/-
  The front call for the samples' run. What each window's buffer and the carried scratch hold after every grid point is named: the
  scratch holds the modulated rows of the point's row block, the wide output's buffer their product with the point's
  weight rows, and the narrow output's buffer the last narrow block stored, which stays there over the points that
  store nothing into it until it is written back.
-/
module

public import proofs.«01_k».proof.Proof.FrontSampleBody
public import Idealize.ShloMosaic.Lib.Claim

@[expose] public section

set_option maxRecDepth 16384

noncomputable section

namespace Cert.FrontSampleIdeal.Front

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FrontSampleIdeal Cert.FrontSampleIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the outputs are idle and written back -/

theorem idle_narrow (t : Fin cfg0.N) (h : t.val % 19 = 14 ∨ t.val % 19 = 15 ∨ t.val % 19 = 18) : cfg0.idle 5 (grid0.coords t) = true :=
  (by decide +kernel : ∀ t : Fin grid0.N, (t.val % 19 = 14 ∨ t.val % 19 = 15 ∨ t.val % 19 = 18) → cfg0.idle 5 (grid0.coords t) = true) t h
theorem live_narrow (t : Fin cfg0.N) (h : t.val % 19 < 14 ∨ t.val % 19 = 16 ∨ t.val % 19 = 17) : cfg0.idle 5 (grid0.coords t) = false :=
  (by decide +kernel : ∀ t : Fin grid0.N, (t.val % 19 < 14 ∨ t.val % 19 = 16 ∨ t.val % 19 = 17) → cfg0.idle 5 (grid0.coords t) = false) t h
theorem idle_wide (t : Fin cfg0.N) (h : t.val % 19 < 14) : cfg0.idle 6 (grid0.coords t) = true :=
  (by decide +kernel : ∀ t : Fin grid0.N, t.val % 19 < 14 → cfg0.idle 6 (grid0.coords t) = true) t h
theorem live_wide (t : Fin cfg0.N) (h : 14 ≤ t.val % 19) : cfg0.idle 6 (grid0.coords t) = false :=
  (by decide +kernel : ∀ t : Fin grid0.N, 14 ≤ t.val % 19 → cfg0.idle 6 (grid0.coords t) = false) t h
theorem flush_narrow (t : Fin cfg0.N) : (cfg0.win 5).flush t = true ↔ ¬(t.val % 19 = 13 ∨ t.val % 19 = 14 ∨ t.val % 19 = 17) :=
  (by decide +kernel : ∀ t : Fin grid0.N, win0_5.flush t = true ↔ ¬(t.val % 19 = 13 ∨ t.val % 19 = 14 ∨ t.val % 19 = 17)) t
theorem flush_wide (t : Fin cfg0.N) : (cfg0.win 6).flush t = true ↔ 14 ≤ t.val % 19 :=
  (by decide +kernel : ∀ t : Fin grid0.N, win0_6.flush t = true ↔ 14 ≤ t.val % 19) t
theorem fetch_narrow (t : Fin cfg0.N) : (cfg0.win 5).fetch t = false :=
  (by decide +kernel : ∀ t : Fin grid0.N, win0_5.fetch t = false) t

theorem noFlush_narrow (t : Fin cfg0.N) (h : t.val % 19 = 13 ∨ t.val % 19 = 14 ∨ t.val % 19 = 17) : (cfg0.win 5).flush t = false := by
  cases hf : (cfg0.win 5).flush t
  · rfl
  · exact absurd h ((flush_narrow t).mp hf)
theorem noFlush_wide (t : Fin cfg0.N) (h : t.val % 19 < 14) : (cfg0.win 6).flush t = false := by
  cases hf : (cfg0.win 6).flush t
  · rfl
  · have := (flush_wide t).mp hf; omega

/-! ## What the buffers hold -/

/-- The first point of the row block that point `n` is in. -/
abbrev rowPt (n : ℕ) (h : n < cfg0.N) : Fin cfg0.N := ⟨19 * (n / 19), lt_of_le_of_lt (Nat.mul_div_le n 19) h⟩

/-- The modulated rows of point `n`'s row block. -/
def rows (c : Dev nD) (n : ℕ) (h : n < cfg0.N) : Vec F S512x2048 .bf16 :=
  k0_pay1 (iblk m c 0 (rowPt n h)) (iblk m c 1 (rowPt n h)) (iblk m c 3 (rowPt n h)) (iblk m c 2 (rowPt n h))

/-- The last point up to `t` that stores the narrow output. -/
def lastPt (t : Fin cfg0.N) : Fin cfg0.N :=
  if t.val % 19 = 14 ∨ t.val % 19 = 18 then ⟨t.val - 1, lt_of_le_of_lt (Nat.sub_le _ _) t.isLt⟩
  else if t.val % 19 = 15 then ⟨t.val - 2, lt_of_le_of_lt (Nat.sub_le _ _) t.isLt⟩ else t

/-- The narrow output's buffer after a point `t` that stores it. -/
def narrowStored (c : Dev nD) (t : Fin cfg0.N) : Vec F S512x512 .bf16 :=
  k0_pay3 (grid0.coords t) (rows m c t.val t.isLt) (iblk m c 4 t)

/-- The narrow output's buffer after any point `t`. -/
def narrowAt (c : Dev nD) (t : Fin cfg0.N) : Vec F S512x512 .bf16 := narrowStored m c (lastPt t)

/-- The wide output's buffer after a point `t` that stores it. -/
def wideAt (c : Dev nD) (t : Fin cfg0.N) : Vec F S512x512 .f32 := k0_pay2 (rows m c t.val t.isLt) (iblk m c 4 t)

theorem rows_eq (c : Dev nD) (n n' : ℕ) (h : n < cfg0.N) (h' : n' < cfg0.N) (e : n / 19 = n' / 19) : rows m c n h = rows m c n' h' := by
  have : rowPt n h = rowPt n' h' := Fin.ext (by show 19 * (n / 19) = 19 * (n' / 19); rw [e])
  unfold rows; rw [this]

theorem rows_first (c : Dev nD) (t : Fin cfg0.N) (h : t.val % 19 = 0) :
    rows m c t.val t.isLt = k0_pay1 (iblk m c 0 t) (iblk m c 1 t) (iblk m c 3 t) (iblk m c 2 t) := by
  have : rowPt t.val t.isLt = t := Fin.ext (by show 19 * (t.val / 19) = t.val; omega)
  unfold rows; rw [this]

theorem narrowAt_store (c : Dev nD) (t : Fin cfg0.N) (h : t.val % 19 < 14 ∨ t.val % 19 = 16 ∨ t.val % 19 = 17) :
    narrowAt m c t = k0_pay3 (grid0.coords t) (rows m c t.val t.isLt) (iblk m c 4 t) := by
  have : lastPt t = t := by unfold lastPt; rw [if_neg (by omega), if_neg (by omega)]
  exact congrArg (narrowStored m c) this

theorem narrowAt_stay (c : Dev nD) (t t' : Fin cfg0.N) (h : t.val % 19 = 14 ∨ t.val % 19 = 15 ∨ t.val % 19 = 18) (ht : t'.val = t.val - 1) :
    narrowAt m c t = narrowAt m c t' := by
  have : lastPt t = lastPt t' := by
    unfold lastPt
    rcases h with h | h | h
    · rw [if_pos (by omega), if_neg (by omega), if_neg (by omega)]; exact Fin.ext ht.symm
    · rw [if_neg (by omega), if_pos (by omega), if_pos (by omega)]; exact Fin.ext (by show t.val - 2 = t'.val - 1; omega)
    · rw [if_pos (by omega), if_neg (by omega), if_neg (by omega)]; exact Fin.ext ht.symm
  exact congrArg (narrowStored m c) this

/-! ## The proof data -/

/-- The scratch operand. -/
abbrev scr : Memref sig .tc .vmem S512x2048 .bf16 := Memref.whole cc0_scratch0

/-- The launch's invariant with the scratch as a memref owned at some contents. -/
theorem launch_inv (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- The invariant before position `n`: nothing is known of the scratch before the first point, and afterwards it holds
    the rows of the block the point before was in. -/
def inv (c : Dev nD) : (n : ℕ) → n ≤ cfg0.N → sProp 𝕄
  | 0, _ => Pipeline.ΦA spec0 c
  | n + 1, hn => iprop(iprop(owns (c : Thread nD τ) scr fullShare (rows m c n hn)) ∗ (∃ r, prngReg c r))

theorem inv_pos (c : Dev nD) (n : ℕ) (h : n ≤ cfg0.N) (hz : n ≠ 0) :
    inv m c n h = iprop(iprop(owns (c : Thread nD τ) scr fullShare (rows m c (n - 1) (by omega))) ∗ (∃ r, prngReg c r)) := by
  cases n with
  | zero => exact absurd rfl hz
  | succ n => rfl

/-- Whatever the position, the scratch is owned at something. -/
theorem inv_any (c : Dev nD) (n : ℕ) (h : n ≤ cfg0.N) :
    inv m c n h ⊢ iprop(iprop((∃ d, owns (c : Thread nD τ) scr fullShare d)) ∗ (∃ r, prngReg c r)) := by
  by_cases hz : n = 0
  · subst hz
    rw [show inv m c 0 h = Pipeline.ΦA spec0 c from rfl, launch_inv]
  · rw [inv_pos m c n h hz]
    iintro ⟨HS, Hg⟩
    isplitl [HS]
    · iexists _; iexact HS
    iexact Hg

/-- The pipeline's data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => narrowAt m c t
    | ⟨6, _⟩ => wideAt m c t
  Φ t := inv m c t.val (Nat.le_of_lt_succ t.isLt)
  q _ := fullShare
  owed _ := 0

theorem data_arr (c : Dev nD) (w : Fin cfg0.W) : (dats m 0 c).A w = V m c (Pipeline.arrRef spec0 w) := by
  dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = narrowAt m c t := by dsimp only [dats]
theorem after_6 (c : Dev nD) (t : Fin cfg0.N) : (dats m 0 c).after 6 t = wideAt m c t := by dsimp only [dats]

theorem before_0 (c : Dev nD) (t : Fin cfg0.N) (d) : (dats m 0 c).before 0 t d = iblk m c 0 t :=
  before0_0_of m (dats m 0 c) (data_arr m c 0) (after_0 m c) t d
theorem before_1 (c : Dev nD) (t : Fin cfg0.N) (d) : (dats m 0 c).before 1 t d = iblk m c 1 t :=
  before0_1_of m (dats m 0 c) (data_arr m c 1) (after_1 m c) t d
theorem before_2 (c : Dev nD) (t : Fin cfg0.N) (d) : (dats m 0 c).before 2 t d = iblk m c 2 t :=
  before0_2_of m (dats m 0 c) (data_arr m c 2) (after_2 m c) t d
theorem before_3 (c : Dev nD) (t : Fin cfg0.N) (d) : (dats m 0 c).before 3 t d = iblk m c 3 t :=
  before0_3_of m (dats m 0 c) (data_arr m c 3) (after_3 m c) t d
theorem before_4 (c : Dev nD) (t : Fin cfg0.N) (d) : (dats m 0 c).before 4 t d = iblk m c 4 t :=
  before0_4_of m (dats m 0 c) (data_arr m c 4) (after_4 m c) t d

/-- At a point that stores nothing into the narrow output, right after one that stored it without writing it back, its
    buffer still holds what was stored. -/
theorem before_narrow_live (c : Dev nD) (t t' : Fin cfg0.N) (ht : t'.val = t.val - 1)
    (h : t.val % 19 = 14 ∨ t.val % 19 = 18) (d) : (dats m 0 c).before 5 t d = narrowAt m c t := by
  have ht' : (⟨t.val - 1, Nat.lt_of_le_of_lt (Nat.sub_le _ _) t.isLt⟩ : Fin cfg0.N) = t' := Fin.ext ht.symm
  rw [Dat.before_of_pos _ 5 t (by omega) (fetch_narrow t), ht', noFlush_narrow t' (by omega), if_neg Bool.false_ne_true]
  unfold Dat.left
  rw [live_narrow t' (by omega)]
  show (dats m 0 c).kept 5 t' d = _
  rw [narrowAt_stay m c t t' (by omega) ht]
  unfold Dat.kept
  rw [after_5]
  rfl

/-- And one point further on. -/
theorem before_narrow_idle (c : Dev nD) (t : Fin cfg0.N) (h : t.val % 19 = 15) (d) : (dats m 0 c).before 5 t d = narrowAt m c t := by
  have hN : t.val < 19 := lt_of_lt_of_eq t.isLt (show cfg0.N = 19 from N_0)
  obtain ⟨t', ht⟩ : ∃ t' : Fin cfg0.N, t'.val = t.val - 1 := ⟨⟨t.val - 1, lt_of_le_of_lt (Nat.sub_le _ _) t.isLt⟩, rfl⟩
  obtain ⟨t'', ht2⟩ : ∃ t'' : Fin cfg0.N, t''.val = t'.val - 1 := ⟨⟨t'.val - 1, lt_of_le_of_lt (Nat.sub_le _ _) t'.isLt⟩, rfl⟩
  have ht' : (⟨t.val - 1, Nat.lt_of_le_of_lt (Nat.sub_le _ _) t.isLt⟩ : Fin cfg0.N) = t' := Fin.ext ht.symm
  rw [Dat.before_of_pos _ 5 t (by omega) (fetch_narrow t), ht', noFlush_narrow t' (by omega), if_neg Bool.false_ne_true]
  unfold Dat.left
  rw [idle_narrow t' (by omega)]
  show (dats m 0 c).before 5 t' d = _
  rw [narrowAt_stay m c t t' (by omega) ht, before_narrow_live m c t' t'' ht2 (by omega)]

/-! ## The body's obligation at every point -/

abbrev st0 (t : Fin cfg0.N) : Memref sig .tc .vmem S512x2048 .f32 := win0_0.stage (cfg0.slots t 0)
abbrev st1 (t : Fin cfg0.N) : Memref sig .tc .vmem S1x2048 .f32 := win0_1.stage (cfg0.slots t 1)
abbrev st2 (t : Fin cfg0.N) : Memref sig .tc .vmem S512x2048 .f32 := win0_2.stage (cfg0.slots t 2)
abbrev st3 (t : Fin cfg0.N) : Memref sig .tc .vmem S512x2048 .f32 := win0_3.stage (cfg0.slots t 3)
abbrev st4 (t : Fin cfg0.N) : Memref sig .tc .vmem S512x2048 .f32 := win0_4.stage (cfg0.slots t 4)
abbrev st5 (t : Fin cfg0.N) : Memref sig .tc .vmem S512x512 .bf16 := win0_5.stage (cfg0.slots t 5)
abbrev st6 (t : Fin cfg0.N) : Memref sig .tc .vmem S512x512 .f32 := win0_6.stage (cfg0.slots t 6)

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d)))

/-- What it returns. -/
def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t)

/-- A window the body stores into, or only reads, is left at the contents named for it. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- So is one it leaves alone at a point that writes the block back. -/
theorem leaves_flush (c : Dev nD) (w : Fin cfg0.W) (t : Fin cfg0.N) (h : cfg0.idle w (grid0.coords t) = true) (hf : (cfg0.win w).flush t = true) :
    (dats m 0 c).leavesExact w t = owns (c : Thread nD τ) ((cfg0.win w).stage (cfg0.slots t w)) fullShare ((dats m 0 c).after w t) := by
  unfold Dat.leavesExact; rw [h, hf]

theorem leaves_narrow_stay (c : Dev nD) (t : Fin cfg0.N) (h : t.val % 19 = 14 ∨ t.val % 19 = 15 ∨ t.val % 19 = 18) (d) :
    owns (c : Thread nD τ) (st5 t) fullShare ((dats m 0 c).before 5 t d) ⊢ (dats m 0 c).leavesExact 5 t := by
  obtain ⟨t', ht⟩ : ∃ t' : Fin cfg0.N, t'.val = t.val - 1 := ⟨⟨t.val - 1, lt_of_le_of_lt (Nat.sub_le _ _) t.isLt⟩, rfl⟩
  rcases h with h | h | h
  · rw [Dat.leavesExact_idle (dats m 0 c) 5 t (idle_narrow t (by omega)) (noFlush_narrow t (by omega))]
    iintro H
    iexists d; iexact H
  · rw [leaves_flush m c 5 t (idle_narrow t (by omega)) ((flush_narrow t).mpr (by omega)), after_5, before_narrow_idle m c t h]
  · rw [leaves_flush m c 5 t (idle_narrow t (by omega)) ((flush_narrow t).mpr (by omega)), after_5, before_narrow_live m c t t' ht (by omega)]

theorem leaves_wide_stay (c : Dev nD) (t : Fin cfg0.N) (h : t.val % 19 < 14) (d) :
    owns (c : Thread nD τ) (st6 t) fullShare ((dats m 0 c).before 6 t d) ⊢ (dats m 0 c).leavesExact 6 t := by
  rw [Dat.leavesExact_idle (dats m 0 c) 6 t (idle_wide t h) (noFlush_wide t h)]
  iintro H
  iexists d; iexact H

set_option maxHeartbeats 4000000 in
/-- The body at any point, by the way its conditions fall there. -/
theorem body_at (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4]
  rw [show (dats m 0 c).owesAt () t.succ = (dats m 0 c).owesAt () t.castSucc from rfl]
  rw [show (dats m 0 c).Φ t.succ = inv m c (t.val + 1) t.isLt from rfl]
  rw [show inv m c (t.val + 1) t.isLt = iprop(iprop(owns (c : Thread nD τ) scr fullShare (rows m c t.val t.isLt)) ∗ (∃ r, prngReg c r)) from rfl]
  rw [leaves_live m c 0 t rfl, leaves_live m c 1 t rfl, leaves_live m c 2 t rfl, leaves_live m c 3 t rfl, leaves_live m c 4 t rfl]
  rw [after_0, after_1, after_2, after_3, after_4, inv_castSucc]
  have hN : t.val < 19 := lt_of_lt_of_eq t.isLt (show cfg0.N = 19 from N_0)
  by_cases h0 : t.val % 19 = 0
  · rw [leaves_live m c 5 t (live_narrow t (by omega)), after_5, narrowAt_store m c t (by omega), rows_first m c t h0]
    iintro ⟨HI, Ho, ⟨%d0, H0⟩, ⟨%d1, H1⟩, ⟨%d2, H2⟩, ⟨%d3, H3⟩, ⟨%d4, H4⟩, ⟨%d5, H5⟩, ⟨%d6, H6⟩⟩
    ihave HI' := (inv_any m c t.val (Nat.le_of_lt t.isLt)) $$ HI
    icases HI' with ⟨HS, Hg⟩
    iapply (run_fill c (grid0.coords t) _ _ _ _ _ _ _ _ _ _ _ _ _ _ _ _ _ _ _ _ _ _ _
      ((fills_iff t).mpr h0) ((narrow_iff t).mpr (by omega)) (fun h => by have := (wide_iff t).mp h; omega) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]; · (isplitl [HS]; · iexact HS
                        iexact Hg)
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves_wide_stay m c t (by omega) d6) $$ [H6]
    iexact H6
  have hz : t.val ≠ 0 := by omega
  rw [inv_pos m c _ _ hz, rows_eq m c (t.val - 1) t.val _ t.isLt (by omega)]
  by_cases h1 : t.val % 19 < 14
  · rw [leaves_live m c 5 t (live_narrow t (by omega)), after_5, narrowAt_store m c t (by omega)]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (run_narrow c (grid0.coords t) _ _ _ _ _ _ _ _ _ _ _ _ _ _ _ _ _ _ _ _ _ _ _ _
      (fun h => h0 ((fills_iff t).mp h)) ((narrow_iff t).mpr (by omega)) (fun h => by have := (wide_iff t).mp h; omega) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]; · (isplitl [HS]; · iexact HS
                        iexact Hg)
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves_wide_stay m c t (by omega) d6) $$ [H6]
    iexact H6
  rw [leaves_live m c 6 t (live_wide t (by omega)), after_6, show wideAt m c t = k0_pay2 (rows m c t.val t.isLt) (iblk m c 4 t) from rfl]
  by_cases h2 : t.val % 19 = 16 ∨ t.val % 19 = 17
  · rw [leaves_live m c 5 t (live_narrow t (by omega)), after_5, narrowAt_store m c t (by omega)]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (run_both c (grid0.coords t) _ _ _ _ _ _ _ _ _ _ _ _ _ _ _ _ _ _ _ _ _ _ _ _
      (fun h => h0 ((fills_iff t).mp h)) ((narrow_iff t).mpr (by omega)) ((wide_iff t).mpr (by omega)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]; · (isplitl [HS]; · iexact HS
                        iexact Hg)
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (run_wide c (grid0.coords t) _ _ _ _ _ _ _ _ _ _ _ _ _ _ _ _ _ _ _ _ _ _ _ _
      (fun h => h0 ((fills_iff t).mp h)) (fun h => by have := (narrow_iff t).mp h; omega) ((wide_iff t).mpr (by omega)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]; · (isplitl [HS]; · iexact HS
                        iexact Hg)
    isplitl [Ho]; · iexact Ho
    isplitl [H0]; · iexact H0
    isplitl [H1]; · iexact H1
    isplitl [H2]; · iexact H2
    isplitl [H3]; · iexact H3
    isplitl [H4]; · iexact H4
    isplitl [H5]; · (iapply (leaves_narrow_stay m c t (by omega) d5) $$ [H5]; iexact H5)
    iexact H6

/-- The body table's row at point `t`'s slots is the body. -/
theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (body_at m c t) rfl .rfl fun _ => .rfl

theorem inv_in (c : Dev nD) : Pipeline.ΦA spec0 c ⊢ (dats m 0 c).Φ 0 := by
  rw [show (dats m 0 c).Φ 0 = Pipeline.ΦA spec0 c from rfl]

theorem inv_out (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl, launch_inv]
  exact inv_any m c _ _

/-! ## The run -/

set_option backward.isDefEq.respectTransparency.types false in
/-- Every fair run ends, with the arrays at what the data name and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := data_arr m) (hin := inv_in m) (hout := inv_out m)

theorem run_post : θ_run defs (onTc (τ := τ) (main (F := F))) (s₀ m ρ) (Pipeline.FramePost cfgs (dats m) 0 (V m)) :=
  (θ_run defs _ _).mono (fun _ h => h.1) (run_quiet m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (data_arr m) (run_post m ρ)

/-- The frame, over any values. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_quiet m ρ))

end Cert.FrontSampleIdeal.Front

end
-- ==== Proof.FrontSampleMath.lean ====
/-
  The mathematics of the front call for the samples over the extended reals, in coordinates: the modulated rows, their projection, and
  which column of the projection each column of the two results is.
-/
module

public import Idealize.ShloMosaic.Lib.Pointwise

@[expose] public section

noncomputable section

namespace Cert.FrontSample

open Idealize.ShloMosaic

/-- Batch row `b`, position `s`, feature `k` of x after the normalisation and the modulation. -/
def unit (x : FVec Ideal ⟨3, ![128, 4, 2048]⟩ .f32) (g : FVec Ideal ⟨2, ![1, 2048]⟩ .f32) (sh sc : FVec Ideal ⟨2, ![128, 2048]⟩ .f32)
    (b : Fin 128) (s : Fin 4) (k : Fin 2048) : EReal :=
  x (ix3 b s k) * Ideal.rsqrt (Ideal.div (∑ i : Fin 2048, x (ix3 b s i) * x (ix3 b s i)) (Ideal.ofBits .f32 0x45000000#32) + Ideal.ofBits .f32 0x358637BD#32)
    * g (ix2 0 k) * (1 + sc (ix2 b k)) + sh (ix2 b k)

/-- Column `j` of the projection of row `(b, s)`. -/
def proj (x : FVec Ideal ⟨3, ![128, 4, 2048]⟩ .f32) (g : FVec Ideal ⟨2, ![1, 2048]⟩ .f32) (sh sc : FVec Ideal ⟨2, ![128, 2048]⟩ .f32)
    (w : FVec Ideal ⟨3, ![1, 2048, 9296]⟩ .f32) (b : Fin 128) (s : Fin 4) (j : Fin 9296) : EReal :=
  ∑ k : Fin 2048, unit x g sh sc b s k * w (ix3 0 k j)

/-- The projection's column that column `C` of the narrow result is. -/
def narrowCol (C : ℕ) : ℕ :=
  if C < 2048 then 1024 + C else if C < 4096 then 3152 + C else if C < 6144 then 3152 + C else if C < 7168 then C - 2048
  else if C < 7680 then C - 4096 else C - 4096

/-- The projection's column that column `C` of the wide result is. -/
def wideCol (C : ℕ) : ℕ := if C < 1024 then C else if C < 2048 then 2048 + C else 3072 + C

theorem narrowCol_lt (C : ℕ) (h : C < 8192) : narrowCol C < 9296 := by unfold narrowCol; split_ifs <;> omega
theorem wideCol_lt (C : ℕ) (h : C < 2560) : wideCol C < 9296 := by unfold wideCol; split_ifs <;> omega

/-- What the narrow result's column `C` is multiplied by. -/
def narrowScale (C : ℕ) : EReal := if C < 2048 then Ideal.ofBits .f32 0x3E0293EE#32 else 1

/-- Entry `(R, C)` of the narrow result. -/
def narrowOut (x : FVec Ideal ⟨3, ![128, 4, 2048]⟩ .f32) (g : FVec Ideal ⟨2, ![1, 2048]⟩ .f32) (sh sc : FVec Ideal ⟨2, ![128, 2048]⟩ .f32)
    (w : FVec Ideal ⟨3, ![1, 2048, 9296]⟩ .f32) (R : Fin 512) (C : Fin 8192) : EReal :=
  proj x g sh sc w ⟨R.val / 4, by omega⟩ ⟨R.val % 4, by omega⟩ ⟨narrowCol C.val, narrowCol_lt _ C.isLt⟩ * narrowScale C.val

/-- Entry `(R, C)` of the wide result. -/
def wideOut (x : FVec Ideal ⟨3, ![128, 4, 2048]⟩ .f32) (g : FVec Ideal ⟨2, ![1, 2048]⟩ .f32) (sh sc : FVec Ideal ⟨2, ![128, 2048]⟩ .f32)
    (w : FVec Ideal ⟨3, ![1, 2048, 9296]⟩ .f32) (R : Fin 512) (C : Fin 2560) : EReal :=
  proj x g sh sc w ⟨R.val / 4, by omega⟩ ⟨R.val % 4, by omega⟩ ⟨wideCol C.val, wideCol_lt _ C.isLt⟩

end Cert.FrontSample

end
-- ==== Proof.FrontSampleValue.lean ====
/-
  The front call for the samples' results. The arrays after the run are read off the buffers written back, the buffers off the blocks
  the windows bring, and the blocks off the arguments; over the extended reals every entry is a column of the projection.
-/
module

public import proofs.«01_k».proof.Proof.FrontSampleRun
public import proofs.«01_k».proof.Proof.FrontSampleMath
public import Idealize.ShloMosaic.Lib.Pipeline.Value

@[expose] public section

set_option maxRecDepth 16384

noncomputable section

namespace Cert.FrontSampleIdeal.Front

open Idealize.ShloMosaic Idealize.ShloMosaic.TcCoe
open Idealize.SL.Sem
open Idealize.ShloMosaic.Pipeline (Dat Cfg Window)
open Cert.FrontSampleIdeal Cert.FrontSampleIdeal.Gen

variable {F : FTy → Type} [FloatOps F]
variable (m : (ℓ : Loc nD τ sig) → Buf (Elt F) ℓ)

/-! ## The host's reshapes -/

theorem host_x (c : Dev nD) : V m c main_v4 = shapeCast S512x2048 (m ((c : Thread nD τ).loc main_arg0)) shapeCasts_S128x4x2048_S512x2048 := by
  show StableHlo.after hostOps0 (fun b => m (c, b)) _ = _
  after_results <;> rfl
theorem host_g (c : Dev nD) : V m c main_v3 = shapeCast S1x2048 (shapeCast S2048 (m ((c : Thread nD τ).loc main_arg1)) shapeCasts_S1x2048_S2048) shapeCasts_S2048_S1x2048 := by
  show StableHlo.after hostOps0 (fun b => m (c, b)) _ = _
  after_results <;> rfl
theorem host_shift (c : Dev nD) : V m c main_v6 = shapeCast S512x2048 (broadcastInDim S128x4x2048 ![0, 2] bcast_S128x2048_S128x4x2048_0_2 (m ((c : Thread nD τ).loc main_arg2)) : FVec F S128x4x2048 .f32) shapeCasts_S128x4x2048_S512x2048 := by
  show StableHlo.after hostOps0 (fun b => m (c, b)) _ = _
  after_results <;> rfl
theorem host_scale (c : Dev nD) : V m c main_v8 = shapeCast S512x2048 (broadcastInDim S128x4x2048 ![0, 2] bcast_S128x2048_S128x4x2048_0_2 (m ((c : Thread nD τ).loc main_arg3)) : FVec F S128x4x2048 .f32) shapeCasts_S128x4x2048_S512x2048 := by
  show StableHlo.after hostOps0 (fun b => m (c, b)) _ = _
  after_results <;> rfl
theorem host_w (c : Dev nD) : V m c main_v1 = transpose S9296x2048 [1, 0] (shapeCast S2048x9296 (m ((c : Thread nD τ).loc main_arg4)) shapeCasts_S1x2048x9296_S2048x9296) transposes_S2048x9296_S9296x2048_1_0 := by
  show StableHlo.after hostOps0 (fun b => m (c, b)) _ = _
  after_results <;> rfl

/-! ## Where the blocks lie -/

/-- The first of the weight rows that a tile takes. -/
def tileRow (n : ℕ) : ℕ :=
  if n < 4 then 1024 + 512 * n else if n < 12 then 3152 + 512 * n else if n < 14 then 512 * n - 2048
  else if n < 16 then 512 * n - 7168 else if n < 18 then 512 * n - 5120 else 5120

theorem index_x : ∀ t : Fin cfg0.N, win0_0.index t (0 : Fin 2) = 0 ∧ win0_0.index t (1 : Fin 2) = 0 :=
  (by decide +kernel : ∀ t : Fin grid0.N, _)
theorem index_g : ∀ t : Fin cfg0.N, win0_1.index t (0 : Fin 2) = 0 ∧ win0_1.index t (1 : Fin 2) = 0 :=
  (by decide +kernel : ∀ t : Fin grid0.N, _)
theorem index_shift : ∀ t : Fin cfg0.N, win0_2.index t (0 : Fin 2) = 0 ∧ win0_2.index t (1 : Fin 2) = 0 :=
  (by decide +kernel : ∀ t : Fin grid0.N, _)
theorem index_scale : ∀ t : Fin cfg0.N, win0_3.index t (0 : Fin 2) = 0 ∧ win0_3.index t (1 : Fin 2) = 0 :=
  (by decide +kernel : ∀ t : Fin grid0.N, _)

theorem block_x (c : Dev nD) (t : Fin cfg0.N) (r : Fin 512) (k : Fin 2048) :
    (iblk m c 0 t : Vec F S512x2048 .f32) (ix2 r k) = V m c main_v4 (ix2 r k) := by
  unfold iblk
  rw [View.read_apply]
  show V m c main_v4 _ = _
  congr 1
  obtain ⟨e0, e1⟩ := index_x t
  funext a; apply Fin.ext
  match a with
  | ⟨0, _⟩ => show win0_0.index t (0 : Fin 2) * 512 + 1 * r.val = _; rw [e0]; show _ = r.val; omega
  | ⟨1, _⟩ => show win0_0.index t (1 : Fin 2) * 2048 + 1 * k.val = _; rw [e1]; show _ = k.val; omega

theorem offset_w : ∀ t : Fin cfg0.N, cc0_transform_4 (grid0.coords t) (0 : Fin 2) = tileRow (t.val % 19) ∧ cc0_transform_4 (grid0.coords t) (1 : Fin 2) = 0 :=
  (by decide +kernel : ∀ t : Fin grid0.N, _)

theorem block_w (c : Dev nD) (t : Fin cfg0.N) (r : Fin 512) (k : Fin 2048) (hR : tileRow (t.val % 19) + r.val < 9296) :
    (iblk m c 4 t : Vec F S512x2048 .f32) (ix2 r k) = V m c main_v1 (ix2 ⟨tileRow (t.val % 19) + r.val, hR⟩ k) := by
  unfold iblk
  rw [View.read_apply]
  show V m c main_v1 _ = _
  congr 1
  obtain ⟨e0, e1⟩ := offset_w t
  funext a; apply Fin.ext
  match a with
  | ⟨0, _⟩ => show cc0_transform_4 (grid0.coords t) (0 : Fin 2) + 1 * r.val = _; rw [e0]; show _ = tileRow (t.val % 19) + r.val; omega
  | ⟨1, _⟩ => show cc0_transform_4 (grid0.coords t) (1 : Fin 2) + 1 * k.val = _; rw [e1]; show _ = k.val; omega

theorem block_g (c : Dev nD) (t : Fin cfg0.N) (k : Fin 2048) :
    (iblk m c 1 t : Vec F S1x2048 .f32) (ix2 0 k) = V m c main_v3 (ix2 0 k) := by
  unfold iblk
  rw [View.read_apply]
  show V m c main_v3 _ = _
  congr 1
  obtain ⟨e0, e1⟩ := index_g t
  funext a; apply Fin.ext
  match a with
  | ⟨0, _⟩ => show win0_1.index t (0 : Fin 2) * 1 + 1 * 0 = _; rw [e0]; rfl
  | ⟨1, _⟩ => show win0_1.index t (1 : Fin 2) * 2048 + 1 * k.val = _; rw [e1]; show _ = k.val; omega

theorem block_shift (c : Dev nD) (t : Fin cfg0.N) (r : Fin 512) (k : Fin 2048) :
    (iblk m c 2 t : Vec F S512x2048 .f32) (ix2 r k) = V m c main_v6 (ix2 r k) := by
  unfold iblk
  rw [View.read_apply]
  show V m c main_v6 _ = _
  congr 1
  obtain ⟨e0, e1⟩ := index_shift t
  funext a; apply Fin.ext
  match a with
  | ⟨0, _⟩ => show win0_2.index t (0 : Fin 2) * 512 + 1 * r.val = _; rw [e0]; show _ = r.val; omega
  | ⟨1, _⟩ => show win0_2.index t (1 : Fin 2) * 2048 + 1 * k.val = _; rw [e1]; show _ = k.val; omega

theorem block_scale (c : Dev nD) (t : Fin cfg0.N) (r : Fin 512) (k : Fin 2048) :
    (iblk m c 3 t : Vec F S512x2048 .f32) (ix2 r k) = V m c main_v8 (ix2 r k) := by
  unfold iblk
  rw [View.read_apply]
  show V m c main_v8 _ = _
  congr 1
  obtain ⟨e0, e1⟩ := index_scale t
  funext a; apply Fin.ext
  match a with
  | ⟨0, _⟩ => show win0_3.index t (0 : Fin 2) * 512 + 1 * r.val = _; rw [e0]; show _ = r.val; omega
  | ⟨1, _⟩ => show win0_3.index t (1 : Fin 2) * 2048 + 1 * k.val = _; rw [e1]; show _ = k.val; omega

/-! ## The blocks in the arguments' terms -/

theorem reshape_x {α : Type} (x : S128x4x2048.Idx → α) (R : Fin 512) (k : Fin 2048) :
    shapeCast S512x2048 x shapeCasts_S128x4x2048_S512x2048 (ix2 R k) = x (ix3 ⟨R.val / 4, by omega⟩ ⟨R.val % 4, by omega⟩ k) := by
  pointwise

theorem reshape_w {α : Type} (x : S1x2048x9296.Idx → α) (j : Fin 9296) (k : Fin 2048) :
    transpose S9296x2048 [1, 0] (shapeCast S2048x9296 x shapeCasts_S1x2048x9296_S2048x9296) transposes_S2048x9296_S9296x2048_1_0 (ix2 j k) = x (ix3 0 k j) := by
  pointwise

theorem repeat_rows {α : Type} (x : S128x2048.Idx → α) (R : Fin 512) (k : Fin 2048) :
    shapeCast S512x2048 (broadcastInDim S128x4x2048 ![0, 2] bcast_S128x2048_S128x4x2048_0_2 x) shapeCasts_S128x4x2048_S512x2048 (ix2 R k) = x (ix2 ⟨R.val / 4, by omega⟩ k) := by
  pointwise

theorem x_at (c : Dev nD) (t : Fin cfg0.N) (r : Fin 512) (k : Fin 2048) :
    (iblk m c 0 t : Vec F S512x2048 .f32) (ix2 r k)
      = (m ((c : Thread nD τ).loc main_arg0) : Vec F S128x4x2048 .f32) (ix3 ⟨r.val / 4, by omega⟩ ⟨r.val % 4, by omega⟩ k) := by
  rw [block_x m c t r k, host_x, reshape_x]

theorem g_at (c : Dev nD) (t : Fin cfg0.N) (k : Fin 2048) :
    (iblk m c 1 t : Vec F S1x2048 .f32) (ix2 0 k) = (m ((c : Thread nD τ).loc main_arg1) : Vec F S1x2048 .f32) (ix2 0 k) := by
  rw [block_g, host_g]
  generalize (m ((c : Thread nD τ).loc main_arg1) : Vec F S1x2048 .f32) = x
  pointwise

theorem shift_at (c : Dev nD) (t : Fin cfg0.N) (r : Fin 512) (k : Fin 2048) :
    (iblk m c 2 t : Vec F S512x2048 .f32) (ix2 r k) = (m ((c : Thread nD τ).loc main_arg2) : Vec F S128x2048 .f32) (ix2 ⟨r.val / 4, by omega⟩ k) := by
  rw [block_shift m c t r k, host_shift, repeat_rows]

theorem scale_at (c : Dev nD) (t : Fin cfg0.N) (r : Fin 512) (k : Fin 2048) :
    (iblk m c 3 t : Vec F S512x2048 .f32) (ix2 r k) = (m ((c : Thread nD τ).loc main_arg3) : Vec F S128x2048 .f32) (ix2 ⟨r.val / 4, by omega⟩ k) := by
  rw [block_scale m c t r k, host_scale, repeat_rows]

theorem w_at (c : Dev nD) (t : Fin cfg0.N) (r : Fin 512) (k : Fin 2048) (hR : tileRow (t.val % 19) + r.val < 9296) :
    (iblk m c 4 t : Vec F S512x2048 .f32) (ix2 r k)
      = (m ((c : Thread nD τ).loc main_arg4) : Vec F S1x2048x9296 .f32) (ix3 0 k ⟨tileRow (t.val % 19) + r.val, hR⟩) := by
  rw [block_w m c t r k hR, host_w, reshape_w]

/-! ## The arrays after the run -/

theorem index_narrow : ∀ t : Fin cfg0.N, win0_5.flush t = true →
    win0_5.index t (0 : Fin 2) = t.val / 19 ∧ win0_5.index t (1 : Fin 2) = (if t.val % 19 < 13 then t.val % 19 else if t.val % 19 = 18 then 15 else t.val % 19 - 2) :=
  (by decide +kernel : ∀ t : Fin grid0.N, _)
theorem index_wide : ∀ t : Fin cfg0.N, win0_6.flush t = true →
    win0_6.index t (0 : Fin 2) = t.val / 19 ∧ win0_6.index t (1 : Fin 2) = t.val % 19 - 14 :=
  (by decide +kernel : ∀ t : Fin grid0.N, _)

/-- The tile whose product fills column block `b` of the narrow result. -/
def narrowTile (b : ℕ) : ℕ := if b < 14 then b else b + 2

/-- The grid's point of row block `i` and tile `n`. -/
def pt (i n : ℕ) (hi : i < 1) (hn : n < 19) : Fin cfg0.N := ⟨19 * i + n, lt_of_lt_of_eq (by omega) (show 19 = cfg0.N from N_0.symm)⟩

theorem narrowTile_lt (b : ℕ) (h : b < 16) : narrowTile b < 19 := by unfold narrowTile; split_ifs <;> omega

/-- The narrow result. -/
def narrowArr (c : Dev nD) : Vec F S512x8192 .bf16 := fun i =>
  narrowStored m c (pt ((i 0).val / 512) (narrowTile ((i 1).val / 512))
    (Nat.div_lt_of_lt_mul (i 0).isLt) (narrowTile_lt _ (Nat.div_lt_of_lt_mul (i 1).isLt)))
    (ix2 ⟨(i 0).val % 512, Nat.mod_lt _ (by omega)⟩ ⟨(i 1).val % 512, Nat.mod_lt _ (by omega)⟩)

/-- The wide result. -/
def wideArr (c : Dev nD) : Vec F S512x2560 .f32 := fun i =>
  wideAt m c (pt ((i 0).val / 512) (14 + (i 1).val / 512)
    (Nat.div_lt_of_lt_mul (i 0).isLt) (by have : (i 1).val / 512 < 5 := Nat.div_lt_of_lt_mul (i 1).isLt; omega))
    (ix2 ⟨(i 0).val % 512, Nat.mod_lt _ (by omega)⟩ ⟨(i 1).val % 512, Nat.mod_lt _ (by omega)⟩)

theorem stored_congr (c : Dev nD) (t t' : Fin cfg0.N) (y y' : S512x512.Idx) (ht : t = t') (hy : y = y') :
    narrowStored m c t y = narrowStored m c t' y' := by rw [ht, hy]
theorem wide_congr (c : Dev nD) (t t' : Fin cfg0.N) (y y' : S512x512.Idx) (ht : t = t') (hy : y = y') :
    wideAt m c t y = wideAt m c t' y' := by rw [ht, hy]

theorem flushed_narrow (c : Dev nD) (t : Fin cfg0.N) (hf : (cfg0.win 5).flush t = true) :
    (dats m 0 c).flushed 5 t = ((cfg0.win 5).blk t).view.read (Elt F) (narrowArr m c) := by
  show (cfg0.win 5).cut (grid0.coords t) ((dats m 0 c).after 5 t) = _
  rw [after_5]
  obtain ⟨e0, e1⟩ := index_narrow t hf
  have hm := (flush_narrow t).mp hf
  have hN : t.val < 19 := lt_of_lt_of_eq t.isLt (show cfg0.N = 19 from N_0)
  funext y
  have hy0 : (y 0).val < 512 := (y 0).isLt
  have hy1 : (y 1).val < 512 := (y 1).isLt
  have hb0 : (((cfg0.win 5).blk t).view.emb y 0).val = win0_5.index t (0 : Fin 2) * 512 + 1 * (y 0).val := rfl
  have hb1 : (((cfg0.win 5).blk t).view.emb y 1).val = win0_5.index t (1 : Fin 2) * 512 + 1 * (y 1).val := rfl
  show narrowStored m c (lastPt t) ((cfg0.win 5).xinj (grid0.coords t) y) = narrowArr m c (((cfg0.win 5).blk t).view.emb y)
  unfold narrowArr
  refine stored_congr m c _ _ _ _ ?_ ?_
  · apply Fin.ext
    show _ = 19 * ((((cfg0.win 5).blk t).view.emb y 0).val / 512) + narrowTile ((((cfg0.win 5).blk t).view.emb y 1).val / 512)
    rw [hb0, hb1, e0, e1]
    unfold lastPt narrowTile
    split_ifs <;> (try dsimp only) <;> omega
  · funext a; apply Fin.ext
    match a with
    | ⟨0, _⟩ => show (y 0).val = (((cfg0.win 5).blk t).view.emb y 0).val % 512; rw [hb0]; omega
    | ⟨1, _⟩ => show (y 1).val = (((cfg0.win 5).blk t).view.emb y 1).val % 512; rw [hb1]; omega

theorem flushed_wide (c : Dev nD) (t : Fin cfg0.N) (hf : (cfg0.win 6).flush t = true) :
    (dats m 0 c).flushed 6 t = ((cfg0.win 6).blk t).view.read (Elt F) (wideArr m c) := by
  show (cfg0.win 6).cut (grid0.coords t) ((dats m 0 c).after 6 t) = _
  rw [after_6]
  obtain ⟨e0, e1⟩ := index_wide t hf
  have hm := (flush_wide t).mp hf
  have hN : t.val < 19 := lt_of_lt_of_eq t.isLt (show cfg0.N = 19 from N_0)
  funext y
  have hy0 : (y 0).val < 512 := (y 0).isLt
  have hy1 : (y 1).val < 512 := (y 1).isLt
  have hb0 : (((cfg0.win 6).blk t).view.emb y 0).val = win0_6.index t (0 : Fin 2) * 512 + 1 * (y 0).val := rfl
  have hb1 : (((cfg0.win 6).blk t).view.emb y 1).val = win0_6.index t (1 : Fin 2) * 512 + 1 * (y 1).val := rfl
  show wideAt m c t ((cfg0.win 6).xinj (grid0.coords t) y) = wideArr m c (((cfg0.win 6).blk t).view.emb y)
  unfold wideArr
  refine wide_congr m c _ _ _ _ ?_ ?_
  · apply Fin.ext
    show t.val = 19 * ((((cfg0.win 6).blk t).view.emb y 0).val / 512) + (14 + (((cfg0.win 6).blk t).view.emb y 1).val / 512)
    rw [hb0, hb1, e0, e1]
    omega
  · funext a; apply Fin.ext
    match a with
    | ⟨0, _⟩ => show (y 0).val = (((cfg0.win 6).blk t).view.emb y 0).val % 512; rw [hb0]; omega
    | ⟨1, _⟩ => show (y 1).val = (((cfg0.win 6).blk t).view.emb y 1).val % 512; rw [hb1]; omega

theorem mem_narrow (t : Fin cfg0.N) (i : S512x8192.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v9_0).slice (win0_5.rect t)).set ↔ _
  rw [View.set_slice_whole, Rect.mem_set_unit]
  exact Iff.rfl
theorem mem_wide (t : Fin cfg0.N) (i : S512x2560.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v9_1).slice (win0_6.rect t)).set ↔ _
  rw [View.set_slice_whole, Rect.mem_set_unit]
  exact Iff.rfl

/-- The narrow result's array. -/
theorem final_narrow (c : Dev nD) : (dats m 0 c).arrAt 5 cfg0.N = narrowArr m c :=
  (dats m 0 c).arrAt_eq_of_cover 5 _ (fun t hf => flushed_narrow m c t hf) fun i => by
    have h0 : (i 0).val < 512 := (i 0).isLt
    have h1 : (i 1).val < 8192 := (i 1).isLt
    obtain ⟨b, hb⟩ : ∃ b, b = (i 1).val / 512 := ⟨_, rfl⟩
    obtain ⟨n, hn⟩ : ∃ n, n = if b < 13 then b else if b = 15 then 18 else b + 2 := ⟨_, rfl⟩
    have hn19 : n < 19 := by rw [hn]; split_ifs <;> omega
    have hv : (pt ((i 0).val / 512) n (by omega) hn19).val = 19 * ((i 0).val / 512) + n := rfl
    have hf : (cfg0.win 5).flush (pt ((i 0).val / 512) n (by omega) hn19) = true :=
      (flush_narrow _).mpr (by rw [hv]; split_ifs at hn <;> omega)
    refine ⟨pt ((i 0).val / 512) n (by omega) hn19, hf, ?_⟩
    obtain ⟨e0, e1⟩ := index_narrow _ hf
    rw [hv] at e0 e1
    rw [mem_narrow]
    intro a
    match a with
    | ⟨0, _⟩ => show win0_5.index _ (0 : Fin 2) * 512 ≤ (i 0).val ∧ (i 0).val < win0_5.index _ (0 : Fin 2) * 512 + 512; rw [e0]; omega
    | ⟨1, _⟩ =>
      show win0_5.index _ (1 : Fin 2) * 512 ≤ (i 1).val ∧ (i 1).val < win0_5.index _ (1 : Fin 2) * 512 + 512; rw [e1]
      split_ifs at hn ⊢ <;> omega

/-- The wide result's array. -/
theorem final_wide (c : Dev nD) : (dats m 0 c).arrAt 6 cfg0.N = wideArr m c :=
  (dats m 0 c).arrAt_eq_of_cover 6 _ (fun t hf => flushed_wide m c t hf) fun i => by
    have h0 : (i 0).val < 512 := (i 0).isLt
    have h1 : (i 1).val < 2560 := (i 1).isLt
    obtain ⟨n, hn⟩ : ∃ n, n = 14 + (i 1).val / 512 := ⟨_, rfl⟩
    have hn19 : n < 19 := by omega
    have hv : (pt ((i 0).val / 512) n (by omega) hn19).val = 19 * ((i 0).val / 512) + n := rfl
    have hf : (cfg0.win 6).flush (pt ((i 0).val / 512) n (by omega) hn19) = true :=
      (flush_wide _).mpr (by rw [hv]; omega)
    refine ⟨pt ((i 0).val / 512) n (by omega) hn19, hf, ?_⟩
    obtain ⟨e0, e1⟩ := index_wide _ hf
    rw [hv] at e0 e1
    rw [mem_wide]
    intro a
    match a with
    | ⟨0, _⟩ => show win0_6.index _ (0 : Fin 2) * 512 ≤ (i 0).val ∧ (i 0).val < win0_6.index _ (0 : Fin 2) * 512 + 512; rw [e0]; omega
    | ⟨1, _⟩ => show win0_6.index _ (1 : Fin 2) * 512 ≤ (i 1).val ∧ (i 1).val < win0_6.index _ (1 : Fin 2) * 512 + 512; rw [e1]; omega

/-! ## The entries, over the extended reals -/

section
variable (m : (ℓ : Loc nD τ sig) → Buf (Elt Ideal) ℓ)

/-- The arguments, by name. -/
abbrev argX (c : Dev nD) : FVec Ideal ⟨3, ![128, 4, 2048]⟩ .f32 := m ((c : Thread nD τ).loc main_arg0)
abbrev argG (c : Dev nD) : FVec Ideal ⟨2, ![1, 2048]⟩ .f32 := m ((c : Thread nD τ).loc main_arg1)
abbrev argShift (c : Dev nD) : FVec Ideal ⟨2, ![128, 2048]⟩ .f32 := m ((c : Thread nD τ).loc main_arg2)
abbrev argScale (c : Dev nD) : FVec Ideal ⟨2, ![128, 2048]⟩ .f32 := m ((c : Thread nD τ).loc main_arg3)
abbrev argW (c : Dev nD) : FVec Ideal ⟨3, ![1, 2048, 9296]⟩ .f32 := m ((c : Thread nD τ).loc main_arg4)

theorem rows_payload (x : Vec Ideal S512x2048 .f32) (g : Vec Ideal S1x2048 .f32) (sc sh : Vec Ideal S512x2048 .f32) (r : Fin 512) (k : Fin 2048) :
    k0_pay1 x g sc sh (ix2 r k) = x (ix2 r k) * Ideal.rsqrt (Ideal.div (∑ i : Fin 2048, x (ix2 r i) * x (ix2 r i)) (Ideal.ofBits .f32 0x45000000#32) + Ideal.ofBits .f32 0x358637BD#32)
      * g (ix2 0 k) * (1 + sc (ix2 r k)) + sh (ix2 r k) := by
  pointwise [k0_pay1]

theorem product_payload (u : Vec Ideal S512x2048 .bf16) (w : Vec Ideal S512x2048 .f32) (r : Fin 512) (q : Fin 512) :
    k0_pay2 u w (ix2 r q) = ∑ k : Fin 2048, u (ix2 r k) * w (ix2 q k) := by
  pointwise [k0_pay2]

theorem rows_at (c : Dev nD) (n : ℕ) (h : n < cfg0.N) (r : Fin 512) (k : Fin 2048) :
    rows m c n h (ix2 r k) = Cert.FrontSample.unit (argX m c) (argG m c) (argShift m c) (argScale m c) ⟨r.val / 4, by omega⟩ ⟨r.val % 4, by omega⟩ k := by
  unfold rows
  rw [rows_payload, g_at, shift_at, scale_at]
  simp only [x_at]
  rfl

theorem tileRow_lt (n r : ℕ) (hn : n < 19) (hr : r < 512) : tileRow n + r < 9296 := by unfold tileRow; split_ifs <;> omega

theorem wideAt_at (c : Dev nD) (t : Fin cfg0.N) (r : Fin 512) (q : Fin 512)
    (hR : tileRow (t.val % 19) + q.val < 9296) :
    k0_pay2 (rows m c t.val t.isLt) (iblk m c 4 t) (ix2 r q)
      = Cert.FrontSample.proj (argX m c) (argG m c) (argShift m c) (argScale m c) (argW m c) ⟨r.val / 4, by omega⟩ ⟨r.val % 4, by omega⟩ ⟨tileRow (t.val % 19) + q.val, hR⟩ := by
  rw [product_payload]
  exact Finset.sum_congr rfl fun k _ => by rw [rows_at m c t.val t.isLt r k, w_at m c t q k hR]

theorem proj_congr (x : FVec Ideal ⟨3, ![128, 4, 2048]⟩ .f32) (g : FVec Ideal ⟨2, ![1, 2048]⟩ .f32) (sh sc : FVec Ideal ⟨2, ![128, 2048]⟩ .f32)
    (w : FVec Ideal ⟨3, ![1, 2048, 9296]⟩ .f32) (b b' : Fin 128) (s s' : Fin 4) (j j' : Fin 9296) (hb : b.val = b'.val) (hs : s.val = s'.val) (hj : j.val = j'.val) :
    Cert.FrontSample.proj x g sh sc w b s j = Cert.FrontSample.proj x g sh sc w b' s' j' := by
  rw [Fin.ext hb, Fin.ext hs, Fin.ext hj]

theorem wideArr_apply (c : Dev nD) (R : Fin 512) (C : Fin 2560) :
    wideArr m c (ix2 R C) = Cert.FrontSample.wideOut (argX m c) (argG m c) (argShift m c) (argScale m c) (argW m c) R C := by
  have hR := R.isLt
  have hC := C.isLt
  obtain ⟨t, ht⟩ : ∃ t, t = pt (R.val / 512) (14 + C.val / 512) (by omega) (by omega) := ⟨_, rfl⟩
  have hv : t.val = 19 * (R.val / 512) + (14 + C.val / 512) := by rw [ht]; rfl
  show wideAt m c (pt (R.val / 512) (14 + C.val / 512) (by omega) (by omega)) (ix2 ⟨R.val % 512, by omega⟩ ⟨C.val % 512, by omega⟩) = _
  rw [← ht]
  refine (wideAt_at m c t ⟨R.val % 512, by omega⟩ ⟨C.val % 512, by omega⟩ (tileRow_lt _ _ (by omega) (by show C.val % 512 < _; omega))).trans ?_
  refine proj_congr _ _ _ _ _ _ _ _ _ _ _ ?_ ?_ ?_
  · show R.val % 512 / 4 = R.val / 4; omega
  · show R.val % 512 % 4 = R.val % 4; omega
  · show tileRow (t.val % 19) + C.val % 512 = Cert.FrontSample.wideCol C.val
    have : t.val % 19 = 14 + C.val / 512 := by omega
    rw [this]; unfold tileRow Cert.FrontSample.wideCol
    split_ifs <;> omega

theorem narrow_factor : ∀ t : Fin grid0.N, Scalar.cmpi .slt (BitVec.ofNat 32 (grid0.coords t 1).val) 4#32 = if t.val % 19 < 4 then 1#1 else 0#1 := by
  decide +kernel

theorem stored_at (c : Dev nD) (t : Fin cfg0.N) (r : Fin 512) (q : Fin 512) :
    narrowStored m c t (ix2 r q) = k0_pay2 (rows m c t.val t.isLt) (iblk m c 4 t) (ix2 r q) * (if t.val % 19 < 4 then Ideal.ofBits .f32 0x3E0293EE#32 else 1) := by
  unfold narrowStored k0_pay3
  generalize k0_pay2 (rows m c t.val t.isLt) (iblk m c 4 t) = p
  pointwise
  rw [narrow_factor t]
  congr 1
  split_ifs <;> simp [Scalar.select]

theorem narrowArr_apply (c : Dev nD) (R : Fin 512) (C : Fin 8192) :
    narrowArr m c (ix2 R C) = Cert.FrontSample.narrowOut (argX m c) (argG m c) (argShift m c) (argScale m c) (argW m c) R C := by
  have hR := R.isLt
  have hC := C.isLt
  have hn : narrowTile (C.val / 512) < 19 := narrowTile_lt _ (by omega)
  obtain ⟨t, ht⟩ : ∃ t, t = pt (R.val / 512) (narrowTile (C.val / 512)) (by omega) hn := ⟨_, rfl⟩
  have hv : t.val = 19 * (R.val / 512) + narrowTile (C.val / 512) := by rw [ht]; rfl
  have hm : t.val % 19 = narrowTile (C.val / 512) := by omega
  refine (stored_at m c (pt (R.val / 512) (narrowTile (C.val / 512)) (by omega) hn) ⟨R.val % 512, by omega⟩ ⟨C.val % 512, by omega⟩).trans ?_
  rw [← ht, wideAt_at m c t ⟨R.val % 512, by omega⟩ ⟨C.val % 512, by omega⟩ (tileRow_lt _ _ (by omega) (by show C.val % 512 < _; omega))]
  unfold Cert.FrontSample.narrowOut
  refine congrArg₂ (· * ·) (proj_congr _ _ _ _ _ _ _ _ _ _ _ ?_ ?_ ?_) ?_
  · show R.val % 512 / 4 = R.val / 4; omega
  · show R.val % 512 % 4 = R.val % 4; omega
  · show tileRow (t.val % 19) + C.val % 512 = Cert.FrontSample.narrowCol C.val
    rw [hm]; unfold tileRow Cert.FrontSample.narrowCol narrowTile
    split_ifs <;> omega
  · rw [hm]; unfold Cert.FrontSample.narrowScale narrowTile
    split_ifs <;> first | rfl | omega

end

/-! ## The run, read -/

theorem run_values (ρ : Dev nD → PrngReg) : θ_run defs (onTc (τ := τ) (main (F := F))) ⟨m, fun _ => 0, ρ⟩ (fun r => ∀ c : Dev nD,
      r.2.mem ((c.tc : Thread nD τ).loc main_v9_0) = narrowArr m c
      ∧ r.2.mem ((c.tc : Thread nD τ).loc main_v9_1) = wideArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 5).trans (final_narrow m c), ((h.1 c).1 6).trans (final_wide m c), h.2 c⟩)
    (θ_run_and (run_post m ρ) (unchanged m ρ))

end Cert.FrontSampleIdeal.Front

end
-- ==== Proof.FrontSampleRef.lean ====
/-
  The front call for the samples' reference, read at an index: one projection of the modulated rows of x, of which the two results are
  columns.
-/
module

public import proofs.«01_k».proof.Proof.Gen.FrontSampleRefIdeal.Run
public import proofs.«01_k».proof.Proof.FrontSampleMath

@[expose] public section

set_option maxRecDepth 16384

noncomputable section

namespace Cert.FrontSampleRefIdeal.Front

open Cert.FrontSampleRefIdeal Cert.FrontSampleRefIdeal.Gen Idealize.ShloMosaic Idealize.ShloMosaic.TcCoe

variable {F : FTy → Type} [FloatOps F]

/-- The modulated rows, as the reference computes them. -/
def modulated (x : FVec F S128x4x2048 .f32) (g : FVec F S1x2048 .f32) (sh sc : FVec F S128x2048 .f32) : FVec F S128x4x2048 .f32 :=
  addf (mulf (mulf (mulf x (broadcastInDim S128x4x2048 ![0, 1, 2] bcast_S128x4x1_S128x4x2048_0_1_2 (Host.rsqrt (addf (Host.divf (broadcastInDim S128x4x1 ![0, 1] bcast_S128x4_S128x4x1_0_1 (Host.reduceAdd (mulf x x) (constant S_ .f32 0x00000000#32) reducesTo_S128x4x2048_S128x4_d2 h_S_)) (broadcastInDim S128x4x1 ![] bcast_S_S128x4x1 (constant S_ .f32 0x45000000#32))) (broadcastInDim S128x4x1 ![] bcast_S_S128x4x1 (constant S_ .f32 0x358637BD#32))))))
    (broadcastInDim S128x4x2048 ![0, 1, 2] bcast_S1x1x2048_S128x4x2048_0_1_2 (broadcastInDim S1x1x2048 ![2] bcast_S2048_S1x1x2048_2 (shapeCast _ g shapeCasts_S1x2048_S2048))))
    (broadcastInDim S128x4x2048 ![0, 1, 2] bcast_S128x1x2048_S128x4x2048_0_1_2 (addf (broadcastInDim S128x1x2048 ![] bcast_S_S128x1x2048 (constant S_ .f32 0x3F800000#32)) (broadcastInDim S128x1x2048 ![0, 2] bcast_S128x2048_S128x1x2048_0_2 sc))))
    (broadcastInDim S128x4x2048 ![0, 1, 2] bcast_S128x1x2048_S128x4x2048_0_1_2 (broadcastInDim S128x1x2048 ![0, 2] bcast_S128x2048_S128x1x2048_0_2 sh))

theorem modulated_apply (x : FVec Ideal S128x4x2048 .f32) (g : FVec Ideal S1x2048 .f32) (sh sc : FVec Ideal S128x2048 .f32)
    (b : Fin 128) (s : Fin 4) (k : Fin 2048) : modulated x g sh sc (ix3 b s k) = Cert.FrontSample.unit x g sh sc b s k := by
  pointwise [modulated, Cert.FrontSample.unit]

/-- The projection, as the reference computes it. -/
def product (x : FVec F S128x4x2048 .f32) (g : FVec F S1x2048 .f32) (sh sc : FVec F S128x2048 .f32) (w : FVec F S1x2048x9296 .f32) : FVec F S128x4x9296 .f32 :=
  Host.dotGeneral dot_S128x4x2048_S2048x9296_S128x4x9296_2_0_01_1_n_n none (modulated x g sh sc) (shapeCast _ w shapeCasts_S1x2048x9296_S2048x9296)

theorem product_apply (x : FVec Ideal S128x4x2048 .f32) (g : FVec Ideal S1x2048 .f32) (sh sc : FVec Ideal S128x2048 .f32) (w : FVec Ideal S1x2048x9296 .f32)
    (b : Fin 128) (s : Fin 4) (j : Fin 9296) : product x g sh sc w (ix3 b s j) = Cert.FrontSample.proj x g sh sc w b s j := by
  unfold product
  pointwise
  simp only [modulated_apply]
  rfl

/-- The wide result's columns, put together from a projection's. -/
def wideOf (p : FVec F S128x4x9296 .f32) : FVec F S512x2560 .f32 :=
  shapeCast _ ((concatenate S128x4x2560 2 [⟨S128x4x1024, (extractStridedSlice S128x4x1024 ![0, 0, 0] p slices_S128x4x9296_S128x4x1024_0_0_0 : (⟨S128x4x1024, .f32⟩ : BufTy).Contents (Elt F))⟩,
    ⟨S128x4x512, (extractStridedSlice S128x4x512 ![0, 0, 3072] p slices_S128x4x9296_S128x4x512_0_0_3072 : (⟨S128x4x512, .f32⟩ : BufTy).Contents (Elt F))⟩,
    ⟨S128x4x512, (extractStridedSlice S128x4x512 ![0, 0, 3584] p slices_S128x4x9296_S128x4x512_0_0_3584 : (⟨S128x4x512, .f32⟩ : BufTy).Contents (Elt F))⟩,
    ⟨S128x4x64, (extractStridedSlice S128x4x64 ![0, 0, 5120] p slices_S128x4x9296_S128x4x64_0_0_5120 : (⟨S128x4x64, .f32⟩ : BufTy).Contents (Elt F))⟩,
    ⟨S128x4x16, (extractStridedSlice S128x4x16 ![0, 0, 5184] p slices_S128x4x9296_S128x4x16_0_0_5184 : (⟨S128x4x16, .f32⟩ : BufTy).Contents (Elt F))⟩,
    ⟨S128x4x432, (extractStridedSlice S128x4x432 ![0, 0, 0] (extractStridedSlice S128x4x2048 ![0, 0, 5200] p slices_S128x4x9296_S128x4x2048_0_0_5200) slices_S128x4x2048_S128x4x432_0_0_0 : (⟨S128x4x432, .f32⟩ : BufTy).Contents (Elt F))⟩]
    concatenates_S128x4x1024_S128x4x512_S128x4x512_S128x4x64_S128x4x16_S128x4x432_S128x4x2560_d2 : (⟨S128x4x2560, .f32⟩ : BufTy).Contents (Elt F))) shapeCasts_S128x4x2560_S512x2560

/-- The narrow result's columns, put together from a projection's. -/
def narrowOf (p : FVec F S128x4x9296 .f32) : FVec F S512x8192 .bf16 :=
  truncf .bf16 (shapeCast _ ((concatenate S128x4x8192 2 [⟨S128x4x2048, (mulf (extractStridedSlice S128x4x2048 ![0, 0, 1024] p slices_S128x4x9296_S128x4x2048_0_0_1024) (broadcastInDim S128x4x2048 ![] bcast_S_S128x4x2048 (constant S_ .f32 0x3E0293EE#32)) : (⟨S128x4x2048, .f32⟩ : BufTy).Contents (Elt F))⟩,
    ⟨S128x4x2048, (extractStridedSlice S128x4x2048 ![0, 0, 5200] p slices_S128x4x9296_S128x4x2048_0_0_5200 : (⟨S128x4x2048, .f32⟩ : BufTy).Contents (Elt F))⟩,
    ⟨S128x4x2048, (extractStridedSlice S128x4x2048 ![0, 0, 7248] p slices_S128x4x9296_S128x4x2048_0_0_7248 : (⟨S128x4x2048, .f32⟩ : BufTy).Contents (Elt F))⟩,
    ⟨S128x4x1024, (extractStridedSlice S128x4x1024 ![0, 0, 4096] p slices_S128x4x9296_S128x4x1024_0_0_4096 : (⟨S128x4x1024, .f32⟩ : BufTy).Contents (Elt F))⟩,
    ⟨S128x4x512, (extractStridedSlice S128x4x512 ![0, 0, 3072] p slices_S128x4x9296_S128x4x512_0_0_3072 : (⟨S128x4x512, .f32⟩ : BufTy).Contents (Elt F))⟩,
    ⟨S128x4x512, (extractStridedSlice S128x4x512 ![0, 0, 3584] p slices_S128x4x9296_S128x4x512_0_0_3584 : (⟨S128x4x512, .f32⟩ : BufTy).Contents (Elt F))⟩]
    concatenates_S128x4x2048_S128x4x2048_S128x4x2048_S128x4x1024_S128x4x512_S128x4x512_S128x4x8192_d2 : (⟨S128x4x8192, .f32⟩ : BufTy).Contents (Elt F))) shapeCasts_S128x4x8192_S512x8192) bitsLt_bf16_f32

/-- A projection at an index, by the coordinates' values. -/
theorem at_congr {α : Type} (p : S128x4x9296.Idx → α) (b b' : Fin 128) (s s' : Fin 4) (j j' : Fin 9296) (hb : b.val = b'.val) (hs : s.val = s'.val) (hj : j.val = j'.val) :
    p (ix3 b s j) = p (ix3 b' s' j') := by
  rw [Fin.ext hb, Fin.ext hs, Fin.ext hj]

theorem wideOf_apply (p : FVec Ideal S128x4x9296 .f32) (R : Fin 512) (C : Fin 2560) :
    wideOf p (ix2 R C) = p (ix3 ⟨R.val / 4, by omega⟩ ⟨R.val % 4, by omega⟩ ⟨Cert.FrontSample.wideCol C.val, Cert.FrontSample.wideCol_lt _ C.isLt⟩) := by
  unfold wideOf
  pointwise
  have hC := C.isLt
  split_ifs <;> refine at_congr p _ _ _ _ _ _ rfl rfl ?_ <;> dsimp only [Cert.FrontSample.wideCol] <;> split_ifs <;> omega

theorem narrowOf_apply (p : FVec Ideal S128x4x9296 .f32) (R : Fin 512) (C : Fin 8192) :
    narrowOf p (ix2 R C) = p (ix3 ⟨R.val / 4, by omega⟩ ⟨R.val % 4, by omega⟩ ⟨Cert.FrontSample.narrowCol C.val, Cert.FrontSample.narrowCol_lt _ C.isLt⟩) * Cert.FrontSample.narrowScale C.val := by
  unfold narrowOf
  pointwise
  have hC := C.isLt
  have key : ∀ (j : Fin 9296) (q : EReal), j.val = Cert.FrontSample.narrowCol C.val → q = Cert.FrontSample.narrowScale C.val →
      p (ix3 ⟨R.val / 4, by omega⟩ ⟨R.val % 4, by omega⟩ j) * q
        = p (ix3 ⟨R.val / 4, by omega⟩ ⟨R.val % 4, by omega⟩ ⟨Cert.FrontSample.narrowCol C.val, Cert.FrontSample.narrowCol_lt _ C.isLt⟩) * Cert.FrontSample.narrowScale C.val :=
    fun j q hj hq => by rw [hq, at_congr p _ _ _ _ j ⟨Cert.FrontSample.narrowCol C.val, Cert.FrontSample.narrowCol_lt _ C.isLt⟩ rfl rfl hj]
  have key1 : ∀ (j : Fin 9296), j.val = Cert.FrontSample.narrowCol C.val → 2048 ≤ C.val →
      p (ix3 ⟨R.val / 4, by omega⟩ ⟨R.val % 4, by omega⟩ j)
        = p (ix3 ⟨R.val / 4, by omega⟩ ⟨R.val % 4, by omega⟩ ⟨Cert.FrontSample.narrowCol C.val, Cert.FrontSample.narrowCol_lt _ C.isLt⟩) * Cert.FrontSample.narrowScale C.val :=
    fun j hj hC' => (mul_one _).symm.trans (key j 1 hj (by unfold Cert.FrontSample.narrowScale; rw [if_neg (by omega)]))
  by_cases h0 : C.val < 2048
  · rw [dif_pos h0]
    exact key _ _ (by dsimp only [Cert.FrontSample.narrowCol]; rw [if_pos h0]) (by unfold Cert.FrontSample.narrowScale; rw [if_pos h0])
  rw [dif_neg h0]
  split_ifs <;> refine key1 _ ?_ (by omega) <;> dsimp only [Cert.FrontSample.narrowCol] <;> split_ifs <;> omega

section
variable (m : (ℓ : Loc nD τ sig) → Buf (Elt F) ℓ) (c : Dev nD)

/-- The projection of the launch's arguments. -/
abbrev productAt : FVec F S128x4x9296 .f32 :=
  product (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

theorem narrow_eq : Cert.FrontSampleRefIdeal.Value.res_out0 m c = narrowOf (productAt m c) := by
  unfold Cert.FrontSampleRefIdeal.Value.res_out0 Cert.FrontSampleRefIdeal.Value.res_main_v39; rfl

theorem wide_eq : Cert.FrontSampleRefIdeal.Value.res_out1 m c = wideOf (productAt m c) := by
  unfold Cert.FrontSampleRefIdeal.Value.res_out1 Cert.FrontSampleRefIdeal.Value.res_main_v40; rfl
end

/-- The narrow result at an index. -/
theorem narrow_apply (m : (ℓ : Loc nD τ sig) → Buf (Elt Ideal) ℓ) (c : Dev nD) (R : Fin 512) (C : Fin 8192) :
    (Cert.FrontSampleRefIdeal.Value.res_out0 m c : FVec Ideal S512x8192 .bf16) (ix2 R C)
      = Cert.FrontSample.narrowOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) R C :=
  (congrFun (narrow_eq m c) (ix2 R C)).trans ((narrowOf_apply _ R C).trans (congrArg (· * _) (product_apply _ _ _ _ _ _ _ _)))

/-- The wide result at an index. -/
theorem wide_apply (m : (ℓ : Loc nD τ sig) → Buf (Elt Ideal) ℓ) (c : Dev nD) (R : Fin 512) (C : Fin 2560) :
    (Cert.FrontSampleRefIdeal.Value.res_out1 m c : FVec Ideal S512x2560 .f32) (ix2 R C)
      = Cert.FrontSample.wideOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) R C :=
  (congrFun (wide_eq m c) (ix2 R C)).trans ((wideOf_apply _ R C).trans (product_apply _ _ _ _ _ _ _ _))

end Cert.FrontSampleRefIdeal.Front

end
-- ==== Proof.FrontSampleClaims.lean ====
/-
  The claims about the front call for the samples.
-/
module

public import proofs.«01_k».proof.Defs
public import proofs.«01_k».proof.Proof.FrontSampleValue
public import proofs.«01_k».proof.Proof.FrontSampleRef
public import proofs.«01_k».proof.Proof.Gen.FrontSample

@[expose] public section

noncomputable section

namespace Cert.Proof.FrontSample

open Idealize.ShloMosaic Idealize.ShloMosaic.TcCoe Idealize.SL.Sem

theorem frame_kernel_ideal : Cert.quiescent_FrontSampleIdeal := fun m ρ _ => Cert.FrontSampleIdeal.Front.frame_any m ρ

/-- The two prints of the kernel have one text: their body tables are one table. -/
theorem bodies_eq {F : FTy → Type} [FloatOps F] : Cert.FrontSample.defs₀ (F := F) = Cert.FrontSampleIdeal.defs₀ (F := F) := by
  unfold Cert.FrontSample.defs₀ Cert.FrontSampleIdeal.defs₀
  refine congrArg _ (funext fun l => funext fun a => ?_)
  match l, a with
  | 0, (t, s) => rfl
  | ⟨_ + 1, h⟩, _ => exact absurd h (Nat.not_lt.2 (Nat.le_add_left _ _))

theorem defs_eq {F : FTy → Type} [FloatOps F] : Cert.FrontSample.defs (F := F) = Cert.FrontSampleIdeal.defs (F := F) := by
  unfold Cert.FrontSample.defs Cert.FrontSampleIdeal.defs
  rw [bodies_eq]
  rfl

/-- So the kernel's run at the machine's floats is the run above there. -/
theorem frame_kernel : Cert.quiescent_FrontSample := fun m ρ _ => by
  rw [defs_eq]
  exact Cert.FrontSampleIdeal.Front.frame_any (F := Bits) m ρ

theorem frame_reference : Cert.quiescent_FrontSampleRefIdeal := fun m ρ _ =>
  (θ_run Cert.FrontSampleRefIdeal.defs _ _).mono (fun r h => ⟨fun c => (h c).2.2, sem_eq_zero_of_no_sems (by decide) r.2⟩)
    (Cert.FrontSampleRefIdeal.Value.run (F := Ideal) m ρ)

theorem preserves : Cert.preserves_FrontSample_FrontSampleIdeal := trivial

/-- The kernel's two arrays and the reference's two results are the same columns of the same projection. -/
theorem algebraic : Cert.algebraic_FrontSampleIdeal_FrontSampleRefIdeal := by
  intro m ρ m' ρ' _ hagree
  refine ⟨fun c => Cert.FrontSampleIdeal.Front.narrowArr m c, fun c => Cert.FrontSampleIdeal.Front.wideArr m c,
    Cert.FrontSampleIdeal.Front.run_values (F := Ideal) m ρ, ?_⟩
  refine (θ_run Cert.FrontSampleRefIdeal.defs _ _).mono (fun _ h c => ?_) (Cert.FrontSampleRefIdeal.Value.run (F := Ideal) m' ρ')
  obtain ⟨a0, a1, a2, a3, a4⟩ := hagree c
  refine ⟨(h c).1.trans (funext fun i => ?_), (h c).2.1.trans (funext fun i => ?_), (h c).2.2⟩
  · refine (congrArg _ (eq_ix2 (n0 := 512) (n1 := 8192) i)).trans ((Cert.FrontSampleRefIdeal.Front.narrow_apply m' c _ _).trans ?_)
    rw [a0, a1, a2, a3, a4]
    exact ((congrArg (Cert.FrontSampleIdeal.Front.narrowArr m c) (eq_ix2 i)).trans (Cert.FrontSampleIdeal.Front.narrowArr_apply m c _ _)).symm
  · refine (congrArg _ (eq_ix2 i)).trans ((Cert.FrontSampleRefIdeal.Front.wide_apply m' c _ _).trans ?_)
    rw [a0, a1, a2, a3, a4]
    exact ((congrArg (Cert.FrontSampleIdeal.Front.wideArr m c) (eq_ix2 i)).trans (Cert.FrontSampleIdeal.Front.wideArr_apply m c _ _)).symm

end Cert.Proof.FrontSample

end
-- ==== Proof.FfnSampleMath.lean ====
/-
  The mathematics of the feed-forward call for the samples over the extended reals, in coordinates: the gated hidden features, their
  projection added to the residual, and the final normalisation.
-/
module

public import Idealize.ShloMosaic.Lib.Pointwise

@[expose] public section

noncomputable section

namespace Cert.FfnSample.Math

open Idealize.ShloMosaic

/-- Column `j` of the first product in row `R`. -/
def lin (hn : FVec Ideal ⟨2, ![512, 2048]⟩ .bf16) (w : FVec Ideal ⟨3, ![1, 2048, 11264]⟩ .f32) (R : Fin 512) (j : Fin 11264) : EReal :=
  ∑ k : Fin 2048, hn (ix2 R k) * w (ix3 0 k j)

/-- The logistic function of `a`. -/
def sigm (a : EReal) : EReal := Ideal.div 1 (1 + Ideal.exp (-a))

/-- Hidden feature `j` of row `R`: the gate's column times its logistic, times the column beside it. -/
def hidden (hn : FVec Ideal ⟨2, ![512, 2048]⟩ .bf16) (w : FVec Ideal ⟨3, ![1, 2048, 11264]⟩ .f32) (R : Fin 512) (j : Fin 5632) : EReal :=
  lin hn w R ⟨j.val, by omega⟩ * sigm (lin hn w R ⟨j.val, by omega⟩) * lin hn w R ⟨5632 + j.val, by omega⟩

/-- Row `R`, feature `q` before the final normalisation. -/
def row (hn : FVec Ideal ⟨2, ![512, 2048]⟩ .bf16) (h : FVec Ideal ⟨2, ![512, 2048]⟩ .f32) (gate : FVec Ideal ⟨2, ![128, 2048]⟩ .f32)
    (w : FVec Ideal ⟨3, ![1, 2048, 11264]⟩ .f32) (wo : FVec Ideal ⟨3, ![1, 5632, 2048]⟩ .f32) (R : Fin 512) (q : Fin 2048) : EReal :=
  h (ix2 R q) + gate (ix2 ⟨R.val / 4, by omega⟩ q) * ∑ j : Fin 5632, hidden hn w R j * wo (ix3 0 j q)

/-- Feature `q` of a row `y` normalised by its mean square, with the gain `g`. -/
def normRow (y : Fin 2048 → EReal) (g : FVec Ideal ⟨1, ![2048]⟩ .f32) (q : Fin 2048) : EReal :=
  y q * Ideal.rsqrt (Ideal.div (∑ i : Fin 2048, y i * y i) (Ideal.ofBits .f32 0x45000000#32) + Ideal.ofBits .f32 0x358637BD#32) * g (ix1 q)

end Cert.FfnSample.Math

end
-- ==== Proof.FfnSampleValue.lean ====
/-
  The feed-forward call for the samples' result: the accumulator after each tile is the sum over the hidden features so far, and the
  last tile's point stores the normalised rows.
-/
module

public import proofs.«01_k».proof.Proof.Gen.FfnSampleIdeal.Value
public import proofs.«01_k».proof.Proof.FfnSampleMath

@[expose] public section

set_option maxRecDepth 16384

noncomputable section

namespace Cert.FfnSampleIdeal.Ffn

open Idealize.ShloMosaic Idealize.ShloMosaic.TcCoe Idealize.ShloMosaic.Tactic
open Idealize.SL.Sem
open Idealize.ShloMosaic.Pipeline (Dat Cfg Window)
open Cert.FfnSampleIdeal Cert.FfnSampleIdeal.Gen Cert.FfnSampleIdeal.Value Cert.FfnSample.Math

variable {F : FTy → Type} [FloatOps F]
variable (m : (ℓ : Loc nD τ sig) → Buf (Elt F) ℓ)

/-! ## What a point leaves in the accumulator and in the result's buffer -/

theorem hz : (![0, 0] : Fin 2 → ℕ) = fun _ => 0 := by decide

theorem acc_first (c : Dev nD) (t : Fin cfg0.N) (h0 : t.val % 11 = 0) :
    (outsAt0 m c t.val t.isLt).2 = k0_pay2 (iblk m c 0 t) (iblk m c 4 t) (iblk m c 5 t) k0_pay1 (iblk m c 6 t) := by
  rw [outsAt0_A m c t h0 (by omega)]
  dsimp only
  unfold sout0_A_0
  rw [View.read_writes_eq_canon _ _ _ (fun y => scover0_A_0 ..)]
  unfold kernelRun0_A
  dsimp only
  sl_unfold_words
  rw [View.canon_cons_unit_zero (S := S512x2048) hz, View.readCov_unit_zero (S := S512x2048) _ hz]
  simp only [View.readAt_eq_ld, (hs0_0 t).read_unread, (hs0_4 t).read_unread, (hs0_5 t).read_unread, (hs0_6 t).read_unread, View.ld_unit_zero (S := S512x2048) hz, View.ld_unit_zero (S := S2048x512) hz]

theorem acc_next (c : Dev nD) (t : Fin cfg0.N) (h0 : ¬t.val % 11 = 0) :
    (outsAt0 m c t.val t.isLt).2 = k0_pay2 (iblk m c 0 t) (iblk m c 4 t) (iblk m c 5 t) (outsAt0 m c (t.val - 1) (Nat.lt_of_le_of_lt (Nat.sub_le _ _) t.isLt)).2 (iblk m c 6 t) := by
  by_cases h1 : t.val % 11 = 10
  · rw [outsAt0_C m c t h0 h1]
    dsimp only
    unfold sout0_C_0
    rw [View.read_writes_eq_canon _ _ _ (fun y => scover0_C_0 ..)]
    unfold kernelRun0_C
    dsimp only
    sl_unfold_words
    rw [View.canon_unit_zero hz]
    simp only [View.readAt_eq_ld, (hs0_0 t).read_unread, (hs0_4 t).read_unread, (hs0_5 t).read_unread, (hs0_6 t).read_unread, (Memref.isWhole_whole _).read_unread, View.ld_unit_zero (S := S512x2048) hz, View.ld_unit_zero (S := S2048x512) hz]
  · rw [outsAt0_B m c t h0 h1]
    dsimp only
    unfold sout0_B_0
    rw [View.read_writes_eq_canon _ _ _ (fun y => scover0_B_0 ..)]
    unfold kernelRun0_B
    dsimp only
    sl_unfold_words
    rw [View.canon_unit_zero hz]
    simp only [View.readAt_eq_ld, (hs0_0 t).read_unread, (hs0_4 t).read_unread, (hs0_5 t).read_unread, (hs0_6 t).read_unread, (Memref.isWhole_whole _).read_unread, View.ld_unit_zero (S := S512x2048) hz, View.ld_unit_zero (S := S2048x512) hz]

theorem stored_last (c : Dev nD) (t : Fin cfg0.N) (h1 : t.val % 11 = 10) :
    (outsAt0 m c t.val t.isLt).1 = k0_pay3 (iblk m c 1 t) (iblk m c 2 t) (outsAt0 m c t.val t.isLt).2 (iblk m c 3 t) := by
  rw [acc_next m c t (by omega), outsAt0_C m c t (by omega) h1]
  dsimp only
  unfold out0_C_7
  rw [View.read_writes_eq_canon _ _ _ (fun y => cover0_C_7 ..)]
  unfold kernelRun0_C
  dsimp only
  sl_unfold_words
  rw [View.canon_unit_zero hz, View.readCov_unit_zero (S := S512x2048) _ hz]
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole _).read_unread, View.ld_unit_zero (S := S512x2048) hz, View.ld_unit_zero (S := S2048x512) hz, View.ld_unit_zero (S := S1x2048) hz]

/-! ## The host's casts and reshapes -/

theorem host_gate (c : Dev nD) : V m c main_v1 = shapeCast S512x2048 (broadcastInDim S128x4x2048 ![0, 2] bcast_S128x2048_S128x4x2048_0_2 (m ((c : Thread nD τ).loc main_arg2)) : FVec F S128x4x2048 .f32) shapeCasts_S128x4x2048_S512x2048 := by
  show StableHlo.after hostOps0 (fun b => m (c, b)) _ = _
  after_results <;> rfl
theorem host_g (c : Dev nD) : V m c main_v2 = shapeCast S1x2048 (m ((c : Thread nD τ).loc main_arg3)) shapeCasts_S2048_S1x2048 := by
  show StableHlo.after hostOps0 (fun b => m (c, b)) _ = _
  after_results <;> rfl
theorem host_in (c : Dev nD) : V m c main_v4 = truncf .bf16 (shapeCast S2048x11264 (m ((c : Thread nD τ).loc main_arg4)) shapeCasts_S1x2048x11264_S2048x11264 : FVec F S2048x11264 .f32) bitsLt_bf16_f32 := by
  show StableHlo.after hostOps0 (fun b => m (c, b)) _ = _
  after_results <;> rfl
theorem host_out (c : Dev nD) : V m c main_v6 = truncf .bf16 (shapeCast S5632x2048 (m ((c : Thread nD τ).loc main_arg5)) shapeCasts_S1x5632x2048_S5632x2048 : FVec F S5632x2048 .f32) bitsLt_bf16_f32 := by
  show StableHlo.after hostOps0 (fun b => m (c, b)) _ = _
  after_results <;> rfl

/-! ## Where the blocks lie -/

theorem index_hn : ∀ t : Fin cfg0.N, win0_0.index t (0 : Fin 2) = t.val / 11 ∧ win0_0.index t (1 : Fin 2) = 0 :=
  (by decide +kernel : ∀ t : Fin grid0.N, _)
theorem index_h : ∀ t : Fin cfg0.N, win0_1.index t (0 : Fin 2) = t.val / 11 ∧ win0_1.index t (1 : Fin 2) = 0 :=
  (by decide +kernel : ∀ t : Fin grid0.N, _)
theorem index_gate : ∀ t : Fin cfg0.N, win0_2.index t (0 : Fin 2) = t.val / 11 ∧ win0_2.index t (1 : Fin 2) = 0 :=
  (by decide +kernel : ∀ t : Fin grid0.N, _)
theorem index_g : ∀ t : Fin cfg0.N, win0_3.index t (0 : Fin 2) = 0 ∧ win0_3.index t (1 : Fin 2) = 0 :=
  (by decide +kernel : ∀ t : Fin grid0.N, _)
theorem index_first : ∀ t : Fin cfg0.N, win0_4.index t (0 : Fin 2) = 0 ∧ win0_4.index t (1 : Fin 2) = t.val % 11 :=
  (by decide +kernel : ∀ t : Fin grid0.N, _)
theorem index_second : ∀ t : Fin cfg0.N, win0_5.index t (0 : Fin 2) = 0 ∧ win0_5.index t (1 : Fin 2) = t.val % 11 + 11 :=
  (by decide +kernel : ∀ t : Fin grid0.N, _)
theorem index_out : ∀ t : Fin cfg0.N, win0_6.index t (0 : Fin 2) = t.val % 11 ∧ win0_6.index t (1 : Fin 2) = 0 :=
  (by decide +kernel : ∀ t : Fin grid0.N, _)

theorem block_hn (c : Dev nD) (t : Fin cfg0.N) (r : Fin 512) (k : Fin 2048) (hR : 512 * (t.val / 11) + r.val < 512) :
    (iblk m c 0 t : Vec F S512x2048 .bf16) (ix2 r k) = V m c main_arg0 (ix2 ⟨512 * (t.val / 11) + r.val, hR⟩ k) := by
  unfold iblk
  rw [View.read_apply]
  show V m c main_arg0 _ = _
  congr 1
  obtain ⟨e0, e1⟩ := index_hn t
  funext a; apply Fin.ext
  match a with
  | ⟨0, _⟩ => show win0_0.index t (0 : Fin 2) * 512 + 1 * r.val = _; rw [e0]; show _ = 512 * (t.val / 11) + r.val; omega
  | ⟨1, _⟩ => show win0_0.index t (1 : Fin 2) * 2048 + 1 * k.val = _; rw [e1]; show _ = k.val; omega

theorem block_h (c : Dev nD) (t : Fin cfg0.N) (r : Fin 512) (k : Fin 2048) (hR : 512 * (t.val / 11) + r.val < 512) :
    (iblk m c 1 t : Vec F S512x2048 .f32) (ix2 r k) = V m c main_arg1 (ix2 ⟨512 * (t.val / 11) + r.val, hR⟩ k) := by
  unfold iblk
  rw [View.read_apply]
  show V m c main_arg1 _ = _
  congr 1
  obtain ⟨e0, e1⟩ := index_h t
  funext a; apply Fin.ext
  match a with
  | ⟨0, _⟩ => show win0_1.index t (0 : Fin 2) * 512 + 1 * r.val = _; rw [e0]; show _ = 512 * (t.val / 11) + r.val; omega
  | ⟨1, _⟩ => show win0_1.index t (1 : Fin 2) * 2048 + 1 * k.val = _; rw [e1]; show _ = k.val; omega

theorem block_gate (c : Dev nD) (t : Fin cfg0.N) (r : Fin 512) (k : Fin 2048) (hR : 512 * (t.val / 11) + r.val < 512) :
    (iblk m c 2 t : Vec F S512x2048 .f32) (ix2 r k) = V m c main_v1 (ix2 ⟨512 * (t.val / 11) + r.val, hR⟩ k) := by
  unfold iblk
  rw [View.read_apply]
  show V m c main_v1 _ = _
  congr 1
  obtain ⟨e0, e1⟩ := index_gate t
  funext a; apply Fin.ext
  match a with
  | ⟨0, _⟩ => show win0_2.index t (0 : Fin 2) * 512 + 1 * r.val = _; rw [e0]; show _ = 512 * (t.val / 11) + r.val; omega
  | ⟨1, _⟩ => show win0_2.index t (1 : Fin 2) * 2048 + 1 * k.val = _; rw [e1]; show _ = k.val; omega

theorem block_g (c : Dev nD) (t : Fin cfg0.N) (k : Fin 2048) :
    (iblk m c 3 t : Vec F S1x2048 .f32) (ix2 0 k) = V m c main_v2 (ix2 0 k) := by
  unfold iblk
  rw [View.read_apply]
  show V m c main_v2 _ = _
  congr 1
  obtain ⟨e0, e1⟩ := index_g t
  funext a; apply Fin.ext
  match a with
  | ⟨0, _⟩ => show win0_3.index t (0 : Fin 2) * 1 + 1 * 0 = _; rw [e0]; show _ = 0; omega
  | ⟨1, _⟩ => show win0_3.index t (1 : Fin 2) * 2048 + 1 * k.val = _; rw [e1]; show _ = k.val; omega

theorem block_first (c : Dev nD) (t : Fin cfg0.N) (k : Fin 2048) (j : Fin 512) :
    (iblk m c 4 t : Vec F S2048x512 .bf16) (ix2 k j) = V m c main_v4 (ix2 k ⟨512 * (t.val % 11) + j.val, by omega⟩) := by
  unfold iblk
  rw [View.read_apply]
  show V m c main_v4 _ = _
  congr 1
  obtain ⟨e0, e1⟩ := index_first t
  funext a; apply Fin.ext
  match a with
  | ⟨0, _⟩ => show win0_4.index t (0 : Fin 2) * 2048 + 1 * k.val = _; rw [e0]; show _ = k.val; omega
  | ⟨1, _⟩ => show win0_4.index t (1 : Fin 2) * 512 + 1 * j.val = _; rw [e1]; show _ = 512 * (t.val % 11) + j.val; omega

theorem block_second (c : Dev nD) (t : Fin cfg0.N) (k : Fin 2048) (j : Fin 512) :
    (iblk m c 5 t : Vec F S2048x512 .bf16) (ix2 k j) = V m c main_v4 (ix2 k ⟨5632 + (512 * (t.val % 11) + j.val), by omega⟩) := by
  unfold iblk
  rw [View.read_apply]
  show V m c main_v4 _ = _
  congr 1
  obtain ⟨e0, e1⟩ := index_second t
  funext a; apply Fin.ext
  match a with
  | ⟨0, _⟩ => show win0_5.index t (0 : Fin 2) * 2048 + 1 * k.val = _; rw [e0]; show _ = k.val; omega
  | ⟨1, _⟩ => show win0_5.index t (1 : Fin 2) * 512 + 1 * j.val = _; rw [e1]; show _ = 5632 + (512 * (t.val % 11) + j.val); omega

theorem block_out (c : Dev nD) (t : Fin cfg0.N) (j : Fin 512) (k : Fin 2048) :
    (iblk m c 6 t : Vec F S512x2048 .bf16) (ix2 j k) = V m c main_v6 (ix2 ⟨512 * (t.val % 11) + j.val, by omega⟩ k) := by
  unfold iblk
  rw [View.read_apply]
  show V m c main_v6 _ = _
  congr 1
  obtain ⟨e0, e1⟩ := index_out t
  funext a; apply Fin.ext
  match a with
  | ⟨0, _⟩ => show win0_6.index t (0 : Fin 2) * 512 + 1 * j.val = _; rw [e0]; show _ = 512 * (t.val % 11) + j.val; omega
  | ⟨1, _⟩ => show win0_6.index t (1 : Fin 2) * 2048 + 1 * k.val = _; rw [e1]; show _ = k.val; omega

/-! ## The blocks in the arguments' terms, over the extended reals -/

section
variable (m : (ℓ : Loc nD τ sig) → Buf (Elt Ideal) ℓ)

/-- The arguments, by name. -/
abbrev argHn (c : Dev nD) : FVec Ideal ⟨2, ![512, 2048]⟩ .bf16 := m ((c : Thread nD τ).loc main_arg0)
abbrev argH (c : Dev nD) : FVec Ideal ⟨2, ![512, 2048]⟩ .f32 := m ((c : Thread nD τ).loc main_arg1)
abbrev argGate (c : Dev nD) : FVec Ideal ⟨2, ![128, 2048]⟩ .f32 := m ((c : Thread nD τ).loc main_arg2)
abbrev argG (c : Dev nD) : FVec Ideal ⟨1, ![2048]⟩ .f32 := m ((c : Thread nD τ).loc main_arg3)
abbrev argIn (c : Dev nD) : FVec Ideal ⟨3, ![1, 2048, 11264]⟩ .f32 := m ((c : Thread nD τ).loc main_arg4)
abbrev argOut (c : Dev nD) : FVec Ideal ⟨3, ![1, 5632, 2048]⟩ .f32 := m ((c : Thread nD τ).loc main_arg5)

theorem cast_gate (x : FVec Ideal S128x2048 .f32) (R : Fin 512) (k : Fin 2048) :
    shapeCast S512x2048 (broadcastInDim S128x4x2048 ![0, 2] bcast_S128x2048_S128x4x2048_0_2 x : FVec Ideal S128x4x2048 .f32) shapeCasts_S128x4x2048_S512x2048 (ix2 R k) = x (ix2 ⟨R.val / 4, by omega⟩ k) := by
  pointwise
theorem cast_g {α : Type} (x : S2048.Idx → α) (k : Fin 2048) : shapeCast S1x2048 x shapeCasts_S2048_S1x2048 (ix2 0 k) = x (ix1 k) := by
  pointwise
theorem cast_in (x : FVec Ideal S1x2048x11264 .f32) (k : Fin 2048) (j : Fin 11264) :
    truncf .bf16 (shapeCast S2048x11264 x shapeCasts_S1x2048x11264_S2048x11264 : FVec Ideal S2048x11264 .f32) bitsLt_bf16_f32 (ix2 k j) = x (ix3 0 k j) := by
  pointwise
theorem cast_out (x : FVec Ideal S1x5632x2048 .f32) (j : Fin 5632) (k : Fin 2048) :
    truncf .bf16 (shapeCast S5632x2048 x shapeCasts_S1x5632x2048_S5632x2048 : FVec Ideal S5632x2048 .f32) bitsLt_bf16_f32 (ix2 j k) = x (ix3 0 j k) := by
  pointwise

theorem tile_payload (x : Vec Ideal S512x2048 .bf16) (wg wu : Vec Ideal S2048x512 .bf16) (a : Vec Ideal S512x2048 .f32) (wo : Vec Ideal S512x2048 .bf16) (r : Fin 512) (q : Fin 2048) :
    k0_pay2 x wg wu a wo (ix2 r q) = a (ix2 r q) + ∑ j : Fin 512, ((∑ k : Fin 2048, x (ix2 r k) * wg (ix2 k j)) * sigm (∑ k : Fin 2048, x (ix2 r k) * wg (ix2 k j))
      * ∑ k : Fin 2048, x (ix2 r k) * wu (ix2 k j)) * wo (ix2 j q) := by
  pointwise [k0_pay2, sigm]
  rfl

theorem zero_payload (r : Fin 512) (q : Fin 2048) : (k0_pay1 (F := Ideal)) (ix2 r q) = 0 := by
  pointwise [k0_pay1]

theorem last_payload (h : Vec Ideal S512x2048 .f32) (gate : Vec Ideal S512x2048 .f32) (a : Vec Ideal S512x2048 .f32) (g : Vec Ideal S1x2048 .f32) (r : Fin 512) (q : Fin 2048) :
    k0_pay3 h gate a g (ix2 r q) = (fun i => h (ix2 r i) + gate (ix2 r i) * a (ix2 r i)) q * Ideal.rsqrt (Ideal.div (∑ i : Fin 2048, (fun i => h (ix2 r i) + gate (ix2 r i) * a (ix2 r i)) i * (fun i => h (ix2 r i) + gate (ix2 r i) * a (ix2 r i)) i)
      (Ideal.ofBits .f32 0x45000000#32) + Ideal.ofBits .f32 0x358637BD#32) * g (ix2 0 q) := by
  pointwise [k0_pay3]

/-! ## The accumulator, point by point -/

theorem first_at (c : Dev nD) (t : Fin cfg0.N) (k : Fin 2048) (j : Fin 512) :
    (iblk m c 4 t : Vec Ideal S2048x512 .bf16) (ix2 k j) = argIn m c (ix3 0 k ⟨512 * (t.val % 11) + j.val, by omega⟩) := by
  rw [block_first, host_in, cast_in]
theorem second_at (c : Dev nD) (t : Fin cfg0.N) (k : Fin 2048) (j : Fin 512) :
    (iblk m c 5 t : Vec Ideal S2048x512 .bf16) (ix2 k j) = argIn m c (ix3 0 k ⟨5632 + (512 * (t.val % 11) + j.val), by omega⟩) := by
  rw [block_second, host_in, cast_in]
theorem out_at (c : Dev nD) (t : Fin cfg0.N) (j : Fin 512) (q : Fin 2048) :
    (iblk m c 6 t : Vec Ideal S512x2048 .bf16) (ix2 j q) = argOut m c (ix3 0 ⟨512 * (t.val % 11) + j.val, by omega⟩ q) := by
  rw [block_out, host_out, cast_out]
theorem hn_at (c : Dev nD) (t : Fin cfg0.N) (r : Fin 512) (k : Fin 2048) (hR : 512 * (t.val / 11) + r.val < 512) :
    (iblk m c 0 t : Vec Ideal S512x2048 .bf16) (ix2 r k) = argHn m c (ix2 ⟨512 * (t.val / 11) + r.val, hR⟩ k) := by
  rw [block_hn m c t r k hR, V_main_arg0]
theorem h_at (c : Dev nD) (t : Fin cfg0.N) (r : Fin 512) (k : Fin 2048) (hR : 512 * (t.val / 11) + r.val < 512) :
    (iblk m c 1 t : Vec Ideal S512x2048 .f32) (ix2 r k) = argH m c (ix2 ⟨512 * (t.val / 11) + r.val, hR⟩ k) := by
  rw [block_h m c t r k hR, V_main_arg1]
theorem gate_at (c : Dev nD) (t : Fin cfg0.N) (r : Fin 512) (k : Fin 2048) (hR : 512 * (t.val / 11) + r.val < 512) :
    (iblk m c 2 t : Vec Ideal S512x2048 .f32) (ix2 r k) = argGate m c (ix2 ⟨(512 * (t.val / 11) + r.val) / 4, by omega⟩ k) := by
  rw [block_gate m c t r k hR, host_gate, cast_gate]
theorem g_at (c : Dev nD) (t : Fin cfg0.N) (k : Fin 2048) :
    (iblk m c 3 t : Vec Ideal S1x2048 .f32) (ix2 0 k) = argG m c (ix1 k) := by
  rw [block_g, host_g, cast_g]

/-- What hidden feature `n` adds to entry `(R, q)` of the second product; nothing past the last feature. -/
def term (c : Dev nD) (R : Fin 512) (q : Fin 2048) (n : ℕ) : EReal :=
  if h : n < 5632 then hidden (argHn m c) (argIn m c) R ⟨n, h⟩ * argOut m c (ix3 0 ⟨n, h⟩ q) else 0

/-- The blocks a point reads, as arrays of extended reals. -/
abbrev blkHn (c : Dev nD) (t : Fin cfg0.N) : Vec Ideal S512x2048 .bf16 := iblk m c 0 t
abbrev blkH (c : Dev nD) (t : Fin cfg0.N) : Vec Ideal S512x2048 .f32 := iblk m c 1 t
abbrev blkGate (c : Dev nD) (t : Fin cfg0.N) : Vec Ideal S512x2048 .f32 := iblk m c 2 t
abbrev blkFirst (c : Dev nD) (t : Fin cfg0.N) : Vec Ideal S2048x512 .bf16 := iblk m c 4 t
abbrev blkSecond (c : Dev nD) (t : Fin cfg0.N) : Vec Ideal S2048x512 .bf16 := iblk m c 5 t
abbrev accAfter (c : Dev nD) (n : ℕ) (hn : n < cfg0.N) : Vec Ideal S512x2048 .f32 := (outsAt0 m c n hn).2

/-- A point adds its tile's features to whatever the accumulator held. -/
theorem tile_at (c : Dev nD) (t : Fin cfg0.N) (a : Vec Ideal S512x2048 .f32) (r : Fin 512) (q : Fin 2048) (hR : 512 * (t.val / 11) + r.val < 512) :
    k0_pay2 (iblk m c 0 t) (iblk m c 4 t) (iblk m c 5 t) a (iblk m c 6 t) (ix2 r q)
      = a (ix2 r q) + ∑ j ∈ Finset.range 512, term m c ⟨512 * (t.val / 11) + r.val, hR⟩ q (512 * (t.val % 11) + j) := by
  refine (tile_payload _ _ _ _ _ r q).trans (congrArg (a (ix2 r q) + ·) ?_)
  rw [Finset.sum_range]
  refine Finset.sum_congr rfl fun j _ => ?_
  have hj : 512 * (t.val % 11) + j.val < 5632 := by omega
  have e4 : (∑ k : Fin 2048, blkHn m c t (ix2 r k) * blkFirst m c t (ix2 k j))
      = lin (argHn m c) (argIn m c) ⟨512 * (t.val / 11) + r.val, hR⟩ ⟨512 * (t.val % 11) + j.val, by omega⟩ :=
    Finset.sum_congr rfl fun k _ => congrArg₂ (· * ·) (hn_at m c t r k hR) (first_at m c t k j)
  have e5 : (∑ k : Fin 2048, blkHn m c t (ix2 r k) * blkSecond m c t (ix2 k j))
      = lin (argHn m c) (argIn m c) ⟨512 * (t.val / 11) + r.val, hR⟩ ⟨5632 + (512 * (t.val % 11) + j.val), by omega⟩ :=
    Finset.sum_congr rfl fun k _ => congrArg₂ (· * ·) (hn_at m c t r k hR) (second_at m c t k j)
  rw [e4, e5, out_at m c t j q]
  unfold term
  rw [dif_pos hj]
  rfl

/-- After tile `j` of a row block the accumulator holds the sum over the features of tiles 0 to `j`. -/
theorem acc_at (c : Dev nD) (i : ℕ) (hi : i < 1) (r : Fin 512) (q : Fin 2048) : ∀ (j : ℕ) (hj : j < 11) (hn : 11 * i + j < cfg0.N),
    (outsAt0 m c (11 * i + j) hn).2 (ix2 r q) = ∑ n ∈ Finset.range (512 * (j + 1)), term m c ⟨512 * i + r.val, by omega⟩ q n
  | 0, hj, hn => by
    have hR : (⟨512 * ((11 * i + 0) / 11) + r.val, by omega⟩ : Fin 512) = ⟨512 * i + r.val, by omega⟩ := Fin.ext (by dsimp only; omega)
    have h0 : (11 * i + 0) % 11 = 0 := by omega
    refine (congrFun (acc_first m c ⟨11 * i + 0, hn⟩ h0) (ix2 r q)).trans ((tile_at m c ⟨11 * i + 0, hn⟩ _ r q (by dsimp only; omega)).trans ?_)
    rw [zero_payload, zero_add, hR]
    refine Finset.sum_congr rfl fun n _ => ?_
    show term m c _ q (512 * ((11 * i + 0) % 11) + n) = _
    rw [h0, Nat.mul_zero, Nat.zero_add]
  | j + 1, hj, hn => by
    have hR : (⟨512 * ((11 * i + (j + 1)) / 11) + r.val, by omega⟩ : Fin 512) = ⟨512 * i + r.val, by omega⟩ := Fin.ext (by dsimp only; omega)
    have h0 : (11 * i + (j + 1)) % 11 = j + 1 := by omega
    refine (congrFun (acc_next m c ⟨11 * i + (j + 1), hn⟩ (by dsimp only; omega)) (ix2 r q)).trans ((tile_at m c ⟨11 * i + (j + 1), hn⟩ _ r q (by dsimp only; omega)).trans ?_)
    rw [hR]
    have ih := acc_at c i hi r q j (by omega) (by omega)
    rw [show 512 * (j + 1 + 1) = 512 * (j + 1) + 512 by omega, Finset.sum_range_add]
    refine congrArg₂ (· + ·) ih (Finset.sum_congr rfl fun n _ => ?_)
    show term m c _ q (512 * ((11 * i + (j + 1)) % 11) + n) = _
    rw [h0]

/-! ## The result -/

/-- The result at the row block's last point, normalised. -/
theorem stored_at (c : Dev nD) (i : ℕ) (hi : i < 1) (r : Fin 512) (q : Fin 2048) (hn : 11 * i + 10 < cfg0.N) :
    (outsAt0 m c (11 * i + 10) hn).1 (ix2 r q)
      = normRow (row (argHn m c) (argH m c) (argGate m c) (argIn m c) (argOut m c) ⟨512 * i + r.val, by omega⟩) (argG m c) q := by
  have hR : (⟨512 * ((11 * i + 10) / 11) + r.val, by omega⟩ : Fin 512) = ⟨512 * i + r.val, by omega⟩ := Fin.ext (by dsimp only; omega)
  have hb : (⟨(512 * ((11 * i + 10) / 11) + r.val) / 4, by omega⟩ : Fin 128) = ⟨(512 * i + r.val) / 4, by omega⟩ := Fin.ext (by dsimp only; omega)
  refine (congrFun (stored_last m c ⟨11 * i + 10, hn⟩ (by dsimp only; omega)) (ix2 r q)).trans ((last_payload _ _ _ _ r q).trans ?_)
  have e : (fun k : Fin 2048 => blkH m c ⟨11 * i + 10, hn⟩ (ix2 r k) + blkGate m c ⟨11 * i + 10, hn⟩ (ix2 r k) * accAfter m c (11 * i + 10) hn (ix2 r k)) = row (argHn m c) (argH m c) (argGate m c) (argIn m c) (argOut m c) ⟨512 * i + r.val, by omega⟩ := by
    funext k
    have eh := (h_at m c ⟨11 * i + 10, hn⟩ r k (by dsimp only; omega)).trans (congrArg (fun R => argH m c (ix2 R k)) hR)
    have eg := (gate_at m c ⟨11 * i + 10, hn⟩ r k (by dsimp only; omega)).trans (congrArg (fun b => argGate m c (ix2 b k)) hb)
    refine congrArg₂ (· + ·) eh (congrArg₂ (· * ·) eg ((acc_at m c i hi r k 10 (by omega) hn).trans ?_))
    rw [Finset.sum_range]
    refine Finset.sum_congr rfl fun n _ => ?_
    unfold term
    rw [dif_pos n.isLt]
  unfold normRow
  rw [← e, ← g_at m c ⟨11 * i + 10, hn⟩ q]

/-- The kernel's result at an index. -/
theorem result_apply (c : Dev nD) (R : Fin 512) (q : Fin 2048) :
    (G7 m c : FVec Ideal S512x2048 .f32) (ix2 R q)
      = normRow (row (argHn m c) (argH m c) (argGate m c) (argIn m c) (argOut m c) R) (argG m c) q := by
  have hR := R.isLt
  have hq := q.isLt
  have hp : pt7Of (ix2 R q) = 11 * (R.val / 512) + 10 := by
    show 11 * (1 * (R.val / 512 - 0) + 1 * (q.val / 2048 - 0)) + 10 = _
    omega
  have hl : loc7Of (ix2 R q) = ix2 (⟨R.val % 512, by omega⟩ : Fin 512) q := by
    funext a; apply Fin.ext
    match a with
    | ⟨0, _⟩ => rfl
    | ⟨1, _⟩ => show q.val % 2048 = q.val; omega
  have hn : 11 * (R.val / 512) + 10 < cfg0.N := by show _ < 11; omega
  have hN : pt7Of (ix2 R q) < cfg0.N := by rw [hp]; exact hn
  have key : ∀ n (h : n < cfg0.N), n = 11 * (R.val / 512) + 10 → (outsAt0 m c n h).1 (ix2 ⟨R.val % 512, by omega⟩ q)
      = normRow (row (argHn m c) (argH m c) (argGate m c) (argIn m c) (argOut m c) R) (argG m c) q := by
    intro n h e
    subst e
    refine (stored_at m c (R.val / 512) (by omega) ⟨R.val % 512, by omega⟩ q h).trans ?_
    congr 2
    exact Fin.ext (by dsimp only; omega)
  unfold G7
  rw [dif_pos hN, hl, ← outsAt0_sweep m c _ hN]
  exact key _ hN hp

end

end Cert.FfnSampleIdeal.Ffn

end
-- ==== Proof.FfnSampleRef.lean ====
/-
  The feed-forward call for the samples' reference, read at an index.
-/
module

public import proofs.«01_k».proof.Proof.Gen.FfnSampleRefIdeal.Run
public import proofs.«01_k».proof.Proof.FfnSampleMath

@[expose] public section

set_option maxRecDepth 16384

noncomputable section

namespace Cert.FfnSampleRefIdeal.Ffn

open Cert.FfnSampleRefIdeal Cert.FfnSampleRefIdeal.Gen Idealize.ShloMosaic Idealize.ShloMosaic.TcCoe
open Cert.FfnSample.Math

variable {F : FTy → Type} [FloatOps F]

/-- The first product, as the reference computes it. -/
def linear (hn : FVec F S512x2048 .bf16) (w : FVec F S1x2048x11264 .f32) : FVec F S128x4x11264 .f32 :=
  Host.dotGeneral dot_S128x4x2048_S2048x11264_S128x4x11264_2_0_01_1_n_n none (shapeCast _ (extf .f32 hn bitsLt_bf16_f32) shapeCasts_S512x2048_S128x4x2048) (shapeCast _ w shapeCasts_S1x2048x11264_S2048x11264)

/-- The gated hidden features of a product's two halves. -/
def gated (p : FVec F S128x4x11264 .f32) : FVec F S128x4x5632 .f32 :=
  mulf (mulf (extractStridedSlice S128x4x5632 ![0, 0, 0] p slices_S128x4x11264_S128x4x5632_0_0_0)
    (Host.divf (broadcastInDim S128x4x5632 ![] bcast_S_S128x4x5632 (constant S_ .f32 0x3F800000#32)) (addf (broadcastInDim S128x4x5632 ![] bcast_S_S128x4x5632 (constant S_ .f32 0x3F800000#32)) (Host.exp (Host.negf (extractStridedSlice S128x4x5632 ![0, 0, 0] p slices_S128x4x11264_S128x4x5632_0_0_0))))))
    (extractStridedSlice S128x4x5632 ![0, 0, 5632] p slices_S128x4x11264_S128x4x5632_0_0_5632)

/-- The residual with the second product added. -/
def added (z : FVec F S128x4x5632 .f32) (h : FVec F S512x2048 .f32) (gate : FVec F S128x2048 .f32) (wo : FVec F S1x5632x2048 .f32) : FVec F S128x4x2048 .f32 :=
  addf (shapeCast _ h shapeCasts_S512x2048_S128x4x2048) (mulf (broadcastInDim S128x4x2048 ![0, 1, 2] bcast_S128x1x2048_S128x4x2048_0_1_2 (broadcastInDim S128x1x2048 ![0, 2] bcast_S128x2048_S128x1x2048_0_2 gate))
    (Host.dotGeneral dot_S128x4x5632_S5632x2048_S128x4x2048_2_0_01_1_n_n none z (shapeCast _ wo shapeCasts_S1x5632x2048_S5632x2048)))

/-- The normalised rows. -/
def normed (y : FVec F S128x4x2048 .f32) (g : FVec F S2048 .f32) : FVec F S512x2048 .f32 :=
  shapeCast _ (mulf (mulf y (broadcastInDim S128x4x2048 ![0, 1, 2] bcast_S128x4x1_S128x4x2048_0_1_2 (Host.rsqrt (addf (Host.divf (broadcastInDim S128x4x1 ![0, 1] bcast_S128x4_S128x4x1_0_1 (Host.reduceAdd (mulf y y) (constant S_ .f32 0x00000000#32) reducesTo_S128x4x2048_S128x4_d2 h_S_)) (broadcastInDim S128x4x1 ![] bcast_S_S128x4x1 (constant S_ .f32 0x45000000#32))) (broadcastInDim S128x4x1 ![] bcast_S_S128x4x1 (constant S_ .f32 0x358637BD#32))))))
    (broadcastInDim S128x4x2048 ![0, 1, 2] bcast_S1x1x2048_S128x4x2048_0_1_2 (broadcastInDim S1x1x2048 ![2] bcast_S2048_S1x1x2048_2 g))) shapeCasts_S128x4x2048_S512x2048

theorem result_eq (m : (ℓ : Loc nD τ sig) → Buf (Elt F) ℓ) (c : Dev nD) : Cert.FfnSampleRefIdeal.Value.res_out0 m c
    = normed (added (gated (linear (m ((c.tc : Thread nD τ).loc main_arg0)) (m ((c.tc : Thread nD τ).loc main_arg4)))) (m ((c.tc : Thread nD τ).loc main_arg1)) (m ((c.tc : Thread nD τ).loc main_arg2)) (m ((c.tc : Thread nD τ).loc main_arg5))) (m ((c.tc : Thread nD τ).loc main_arg3)) := by
  unfold Cert.FfnSampleRefIdeal.Value.res_out0 Cert.FfnSampleRefIdeal.Value.res_main_v28; rfl

theorem linear_apply (hn : FVec Ideal S512x2048 .bf16) (w : FVec Ideal S1x2048x11264 .f32) (b : Fin 128) (s : Fin 4) (j : Fin 11264) :
    linear hn w (ix3 b s j) = lin hn w ⟨b.val * 4 + s.val, by omega⟩ j := by
  pointwise [linear, lin]

theorem gated_apply (p : FVec Ideal S128x4x11264 .f32) (b : Fin 128) (s : Fin 4) (j : Fin 5632) :
    gated p (ix3 b s j) = p (ix3 b s ⟨j.val, by omega⟩) * sigm (p (ix3 b s ⟨j.val, by omega⟩)) * p (ix3 b s ⟨5632 + j.val, by omega⟩) := by
  pointwise [gated, sigm]

theorem added_apply (z : FVec Ideal S128x4x5632 .f32) (h : FVec Ideal S512x2048 .f32) (gate : FVec Ideal S128x2048 .f32) (wo : FVec Ideal S1x5632x2048 .f32)
    (b : Fin 128) (s : Fin 4) (q : Fin 2048) :
    added z h gate wo (ix3 b s q) = h (ix2 ⟨b.val * 4 + s.val, by omega⟩ q) + gate (ix2 b q) * ∑ j : Fin 5632, z (ix3 b s j) * wo (ix3 0 j q) := by
  pointwise [added]

theorem normed_apply (y : FVec Ideal S128x4x2048 .f32) (g : FVec Ideal S2048 .f32) (R : Fin 512) (q : Fin 2048) :
    normed y g (ix2 R q) = normRow (fun i => y (ix3 ⟨R.val / 4, by omega⟩ ⟨R.val % 4, by omega⟩ i)) g q := by
  pointwise [normed, normRow]

/-- The reference's result at an index. -/
theorem result_apply (m : (ℓ : Loc nD τ sig) → Buf (Elt Ideal) ℓ) (c : Dev nD) (R : Fin 512) (q : Fin 2048) :
    (Cert.FfnSampleRefIdeal.Value.res_out0 m c : FVec Ideal S512x2048 .f32) (ix2 R q)
      = normRow (row (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) R)
          (m ((c.tc : Thread nD τ).loc main_arg3)) q := by
  have hR : (⟨(⟨R.val / 4, by omega⟩ : Fin 128).val * 4 + (⟨R.val % 4, by omega⟩ : Fin 4).val, by dsimp only; omega⟩ : Fin 512) = R :=
    Fin.ext (by dsimp only; omega)
  refine (congrFun (result_eq m c) (ix2 R q)).trans ((normed_apply _ _ R q).trans (congrArg (fun y => normRow y _ q) (funext fun i => ?_)))
  rw [added_apply, hR]
  unfold row
  refine congrArg₂ (· + ·) rfl (congrArg₂ (· * ·) rfl (Finset.sum_congr rfl fun j _ => ?_))
  rw [gated_apply, linear_apply, linear_apply, hR]
  rfl

end Cert.FfnSampleRefIdeal.Ffn

end
-- ==== Proof.FfnSampleClaims.lean ====
/-
  The claims about the feed-forward call for the samples.
-/
module

public import proofs.«01_k».proof.Defs
public import proofs.«01_k».proof.Proof.FfnSampleValue
public import proofs.«01_k».proof.Proof.FfnSampleRef
public import proofs.«01_k».proof.Proof.Gen.FfnSample

@[expose] public section

noncomputable section

namespace Cert.Proof.FfnSample

open Idealize.ShloMosaic Idealize.ShloMosaic.TcCoe Idealize.SL.Sem

theorem frame_kernel_ideal : Cert.quiescent_FfnSampleIdeal := fun m ρ _ => Cert.FfnSampleIdeal.Gen.frame m ρ

/-- The two prints of the kernel have one text: their body tables are one table. -/
theorem bodies_eq {F : FTy → Type} [FloatOps F] : Cert.FfnSample.defs₀ (F := F) = Cert.FfnSampleIdeal.defs₀ (F := F) := by
  unfold Cert.FfnSample.defs₀ Cert.FfnSampleIdeal.defs₀
  refine congrArg _ (funext fun l => funext fun a => ?_)
  match l, a with
  | 0, (t, s) => rfl
  | ⟨_ + 1, h⟩, _ => exact absurd h (Nat.not_lt.2 (Nat.le_add_left _ _))

theorem defs_eq {F : FTy → Type} [FloatOps F] : Cert.FfnSample.defs (F := F) = Cert.FfnSampleIdeal.defs (F := F) := by
  unfold Cert.FfnSample.defs Cert.FfnSampleIdeal.defs
  rw [bodies_eq]
  rfl

/-- So the kernel's run at the machine's floats is the run above there. -/
theorem frame_kernel : Cert.quiescent_FfnSample := fun m ρ _ => by
  rw [defs_eq]
  exact Cert.FfnSampleIdeal.Gen.frame (F := Bits) m ρ

theorem frame_reference : Cert.quiescent_FfnSampleRefIdeal := fun m ρ _ =>
  (θ_run Cert.FfnSampleRefIdeal.defs _ _).mono (fun r h => ⟨fun c => (h c).2, sem_eq_zero_of_no_sems (by decide) r.2⟩)
    (Cert.FfnSampleRefIdeal.Value.run (F := Ideal) m ρ)

theorem preserves : Cert.preserves_FfnSample_FfnSampleIdeal := trivial

/-- Both results are the normalised rows of the same residual and second product. -/
theorem algebraic : Cert.algebraic_FfnSampleIdeal_FfnSampleRefIdeal := by
  intro m ρ m' ρ' _ hagree
  refine ⟨fun c => Cert.FfnSampleIdeal.Value.G7 m c, Cert.FfnSampleIdeal.Value.run (F := Ideal) m ρ, ?_⟩
  refine (θ_run Cert.FfnSampleRefIdeal.defs _ _).mono (fun _ h c => ?_) (Cert.FfnSampleRefIdeal.Value.run (F := Ideal) m' ρ')
  obtain ⟨a0, a1, a2, a3, a4, a5⟩ := hagree c
  refine ⟨(h c).1.trans (funext fun i => ?_), (h c).2⟩
  refine (congrArg _ (eq_ix2 (n0 := 512) (n1 := 2048) i)).trans ((Cert.FfnSampleRefIdeal.Ffn.result_apply m' c _ _).trans ?_)
  rw [a0, a1, a2, a3, a4, a5]
  exact ((congrArg (Cert.FfnSampleIdeal.Value.G7 m c) (eq_ix2 i)).trans (Cert.FfnSampleIdeal.Ffn.result_apply m c _ _)).symm

end Cert.Proof.FfnSample

end
-- ==== Proof.MixMath.lean ====
/-
  The mathematics of the mixing call over the extended reals, in coordinates: per group of channels the mean of the
  rows of a trailing window less the row itself, a projection per group, the channel scale, and the gated sum of the
  two up-projections.
-/
module

public import Idealize.ShloMosaic.Lib.Pointwise

@[expose] public section

noncomputable section

namespace Cert.Mix.Math

open Idealize.ShloMosaic

/-- The logistic function. -/
def sg (a : EReal) : EReal := Ideal.div 1 (1 + Ideal.exp (-a))

/-- Entry `q` of sequence `b`'s row `n - 16`; zero before the first row. -/
def sh (x : FVec Ideal ⟨2, ![8192, 2560]⟩ .f32) (b : Fin 2) (q : Fin 1024) (n : ℕ) : EReal :=
  if h : 16 ≤ n ∧ n < 4112 then x (ix2 ⟨b.val * 4096 + (n - 16), by omega⟩ ⟨q.val, by omega⟩) else 0

/-- The mean of `N` entries ending at row `p`, fewer at the start, less the entry itself. -/
def dev (x : FVec Ideal ⟨2, ![8192, 2560]⟩ .f32) (b : Fin 2) (q : Fin 1024) (N p : ℕ) : EReal :=
  Ideal.div (∑ k ∈ Finset.range N, sh x b q (p + 16 - k)) (((min (p + 1) N : ℕ) : ℝ) : EReal) - sh x b q (p + 16)

/-- Channel `q` of the grouped projection of row `p` of sequence `b`, scaled. -/
def grouped (x : FVec Ideal ⟨2, ![8192, 2560]⟩ .f32) (w : FVec Ideal ⟨4, ![1, 4, 256, 256]⟩ .f32) (s : FVec Ideal ⟨2, ![1, 1024]⟩ .f32)
    (b : Fin 2) (p : ℕ) (q : Fin 1024) : EReal :=
  (∑ e : Fin 256, dev x b ⟨256 * (q.val / 256) + e.val, by omega⟩ (2 ^ (q.val / 256 + 1)) p * w (ix4 0 ⟨q.val / 256, by omega⟩ e ⟨q.val % 256, by omega⟩)) * s (ix2 0 q)

/-- Feature `q` of row `R` of the mix. -/
def out (x : FVec Ideal ⟨2, ![8192, 2560]⟩ .f32) (attn : FVec Ideal ⟨2, ![8192, 2048]⟩ .bf16) (gates : FVec Ideal ⟨2, ![8192, 8192]⟩ .bf16)
    (w : FVec Ideal ⟨4, ![1, 4, 256, 256]⟩ .f32) (s : FVec Ideal ⟨2, ![1, 1024]⟩ .f32) (wp : FVec Ideal ⟨3, ![1, 1024, 2048]⟩ .f32)
    (wa : FVec Ideal ⟨3, ![1, 2048, 2048]⟩ .f32) (R : Fin 8192) (q : Fin 2048) : EReal :=
  sg (gates (ix2 R ⟨2048 + q.val, by omega⟩)) * (∑ k : Fin 1024, grouped x w s ⟨R.val / 4096, by omega⟩ (R.val % 4096) k * wp (ix3 0 k q))
    + sg (gates (ix2 R ⟨4096 + q.val, by omega⟩)) * ∑ k : Fin 2048, attn (ix2 R k) * wa (ix3 0 k q)

theorem toInt_small (n : ℕ) (h : n < 2147483648) : (BitVec.ofNat 32 n).toInt = n := by
  rw [BitVec.toInt_eq_toNat_cond, BitVec.toNat_ofNat, Nat.mod_eq_of_lt (by omega), if_pos (by omega)]

theorem toInt_sub (a b : ℕ) (ha : a < 65536) (hb : b < 65536) : (BitVec.ofNat 32 a - BitVec.ofNat 32 b).toInt = (a : ℤ) - b := by
  rw [BitVec.toInt_sub, toInt_small a (by omega), toInt_small b (by omega)]
  exact Int.bmod_eq_of_le (by omega) (by omega)

theorem toInt_min (a b : ℕ) (ha : a < 65536) (hb : b < 65536) : (IntOp.minsi (BitVec.ofNat 32 a) (BitVec.ofNat 32 b)).toInt = (min a b : ℕ) := by
  unfold IntOp.minsi
  rw [BitVec.slt_eq_decide, toInt_small a (by omega), toInt_small b (by omega)]
  by_cases h : (a : ℤ) < b
  · rw [if_pos (by simpa using h), toInt_small a (by omega), Nat.min_eq_left (by omega)]
  · rw [if_neg (by simpa using h), toInt_small b (by omega), Nat.min_eq_right (by omega)]

/-- A sum over all rows with an indicator of the window is the sum over the window. -/
theorem sum_window (f : ℕ → EReal) (p N : ℕ) (hp : p < 4096) :
    (∑ s : Fin 4096, f s.val * (if s.val ≤ p ∧ p - s.val < N then (1 : EReal) else 0)) = ∑ k ∈ Finset.range N, if k ≤ p then f (p - k) else 0 := by
  rw [Fin.sum_univ_eq_sum_range (fun s => f s * (if s ≤ p ∧ p - s < N then (1 : EReal) else 0)) 4096]
  simp only [mul_ite, mul_one, mul_zero]
  rw [← Finset.sum_filter, ← Finset.sum_filter]
  refine Finset.sum_nbij' (fun s => p - s) (fun k => p - k) ?_ ?_ ?_ ?_ ?_
  · intro s hs; simp only [Finset.mem_filter, Finset.mem_range] at hs ⊢; omega
  · intro k hk; simp only [Finset.mem_filter, Finset.mem_range] at hk ⊢; omega
  · intro s hs; simp only [Finset.mem_filter, Finset.mem_range] at hs ⊢; omega
  · intro k hk; simp only [Finset.mem_filter, Finset.mem_range] at hk ⊢; omega
  · intro s hs; simp only [Finset.mem_filter, Finset.mem_range] at hs; exact congrArg f (by omega)

/-- The window's sum, over the rows that exist, in the form with zeros before the first. -/
theorem sum_sh (x : FVec Ideal ⟨2, ![8192, 2560]⟩ .f32) (b : Fin 2) (q : Fin 1024) (N p : ℕ) (hp : p < 4096) :
    (∑ s : Fin 4096, sh x b q (s.val + 16) * (if s.val ≤ p ∧ p - s.val < N then (1 : EReal) else 0)) = ∑ k ∈ Finset.range N, sh x b q (p + 16 - k) := by
  rw [sum_window (fun s => sh x b q (s + 16)) p N hp]
  refine Finset.sum_congr rfl fun k _ => ?_
  by_cases h : k ≤ p
  · rw [if_pos h]; exact congrArg (sh x b q) (by omega)
  · rw [if_neg h, sh, dif_neg (by omega)]

end Cert.Mix.Math

end
-- ==== Proof.MixTile.lean ====
/-
  What a point of the mixing call stores: the tile of the rows' mixer channels and the rows before it are laid one
  after the other in a scratch buffer, the windows' sums are sums of shifted slabs of it, and the rest is matrix
  products.
-/
module

public import proofs.«01_k».proof.Proof.Gen.MixIdeal.Value
public import proofs.«01_k».proof.Proof.MixMath

@[expose] public section

set_option maxRecDepth 16384

noncomputable section

namespace Cert.MixIdeal.Mix

open Idealize.ShloMosaic Idealize.ShloMosaic.TcCoe Idealize.ShloMosaic.Tactic
open Idealize.SL.Sem
open Idealize.ShloMosaic.Pipeline (Dat Cfg Window)
open Cert.MixIdeal Cert.MixIdeal.Gen Cert.Mix.Math

variable {F : FTy → Type} [FloatOps F]
variable (m : (ℓ : Loc nD τ sig) → Buf (Elt F) ℓ)

theorem hz : (![0, 0] : Fin 2 → ℕ) = fun _ => 0 := by decide

/-! ## What a point stores -/

/-- The scratch buffer: the sixteen rows before the tile, then the tile. -/
def buf (i : grid0.Coords) (x : Vec F S512x1024 .f32) (h : Vec F S16x1024 .f32) : Vec F S528x1024 .f32 :=
  View.canon (Val := Elt F) (s := S528x1024) (e := .f32) [⟨Rect.unit ![16, 0] ![512, 1024] inb_S528x1024_S512x1024_16_0, k0_pay5 x⟩, ⟨Rect.unit ![0, 0] ![16, 1024] inb_S528x1024_S16x1024_0_0, k0_pay4 i h⟩]

/-- A slab of the scratch buffer, by its first row and column. -/
def slab (b : Vec F S528x1024 .f32) (o q : ℕ) (h : ∀ a, (![o, q] : Fin 2 → ℕ) a + (![512, 256] : Fin 2 → ℕ) a ≤ S528x1024.size a) : Vec F S512x256 .f32 :=
  View.ld b (Rect.unit (s := S528x1024) ![o, q] ![512, 256] h)

/-- The four groups' deviations and their projections. -/
def groupsOf (i : grid0.Coords) (x : Vec F S512x1024 .f32) (b : Vec F S528x1024 .f32) (w : Vec F S4x256x256 .bf16) : FVec F S512x1024 .f32 :=
  k0_pay12 (k0_pay3 i) x (k0_pay7 (k0_pay3 i) x (k0_pay6 x (slab b 15 0 inb_S528x1024_S512x256_15_0)) 1#32)
    (k0_pay8 (k0_pay3 i) x (slab b 15 256 inb_S528x1024_S512x256_15_256) (slab b 14 256 inb_S528x1024_S512x256_14_256) (slab b 13 256 inb_S528x1024_S512x256_13_256))
    (k0_pay10 (k0_pay3 i) x (k0_pay9 x (slab b 15 512 inb_S528x1024_S512x256_15_512) (slab b 14 512 inb_S528x1024_S512x256_14_512) (slab b 13 512 inb_S528x1024_S512x256_13_512) (slab b 12 512 inb_S528x1024_S512x256_12_512) (slab b 11 512 inb_S528x1024_S512x256_11_512)) (slab b 10 512 inb_S528x1024_S512x256_10_512) (slab b 9 512 inb_S528x1024_S512x256_9_512))
    (k0_pay11 x (slab b 15 768 inb_S528x1024_S512x256_15_768) (slab b 14 768 inb_S528x1024_S512x256_14_768) (slab b 13 768 inb_S528x1024_S512x256_13_768) (slab b 12 768 inb_S528x1024_S512x256_12_768) (slab b 11 768 inb_S528x1024_S512x256_11_768) (slab b 10 768 inb_S528x1024_S512x256_10_768) (slab b 9 768 inb_S528x1024_S512x256_9_768) (slab b 8 768 inb_S528x1024_S512x256_8_768) (slab b 7 768 inb_S528x1024_S512x256_7_768) (slab b 6 768 inb_S528x1024_S512x256_6_768))
    (slab b 5 768 inb_S528x1024_S512x256_5_768) (slab b 4 768 inb_S528x1024_S512x256_4_768) (slab b 3 768 inb_S528x1024_S512x256_3_768) (slab b 2 768 inb_S528x1024_S512x256_2_768) (slab b 1 768 inb_S528x1024_S512x256_1_768)
    (View.ld w (Rect.unit ![0, 0, 0] ![1, 256, 256] inb_S4x256x256_S1x256x256_0_0_0)) (View.ld w (Rect.unit ![1, 0, 0] ![1, 256, 256] inb_S4x256x256_S1x256x256_1_0_0))
    (View.ld w (Rect.unit ![2, 0, 0] ![1, 256, 256] inb_S4x256x256_S1x256x256_2_0_0)) (View.ld w (Rect.unit ![3, 0, 0] ![1, 256, 256] inb_S4x256x256_S1x256x256_3_0_0))

/-- What a point stores in the result's block. -/
def tileAt (c : Dev nD) (t : Fin cfg0.N) : Vec F S512x2048 .bf16 :=
  k0_pay1 (k0_pay2 (iblk m c 2 t) (iblk m c 8 t)) (groupsOf (grid0.coords t) (X0_0 m c t) (buf (grid0.coords t) (X0_0 m c t) (X0_1 m c t)) (iblk m c 5 t))
    (iblk m c 6 t) (iblk m c 7 t) (iblk m c 3 t) (iblk m c 4 t)

theorem readCov_ld (v : View sig .tc .vmem S528x1024 .f32) (L : List (View.Piece (Elt F) S528x1024 .f32)) (r : Rect S528x1024) :
    v.readCov L r.toLoadRect = View.ld (View.canon L) r := View.readCov_eq_canon' v L _

theorem tileAt_eq (c : Dev nD) (t : Fin cfg0.N) : outsAt0 m c t = tileAt m c t := by
  conv => lhs; unfold outsAt0 out0_A_9; unfold kernelRun0_A; dsimp only
  sl_unfold_words
  rw [View.read_writes_junk_eq_canon, View.canon_unit_zero hz]
  simp only [readCov_ld, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    View.ld_unit_zero (S := S512x1024) hz, View.ld_unit_zero (S := S16x1024) hz, View.ld_unit_zero (S := S512x2048) hz, View.ld_unit_zero (S := S1x1024) hz, View.ld_unit_zero (S := S1024x2048) hz, View.ld_unit_zero (S := S2048x2048) hz]
  unfold tileAt groupsOf slab buf
  rfl

theorem slab_apply (b : Vec F S528x1024 .f32) (o q : ℕ) (h) (r : Fin 512) (e : Fin 256) (ho : o + r.val < 528) (hq : q + e.val < 1024) :
    slab b o q h (ix2 r e) = b (ix2 ⟨o + r.val, ho⟩ ⟨q + e.val, hq⟩) := by
  unfold slab
  refine congrArg b ?_
  funext a; apply Fin.ext
  match a with
  | ⟨0, _⟩ => show o + 1 * r.val = o + r.val; omega
  | ⟨1, _⟩ => show q + 1 * e.val = q + e.val; omega

theorem buf_tile (i : grid0.Coords) (x : Vec F S512x1024 .f32) (h : Vec F S16x1024 .f32) (r : Fin 512) (q : Fin 1024) :
    buf i x h (ix2 ⟨16 + r.val, by omega⟩ q) = x (ix2 r q) := by
  have e : (ix2 ⟨16 + r.val, by omega⟩ q : S528x1024.Idx) = (Rect.unit (s := S528x1024) ![16, 0] ![512, 1024] inb_S528x1024_S512x1024_16_0).emb (ix2 r q) := by
    funext a; apply Fin.ext
    match a with
    | ⟨0, _⟩ => show 16 + r.val = 16 + 1 * r.val; omega
    | ⟨1, _⟩ => show q.val = 0 + 1 * q.val; omega
  unfold buf
  rw [e, View.canon_cons_emb]
  pointwise [k0_pay5]

theorem buf_before (i : grid0.Coords) (x : Vec F S512x1024 .f32) (h : Vec F S16x1024 .f32) (r : Fin 16) (q : Fin 1024) :
    buf i x h (ix2 ⟨r.val, by omega⟩ q) = k0_pay4 i h (ix2 r q) := by
  have e : (ix2 ⟨r.val, by omega⟩ q : S528x1024.Idx) = (Rect.unit (s := S528x1024) ![0, 0] ![16, 1024] inb_S528x1024_S16x1024_0_0).emb (ix2 r q) := by
    funext a; apply Fin.ext
    match a with
    | ⟨0, _⟩ => show r.val = 0 + 1 * r.val; omega
    | ⟨1, _⟩ => show q.val = 0 + 1 * q.val; omega
  unfold buf
  rw [View.canon_cons_of_not_mem, e, View.canon_cons_emb]
  rw [Rect.mem_set_unit]
  intro hc
  have h0 : 16 ≤ r.val := (hc 0).1
  omega

/-! ## The point's words -/

theorem coord : ∀ t : Fin cfg0.N, (grid0.coords t (0 : Fin 1)).val = t.val :=
  (by decide +kernel : ∀ t : Fin grid0.N, _)

/-- The tile's number within its sequence, as the body computes it from the point's. -/
def tileWord (n : ℕ) : BitVec 32 :=
  Scalar.select (Scalar.andi (Scalar.xori (Scalar.cmpi CmpIPredicate.slt (Scalar.remsi (BitVec.ofNat 32 n) (Scalar.select (Scalar.cmpi CmpIPredicate.eq 8#32 0#32) 1#32 8#32)) 0#32) (Scalar.cmpi CmpIPredicate.slt (Scalar.select (Scalar.cmpi CmpIPredicate.eq 8#32 0#32) 1#32 8#32) 0#32))
      (Scalar.cmpi CmpIPredicate.ne (Scalar.remsi (BitVec.ofNat 32 n) (Scalar.select (Scalar.cmpi CmpIPredicate.eq 8#32 0#32) 1#32 8#32)) 0#32))
    (Scalar.addi (Scalar.remsi (BitVec.ofNat 32 n) (Scalar.select (Scalar.cmpi CmpIPredicate.eq 8#32 0#32) 1#32 8#32)) (Scalar.select (Scalar.cmpi CmpIPredicate.eq 8#32 0#32) 1#32 8#32)) (Scalar.remsi (BitVec.ofNat 32 n) (Scalar.select (Scalar.cmpi CmpIPredicate.eq 8#32 0#32) 1#32 8#32))

theorem tileWord_eq : ∀ t : Fin cfg0.N, tileWord t.val = BitVec.ofNat 32 (t.val % 8) :=
  (by decide +kernel : ∀ t : Fin 16, _)
theorem later_eq : ∀ t : Fin cfg0.N, Scalar.cmpi CmpIPredicate.sgt (tileWord t.val) 0#32 = BitVec.ofBool (decide (t.val % 8 ≠ 0)) :=
  (by decide +kernel : ∀ t : Fin 16, _)

theorem row_word (t : Fin cfg0.N) (r : Fin 512) : k0_pay3 (grid0.coords t) (ix2 r 0) = BitVec.ofNat 32 (512 * (t.val % 8) + r.val) := by
  pointwise [k0_pay3]
  rw [coord]
  show IntOp.addi (Scalar.muli (tileWord t.val) 512#32) (BitVec.ofNat 32 r.val) = _
  rw [tileWord_eq]
  show BitVec.ofNat 32 (t.val % 8) * BitVec.ofNat 32 512 + BitVec.ofNat 32 r.val = _
  rw [← BitVec.ofNat_mul, ← BitVec.ofNat_add, Nat.mul_comm]

theorem before_word (t : Fin cfg0.N) (h : Vec F S16x1024 .f32) (r : Fin 16) (q : Fin 1024) :
    k0_pay4 (grid0.coords t) h (ix2 r q) = if t.val % 8 = 0 then Scalar.ofBits .f32 0x00000000#32 else h (ix2 r q) := by
  pointwise [k0_pay4]
  rw [coord]
  show Scalar.select (Scalar.cmpi CmpIPredicate.sgt (tileWord t.val) 0#32) (h (ix2 r q)) _ = _
  rw [later_eq]
  by_cases h0 : t.val % 8 = 0
  · rw [if_pos h0, decide_eq_false (by omega)]; rfl
  · rw [if_neg h0, decide_eq_true h0]; rfl

/-! ## The groups, over the extended reals -/

section
variable (X : FVec Ideal ⟨2, ![8192, 2560]⟩ .f32) (B : Fin 2) (j : ℕ)

theorem count_eq (v : BitVec 32) (p : ℕ) (hp : p < 4096) (hv : v = BitVec.ofNat 32 p) (N : ℕ) (hN : N ≤ 16) :
    (FloatOps.sitofp .f32 (IntOp.minsi (IntOp.addi v 1#32) (BitVec.ofNat 32 N)) : Ideal .f32) = (((min (p + 1) N : ℕ) : ℝ) : EReal) := by
  have e : IntOp.addi v 1#32 = BitVec.ofNat 32 (p + 1) := by
    rw [hv]; unfold IntOp.addi; rw [BitVec.ofNat_add]
  show ((((IntOp.minsi (IntOp.addi v 1#32) (BitVec.ofNat 32 N)).toInt : ℤ) : ℝ) : EReal) = _
  rw [e, toInt_min _ _ (by omega) (by omega)]; rfl

theorem congr_ix3 {a b c : ℕ} {i i' : Fin a} {j j' : Fin b} {k k' : Fin c} (hi : i = i') (hj : j = j') (hk : k = k') : ix3 i j k = ix3 i' j' k' := by
  rw [hi, hj, hk]

/-- A slab of a buffer that holds the shifted rows. -/
theorem slab_sh (b : Vec Ideal S528x1024 .f32) (hb : ∀ (ρ : Fin 528) (q : Fin 1024), b (ix2 ρ q) = sh X B q (512 * j + ρ.val))
    (o q : ℕ) (h) (r : Fin 512) (e : Fin 256) (k : ℕ) (hok : o + k = 16) (hq : q + e.val < 1024) :
    slab b o q h (ix2 r e) = sh X B ⟨q + e.val, hq⟩ (512 * j + r.val + 16 - k) := by
  rw [slab_apply b o q h r e (by omega) hq, hb]
  exact congrArg (sh X B _) (by dsimp only; omega)

variable (i : grid0.Coords) (x : Vec Ideal S512x1024 .f32) (b : Vec Ideal S528x1024 .f32)

theorem group0 (hb : ∀ (ρ : Fin 528) (q : Fin 1024), b (ix2 ρ q) = sh X B q (512 * j + ρ.val))
    (hx : ∀ (r : Fin 512) (q : Fin 1024), x (ix2 r q) = sh X B q (512 * j + r.val + 16)) (hv : ∀ r : Fin 512, k0_pay3 i (ix2 r 0) = BitVec.ofNat 32 (512 * j + r.val)) (hj : j < 8)
    (r : Fin 512) (e : Fin 256) : k0_pay7 (k0_pay3 i) x (k0_pay6 x (slab b 15 0 inb_S528x1024_S512x256_15_0)) 1#32 (ix2 r e) = dev X B ⟨0 + e.val, by omega⟩ 2 (512 * j + r.val) := by
  pointwise [k0_pay6, k0_pay7, k0_pay8, k0_pay9, k0_pay10]
  have hc := count_eq (k0_pay3 i (ix2 r 0)) _ (by omega) (hv r) 2 (by decide)
  refine congrArg₂ (· - ·) (congrArg₂ Ideal.div ?_ hc) (hx r _)
  simp only [Finset.sum_range_succ, Finset.sum_range_zero, zero_add, Nat.sub_zero]
  rw [hx, slab_sh X B j b hb 15 0 _ r e 1 rfl (by omega)]
  simp only [Nat.zero_add]

theorem group1 (hb : ∀ (ρ : Fin 528) (q : Fin 1024), b (ix2 ρ q) = sh X B q (512 * j + ρ.val))
    (hx : ∀ (r : Fin 512) (q : Fin 1024), x (ix2 r q) = sh X B q (512 * j + r.val + 16)) (hv : ∀ r : Fin 512, k0_pay3 i (ix2 r 0) = BitVec.ofNat 32 (512 * j + r.val)) (hj : j < 8)
    (r : Fin 512) (e : Fin 256) : k0_pay8 (k0_pay3 i) x (slab b 15 256 inb_S528x1024_S512x256_15_256) (slab b 14 256 inb_S528x1024_S512x256_14_256) (slab b 13 256 inb_S528x1024_S512x256_13_256) (ix2 r e) = dev X B ⟨256 + e.val, by omega⟩ 4 (512 * j + r.val) := by
  pointwise [k0_pay6, k0_pay7, k0_pay8, k0_pay9, k0_pay10]
  have hc := count_eq (k0_pay3 i (ix2 r 0)) _ (by omega) (hv r) 4 (by decide)
  refine congrArg₂ (· - ·) (congrArg₂ Ideal.div ?_ hc) (hx r _)
  simp only [Finset.sum_range_succ, Finset.sum_range_zero, zero_add, Nat.sub_zero]
  rw [hx, slab_sh X B j b hb 15 256 _ r e 1 rfl (by omega), slab_sh X B j b hb 14 256 _ r e 2 rfl (by omega), slab_sh X B j b hb 13 256 _ r e 3 rfl (by omega)]

theorem group2 (hb : ∀ (ρ : Fin 528) (q : Fin 1024), b (ix2 ρ q) = sh X B q (512 * j + ρ.val))
    (hx : ∀ (r : Fin 512) (q : Fin 1024), x (ix2 r q) = sh X B q (512 * j + r.val + 16)) (hv : ∀ r : Fin 512, k0_pay3 i (ix2 r 0) = BitVec.ofNat 32 (512 * j + r.val)) (hj : j < 8)
    (r : Fin 512) (e : Fin 256) : k0_pay10 (k0_pay3 i) x (k0_pay9 x (slab b 15 512 inb_S528x1024_S512x256_15_512) (slab b 14 512 inb_S528x1024_S512x256_14_512) (slab b 13 512 inb_S528x1024_S512x256_13_512) (slab b 12 512 inb_S528x1024_S512x256_12_512) (slab b 11 512 inb_S528x1024_S512x256_11_512)) (slab b 10 512 inb_S528x1024_S512x256_10_512) (slab b 9 512 inb_S528x1024_S512x256_9_512) (ix2 r e) = dev X B ⟨512 + e.val, by omega⟩ 8 (512 * j + r.val) := by
  pointwise [k0_pay6, k0_pay7, k0_pay8, k0_pay9, k0_pay10]
  have hc := count_eq (k0_pay3 i (ix2 r 0)) _ (by omega) (hv r) 8 (by decide)
  refine congrArg₂ (· - ·) (congrArg₂ Ideal.div ?_ hc) (hx r _)
  simp only [Finset.sum_range_succ, Finset.sum_range_zero, zero_add, Nat.sub_zero]
  rw [hx, slab_sh X B j b hb 15 512 _ r e 1 rfl (by omega), slab_sh X B j b hb 14 512 _ r e 2 rfl (by omega), slab_sh X B j b hb 13 512 _ r e 3 rfl (by omega), slab_sh X B j b hb 12 512 _ r e 4 rfl (by omega), slab_sh X B j b hb 11 512 _ r e 5 rfl (by omega), slab_sh X B j b hb 10 512 _ r e 6 rfl (by omega), slab_sh X B j b hb 9 512 _ r e 7 rfl (by omega)]

theorem group3 (hb : ∀ (ρ : Fin 528) (q : Fin 1024), b (ix2 ρ q) = sh X B q (512 * j + ρ.val))
    (hx : ∀ (r : Fin 512) (q : Fin 1024), x (ix2 r q) = sh X B q (512 * j + r.val + 16)) (hv : ∀ r : Fin 512, k0_pay3 i (ix2 r 0) = BitVec.ofNat 32 (512 * j + r.val)) (hj : j < 8)
    (r : Fin 512) (e : Fin 256) :
    Ideal.div (k0_pay11 x (slab b 15 768 inb_S528x1024_S512x256_15_768) (slab b 14 768 inb_S528x1024_S512x256_14_768) (slab b 13 768 inb_S528x1024_S512x256_13_768) (slab b 12 768 inb_S528x1024_S512x256_12_768) (slab b 11 768 inb_S528x1024_S512x256_11_768) (slab b 10 768 inb_S528x1024_S512x256_10_768) (slab b 9 768 inb_S528x1024_S512x256_9_768) (slab b 8 768 inb_S528x1024_S512x256_8_768) (slab b 7 768 inb_S528x1024_S512x256_7_768) (slab b 6 768 inb_S528x1024_S512x256_6_768) (ix2 r e) + (slab b 5 768 inb_S528x1024_S512x256_5_768) (ix2 r e) + (slab b 4 768 inb_S528x1024_S512x256_4_768) (ix2 r e) + (slab b 3 768 inb_S528x1024_S512x256_3_768) (ix2 r e) + (slab b 2 768 inb_S528x1024_S512x256_2_768) (ix2 r e) + (slab b 1 768 inb_S528x1024_S512x256_1_768) (ix2 r e))
        (FloatOps.sitofp .f32 (IntOp.minsi (IntOp.addi (k0_pay3 i (ix2 r 0)) 1#32) 16#32) : Ideal .f32) - x (ix2 r ⟨768 + e.val, by omega⟩)
      = dev X B ⟨768 + e.val, by omega⟩ 16 (512 * j + r.val) := by
  pointwise [k0_pay11]
  have hc := count_eq (k0_pay3 i (ix2 r 0)) _ (by omega) (hv r) 16 (by decide)
  refine congrArg₂ (· - ·) (congrArg₂ Ideal.div ?_ hc) (hx r _)
  simp only [Finset.sum_range_succ, Finset.sum_range_zero, zero_add, Nat.sub_zero]
  rw [hx, slab_sh X B j b hb 15 768 _ r e 1 rfl (by omega), slab_sh X B j b hb 14 768 _ r e 2 rfl (by omega), slab_sh X B j b hb 13 768 _ r e 3 rfl (by omega), slab_sh X B j b hb 12 768 _ r e 4 rfl (by omega), slab_sh X B j b hb 11 768 _ r e 5 rfl (by omega), slab_sh X B j b hb 10 768 _ r e 6 rfl (by omega), slab_sh X B j b hb 9 768 _ r e 7 rfl (by omega), slab_sh X B j b hb 8 768 _ r e 8 rfl (by omega), slab_sh X B j b hb 7 768 _ r e 9 rfl (by omega), slab_sh X B j b hb 6 768 _ r e 10 rfl (by omega), slab_sh X B j b hb 5 768 _ r e 11 rfl (by omega), slab_sh X B j b hb 4 768 _ r e 12 rfl (by omega), slab_sh X B j b hb 3 768 _ r e 13 rfl (by omega), slab_sh X B j b hb 2 768 _ r e 14 rfl (by omega), slab_sh X B j b hb 1 768 _ r e 15 rfl (by omega)]

theorem dev_congr {q q' : Fin 1024} {N N' : ℕ} (p : ℕ) (hq : q = q') (hN : N = N') : dev X B q N p = dev X B q' N' p := by
  rw [hq, hN]

/-- The projections, channel by channel. -/
theorem groups_apply (hb : ∀ (ρ : Fin 528) (q : Fin 1024), b (ix2 ρ q) = sh X B q (512 * j + ρ.val))
    (hx : ∀ (r : Fin 512) (q : Fin 1024), x (ix2 r q) = sh X B q (512 * j + r.val + 16)) (hv : ∀ r : Fin 512, k0_pay3 i (ix2 r 0) = BitVec.ofNat 32 (512 * j + r.val)) (hj : j < 8)
    (w : Vec Ideal S4x256x256 .bf16) (r : Fin 512) (k : Fin 1024) :
    groupsOf i x b w (ix2 r k) = ∑ e : Fin 256, dev X B ⟨256 * (k.val / 256) + e.val, by omega⟩ (2 ^ (k.val / 256 + 1)) (512 * j + r.val) * w (ix3 ⟨k.val / 256, by omega⟩ e ⟨k.val % 256, by omega⟩) := by
  unfold groupsOf
  pointwise [k0_pay12]
  by_cases h0 : k.val < 256
  · rw [dif_pos h0]
    have hg : k.val / 256 = 0 := by omega
    refine Finset.sum_congr rfl fun e _ => congrArg₂ (· * ·) ((group0 X B j i x b hb hx hv hj r e).trans (dev_congr X B _ (Fin.ext (by dsimp only; omega)) (by rw [hg]; rfl))) (congrArg w (congr_ix3 (Fin.ext (by simp only [hg]; rfl)) rfl (Fin.ext (by dsimp only; omega))))
  · rw [dif_neg h0]
    by_cases h1 : k.val - 256 < 256
    · rw [dif_pos h1]
      have hg : k.val / 256 = 1 := by omega
      refine Finset.sum_congr rfl fun e _ => congrArg₂ (· * ·) ((group1 X B j i x b hb hx hv hj r e).trans (dev_congr X B _ (Fin.ext (by dsimp only; omega)) (by rw [hg]; rfl))) (congrArg w (congr_ix3 (Fin.ext (by simp only [hg]; rfl)) rfl (Fin.ext (by dsimp only; omega))))
    · rw [dif_neg h1]
      by_cases h2 : k.val - 256 - 256 < 256
      · rw [dif_pos h2]
        have hg : k.val / 256 = 2 := by omega
        refine Finset.sum_congr rfl fun e _ => congrArg₂ (· * ·) ((group2 X B j i x b hb hx hv hj r e).trans (dev_congr X B _ (Fin.ext (by dsimp only; omega)) (by rw [hg]; rfl))) (congrArg w (congr_ix3 (Fin.ext (by simp only [hg]; rfl)) rfl (Fin.ext (by dsimp only; omega))))
      · rw [dif_neg h2]
        have hg : k.val / 256 = 3 := by omega
        refine Finset.sum_congr rfl fun e _ => congrArg₂ (· * ·) ((group3 X B j i x b hb hx hv hj r e).trans (dev_congr X B _ (Fin.ext (by dsimp only; omega)) (by rw [hg]; rfl))) (congrArg w (congr_ix3 (Fin.ext (by simp only [hg]; rfl)) rfl (Fin.ext (by dsimp only; omega))))

end

end Cert.MixIdeal.Mix

end
-- ==== Proof.MixValue.lean ====
/-
  The mixing call's result: each row block is what its point stores, and its entries are the mix of the arguments'
  rows.
-/
module

public import proofs.«01_k».proof.Proof.MixTile

@[expose] public section

set_option maxRecDepth 16384

noncomputable section

namespace Cert.MixIdeal.Mix

open Idealize.ShloMosaic Idealize.ShloMosaic.TcCoe Idealize.ShloMosaic.Tactic
open Idealize.SL.Sem
open Idealize.ShloMosaic.Pipeline (Dat Cfg Window)
open Cert.MixIdeal Cert.MixIdeal.Gen Cert.Mix.Math

variable {F : FTy → Type} [FloatOps F]
variable (m : (ℓ : Loc nD τ sig) → Buf (Elt F) ℓ)

/-! ## The result's array -/

/-- The point whose block holds an index, and the index's place there. -/
abbrev tilePt (i : S8192x2048.Idx) : Fin cfg0.N := ⟨(i 0).val / 512, by have h : (i 0).val < 8192 := (i 0).isLt; show _ < 16; omega⟩
abbrev tileLoc (i : S8192x2048.Idx) : S512x2048.Idx := fun a => match a with
  | ⟨0, _⟩ => ⟨(i 0).val % 512, Nat.mod_lt _ (by decide)⟩
  | ⟨1, _⟩ => ⟨(i 1).val, (i 1).isLt⟩

/-- The result's array: each row block as its point stores it. -/
def tileArr (c : Dev nD) : Vec F S8192x2048 .bf16 := fun i => tileAt m c (tilePt i) (tileLoc i)

theorem index_tile : ∀ t : Fin cfg0.N, win0_9.index t (0 : Fin 2) = t.val ∧ win0_9.index t (1 : Fin 2) = 0 :=
  (by decide +kernel : ∀ t : Fin grid0.N, _)
theorem writes_tile : ∀ t : Fin cfg0.N, (cfg0.win 9).flush t = true :=
  (by decide +kernel : ∀ t : Fin grid0.N, win0_9.flush t = true)

theorem flushed_tile (c : Dev nD) (t : Fin cfg0.N) : (dats m 0 c).flushed 9 t = ((cfg0.win 9).blk t).view.read (Elt F) (tileArr m c) := by
  rw [Value.flushed9, tileAt_eq]
  obtain ⟨e0, e1⟩ := index_tile t
  funext y
  have hy0 : (y 0).val < 512 := (y 0).isLt
  have hy1 : (y 1).val < 2048 := (y 1).isLt
  have hb0 : (((cfg0.win 9).blk t).view.emb y 0).val = win0_9.index t (0 : Fin 2) * 512 + 1 * (y 0).val := rfl
  have hb1 : (((cfg0.win 9).blk t).view.emb y 1).val = win0_9.index t (1 : Fin 2) * 2048 + 1 * (y 1).val := rfl
  have hp : tilePt (((cfg0.win 9).blk t).view.emb y) = t := by
    apply Fin.ext
    show (((cfg0.win 9).blk t).view.emb y 0).val / 512 = t.val
    rw [hb0]; omega
  have hl : tileLoc (((cfg0.win 9).blk t).view.emb y) = (cfg0.win 9).xinj (grid0.coords t) y := by
    funext a; apply Fin.ext
    match a with
    | ⟨0, _⟩ => show (((cfg0.win 9).blk t).view.emb y 0).val % 512 = (y 0).val; rw [hb0]; omega
    | ⟨1, _⟩ => show (((cfg0.win 9).blk t).view.emb y 1).val = (y 1).val; rw [hb1]; omega
  show tileAt m c t ((cfg0.win 9).xinj (grid0.coords t) y) = tileArr m c (((cfg0.win 9).blk t).view.emb y)
  unfold tileArr
  rw [hp, hl]

theorem final_tile (c : Dev nD) : (dats m 0 c).arrAt 9 cfg0.N = tileArr m c :=
  (dats m 0 c).arrAt_eq_of_cover 9 _ (fun t _ => flushed_tile m c t) fun i => by
    have h0 : (i 0).val < 8192 := (i 0).isLt
    have h1 : (i 1).val < 2048 := (i 1).isLt
    obtain ⟨t, ht⟩ : ∃ t, t = tilePt i := ⟨_, rfl⟩
    have hv : t.val = (i 0).val / 512 := by rw [ht]
    obtain ⟨e0, e1⟩ := index_tile t
    refine ⟨t, writes_tile t, ?_⟩
    show i ∈ ((View.whole (Pipeline.arrRef spec0 9)).slice (win0_9.rect t)).set
    rw [View.set_slice_whole, Rect.mem_set_unit]
    intro a
    match a with
    | ⟨0, _⟩ => show win0_9.index t (0 : Fin 2) * 512 ≤ (i 0).val ∧ (i 0).val < win0_9.index t (0 : Fin 2) * 512 + 512; rw [e0]; omega
    | ⟨1, _⟩ => show win0_9.index t (1 : Fin 2) * 2048 ≤ (i 1).val ∧ (i 1).val < win0_9.index t (1 : Fin 2) * 2048 + 2048; rw [e1]; omega

/-! ## The host's casts and reshapes -/

theorem host_w (c : Dev nD) : V m c main_v1 = truncf .bf16 (shapeCast S4x256x256 (m ((c : Thread nD τ).loc main_arg3)) shapeCasts_S1x4x256x256_S4x256x256 : FVec F S4x256x256 .f32) bitsLt_bf16_f32 := by
  show StableHlo.after hostOps0 (fun b => m (c, b)) _ = _
  after_results <;> rfl
theorem host_s (c : Dev nD) : V m c main_v3 = shapeCast S1x1024 (shapeCast S1024 (m ((c : Thread nD τ).loc main_arg4)) shapeCasts_S1x1024_S1024) shapeCasts_S1024_S1x1024 := by
  show StableHlo.after hostOps0 (fun b => m (c, b)) _ = _
  after_results <;> rfl
theorem host_p (c : Dev nD) : V m c main_v5 = truncf .bf16 (shapeCast S1024x2048 (m ((c : Thread nD τ).loc main_arg5)) shapeCasts_S1x1024x2048_S1024x2048 : FVec F S1024x2048 .f32) bitsLt_bf16_f32 := by
  show StableHlo.after hostOps0 (fun b => m (c, b)) _ = _
  after_results <;> rfl
theorem host_a (c : Dev nD) : V m c main_v7 = truncf .bf16 (shapeCast S2048x2048 (m ((c : Thread nD τ).loc main_arg6)) shapeCasts_S1x2048x2048_S2048x2048 : FVec F S2048x2048 .f32) bitsLt_bf16_f32 := by
  show StableHlo.after hostOps0 (fun b => m (c, b)) _ = _
  after_results <;> rfl

/-! ## Where the blocks lie -/

theorem index_x : ∀ t : Fin cfg0.N, win0_0.index t (0 : Fin 2) = t.val ∧ win0_0.index t (1 : Fin 2) = 0 :=
  (by decide +kernel : ∀ t : Fin grid0.N, _)
theorem index_h : ∀ t : Fin cfg0.N, win0_1.index t (0 : Fin 2) = 32 * t.val - 1 ∧ win0_1.index t (1 : Fin 2) = 0 :=
  (by decide +kernel : ∀ t : Fin grid0.N, _)
theorem index_attn : ∀ t : Fin cfg0.N, win0_2.index t (0 : Fin 2) = t.val ∧ win0_2.index t (1 : Fin 2) = 0 :=
  (by decide +kernel : ∀ t : Fin grid0.N, _)
theorem index_ga : ∀ t : Fin cfg0.N, win0_3.index t (0 : Fin 2) = t.val ∧ win0_3.index t (1 : Fin 2) = 1 :=
  (by decide +kernel : ∀ t : Fin grid0.N, _)
theorem index_gb : ∀ t : Fin cfg0.N, win0_4.index t (0 : Fin 2) = t.val ∧ win0_4.index t (1 : Fin 2) = 2 :=
  (by decide +kernel : ∀ t : Fin grid0.N, _)
theorem index_w : ∀ t : Fin cfg0.N, win0_5.index t (0 : Fin 3) = 0 ∧ win0_5.index t (1 : Fin 3) = 0 ∧ win0_5.index t (2 : Fin 3) = 0 :=
  (by decide +kernel : ∀ t : Fin grid0.N, _)
theorem index_s : ∀ t : Fin cfg0.N, win0_6.index t (0 : Fin 2) = 0 ∧ win0_6.index t (1 : Fin 2) = 0 :=
  (by decide +kernel : ∀ t : Fin grid0.N, _)
theorem index_p : ∀ t : Fin cfg0.N, win0_7.index t (0 : Fin 2) = 0 ∧ win0_7.index t (1 : Fin 2) = 0 :=
  (by decide +kernel : ∀ t : Fin grid0.N, _)
theorem index_a : ∀ t : Fin cfg0.N, win0_8.index t (0 : Fin 2) = 0 ∧ win0_8.index t (1 : Fin 2) = 0 :=
  (by decide +kernel : ∀ t : Fin grid0.N, _)

theorem block_x (c : Dev nD) (t : Fin cfg0.N) (r : Fin 512) (k : Fin 1024) (hR : 512 * t.val + r.val < 8192) :
    (X0_0 m c t : Vec F S512x1024 .f32) (ix2 r k) = V m c main_arg0 (ix2 ⟨512 * t.val + r.val, hR⟩ ⟨k.val, by omega⟩) := by
  unfold X0_0 Pipeline.Window.fill
  rw [dif_pos (moved0_0 t _)]
  unfold iblk
  rw [View.read_apply]
  show V m c main_arg0 _ = _
  congr 1
  obtain ⟨e0, e1⟩ := index_x t
  funext a; apply Fin.ext
  match a with
  | ⟨0, _⟩ => show win0_0.index t (0 : Fin 2) * 512 + 1 * r.val = _; rw [e0]; show _ = 512 * t.val + r.val; omega
  | ⟨1, _⟩ => show win0_0.index t (1 : Fin 2) * 1024 + 1 * k.val = _; rw [e1]; show _ = k.val; omega

theorem block_h (c : Dev nD) (t : Fin cfg0.N) (r : Fin 16) (k : Fin 1024) (hR : 16 * (32 * t.val - 1) + r.val < 8192) :
    (X0_1 m c t : Vec F S16x1024 .f32) (ix2 r k) = V m c main_arg0 (ix2 ⟨16 * (32 * t.val - 1) + r.val, hR⟩ ⟨k.val, by omega⟩) := by
  unfold X0_1 Pipeline.Window.fill
  rw [dif_pos (moved0_1 t _)]
  unfold iblk
  rw [View.read_apply]
  show V m c main_arg0 _ = _
  congr 1
  obtain ⟨e0, e1⟩ := index_h t
  funext a; apply Fin.ext
  match a with
  | ⟨0, _⟩ => show win0_1.index t (0 : Fin 2) * 16 + 1 * r.val = _; rw [e0]; show _ = 16 * (32 * t.val - 1) + r.val; omega
  | ⟨1, _⟩ => show win0_1.index t (1 : Fin 2) * 1024 + 1 * k.val = _; rw [e1]; show _ = k.val; omega

theorem block_attn (c : Dev nD) (t : Fin cfg0.N) (r : Fin 512) (k : Fin 2048) (hR : 512 * t.val + r.val < 8192) :
    (iblk m c 2 t : Vec F S512x2048 .bf16) (ix2 r k) = V m c main_arg1 (ix2 ⟨512 * t.val + r.val, hR⟩ k) := by
  unfold iblk
  rw [View.read_apply]
  show V m c main_arg1 _ = _
  congr 1
  obtain ⟨e0, e1⟩ := index_attn t
  funext a; apply Fin.ext
  match a with
  | ⟨0, _⟩ => show win0_2.index t (0 : Fin 2) * 512 + 1 * r.val = _; rw [e0]; show _ = 512 * t.val + r.val; omega
  | ⟨1, _⟩ => show win0_2.index t (1 : Fin 2) * 2048 + 1 * k.val = _; rw [e1]; show _ = k.val; omega

theorem block_ga (c : Dev nD) (t : Fin cfg0.N) (r : Fin 512) (k : Fin 2048) (hR : 512 * t.val + r.val < 8192) :
    (iblk m c 3 t : Vec F S512x2048 .bf16) (ix2 r k) = V m c main_arg2 (ix2 ⟨512 * t.val + r.val, hR⟩ ⟨2048 + k.val, by omega⟩) := by
  unfold iblk
  rw [View.read_apply]
  show V m c main_arg2 _ = _
  congr 1
  obtain ⟨e0, e1⟩ := index_ga t
  funext a; apply Fin.ext
  match a with
  | ⟨0, _⟩ => show win0_3.index t (0 : Fin 2) * 512 + 1 * r.val = _; rw [e0]; show _ = 512 * t.val + r.val; omega
  | ⟨1, _⟩ => show win0_3.index t (1 : Fin 2) * 2048 + 1 * k.val = _; rw [e1]; show _ = 2048 + k.val; omega

theorem block_gb (c : Dev nD) (t : Fin cfg0.N) (r : Fin 512) (k : Fin 2048) (hR : 512 * t.val + r.val < 8192) :
    (iblk m c 4 t : Vec F S512x2048 .bf16) (ix2 r k) = V m c main_arg2 (ix2 ⟨512 * t.val + r.val, hR⟩ ⟨4096 + k.val, by omega⟩) := by
  unfold iblk
  rw [View.read_apply]
  show V m c main_arg2 _ = _
  congr 1
  obtain ⟨e0, e1⟩ := index_gb t
  funext a; apply Fin.ext
  match a with
  | ⟨0, _⟩ => show win0_4.index t (0 : Fin 2) * 512 + 1 * r.val = _; rw [e0]; show _ = 512 * t.val + r.val; omega
  | ⟨1, _⟩ => show win0_4.index t (1 : Fin 2) * 2048 + 1 * k.val = _; rw [e1]; show _ = 4096 + k.val; omega

theorem block_w (c : Dev nD) (t : Fin cfg0.N) (g : Fin 4) (e n : Fin 256) :
    (iblk m c 5 t : Vec F S4x256x256 .bf16) (ix3 g e n) = V m c main_v1 (ix3 g e n) := by
  unfold iblk
  rw [View.read_apply]
  show V m c main_v1 _ = _
  congr 1
  obtain ⟨e0, e1, e2⟩ := index_w t
  funext a; apply Fin.ext
  match a with
  | ⟨0, _⟩ => show win0_5.index t (0 : Fin 3) * 4 + 1 * g.val = _; rw [e0]; show _ = g.val; omega
  | ⟨1, _⟩ => show win0_5.index t (1 : Fin 3) * 256 + 1 * e.val = _; rw [e1]; show _ = e.val; omega
  | ⟨2, _⟩ => show win0_5.index t (2 : Fin 3) * 256 + 1 * n.val = _; rw [e2]; show _ = n.val; omega

theorem block_s (c : Dev nD) (t : Fin cfg0.N) (k : Fin 1024) :
    (iblk m c 6 t : Vec F S1x1024 .f32) (ix2 0 k) = V m c main_v3 (ix2 0 k) := by
  unfold iblk
  rw [View.read_apply]
  show V m c main_v3 _ = _
  congr 1
  obtain ⟨e0, e1⟩ := index_s t
  funext a; apply Fin.ext
  match a with
  | ⟨0, _⟩ => show win0_6.index t (0 : Fin 2) * 1 + 1 * 0 = _; rw [e0]; show _ = 0; omega
  | ⟨1, _⟩ => show win0_6.index t (1 : Fin 2) * 1024 + 1 * k.val = _; rw [e1]; show _ = k.val; omega

theorem block_p (c : Dev nD) (t : Fin cfg0.N) (k : Fin 1024) (q : Fin 2048) :
    (iblk m c 7 t : Vec F S1024x2048 .bf16) (ix2 k q) = V m c main_v5 (ix2 k q) := by
  unfold iblk
  rw [View.read_apply]
  show V m c main_v5 _ = _
  congr 1
  obtain ⟨e0, e1⟩ := index_p t
  funext a; apply Fin.ext
  match a with
  | ⟨0, _⟩ => show win0_7.index t (0 : Fin 2) * 1024 + 1 * k.val = _; rw [e0]; show _ = k.val; omega
  | ⟨1, _⟩ => show win0_7.index t (1 : Fin 2) * 2048 + 1 * q.val = _; rw [e1]; show _ = q.val; omega

theorem block_a (c : Dev nD) (t : Fin cfg0.N) (k : Fin 2048) (q : Fin 2048) :
    (iblk m c 8 t : Vec F S2048x2048 .bf16) (ix2 k q) = V m c main_v7 (ix2 k q) := by
  unfold iblk
  rw [View.read_apply]
  show V m c main_v7 _ = _
  congr 1
  obtain ⟨e0, e1⟩ := index_a t
  funext a; apply Fin.ext
  match a with
  | ⟨0, _⟩ => show win0_8.index t (0 : Fin 2) * 2048 + 1 * k.val = _; rw [e0]; show _ = k.val; omega
  | ⟨1, _⟩ => show win0_8.index t (1 : Fin 2) * 2048 + 1 * q.val = _; rw [e1]; show _ = q.val; omega

/-! ## The entries, over the extended reals -/

section
variable (m : (ℓ : Loc nD τ sig) → Buf (Elt Ideal) ℓ)

/-- The arguments, by name. -/
abbrev argX (c : Dev nD) : FVec Ideal ⟨2, ![8192, 2560]⟩ .f32 := m ((c : Thread nD τ).loc main_arg0)
abbrev argAttn (c : Dev nD) : FVec Ideal ⟨2, ![8192, 2048]⟩ .bf16 := m ((c : Thread nD τ).loc main_arg1)
abbrev argGates (c : Dev nD) : FVec Ideal ⟨2, ![8192, 8192]⟩ .bf16 := m ((c : Thread nD τ).loc main_arg2)
abbrev argW (c : Dev nD) : FVec Ideal ⟨4, ![1, 4, 256, 256]⟩ .f32 := m ((c : Thread nD τ).loc main_arg3)
abbrev argS (c : Dev nD) : FVec Ideal ⟨2, ![1, 1024]⟩ .f32 := m ((c : Thread nD τ).loc main_arg4)
abbrev argP (c : Dev nD) : FVec Ideal ⟨3, ![1, 1024, 2048]⟩ .f32 := m ((c : Thread nD τ).loc main_arg5)
abbrev argA (c : Dev nD) : FVec Ideal ⟨3, ![1, 2048, 2048]⟩ .f32 := m ((c : Thread nD τ).loc main_arg6)

theorem cast_w (x : FVec Ideal S1x4x256x256 .f32) (g : Fin 4) (e n : Fin 256) :
    truncf .bf16 (shapeCast S4x256x256 x shapeCasts_S1x4x256x256_S4x256x256 : FVec Ideal S4x256x256 .f32) bitsLt_bf16_f32 (ix3 g e n) = x (ix4 0 g e n) := by
  pointwise
theorem cast_s {α : Type} (x : S1x1024.Idx → α) (k : Fin 1024) :
    shapeCast S1x1024 (shapeCast S1024 x shapeCasts_S1x1024_S1024) shapeCasts_S1024_S1x1024 (ix2 0 k) = x (ix2 0 k) := by
  pointwise
theorem cast_p (x : FVec Ideal S1x1024x2048 .f32) (k : Fin 1024) (q : Fin 2048) :
    truncf .bf16 (shapeCast S1024x2048 x shapeCasts_S1x1024x2048_S1024x2048 : FVec Ideal S1024x2048 .f32) bitsLt_bf16_f32 (ix2 k q) = x (ix3 0 k q) := by
  pointwise
theorem cast_a (x : FVec Ideal S1x2048x2048 .f32) (k : Fin 2048) (q : Fin 2048) :
    truncf .bf16 (shapeCast S2048x2048 x shapeCasts_S1x2048x2048_S2048x2048 : FVec Ideal S2048x2048 .f32) bitsLt_bf16_f32 (ix2 k q) = x (ix3 0 k q) := by
  pointwise

theorem w_at (c : Dev nD) (t : Fin cfg0.N) (g : Fin 4) (e n : Fin 256) : (iblk m c 5 t : Vec Ideal S4x256x256 .bf16) (ix3 g e n) = argW m c (ix4 0 g e n) := by
  rw [block_w, host_w, cast_w]
theorem s_at (c : Dev nD) (t : Fin cfg0.N) (k : Fin 1024) : (iblk m c 6 t : Vec Ideal S1x1024 .f32) (ix2 0 k) = argS m c (ix2 0 k) := by
  rw [block_s, host_s, cast_s]
theorem p_at (c : Dev nD) (t : Fin cfg0.N) (k : Fin 1024) (q : Fin 2048) : (iblk m c 7 t : Vec Ideal S1024x2048 .bf16) (ix2 k q) = argP m c (ix3 0 k q) := by
  rw [block_p, host_p, cast_p]
theorem a_at (c : Dev nD) (t : Fin cfg0.N) (k : Fin 2048) (q : Fin 2048) : (iblk m c 8 t : Vec Ideal S2048x2048 .bf16) (ix2 k q) = argA m c (ix3 0 k q) := by
  rw [block_a, host_a, cast_a]
theorem attn_at (c : Dev nD) (t : Fin cfg0.N) (r : Fin 512) (k : Fin 2048) (hR : 512 * t.val + r.val < 8192) : (iblk m c 2 t : Vec Ideal S512x2048 .bf16) (ix2 r k) = argAttn m c (ix2 ⟨512 * t.val + r.val, hR⟩ k) := by
  rw [block_attn m c t r k hR, V_main_arg1]
theorem ga_at (c : Dev nD) (t : Fin cfg0.N) (r : Fin 512) (k : Fin 2048) (hR : 512 * t.val + r.val < 8192) : (iblk m c 3 t : Vec Ideal S512x2048 .bf16) (ix2 r k) = argGates m c (ix2 ⟨512 * t.val + r.val, hR⟩ ⟨2048 + k.val, by omega⟩) := by
  rw [block_ga m c t r k hR, V_main_arg2]
theorem gb_at (c : Dev nD) (t : Fin cfg0.N) (r : Fin 512) (k : Fin 2048) (hR : 512 * t.val + r.val < 8192) : (iblk m c 4 t : Vec Ideal S512x2048 .bf16) (ix2 r k) = argGates m c (ix2 ⟨512 * t.val + r.val, hR⟩ ⟨4096 + k.val, by omega⟩) := by
  rw [block_gb m c t r k hR, V_main_arg2]

/-- The sequence a point's rows belong to. -/
abbrev seqOf (t : Fin cfg0.N) : Fin 2 := ⟨t.val / 8, by have h : t.val < 16 := t.isLt; omega⟩

theorem x_at (c : Dev nD) (t : Fin cfg0.N) (r : Fin 512) (q : Fin 1024) :
    (X0_0 m c t : Vec Ideal S512x1024 .f32) (ix2 r q) = sh (argX m c) (seqOf t) q (512 * (t.val % 8) + r.val + 16) := by
  have ht : t.val < 16 := t.isLt
  rw [block_x m c t r q (by omega), V_main_arg0, sh, dif_pos (by omega)]
  exact congrArg (argX m c) (congrArg₂ ix2 (Fin.ext (by dsimp only; omega)) rfl)

theorem buf_at (c : Dev nD) (t : Fin cfg0.N) (ρ : Fin 528) (q : Fin 1024) :
    buf (grid0.coords t) (X0_0 m c t) (X0_1 m c t) (ix2 ρ q) = sh (argX m c) (seqOf t) q (512 * (t.val % 8) + ρ.val) := by
  have ht : t.val < 16 := t.isLt
  by_cases h : 16 ≤ ρ.val
  · have e : ρ = ⟨16 + (⟨ρ.val - 16, by omega⟩ : Fin 512).val, by dsimp only; omega⟩ := Fin.ext (by dsimp only; omega)
    rw [e, buf_tile (F := Ideal)]
    refine (x_at m c t _ q).trans (congrArg (sh _ _ _) (by dsimp only; omega))
  · have e : ρ = ⟨(⟨ρ.val, by omega⟩ : Fin 16).val, by dsimp only; omega⟩ := rfl
    rw [e, buf_before (F := Ideal), before_word (F := Ideal)]
    by_cases h0 : t.val % 8 = 0
    · rw [if_pos h0, sh, dif_neg (by dsimp only; omega)]
      pointwise
    · rw [if_neg h0, block_h m c t _ q (by dsimp only; omega), V_main_arg0, sh, dif_pos (by dsimp only; omega)]
      exact congrArg (argX m c) (congrArg₂ ix2 (Fin.ext (by dsimp only; omega)) rfl)

theorem tile_payload (attn : Vec Ideal S512x2048 .bf16) (wa : Vec Ideal S2048x2048 .bf16) (y : FVec Ideal S512x1024 .f32) (s : Vec Ideal S1x1024 .f32) (wp : Vec Ideal S1024x2048 .bf16)
    (ga gb : Vec Ideal S512x2048 .bf16) (r : Fin 512) (q : Fin 2048) :
    k0_pay1 (k0_pay2 attn wa) y s wp ga gb (ix2 r q) = sg (ga (ix2 r q)) * (∑ k : Fin 1024, y (ix2 r k) * s (ix2 0 k) * wp (ix2 k q)) + sg (gb (ix2 r q)) * ∑ k : Fin 2048, attn (ix2 r k) * wa (ix2 k q) := by
  pointwise [k0_pay1, k0_pay2, sg]
  rfl

theorem tileAt_apply (c : Dev nD) (t : Fin cfg0.N) (r : Fin 512) (q : Fin 2048) (hR : 512 * t.val + r.val < 8192) :
    tileAt m c t (ix2 r q) = out (argX m c) (argAttn m c) (argGates m c) (argW m c) (argS m c) (argP m c) (argA m c) ⟨512 * t.val + r.val, hR⟩ q := by
  have ht : t.val < 16 := t.isLt
  refine (tile_payload _ _ _ _ _ _ _ r q).trans (congrArg₂ (· + ·) (congrArg₂ (· * ·) (congrArg sg (ga_at m c t r q hR)) (Finset.sum_congr rfl fun k _ => congrArg₂ (· * ·) ?_ (p_at m c t k q)))
    (congrArg₂ (· * ·) (congrArg sg (gb_at m c t r q hR)) (Finset.sum_congr rfl fun k _ => congrArg₂ (· * ·) (attn_at m c t r k hR) (a_at m c t k q))))
  unfold grouped
  refine congrArg₂ (· * ·) ((groups_apply (argX m c) (seqOf t) (t.val % 8) (grid0.coords t) _ _ (buf_at m c t) (x_at m c t) (row_word t) (by omega) _ r k).trans ?_) (s_at m c t k)
  refine Finset.sum_congr rfl fun e _ => congrArg₂ (· * ·) ?_ (w_at m c t _ e _)
  have hB : seqOf t = ⟨(512 * t.val + r.val) / 4096, by omega⟩ := Fin.ext (by dsimp only; omega)
  have hp : 512 * (t.val % 8) + r.val = (512 * t.val + r.val) % 4096 := by omega
  rw [hB, hp]

theorem tile_apply (c : Dev nD) (R : Fin 8192) (q : Fin 2048) : tileArr m c (ix2 R q) = out (argX m c) (argAttn m c) (argGates m c) (argW m c) (argS m c) (argP m c) (argA m c) R q := by
  have hl : tileLoc (ix2 R q) = ix2 (⟨R.val % 512, by omega⟩ : Fin 512) q := by
    funext a; match a with
    | ⟨0, _⟩ => rfl
    | ⟨1, _⟩ => rfl
  unfold tileArr
  rw [hl]
  refine (tileAt_apply m c (tilePt (ix2 R q)) ⟨R.val % 512, by omega⟩ q (by show 512 * (R.val / 512) + R.val % 512 < 8192; omega)).trans ?_
  exact congrArg (fun R => out _ _ _ _ _ _ _ R q) (Fin.ext (by show 512 * (R.val / 512) + R.val % 512 = R.val; omega))

end

/-! ## The run, read -/

theorem run_values (ρ : Dev nD → PrngReg) : θ_run defs (onTc (τ := τ) (main (F := F))) ⟨m, fun _ => 0, ρ⟩ (fun r => ∀ c : Dev nD,
      r.2.mem ((c.tc : Thread nD τ).loc main_v8) = tileArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (final_tile m c), (h c).2⟩) (Cert.MixIdeal.Value.run_blocks m ρ)

end Cert.MixIdeal.Mix

end
-- ==== Proof.MixRef.lean ====
/-
  The mixing call's reference, read at an index.
-/
module

public import proofs.«01_k».proof.Proof.Gen.MixRefIdeal.Run
public import proofs.«01_k».proof.Proof.MixMath

@[expose] public section

set_option maxRecDepth 16384

noncomputable section

namespace Cert.MixRefIdeal.Mix

open Cert.MixRefIdeal Cert.MixRefIdeal.Gen Idealize.ShloMosaic Idealize.ShloMosaic.TcCoe Idealize.SL.Sem
open Cert.Mix.Math

variable {F : FTy → Type} [FloatOps F]

/-- Which rows lie in which row's window, per group. -/
def inWindow : IVec S4x4096x4096 1 :=
  andi (broadcastInDim S4x4096x4096 ![0, 1, 2] bcast_S1x4096x4096_S4x4096x4096_0_1_2 (broadcastInDim S1x4096x4096 ![1, 2] bcast_S4096x4096_S1x4096x4096_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))))
    (cmpi .slt (broadcastInDim S4x4096x4096 ![0, 1, 2] bcast_S1x4096x4096_S4x4096x4096_0_1_2 (broadcastInDim S1x4096x4096 ![1, 2] bcast_S4096x4096_S1x4096x4096_1_2 (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0))))))
      (broadcastInDim S4x4096x4096 ![0, 1, 2] bcast_S4x1x1_S4x4096x4096_0_1_2 (broadcastInDim S4x1x1 ![0] bcast_S4_S4x1x1_0 ((fun i => lit0 (S4.rowMajor i))))))

/-- How many rows each window holds. -/
def count : IVec S4096x4 32 :=
  minsi (broadcastInDim S4096x4 ![0, 1] bcast_S4096x1_S4096x4_0_1 (addi (broadcastInDim S4096x1 ![0] bcast_S4096_S4096x1_0 (iotaInDim S4096 32 0)) (broadcastInDim S4096x1 ![] bcast_S_S4096x1 (constantI S_ 32 1#32))))
    (broadcastInDim S4096x4 ![0, 1] bcast_S1x4_S4096x4_0_1 (broadcastInDim S1x4 ![1] bcast_S4_S1x4_1 ((fun i => lit0 (S4.rowMajor i)))))

/-- The rows' mixer channels, by group. -/
def rows (x : FVec F S8192x2560 .f32) : FVec F S2x4096x4x256 .f32 :=
  shapeCast _ (extractStridedSlice S8192x1024 ![0, 0] x slices_S8192x2560_S8192x1024_0_0) shapeCasts_S8192x1024_S2x4096x4x256

/-- The windows' means less the rows. -/
def deviation (x : FVec F S8192x2560 .f32) : FVec F S2x4096x4x256 .f32 :=
  subf (Host.divf (transpose S2x4096x4x256 [1, 3, 0, 2] (Host.dotGeneral dot_S2x4096x4x256_S4x4096x4096_S4x2x256x4096_1_2_03_1_2_0 none (rows x) (uitofp .f32 inWindow)) transposes_S4x2x256x4096_S2x4096x4x256_1_3_0_2)
      (broadcastInDim S2x4096x4x256 ![0, 1, 2, 3] bcast_S1x4096x4x1_S2x4096x4x256_0_1_2_3 (broadcastInDim S1x4096x4x1 ![1, 2] bcast_S4096x4_S1x4096x4x1_1_2 (sitofp .f32 count))))
    (rows x)

/-- The projection per group, scaled. -/
def projected (d : FVec F S2x4096x4x256 .f32) (w : FVec F S1x4x256x256 .f32) (s : FVec F S1x1024 .f32) : FVec F S2x4096x1024 .f32 :=
  mulf (shapeCast _ (transpose S2x4096x4x256 [2, 3, 0, 1] (Host.dotGeneral dot_S4x256x256_S2x4096x4x256_S4x256x2x4096_1_3_2_01_0_2 none (shapeCast _ w shapeCasts_S1x4x256x256_S4x256x256) d) transposes_S4x256x2x4096_S2x4096x4x256_2_3_0_1) shapeCasts_S2x4096x4x256_S2x4096x1024)
    (broadcastInDim S2x4096x1024 ![0, 1, 2] bcast_S1x1x1024_S2x4096x1024_0_1_2 (broadcastInDim S1x1x1024 ![2] bcast_S1024_S1x1x1024_2 (shapeCast _ s shapeCasts_S1x1024_S1024)))

/-- The logistic of a gate. -/
def sigma (a : FVec F S2x4096x2048 .f32) : FVec F S2x4096x2048 .f32 :=
  Host.divf (broadcastInDim S2x4096x2048 ![] bcast_S_S2x4096x2048 (constant S_ .f32 0x3F800000#32)) (addf (broadcastInDim S2x4096x2048 ![] bcast_S_S2x4096x2048 (constant S_ .f32 0x3F800000#32)) (Host.exp (Host.negf a)))

/-- The gated sum of the two up-projections. -/
def merged (y : FVec F S2x4096x1024 .f32) (attn : FVec F S8192x2048 .bf16) (gates : FVec F S8192x8192 .bf16) (wp : FVec F S1x1024x2048 .f32) (wa : FVec F S1x2048x2048 .f32) : FVec F S2x4096x2048 .f32 :=
  addf (mulf (sigma (shapeCast _ (extf .f32 (extractStridedSlice S8192x2048 ![0, 2048] gates slices_S8192x8192_S8192x2048_0_2048) bitsLt_bf16_f32) shapeCasts_S8192x2048_S2x4096x2048))
      (Host.dotGeneral dot_S2x4096x1024_S1024x2048_S2x4096x2048_2_0_01_1_n_n none y (shapeCast _ wp shapeCasts_S1x1024x2048_S1024x2048)))
    (mulf (sigma (shapeCast _ (extf .f32 (extractStridedSlice S8192x2048 ![0, 4096] gates slices_S8192x8192_S8192x2048_0_4096) bitsLt_bf16_f32) shapeCasts_S8192x2048_S2x4096x2048))
      (Host.dotGeneral dot_S2x4096x2048_S2048x2048_S2x4096x2048_2_0_01_1_n_n none (shapeCast _ (extf .f32 attn bitsLt_bf16_f32) shapeCasts_S8192x2048_S2x4096x2048) (shapeCast _ wa shapeCasts_S1x2048x2048_S2048x2048)))

/-- The result as an array of the arguments. -/
def mixArr (m : (ℓ : Loc nD τ sig) → Buf (Elt F) ℓ) (c : Dev nD) : FVec F S8192x2048 .bf16 :=
  truncf .bf16 (shapeCast _ (merged (projected (deviation (m ((c.tc : Thread nD τ).loc main_arg0))) (m ((c.tc : Thread nD τ).loc main_arg3)) (m ((c.tc : Thread nD τ).loc main_arg4))) (m ((c.tc : Thread nD τ).loc main_arg1)) (m ((c.tc : Thread nD τ).loc main_arg2)) (m ((c.tc : Thread nD τ).loc main_arg5)) (m ((c.tc : Thread nD τ).loc main_arg6))) shapeCasts_S2x4096x2048_S8192x2048 : FVec F S8192x2048 .f32) bitsLt_bf16_f32

theorem run_values (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v72) = mixArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans rfl, (h c).2⟩) (Cert.MixRefIdeal.Value.run m ρ)

/-! ## The window's indicator and its count -/

/-- The four lengths. -/
theorem lit_eq (g : Fin 4) : lit0 (S4.rowMajor (ix1 g)) = BitVec.ofNat 32 (2 ^ (g.val + 1)) := by
  fin_cases g <;> rfl

theorem pow_le (g : Fin 4) : 2 ^ (g.val + 1) ≤ 16 := by
  fin_cases g <;> decide

theorem inWindow_apply (g : Fin 4) (t s : Fin 4096) :
    inWindow (ix3 g t s) = BitVec.ofBool (decide (s.val ≤ t.val ∧ t.val - s.val < 2 ^ (g.val + 1))) := by
  pointwise [inWindow]
  have hg := pow_le g
  rw [lit_eq]
  generalize 2 ^ (g.val + 1) = N at hg
  unfold IntOp.cmpi IntOp.subi IntOp.andi
  simp only [BitVec.slt_eq_decide, BitVec.sle_eq_decide]
  rw [toInt_sub _ _ (by omega) (by omega), toInt_small _ (by omega), toInt_small _ (by omega), toInt_small _ (by omega)]
  by_cases h1 : (s.val : ℤ) ≤ t.val
  · by_cases h2 : (t.val : ℤ) - s.val < N
    · rw [decide_eq_true h1, decide_eq_true h2, decide_eq_true ⟨by omega, by omega⟩]; rfl
    · rw [decide_eq_true h1, decide_eq_false h2, decide_eq_false (by omega)]; rfl
  · rw [decide_eq_false h1, decide_eq_false (p := s.val ≤ t.val ∧ _) (by omega)]
    by_cases h2 : (t.val : ℤ) - s.val < N
    · rw [decide_eq_true h2]; rfl
    · rw [decide_eq_false h2]; rfl

theorem count_apply (t : Fin 4096) (g : Fin 4) : (count (ix2 t g)).toInt = (min (t.val + 1) (2 ^ (g.val + 1)) : ℕ) := by
  pointwise [count]
  have hg := pow_le g
  have e : IntOp.addi (BitVec.ofNat 32 t.val) 1#32 = BitVec.ofNat 32 (t.val + 1) := by
    unfold IntOp.addi; rw [BitVec.ofNat_add]
  rw [lit_eq, e]
  exact toInt_min _ _ (by omega) (by omega)

/-! ## The entries -/

theorem rows_apply (x : FVec Ideal S8192x2560 .f32) (b : Fin 2) (t : Fin 4096) (g : Fin 4) (e : Fin 256) :
    rows x (ix4 b t g e) = sh x b ⟨256 * g.val + e.val, by omega⟩ (t.val + 16) := by
  rw [sh, dif_pos (by omega)]
  pointwise [rows]
  exact congrArg x (congrArg₂ ix2 (Fin.ext (by dsimp only; omega)) (Fin.ext (by dsimp only; omega)))

theorem indicator (p : Prop) [Decidable p] : (FloatOps.uitofp .f32 (BitVec.ofBool (decide p)) : Ideal .f32) = if p then (1 : EReal) else 0 := by
  show (((BitVec.ofBool (decide p)).toNat : ℝ) : EReal) = _
  by_cases h : p
  · rw [if_pos h, decide_eq_true h]; simp
  · rw [if_neg h, decide_eq_false h]; simp

theorem deviation_apply (x : FVec Ideal S8192x2560 .f32) (b : Fin 2) (t : Fin 4096) (g : Fin 4) (e : Fin 256) :
    deviation x (ix4 b t g e) = dev x b ⟨256 * g.val + e.val, by omega⟩ (2 ^ (g.val + 1)) t.val := by
  pointwise [deviation]
  have hc : (FloatOps.sitofp .f32 (count (ix2 t g)) : Ideal .f32) = (((min (t.val + 1) (2 ^ (g.val + 1)) : ℕ) : ℝ) : EReal) := by
    show (((count (ix2 t g)).toInt : ℝ) : EReal) = _
    rw [count_apply]; rfl
  rw [hc, rows_apply]
  unfold dev
  refine congrArg (fun z => Ideal.div z _ - _) (Eq.trans (Finset.sum_congr rfl fun s _ => ?_) (sum_sh x b _ _ _ t.isLt))
  rw [rows_apply, inWindow_apply, indicator]

theorem projected_apply (d : FVec Ideal S2x4096x4x256 .f32) (w : FVec Ideal S1x4x256x256 .f32) (s : FVec Ideal S1x1024 .f32) (b : Fin 2) (t : Fin 4096) (q : Fin 1024) :
    projected d w s (ix3 b t q) = (∑ e : Fin 256, d (ix4 b t ⟨q.val / 256, by omega⟩ e) * w (ix4 0 ⟨q.val / 256, by omega⟩ e ⟨q.val % 256, by omega⟩)) * s (ix2 0 q) := by
  pointwise [projected]
  exact congrArg (fun z => z * _) (Finset.sum_congr rfl fun e _ => mul_comm _ _)

theorem merged_apply (y : FVec Ideal S2x4096x1024 .f32) (attn : FVec Ideal S8192x2048 .bf16) (gates : FVec Ideal S8192x8192 .bf16) (wp : FVec Ideal S1x1024x2048 .f32) (wa : FVec Ideal S1x2048x2048 .f32)
    (b : Fin 2) (t : Fin 4096) (q : Fin 2048) :
    merged y attn gates wp wa (ix3 b t q) = sg (gates (ix2 ⟨b.val * 4096 + t.val, by omega⟩ ⟨2048 + q.val, by omega⟩)) * (∑ k : Fin 1024, y (ix3 b t k) * wp (ix3 0 k q))
      + sg (gates (ix2 ⟨b.val * 4096 + t.val, by omega⟩ ⟨4096 + q.val, by omega⟩)) * ∑ k : Fin 2048, attn (ix2 ⟨b.val * 4096 + t.val, by omega⟩ k) * wa (ix3 0 k q) := by
  pointwise [merged, sigma, sg]

theorem flat_trunc (y : FVec Ideal S2x4096x2048 .f32) (R : Fin 8192) (q : Fin 2048) :
    truncf .bf16 (shapeCast S8192x2048 y shapeCasts_S2x4096x2048_S8192x2048 : FVec Ideal S8192x2048 .f32) bitsLt_bf16_f32 (ix2 R q) = y (ix3 ⟨R.val / 4096, by omega⟩ ⟨R.val % 4096, by omega⟩ q) := by
  pointwise

variable (m : (ℓ : Loc nD τ sig) → Buf (Elt Ideal) ℓ)

theorem mix_apply (c : Dev nD) (R : Fin 8192) (q : Fin 2048) :
    mixArr m c (ix2 R q) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) R q := by
  have hR : (⟨(⟨R.val / 4096, by omega⟩ : Fin 2).val * 4096 + (⟨R.val % 4096, by omega⟩ : Fin 4096).val, by dsimp only; omega⟩ : Fin 8192) = R :=
    Fin.ext (by dsimp only; omega)
  refine (flat_trunc _ R q).trans ?_
  rw [merged_apply, hR]
  unfold out
  refine congrArg (fun z => sg _ * z + _) (Finset.sum_congr rfl fun k _ => congrArg (fun z => z * _) ?_)
  rw [projected_apply]
  unfold grouped
  exact congrArg (fun z => z * _) (Finset.sum_congr rfl fun e _ => congrArg (fun z => z * _) (deviation_apply _ _ _ _ _))

end Cert.MixRefIdeal.Mix

end
-- ==== Proof.MixClaims.lean ====
/-
  The claims about the mixing call.
-/
module

public import proofs.«01_k».proof.Defs
public import proofs.«01_k».proof.Proof.MixValue
public import proofs.«01_k».proof.Proof.MixRef
public import proofs.«01_k».proof.Proof.Gen.Mix

@[expose] public section

noncomputable section

namespace Cert.Proof.Mix

open Idealize.ShloMosaic Idealize.ShloMosaic.TcCoe Idealize.SL.Sem

theorem frame_kernel_ideal : Cert.quiescent_MixIdeal := fun m ρ _ => Cert.MixIdeal.Gen.frame m ρ

/-- The two prints of the kernel have one text: their body tables are one table. -/
theorem bodies_eq {F : FTy → Type} [FloatOps F] : Cert.Mix.defs₀ (F := F) = Cert.MixIdeal.defs₀ (F := F) := by
  unfold Cert.Mix.defs₀ Cert.MixIdeal.defs₀
  refine congrArg _ (funext fun l => funext fun a => ?_)
  match l, a with
  | 0, (t, s) => rfl
  | ⟨_ + 1, h⟩, _ => exact absurd h (Nat.not_lt.2 (Nat.le_add_left _ _))

theorem defs_eq {F : FTy → Type} [FloatOps F] : Cert.Mix.defs (F := F) = Cert.MixIdeal.defs (F := F) := by
  unfold Cert.Mix.defs Cert.MixIdeal.defs
  rw [bodies_eq]
  rfl

/-- So the kernel's run at the machine's floats is the run above there. -/
theorem frame_kernel : Cert.quiescent_Mix := fun m ρ _ => by
  rw [defs_eq]
  exact Cert.MixIdeal.Gen.frame (F := Bits) m ρ

theorem frame_reference : Cert.quiescent_MixRefIdeal := fun m ρ _ =>
  (θ_run Cert.MixRefIdeal.defs _ _).mono (fun r h => ⟨fun c => (h c).2, sem_eq_zero_of_no_sems (by decide) r.2⟩)
    (Cert.MixRefIdeal.Value.run (F := Ideal) m ρ)

theorem preserves : Cert.preserves_Mix_MixIdeal := trivial

/-- Both results are the same mix of the same rows. -/
theorem algebraic : Cert.algebraic_MixIdeal_MixRefIdeal := by
  intro m ρ m' ρ' _ hagree
  refine ⟨fun c => Cert.MixIdeal.Mix.tileArr m c, Cert.MixIdeal.Mix.run_values (F := Ideal) m ρ, ?_⟩
  refine (θ_run Cert.MixRefIdeal.defs _ _).mono (fun _ h c => ?_) (Cert.MixRefIdeal.Mix.run_values (F := Ideal) m' ρ')
  obtain ⟨a0, a1, a2, a3, a4, a5, a6⟩ := hagree c
  refine ⟨(h c).1.trans (funext fun i => ?_), (h c).2⟩
  refine (congrArg _ (eq_ix2 (n0 := 8192) (n1 := 2048) i)).trans ((Cert.MixRefIdeal.Mix.mix_apply m' c _ _).trans ?_)
  rw [a0, a1, a2, a3, a4, a5, a6]
  exact ((congrArg (Cert.MixIdeal.Mix.tileArr m c) (eq_ix2 i)).trans (Cert.MixIdeal.Mix.tile_apply m c _ _)).symm

end Cert.Proof.Mix

end
-- ==== Proof.AdaMath.lean ====
/-
  The mathematics of the conditioning call over the extended reals, in coordinates: each conditioning row times its
  logistic, projected, with the bias added.
-/
module

public import Idealize.ShloMosaic.Lib.Pointwise

@[expose] public section

noncomputable section

namespace Cert.Ada.Math

open Idealize.ShloMosaic

/-- An entry times its logistic. -/
def gated (a : EReal) : EReal := a * Ideal.div 1 (1 + Ideal.exp (-a))

/-- Column `q` of row `R` of the projection with the bias. -/
def out (x : FVec Ideal ⟨2, ![136, 2048]⟩ .f32) (w : FVec Ideal ⟨3, ![1, 2048, 12288]⟩ .f32) (b : FVec Ideal ⟨2, ![1, 12288]⟩ .f32)
    (R : Fin 136) (q : Fin 12288) : EReal :=
  (∑ k : Fin 2048, gated (x (ix2 R k)) * w (ix3 0 k q)) + b (ix2 0 q)

end Cert.Ada.Math

end
-- ==== Proof.AdaValue.lean ====
/-
  The conditioning call's result: each block of columns is the projection of the gated rows onto the block's weight
  columns, with the block's part of the bias.
-/
module

public import proofs.«01_k».proof.Proof.Gen.AdaIdeal.Value
public import proofs.«01_k».proof.Proof.AdaMath

@[expose] public section

set_option maxRecDepth 16384

noncomputable section

namespace Cert.AdaIdeal.Ada

open Idealize.ShloMosaic Idealize.ShloMosaic.TcCoe Idealize.ShloMosaic.Tactic
open Idealize.SL.Sem
open Idealize.ShloMosaic.Pipeline (Dat Cfg Window)
open Cert.AdaIdeal Cert.AdaIdeal.Gen Cert.Ada.Math

variable {F : FTy → Type} [FloatOps F]
variable (m : (ℓ : Loc nD τ sig) → Buf (Elt F) ℓ)

theorem hz : (![0, 0] : Fin 2 → ℕ) = fun _ => 0 := by decide

/-! ## The result's array -/

/-- What a point stores. -/
def colAt (c : Dev nD) (t : Fin cfg0.N) : Vec F S136x512 .f32 := k0_pay1 (iblk m c 0 t) (iblk m c 1 t) (iblk m c 2 t)

theorem colAt_eq (c : Dev nD) (t : Fin cfg0.N) : out0_3 (iblk m c 0 t) (iblk m c 1 t) (iblk m c 2 t) = colAt m c t := by
  unfold out0_3 colAt
  rw [View.canon_unit_zero hz]
  simp only [View.ld_unit_zero (S := S136x2048) hz, View.ld_unit_zero (S := S2048x512) hz, View.ld_unit_zero (S := S1x512) hz]

/-- The point whose block holds an index, and the index's place there. -/
abbrev colPt (i : S136x12288.Idx) : Fin cfg0.N := ⟨(i 1).val / 512, by have h : (i 1).val < 12288 := (i 1).isLt; show _ < 24; omega⟩
abbrev colLoc (i : S136x12288.Idx) : S136x512.Idx := fun a => match a with
  | ⟨0, _⟩ => ⟨(i 0).val, (i 0).isLt⟩
  | ⟨1, _⟩ => ⟨(i 1).val % 512, Nat.mod_lt _ (by decide)⟩

/-- The result's array: each block of columns as its point stores it. -/
def colArr (c : Dev nD) : Vec F S136x12288 .f32 := fun i => colAt m c (colPt i) (colLoc i)

theorem index_col : ∀ t : Fin cfg0.N, win0_3.index t (0 : Fin 2) = 0 ∧ win0_3.index t (1 : Fin 2) = t.val :=
  (by decide +kernel : ∀ t : Fin grid0.N, _)
theorem writes_col : ∀ t : Fin cfg0.N, (cfg0.win 3).flush t = true :=
  (by decide +kernel : ∀ t : Fin grid0.N, win0_3.flush t = true)

theorem flushed_col (c : Dev nD) (t : Fin cfg0.N) : (dats m 0 c).flushed 3 t = ((cfg0.win 3).blk t).view.read (Elt F) (colArr m c) := by
  rw [Value.flushed3, colAt_eq]
  obtain ⟨e0, e1⟩ := index_col t
  funext y
  have hy0 : (y 0).val < 136 := (y 0).isLt
  have hy1 : (y 1).val < 512 := (y 1).isLt
  have hb0 : (((cfg0.win 3).blk t).view.emb y 0).val = win0_3.index t (0 : Fin 2) * 136 + 1 * (y 0).val := rfl
  have hb1 : (((cfg0.win 3).blk t).view.emb y 1).val = win0_3.index t (1 : Fin 2) * 512 + 1 * (y 1).val := rfl
  have hp : colPt (((cfg0.win 3).blk t).view.emb y) = t := by
    apply Fin.ext
    show (((cfg0.win 3).blk t).view.emb y 1).val / 512 = t.val
    rw [hb1]; omega
  have hl : colLoc (((cfg0.win 3).blk t).view.emb y) = (cfg0.win 3).xinj (grid0.coords t) y := by
    funext a; apply Fin.ext
    match a with
    | ⟨0, _⟩ => show (((cfg0.win 3).blk t).view.emb y 0).val = (y 0).val; rw [hb0]; omega
    | ⟨1, _⟩ => show (((cfg0.win 3).blk t).view.emb y 1).val % 512 = (y 1).val; rw [hb1]; omega
  show colAt m c t ((cfg0.win 3).xinj (grid0.coords t) y) = colArr m c (((cfg0.win 3).blk t).view.emb y)
  unfold colArr
  rw [hp, hl]

theorem final_col (c : Dev nD) : (dats m 0 c).arrAt 3 cfg0.N = colArr m c :=
  (dats m 0 c).arrAt_eq_of_cover 3 _ (fun t _ => flushed_col m c t) fun i => by
    have h0 : (i 0).val < 136 := (i 0).isLt
    have h1 : (i 1).val < 12288 := (i 1).isLt
    obtain ⟨t, ht⟩ : ∃ t, t = colPt i := ⟨_, rfl⟩
    have hv : t.val = (i 1).val / 512 := by rw [ht]
    obtain ⟨e0, e1⟩ := index_col t
    refine ⟨t, writes_col t, ?_⟩
    show i ∈ ((View.whole (Pipeline.arrRef spec0 3)).slice (win0_3.rect t)).set
    rw [View.set_slice_whole, Rect.mem_set_unit]
    intro a
    match a with
    | ⟨0, _⟩ => show win0_3.index t (0 : Fin 2) * 136 ≤ (i 0).val ∧ (i 0).val < win0_3.index t (0 : Fin 2) * 136 + 136; rw [e0]; omega
    | ⟨1, _⟩ => show win0_3.index t (1 : Fin 2) * 512 ≤ (i 1).val ∧ (i 1).val < win0_3.index t (1 : Fin 2) * 512 + 512; rw [e1]; omega

/-! ## The host's reshapes -/

theorem host_w (c : Dev nD) : V m c main_v0 = shapeCast S2048x12288 (m ((c : Thread nD τ).loc main_arg1)) shapeCasts_S1x2048x12288_S2048x12288 := by
  show StableHlo.after hostOps0 (fun b => m (c, b)) _ = _
  after_results <;> rfl
theorem host_b (c : Dev nD) : V m c main_v2 = shapeCast S1x12288 (shapeCast S12288 (m ((c : Thread nD τ).loc main_arg2)) shapeCasts_S1x12288_S12288) shapeCasts_S12288_S1x12288 := by
  show StableHlo.after hostOps0 (fun b => m (c, b)) _ = _
  after_results <;> rfl

/-! ## Where the blocks lie -/

theorem index_x : ∀ t : Fin cfg0.N, win0_0.index t (0 : Fin 2) = 0 ∧ win0_0.index t (1 : Fin 2) = 0 :=
  (by decide +kernel : ∀ t : Fin grid0.N, _)
theorem index_w : ∀ t : Fin cfg0.N, win0_1.index t (0 : Fin 2) = 0 ∧ win0_1.index t (1 : Fin 2) = t.val :=
  (by decide +kernel : ∀ t : Fin grid0.N, _)
theorem index_b : ∀ t : Fin cfg0.N, win0_2.index t (0 : Fin 2) = 0 ∧ win0_2.index t (1 : Fin 2) = t.val :=
  (by decide +kernel : ∀ t : Fin grid0.N, _)

theorem block_x (c : Dev nD) (t : Fin cfg0.N) (r : Fin 136) (k : Fin 2048) :
    (iblk m c 0 t : Vec F S136x2048 .f32) (ix2 r k) = V m c main_arg0 (ix2 r k) := by
  unfold iblk
  rw [View.read_apply]
  show V m c main_arg0 _ = _
  congr 1
  obtain ⟨e0, e1⟩ := index_x t
  funext a; apply Fin.ext
  match a with
  | ⟨0, _⟩ => show win0_0.index t (0 : Fin 2) * 136 + 1 * r.val = _; rw [e0]; show _ = r.val; omega
  | ⟨1, _⟩ => show win0_0.index t (1 : Fin 2) * 2048 + 1 * k.val = _; rw [e1]; show _ = k.val; omega

theorem block_w (c : Dev nD) (t : Fin cfg0.N) (k : Fin 2048) (j : Fin 512) (hq : 512 * t.val + j.val < 12288) :
    (iblk m c 1 t : Vec F S2048x512 .f32) (ix2 k j) = V m c main_v0 (ix2 k ⟨512 * t.val + j.val, hq⟩) := by
  unfold iblk
  rw [View.read_apply]
  show V m c main_v0 _ = _
  congr 1
  obtain ⟨e0, e1⟩ := index_w t
  funext a; apply Fin.ext
  match a with
  | ⟨0, _⟩ => show win0_1.index t (0 : Fin 2) * 2048 + 1 * k.val = _; rw [e0]; show _ = k.val; omega
  | ⟨1, _⟩ => show win0_1.index t (1 : Fin 2) * 512 + 1 * j.val = _; rw [e1]; show _ = 512 * t.val + j.val; omega

theorem block_b (c : Dev nD) (t : Fin cfg0.N) (j : Fin 512) (hq : 512 * t.val + j.val < 12288) :
    (iblk m c 2 t : Vec F S1x512 .f32) (ix2 0 j) = V m c main_v2 (ix2 0 ⟨512 * t.val + j.val, hq⟩) := by
  unfold iblk
  rw [View.read_apply]
  show V m c main_v2 _ = _
  congr 1
  obtain ⟨e0, e1⟩ := index_b t
  funext a; apply Fin.ext
  match a with
  | ⟨0, _⟩ => show win0_2.index t (0 : Fin 2) * 1 + 1 * 0 = _; rw [e0]; show _ = 0; omega
  | ⟨1, _⟩ => show win0_2.index t (1 : Fin 2) * 512 + 1 * j.val = _; rw [e1]; show _ = 512 * t.val + j.val; omega

/-! ## The entries, over the extended reals -/

section
variable (m : (ℓ : Loc nD τ sig) → Buf (Elt Ideal) ℓ)

/-- The arguments, by name. -/
abbrev argX (c : Dev nD) : FVec Ideal ⟨2, ![136, 2048]⟩ .f32 := m ((c : Thread nD τ).loc main_arg0)
abbrev argW (c : Dev nD) : FVec Ideal ⟨3, ![1, 2048, 12288]⟩ .f32 := m ((c : Thread nD τ).loc main_arg1)
abbrev argB (c : Dev nD) : FVec Ideal ⟨2, ![1, 12288]⟩ .f32 := m ((c : Thread nD τ).loc main_arg2)

theorem cast_w {α : Type} (x : S1x2048x12288.Idx → α) (k : Fin 2048) (q : Fin 12288) :
    shapeCast S2048x12288 x shapeCasts_S1x2048x12288_S2048x12288 (ix2 k q) = x (ix3 0 k q) := by
  pointwise
theorem cast_b {α : Type} (x : S1x12288.Idx → α) (q : Fin 12288) :
    shapeCast S1x12288 (shapeCast S12288 x shapeCasts_S1x12288_S12288) shapeCasts_S12288_S1x12288 (ix2 0 q) = x (ix2 0 q) := by
  pointwise

theorem x_at (c : Dev nD) (t : Fin cfg0.N) (r : Fin 136) (k : Fin 2048) : (iblk m c 0 t : Vec Ideal S136x2048 .f32) (ix2 r k) = argX m c (ix2 r k) := by
  rw [block_x, V_main_arg0]
theorem w_at (c : Dev nD) (t : Fin cfg0.N) (k : Fin 2048) (j : Fin 512) (hq : 512 * t.val + j.val < 12288) :
    (iblk m c 1 t : Vec Ideal S2048x512 .f32) (ix2 k j) = argW m c (ix3 0 k ⟨512 * t.val + j.val, hq⟩) := by
  rw [block_w m c t k j hq, host_w, cast_w]
theorem b_at (c : Dev nD) (t : Fin cfg0.N) (j : Fin 512) (hq : 512 * t.val + j.val < 12288) :
    (iblk m c 2 t : Vec Ideal S1x512 .f32) (ix2 0 j) = argB m c (ix2 0 ⟨512 * t.val + j.val, hq⟩) := by
  rw [block_b m c t j hq, host_b, cast_b]

theorem col_payload (x : Vec Ideal S136x2048 .f32) (w : Vec Ideal S2048x512 .f32) (b : Vec Ideal S1x512 .f32) (r : Fin 136) (j : Fin 512) :
    k0_pay1 x w b (ix2 r j) = (∑ k : Fin 2048, gated (x (ix2 r k)) * w (ix2 k j)) + b (ix2 0 j) := by
  pointwise [k0_pay1, gated]
  rfl

theorem colAt_apply (c : Dev nD) (t : Fin cfg0.N) (r : Fin 136) (j : Fin 512) (hq : 512 * t.val + j.val < 12288) :
    colAt m c t (ix2 r j) = out (argX m c) (argW m c) (argB m c) r ⟨512 * t.val + j.val, hq⟩ := by
  refine (col_payload _ _ _ r j).trans (congrArg₂ (· + ·) (Finset.sum_congr rfl fun k _ => ?_) (b_at m c t j hq))
  exact congrArg₂ (· * ·) (congrArg gated (x_at m c t r k)) (w_at m c t k j hq)

theorem col_apply (c : Dev nD) (R : Fin 136) (q : Fin 12288) : colArr m c (ix2 R q) = out (argX m c) (argW m c) (argB m c) R q := by
  have hl : colLoc (ix2 R q) = ix2 R (⟨q.val % 512, by omega⟩ : Fin 512) := by
    funext a; match a with
    | ⟨0, _⟩ => rfl
    | ⟨1, _⟩ => rfl
  unfold colArr
  rw [hl]
  refine (colAt_apply m c (colPt (ix2 R q)) R ⟨q.val % 512, by omega⟩ (by show 512 * (q.val / 512) + q.val % 512 < 12288; omega)).trans ?_
  exact congrArg (fun q => out _ _ _ R q) (Fin.ext (by show 512 * (q.val / 512) + q.val % 512 = q.val; omega))

end

/-! ## The run, read -/

theorem run_values (ρ : Dev nD → PrngReg) : θ_run defs (onTc (τ := τ) (main (F := F))) ⟨m, fun _ => 0, ρ⟩ (fun r => ∀ c : Dev nD,
      r.2.mem ((c.tc : Thread nD τ).loc main_v3) = colArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (final_col m c), (h c).2⟩) (Cert.AdaIdeal.Value.run_blocks m ρ)

end Cert.AdaIdeal.Ada

end
-- ==== Proof.AdaRef.lean ====
/-
  The conditioning call's reference, read at an index.
-/
module

public import proofs.«01_k».proof.Proof.Gen.AdaRefIdeal.Run
public import proofs.«01_k».proof.Proof.AdaMath

@[expose] public section

set_option maxRecDepth 16384

noncomputable section

namespace Cert.AdaRefIdeal.Ada

open Cert.AdaRefIdeal Cert.AdaRefIdeal.Gen Idealize.ShloMosaic Idealize.ShloMosaic.TcCoe Idealize.SL.Sem
open Cert.Ada.Math

variable {F : FTy → Type} [FloatOps F]

/-- The gated rows' projection with the bias, as the reference computes it. -/
def projected (x : FVec F S136x2048 .f32) (w : FVec F S1x2048x12288 .f32) (b : FVec F S1x12288 .f32) : FVec F S136x12288 .f32 :=
  addf (Host.dotGeneral dot_S136x2048_S2048x12288_S136x12288_1_0_0_1_n_n none (mulf x (Host.divf (broadcastInDim S136x2048 ![] bcast_S_S136x2048 (constant S_ .f32 0x3F800000#32)) (addf (broadcastInDim S136x2048 ![] bcast_S_S136x2048 (constant S_ .f32 0x3F800000#32)) (Host.exp (Host.negf x)))))
      (shapeCast _ w shapeCasts_S1x2048x12288_S2048x12288))
    (broadcastInDim S136x12288 ![0, 1] bcast_S1x12288_S136x12288_0_1 (broadcastInDim S1x12288 ![1] bcast_S12288_S1x12288_1 (shapeCast _ b shapeCasts_S1x12288_S12288)))

theorem run_values (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6) = projected (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans rfl, (h c).2⟩) (Cert.AdaRefIdeal.Value.run m ρ)

theorem projected_apply (x : FVec Ideal S136x2048 .f32) (w : FVec Ideal S1x2048x12288 .f32) (b : FVec Ideal S1x12288 .f32) (R : Fin 136) (q : Fin 12288) :
    projected x w b (ix2 R q) = out x w b R q := by
  pointwise [projected, out, gated]

end Cert.AdaRefIdeal.Ada

end
-- ==== Proof.AdaClaims.lean ====
/-
  The claims about the conditioning call.
-/
module

public import proofs.«01_k».proof.Defs
public import proofs.«01_k».proof.Proof.AdaValue
public import proofs.«01_k».proof.Proof.AdaRef
public import proofs.«01_k».proof.Proof.Gen.Ada

@[expose] public section

noncomputable section

namespace Cert.Proof.Ada

open Idealize.ShloMosaic Idealize.ShloMosaic.TcCoe Idealize.SL.Sem

theorem frame_kernel_ideal : Cert.quiescent_AdaIdeal := fun m ρ _ => Cert.AdaIdeal.Gen.frame m ρ

/-- The two prints of the kernel have one text: their body tables are one table. -/
theorem bodies_eq {F : FTy → Type} [FloatOps F] : Cert.Ada.defs₀ (F := F) = Cert.AdaIdeal.defs₀ (F := F) := by
  unfold Cert.Ada.defs₀ Cert.AdaIdeal.defs₀
  refine congrArg _ (funext fun l => funext fun a => ?_)
  match l, a with
  | 0, (t, s) => rfl
  | ⟨_ + 1, h⟩, _ => exact absurd h (Nat.not_lt.2 (Nat.le_add_left _ _))

theorem defs_eq {F : FTy → Type} [FloatOps F] : Cert.Ada.defs (F := F) = Cert.AdaIdeal.defs (F := F) := by
  unfold Cert.Ada.defs Cert.AdaIdeal.defs
  rw [bodies_eq]
  rfl

/-- So the kernel's run at the machine's floats is the run above there. -/
theorem frame_kernel : Cert.quiescent_Ada := fun m ρ _ => by
  rw [defs_eq]
  exact Cert.AdaIdeal.Gen.frame (F := Bits) m ρ

theorem frame_reference : Cert.quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)

theorem preserves : Cert.preserves_Ada_AdaIdeal := trivial

/-- Both results are the same projection of the same gated rows. -/
theorem algebraic : Cert.algebraic_AdaIdeal_AdaRefIdeal := by
  intro m ρ m' ρ' _ hagree
  refine ⟨fun c => Cert.AdaIdeal.Ada.colArr m c, Cert.AdaIdeal.Ada.run_values (F := Ideal) m ρ, ?_⟩
  refine (θ_run Cert.AdaRefIdeal.defs _ _).mono (fun _ h c => ?_) (Cert.AdaRefIdeal.Ada.run_values (F := Ideal) m' ρ')
  obtain ⟨a0, a1, a2⟩ := hagree c
  refine ⟨(h c).1.trans (funext fun i => ?_), (h c).2⟩
  refine (congrArg _ (eq_ix2 (n0 := 136) (n1 := 12288) i)).trans ((Cert.AdaRefIdeal.Ada.projected_apply _ _ _ _ _).trans ?_)
  rw [a0, a1, a2]
  exact ((congrArg (Cert.AdaIdeal.Ada.colArr m c) (eq_ix2 i)).trans (Cert.AdaIdeal.Ada.col_apply m c _ _)).symm

end Cert.Proof.Ada

end
-- ==== Proof.OutSampleMath.lean ====
/-
  The mathematics of the output call for the samples over the extended reals, in coordinates: the mixed rows' projection added to the
  residual, and the modulated normalisation of the sum.
-/
module

public import Idealize.ShloMosaic.Lib.Pointwise

@[expose] public section

noncomputable section

namespace Cert.OutSample.Math

open Idealize.ShloMosaic

/-- Row `R`, feature `q` of the residual with the gated projection added. -/
def row (mix : FVec Ideal ⟨2, ![512, 2048]⟩ .bf16) (x : FVec Ideal ⟨3, ![128, 4, 2048]⟩ .f32) (gate : FVec Ideal ⟨2, ![128, 2048]⟩ .f32)
    (w : FVec Ideal ⟨3, ![1, 2048, 2048]⟩ .f32) (R : Fin 512) (q : Fin 2048) : EReal :=
  x (ix3 ⟨R.val / 4, by omega⟩ ⟨R.val % 4, by omega⟩ q) + gate (ix2 ⟨R.val / 4, by omega⟩ q) * ∑ k : Fin 2048, mix (ix2 R k) * w (ix3 0 k q)

/-- Feature `q` of a row `y` normalised by its mean square, with the gain, the scale and the shift of batch row `b`. -/
def modRow (y : Fin 2048 → EReal) (g : FVec Ideal ⟨2, ![1, 2048]⟩ .f32) (sh sc : FVec Ideal ⟨2, ![128, 2048]⟩ .f32) (b : Fin 128) (q : Fin 2048) : EReal :=
  y q * Ideal.rsqrt (Ideal.div (∑ i : Fin 2048, y i * y i) (Ideal.ofBits .f32 0x45000000#32) + Ideal.ofBits .f32 0x358637BD#32)
    * g (ix2 0 q) * (1 + sc (ix2 b q)) + sh (ix2 b q)

end Cert.OutSample.Math

end
-- ==== Proof.OutSampleValue.lean ====
/-
  The output call's two results for the samples: each row block is the projection of the mixed rows added to the residual, and its
  modulated normalisation.
-/
module

public import proofs.«01_k».proof.Proof.Gen.OutSampleIdeal.Value
public import proofs.«01_k».proof.Proof.OutSampleMath

@[expose] public section

set_option maxRecDepth 16384

noncomputable section

namespace Cert.OutSampleIdeal.Out

open Idealize.ShloMosaic Idealize.ShloMosaic.TcCoe Idealize.ShloMosaic.Tactic
open Idealize.SL.Sem
open Idealize.ShloMosaic.Pipeline (Dat Cfg Window)
open Cert.OutSampleIdeal Cert.OutSampleIdeal.Gen Cert.OutSample.Math

variable {F : FTy → Type} [FloatOps F]
variable (m : (ℓ : Loc nD τ sig) → Buf (Elt F) ℓ)

theorem hz : (![0, 0] : Fin 2 → ℕ) = fun _ => 0 := by decide

/-! ## The two results' arrays -/

/-- What a point stores in this result's block. -/
def sumAt (c : Dev nD) (t : Fin cfg0.N) : Vec F S512x2048 .f32 := k0_pay1 (iblk m c 1 t) (iblk m c 2 t) (iblk m c 0 t) (iblk m c 6 t)

theorem sumAt_eq (c : Dev nD) (t : Fin cfg0.N) : out0_7 (iblk m c 0 t) (iblk m c 1 t) (iblk m c 2 t) (iblk m c 3 t) (iblk m c 4 t) (iblk m c 5 t) (iblk m c 6 t) = sumAt m c t := by
  unfold out0_7 sumAt
  rw [View.canon_unit_zero hz]
  simp only [View.ld_unit_zero (S := S512x2048) hz, View.ld_unit_zero (S := S1x2048) hz, View.ld_unit_zero (S := S2048x2048) hz]

/-- The point whose block holds an index, and the index's place there. -/
abbrev sumPt (i : S512x2048.Idx) : Fin cfg0.N := ⟨(i 0).val / 512, by have h : (i 0).val < 512 := (i 0).isLt; show _ < 1; omega⟩
abbrev sumLoc (i : S512x2048.Idx) : S512x2048.Idx := fun a => match a with
  | ⟨0, _⟩ => ⟨(i 0).val % 512, Nat.mod_lt _ (by decide)⟩
  | ⟨1, _⟩ => ⟨(i 1).val, (i 1).isLt⟩

/-- The result's array: each row block as its point stores it. -/
def sumArr (c : Dev nD) : Vec F S512x2048 .f32 := fun i => sumAt m c (sumPt i) (sumLoc i)

theorem index_sum : ∀ t : Fin cfg0.N, win0_7.index t (0 : Fin 2) = t.val ∧ win0_7.index t (1 : Fin 2) = 0 :=
  (by decide +kernel : ∀ t : Fin grid0.N, _)
theorem writes_sum : ∀ t : Fin cfg0.N, (cfg0.win 7).flush t = true :=
  (by decide +kernel : ∀ t : Fin grid0.N, win0_7.flush t = true)

theorem flushed_sum (c : Dev nD) (t : Fin cfg0.N) : (dats m 0 c).flushed 7 t = ((cfg0.win 7).blk t).view.read (Elt F) (sumArr m c) := by
  rw [Value.flushed7, sumAt_eq]
  obtain ⟨e0, e1⟩ := index_sum t
  funext y
  have hy0 : (y 0).val < 512 := (y 0).isLt
  have hy1 : (y 1).val < 2048 := (y 1).isLt
  have hb0 : (((cfg0.win 7).blk t).view.emb y 0).val = win0_7.index t (0 : Fin 2) * 512 + 1 * (y 0).val := rfl
  have hb1 : (((cfg0.win 7).blk t).view.emb y 1).val = win0_7.index t (1 : Fin 2) * 2048 + 1 * (y 1).val := rfl
  have hp : sumPt (((cfg0.win 7).blk t).view.emb y) = t := by
    apply Fin.ext
    show (((cfg0.win 7).blk t).view.emb y 0).val / 512 = t.val
    rw [hb0]; omega
  have hl : sumLoc (((cfg0.win 7).blk t).view.emb y) = (cfg0.win 7).xinj (grid0.coords t) y := by
    funext a; apply Fin.ext
    match a with
    | ⟨0, _⟩ => show (((cfg0.win 7).blk t).view.emb y 0).val % 512 = (y 0).val; rw [hb0]; omega
    | ⟨1, _⟩ => show (((cfg0.win 7).blk t).view.emb y 1).val = (y 1).val; rw [hb1]; omega
  show sumAt m c t ((cfg0.win 7).xinj (grid0.coords t) y) = sumArr m c (((cfg0.win 7).blk t).view.emb y)
  unfold sumArr
  rw [hp, hl]

theorem final_sum (c : Dev nD) : (dats m 0 c).arrAt 7 cfg0.N = sumArr m c :=
  (dats m 0 c).arrAt_eq_of_cover 7 _ (fun t _ => flushed_sum m c t) fun i => by
    have h0 : (i 0).val < 512 := (i 0).isLt
    have h1 : (i 1).val < 2048 := (i 1).isLt
    obtain ⟨t, ht⟩ : ∃ t, t = sumPt i := ⟨_, rfl⟩
    have hv : t.val = (i 0).val / 512 := by rw [ht]
    obtain ⟨e0, e1⟩ := index_sum t
    refine ⟨t, writes_sum t, ?_⟩
    show i ∈ ((View.whole (Pipeline.arrRef spec0 7)).slice (win0_7.rect t)).set
    rw [View.set_slice_whole, Rect.mem_set_unit]
    intro a
    match a with
    | ⟨0, _⟩ => show win0_7.index t (0 : Fin 2) * 512 ≤ (i 0).val ∧ (i 0).val < win0_7.index t (0 : Fin 2) * 512 + 512; rw [e0]; omega
    | ⟨1, _⟩ => show win0_7.index t (1 : Fin 2) * 2048 ≤ (i 1).val ∧ (i 1).val < win0_7.index t (1 : Fin 2) * 2048 + 2048; rw [e1]; omega

/-- What a point stores in this result's block. -/
def modAt (c : Dev nD) (t : Fin cfg0.N) : Vec F S512x2048 .bf16 := k0_pay2 (iblk m c 1 t) (iblk m c 2 t) (iblk m c 0 t) (iblk m c 6 t) (iblk m c 5 t) (iblk m c 4 t) (iblk m c 3 t)

theorem modAt_eq (c : Dev nD) (t : Fin cfg0.N) : out0_8 (iblk m c 0 t) (iblk m c 1 t) (iblk m c 2 t) (iblk m c 3 t) (iblk m c 4 t) (iblk m c 5 t) (iblk m c 6 t) = modAt m c t := by
  unfold out0_8 modAt
  rw [View.canon_unit_zero hz]
  simp only [View.ld_unit_zero (S := S512x2048) hz, View.ld_unit_zero (S := S1x2048) hz, View.ld_unit_zero (S := S2048x2048) hz]

/-- The point whose block holds an index, and the index's place there. -/
abbrev modPt (i : S512x2048.Idx) : Fin cfg0.N := ⟨(i 0).val / 512, by have h : (i 0).val < 512 := (i 0).isLt; show _ < 1; omega⟩
abbrev modLoc (i : S512x2048.Idx) : S512x2048.Idx := fun a => match a with
  | ⟨0, _⟩ => ⟨(i 0).val % 512, Nat.mod_lt _ (by decide)⟩
  | ⟨1, _⟩ => ⟨(i 1).val, (i 1).isLt⟩

/-- The result's array: each row block as its point stores it. -/
def modArr (c : Dev nD) : Vec F S512x2048 .bf16 := fun i => modAt m c (modPt i) (modLoc i)

theorem index_mod : ∀ t : Fin cfg0.N, win0_8.index t (0 : Fin 2) = t.val ∧ win0_8.index t (1 : Fin 2) = 0 :=
  (by decide +kernel : ∀ t : Fin grid0.N, _)
theorem writes_mod : ∀ t : Fin cfg0.N, (cfg0.win 8).flush t = true :=
  (by decide +kernel : ∀ t : Fin grid0.N, win0_8.flush t = true)

theorem flushed_mod (c : Dev nD) (t : Fin cfg0.N) : (dats m 0 c).flushed 8 t = ((cfg0.win 8).blk t).view.read (Elt F) (modArr m c) := by
  rw [Value.flushed8, modAt_eq]
  obtain ⟨e0, e1⟩ := index_mod t
  funext y
  have hy0 : (y 0).val < 512 := (y 0).isLt
  have hy1 : (y 1).val < 2048 := (y 1).isLt
  have hb0 : (((cfg0.win 8).blk t).view.emb y 0).val = win0_8.index t (0 : Fin 2) * 512 + 1 * (y 0).val := rfl
  have hb1 : (((cfg0.win 8).blk t).view.emb y 1).val = win0_8.index t (1 : Fin 2) * 2048 + 1 * (y 1).val := rfl
  have hp : modPt (((cfg0.win 8).blk t).view.emb y) = t := by
    apply Fin.ext
    show (((cfg0.win 8).blk t).view.emb y 0).val / 512 = t.val
    rw [hb0]; omega
  have hl : modLoc (((cfg0.win 8).blk t).view.emb y) = (cfg0.win 8).xinj (grid0.coords t) y := by
    funext a; apply Fin.ext
    match a with
    | ⟨0, _⟩ => show (((cfg0.win 8).blk t).view.emb y 0).val % 512 = (y 0).val; rw [hb0]; omega
    | ⟨1, _⟩ => show (((cfg0.win 8).blk t).view.emb y 1).val = (y 1).val; rw [hb1]; omega
  show modAt m c t ((cfg0.win 8).xinj (grid0.coords t) y) = modArr m c (((cfg0.win 8).blk t).view.emb y)
  unfold modArr
  rw [hp, hl]

theorem final_mod (c : Dev nD) : (dats m 0 c).arrAt 8 cfg0.N = modArr m c :=
  (dats m 0 c).arrAt_eq_of_cover 8 _ (fun t _ => flushed_mod m c t) fun i => by
    have h0 : (i 0).val < 512 := (i 0).isLt
    have h1 : (i 1).val < 2048 := (i 1).isLt
    obtain ⟨t, ht⟩ : ∃ t, t = modPt i := ⟨_, rfl⟩
    have hv : t.val = (i 0).val / 512 := by rw [ht]
    obtain ⟨e0, e1⟩ := index_mod t
    refine ⟨t, writes_mod t, ?_⟩
    show i ∈ ((View.whole (Pipeline.arrRef spec0 8)).slice (win0_8.rect t)).set
    rw [View.set_slice_whole, Rect.mem_set_unit]
    intro a
    match a with
    | ⟨0, _⟩ => show win0_8.index t (0 : Fin 2) * 512 ≤ (i 0).val ∧ (i 0).val < win0_8.index t (0 : Fin 2) * 512 + 512; rw [e0]; omega
    | ⟨1, _⟩ => show win0_8.index t (1 : Fin 2) * 2048 ≤ (i 1).val ∧ (i 1).val < win0_8.index t (1 : Fin 2) * 2048 + 2048; rw [e1]; omega

/-! ## The host's casts and reshapes -/

theorem host_x (c : Dev nD) : V m c main_v0 = shapeCast S512x2048 (m ((c : Thread nD τ).loc main_arg1)) shapeCasts_S128x4x2048_S512x2048 := by
  show StableHlo.after hostOps0 (fun b => m (c, b)) _ = _
  after_results <;> rfl
theorem host_gate (c : Dev nD) : V m c main_v2 = shapeCast S512x2048 (broadcastInDim S128x4x2048 ![0, 2] bcast_S128x2048_S128x4x2048_0_2 (m ((c : Thread nD τ).loc main_arg2)) : FVec F S128x4x2048 .f32) shapeCasts_S128x4x2048_S512x2048 := by
  show StableHlo.after hostOps0 (fun b => m (c, b)) _ = _
  after_results <;> rfl
theorem host_shift (c : Dev nD) : V m c main_v4 = shapeCast S512x2048 (broadcastInDim S128x4x2048 ![0, 2] bcast_S128x2048_S128x4x2048_0_2 (m ((c : Thread nD τ).loc main_arg3)) : FVec F S128x4x2048 .f32) shapeCasts_S128x4x2048_S512x2048 := by
  show StableHlo.after hostOps0 (fun b => m (c, b)) _ = _
  after_results <;> rfl
theorem host_scale (c : Dev nD) : V m c main_v6 = shapeCast S512x2048 (broadcastInDim S128x4x2048 ![0, 2] bcast_S128x2048_S128x4x2048_0_2 (m ((c : Thread nD τ).loc main_arg4)) : FVec F S128x4x2048 .f32) shapeCasts_S128x4x2048_S512x2048 := by
  show StableHlo.after hostOps0 (fun b => m (c, b)) _ = _
  after_results <;> rfl
theorem host_g (c : Dev nD) : V m c main_v8 = shapeCast S1x2048 (shapeCast S2048 (m ((c : Thread nD τ).loc main_arg5)) shapeCasts_S1x2048_S2048) shapeCasts_S2048_S1x2048 := by
  show StableHlo.after hostOps0 (fun b => m (c, b)) _ = _
  after_results <;> rfl
theorem host_w (c : Dev nD) : V m c main_v10 = truncf .bf16 (shapeCast S2048x2048 (m ((c : Thread nD τ).loc main_arg6)) shapeCasts_S1x2048x2048_S2048x2048 : FVec F S2048x2048 .f32) bitsLt_bf16_f32 := by
  show StableHlo.after hostOps0 (fun b => m (c, b)) _ = _
  after_results <;> rfl

/-! ## Where the blocks lie -/

theorem index_mix : ∀ t : Fin cfg0.N, win0_0.index t (0 : Fin 2) = t.val ∧ win0_0.index t (1 : Fin 2) = 0 :=
  (by decide +kernel : ∀ t : Fin grid0.N, _)
theorem index_x : ∀ t : Fin cfg0.N, win0_1.index t (0 : Fin 2) = t.val ∧ win0_1.index t (1 : Fin 2) = 0 :=
  (by decide +kernel : ∀ t : Fin grid0.N, _)
theorem index_gate : ∀ t : Fin cfg0.N, win0_2.index t (0 : Fin 2) = t.val ∧ win0_2.index t (1 : Fin 2) = 0 :=
  (by decide +kernel : ∀ t : Fin grid0.N, _)
theorem index_shift : ∀ t : Fin cfg0.N, win0_3.index t (0 : Fin 2) = t.val ∧ win0_3.index t (1 : Fin 2) = 0 :=
  (by decide +kernel : ∀ t : Fin grid0.N, _)
theorem index_scale : ∀ t : Fin cfg0.N, win0_4.index t (0 : Fin 2) = t.val ∧ win0_4.index t (1 : Fin 2) = 0 :=
  (by decide +kernel : ∀ t : Fin grid0.N, _)
theorem index_g : ∀ t : Fin cfg0.N, win0_5.index t (0 : Fin 2) = 0 ∧ win0_5.index t (1 : Fin 2) = 0 :=
  (by decide +kernel : ∀ t : Fin grid0.N, _)
theorem index_w : ∀ t : Fin cfg0.N, win0_6.index t (0 : Fin 2) = 0 ∧ win0_6.index t (1 : Fin 2) = 0 :=
  (by decide +kernel : ∀ t : Fin grid0.N, _)

theorem block_mix (c : Dev nD) (t : Fin cfg0.N) (r : Fin 512) (k : Fin 2048) (hR : 512 * t.val + r.val < 512) :
    (iblk m c 0 t : Vec F S512x2048 .bf16) (ix2 r k) = V m c main_arg0 (ix2 ⟨512 * t.val + r.val, hR⟩ k) := by
  unfold iblk
  rw [View.read_apply]
  show V m c main_arg0 _ = _
  congr 1
  obtain ⟨e0, e1⟩ := index_mix t
  funext a; apply Fin.ext
  match a with
  | ⟨0, _⟩ => show win0_0.index t (0 : Fin 2) * 512 + 1 * r.val = _; rw [e0]; show _ = 512 * t.val + r.val; omega
  | ⟨1, _⟩ => show win0_0.index t (1 : Fin 2) * 2048 + 1 * k.val = _; rw [e1]; show _ = k.val; omega

theorem block_x (c : Dev nD) (t : Fin cfg0.N) (r : Fin 512) (k : Fin 2048) (hR : 512 * t.val + r.val < 512) :
    (iblk m c 1 t : Vec F S512x2048 .f32) (ix2 r k) = V m c main_v0 (ix2 ⟨512 * t.val + r.val, hR⟩ k) := by
  unfold iblk
  rw [View.read_apply]
  show V m c main_v0 _ = _
  congr 1
  obtain ⟨e0, e1⟩ := index_x t
  funext a; apply Fin.ext
  match a with
  | ⟨0, _⟩ => show win0_1.index t (0 : Fin 2) * 512 + 1 * r.val = _; rw [e0]; show _ = 512 * t.val + r.val; omega
  | ⟨1, _⟩ => show win0_1.index t (1 : Fin 2) * 2048 + 1 * k.val = _; rw [e1]; show _ = k.val; omega

theorem block_gate (c : Dev nD) (t : Fin cfg0.N) (r : Fin 512) (k : Fin 2048) (hR : 512 * t.val + r.val < 512) :
    (iblk m c 2 t : Vec F S512x2048 .f32) (ix2 r k) = V m c main_v2 (ix2 ⟨512 * t.val + r.val, hR⟩ k) := by
  unfold iblk
  rw [View.read_apply]
  show V m c main_v2 _ = _
  congr 1
  obtain ⟨e0, e1⟩ := index_gate t
  funext a; apply Fin.ext
  match a with
  | ⟨0, _⟩ => show win0_2.index t (0 : Fin 2) * 512 + 1 * r.val = _; rw [e0]; show _ = 512 * t.val + r.val; omega
  | ⟨1, _⟩ => show win0_2.index t (1 : Fin 2) * 2048 + 1 * k.val = _; rw [e1]; show _ = k.val; omega

theorem block_shift (c : Dev nD) (t : Fin cfg0.N) (r : Fin 512) (k : Fin 2048) (hR : 512 * t.val + r.val < 512) :
    (iblk m c 3 t : Vec F S512x2048 .f32) (ix2 r k) = V m c main_v4 (ix2 ⟨512 * t.val + r.val, hR⟩ k) := by
  unfold iblk
  rw [View.read_apply]
  show V m c main_v4 _ = _
  congr 1
  obtain ⟨e0, e1⟩ := index_shift t
  funext a; apply Fin.ext
  match a with
  | ⟨0, _⟩ => show win0_3.index t (0 : Fin 2) * 512 + 1 * r.val = _; rw [e0]; show _ = 512 * t.val + r.val; omega
  | ⟨1, _⟩ => show win0_3.index t (1 : Fin 2) * 2048 + 1 * k.val = _; rw [e1]; show _ = k.val; omega

theorem block_scale (c : Dev nD) (t : Fin cfg0.N) (r : Fin 512) (k : Fin 2048) (hR : 512 * t.val + r.val < 512) :
    (iblk m c 4 t : Vec F S512x2048 .f32) (ix2 r k) = V m c main_v6 (ix2 ⟨512 * t.val + r.val, hR⟩ k) := by
  unfold iblk
  rw [View.read_apply]
  show V m c main_v6 _ = _
  congr 1
  obtain ⟨e0, e1⟩ := index_scale t
  funext a; apply Fin.ext
  match a with
  | ⟨0, _⟩ => show win0_4.index t (0 : Fin 2) * 512 + 1 * r.val = _; rw [e0]; show _ = 512 * t.val + r.val; omega
  | ⟨1, _⟩ => show win0_4.index t (1 : Fin 2) * 2048 + 1 * k.val = _; rw [e1]; show _ = k.val; omega

theorem block_g (c : Dev nD) (t : Fin cfg0.N) (k : Fin 2048) :
    (iblk m c 5 t : Vec F S1x2048 .f32) (ix2 0 k) = V m c main_v8 (ix2 0 k) := by
  unfold iblk
  rw [View.read_apply]
  show V m c main_v8 _ = _
  congr 1
  obtain ⟨e0, e1⟩ := index_g t
  funext a; apply Fin.ext
  match a with
  | ⟨0, _⟩ => show win0_5.index t (0 : Fin 2) * 1 + 1 * 0 = _; rw [e0]; show _ = 0; omega
  | ⟨1, _⟩ => show win0_5.index t (1 : Fin 2) * 2048 + 1 * k.val = _; rw [e1]; show _ = k.val; omega

theorem block_w (c : Dev nD) (t : Fin cfg0.N) (j k : Fin 2048) :
    (iblk m c 6 t : Vec F S2048x2048 .bf16) (ix2 j k) = V m c main_v10 (ix2 j k) := by
  unfold iblk
  rw [View.read_apply]
  show V m c main_v10 _ = _
  congr 1
  obtain ⟨e0, e1⟩ := index_w t
  funext a; apply Fin.ext
  match a with
  | ⟨0, _⟩ => show win0_6.index t (0 : Fin 2) * 2048 + 1 * j.val = _; rw [e0]; show _ = j.val; omega
  | ⟨1, _⟩ => show win0_6.index t (1 : Fin 2) * 2048 + 1 * k.val = _; rw [e1]; show _ = k.val; omega

/-! ## The entries, over the extended reals -/

section
variable (m : (ℓ : Loc nD τ sig) → Buf (Elt Ideal) ℓ)

/-- The arguments, by name. -/
abbrev argMix (c : Dev nD) : FVec Ideal ⟨2, ![512, 2048]⟩ .bf16 := m ((c : Thread nD τ).loc main_arg0)
abbrev argX (c : Dev nD) : FVec Ideal ⟨3, ![128, 4, 2048]⟩ .f32 := m ((c : Thread nD τ).loc main_arg1)
abbrev argGate (c : Dev nD) : FVec Ideal ⟨2, ![128, 2048]⟩ .f32 := m ((c : Thread nD τ).loc main_arg2)
abbrev argShift (c : Dev nD) : FVec Ideal ⟨2, ![128, 2048]⟩ .f32 := m ((c : Thread nD τ).loc main_arg3)
abbrev argScale (c : Dev nD) : FVec Ideal ⟨2, ![128, 2048]⟩ .f32 := m ((c : Thread nD τ).loc main_arg4)
abbrev argG (c : Dev nD) : FVec Ideal ⟨2, ![1, 2048]⟩ .f32 := m ((c : Thread nD τ).loc main_arg5)
abbrev argW (c : Dev nD) : FVec Ideal ⟨3, ![1, 2048, 2048]⟩ .f32 := m ((c : Thread nD τ).loc main_arg6)

theorem cast_x {α : Type} (x : S128x4x2048.Idx → α) (R : Fin 512) (k : Fin 2048) :
    shapeCast S512x2048 x shapeCasts_S128x4x2048_S512x2048 (ix2 R k) = x (ix3 ⟨R.val / 4, by omega⟩ ⟨R.val % 4, by omega⟩ k) := by
  pointwise
theorem cast_mod (x : FVec Ideal S128x2048 .f32) (R : Fin 512) (k : Fin 2048) :
    shapeCast S512x2048 (broadcastInDim S128x4x2048 ![0, 2] bcast_S128x2048_S128x4x2048_0_2 x : FVec Ideal S128x4x2048 .f32) shapeCasts_S128x4x2048_S512x2048 (ix2 R k) = x (ix2 ⟨R.val / 4, by omega⟩ k) := by
  pointwise
theorem cast_g {α : Type} (x : S1x2048.Idx → α) (k : Fin 2048) :
    shapeCast S1x2048 (shapeCast S2048 x shapeCasts_S1x2048_S2048) shapeCasts_S2048_S1x2048 (ix2 0 k) = x (ix2 0 k) := by
  pointwise
theorem cast_w (x : FVec Ideal S1x2048x2048 .f32) (j k : Fin 2048) :
    truncf .bf16 (shapeCast S2048x2048 x shapeCasts_S1x2048x2048_S2048x2048 : FVec Ideal S2048x2048 .f32) bitsLt_bf16_f32 (ix2 j k) = x (ix3 0 j k) := by
  pointwise

theorem mix_at (c : Dev nD) (t : Fin cfg0.N) (r : Fin 512) (k : Fin 2048) (hR : 512 * t.val + r.val < 512) :
    (iblk m c 0 t : Vec Ideal S512x2048 .bf16) (ix2 r k) = argMix m c (ix2 ⟨512 * t.val + r.val, hR⟩ k) := by
  rw [block_mix m c t r k hR, V_main_arg0]
theorem x_at (c : Dev nD) (t : Fin cfg0.N) (r : Fin 512) (k : Fin 2048) (hR : 512 * t.val + r.val < 512) :
    (iblk m c 1 t : Vec Ideal S512x2048 .f32) (ix2 r k) = argX m c (ix3 ⟨(512 * t.val + r.val) / 4, by omega⟩ ⟨(512 * t.val + r.val) % 4, by omega⟩ k) := by
  rw [block_x m c t r k hR, host_x, cast_x]
theorem g_at (c : Dev nD) (t : Fin cfg0.N) (k : Fin 2048) : (iblk m c 5 t : Vec Ideal S1x2048 .f32) (ix2 0 k) = argG m c (ix2 0 k) := by
  rw [block_g, host_g, cast_g]
theorem w_at (c : Dev nD) (t : Fin cfg0.N) (j k : Fin 2048) : (iblk m c 6 t : Vec Ideal S2048x2048 .bf16) (ix2 j k) = argW m c (ix3 0 j k) := by
  rw [block_w, host_w, cast_w]
theorem gate_at (c : Dev nD) (t : Fin cfg0.N) (r : Fin 512) (k : Fin 2048) (hR : 512 * t.val + r.val < 512) :
    (iblk m c 2 t : Vec Ideal S512x2048 .f32) (ix2 r k) = argGate m c (ix2 ⟨(512 * t.val + r.val) / 4, by omega⟩ k) := by
  rw [block_gate m c t r k hR, host_gate, cast_mod]
theorem shift_at (c : Dev nD) (t : Fin cfg0.N) (r : Fin 512) (k : Fin 2048) (hR : 512 * t.val + r.val < 512) :
    (iblk m c 3 t : Vec Ideal S512x2048 .f32) (ix2 r k) = argShift m c (ix2 ⟨(512 * t.val + r.val) / 4, by omega⟩ k) := by
  rw [block_shift m c t r k hR, host_shift, cast_mod]
theorem scale_at (c : Dev nD) (t : Fin cfg0.N) (r : Fin 512) (k : Fin 2048) (hR : 512 * t.val + r.val < 512) :
    (iblk m c 4 t : Vec Ideal S512x2048 .f32) (ix2 r k) = argScale m c (ix2 ⟨(512 * t.val + r.val) / 4, by omega⟩ k) := by
  rw [block_scale m c t r k hR, host_scale, cast_mod]

theorem sum_payload (x : Vec Ideal S512x2048 .f32) (gate : Vec Ideal S512x2048 .f32) (mix : Vec Ideal S512x2048 .bf16) (w : Vec Ideal S2048x2048 .bf16) (r : Fin 512) (q : Fin 2048) :
    k0_pay1 x gate mix w (ix2 r q) = x (ix2 r q) + gate (ix2 r q) * ∑ k : Fin 2048, mix (ix2 r k) * w (ix2 k q) := by
  pointwise [k0_pay1]

/-- The second payload is the modulated normalisation of the first. -/
theorem mod_payload (x : Vec Ideal S512x2048 .f32) (gate : Vec Ideal S512x2048 .f32) (mix : Vec Ideal S512x2048 .bf16) (w : Vec Ideal S2048x2048 .bf16)
    (g : Vec Ideal S1x2048 .f32) (sc sh : Vec Ideal S512x2048 .f32) (r : Fin 512) (q : Fin 2048) :
    k0_pay2 x gate mix w g sc sh (ix2 r q)
      = k0_pay1 x gate mix w (ix2 r q) * Ideal.rsqrt (Ideal.div (∑ i : Fin 2048, k0_pay1 x gate mix w (ix2 r i) * k0_pay1 x gate mix w (ix2 r i)) (Ideal.ofBits .f32 0x45000000#32) + Ideal.ofBits .f32 0x358637BD#32)
        * g (ix2 0 q) * (1 + sc (ix2 r q)) + sh (ix2 r q) := by
  unfold k0_pay2
  generalize k0_pay1 x gate mix w = p
  pointwise

theorem sumAt_apply (c : Dev nD) (t : Fin cfg0.N) (r : Fin 512) (q : Fin 2048) (hR : 512 * t.val + r.val < 512) :
    sumAt m c t (ix2 r q) = row (argMix m c) (argX m c) (argGate m c) (argW m c) ⟨512 * t.val + r.val, hR⟩ q := by
  refine (sum_payload _ _ _ _ r q).trans ?_
  refine congrArg₂ (· + ·) (x_at m c t r q hR) (congrArg₂ (· * ·) (gate_at m c t r q hR) (Finset.sum_congr rfl fun k _ => ?_))
  exact congrArg₂ (· * ·) (mix_at m c t r k hR) (w_at m c t k q)

theorem modAt_apply (c : Dev nD) (t : Fin cfg0.N) (r : Fin 512) (q : Fin 2048) (hR : 512 * t.val + r.val < 512) :
    modAt m c t (ix2 r q) = modRow (row (argMix m c) (argX m c) (argGate m c) (argW m c) ⟨512 * t.val + r.val, hR⟩) (argG m c) (argShift m c) (argScale m c)
      ⟨(512 * t.val + r.val) / 4, by omega⟩ q := by
  refine (mod_payload _ _ _ _ _ _ _ r q).trans ?_
  have e : ∀ i : Fin 2048, k0_pay1 (iblk m c 1 t) (iblk m c 2 t) (iblk m c 0 t) (iblk m c 6 t) (ix2 r i) = _ := fun i => sumAt_apply m c t r i hR
  unfold modRow
  simp only [e]
  exact congrArg₂ (· + ·) (congrArg₂ (· * ·) (congrArg₂ (· * ·) rfl (g_at m c t q)) (congrArg (1 + ·) (scale_at m c t r q hR))) (shift_at m c t r q hR)

theorem row_of (R : Fin 512) : (⟨512 * (R.val / 512) + R.val % 512, by omega⟩ : Fin 512) = R := Fin.ext (by dsimp only; omega)

theorem sum_apply (c : Dev nD) (R : Fin 512) (q : Fin 2048) :
    sumArr m c (ix2 R q) = row (argMix m c) (argX m c) (argGate m c) (argW m c) R q := by
  have hl : sumLoc (ix2 R q) = ix2 (⟨R.val % 512, by omega⟩ : Fin 512) q := by
    funext a; match a with
    | ⟨0, _⟩ => rfl
    | ⟨1, _⟩ => rfl
  unfold sumArr
  rw [hl]
  refine (sumAt_apply m c (sumPt (ix2 R q)) ⟨R.val % 512, by omega⟩ q (by show 512 * (R.val / 512) + R.val % 512 < 512; omega)).trans ?_
  exact congrArg (fun R => row _ _ _ _ R q) (row_of R)

theorem mod_apply (c : Dev nD) (R : Fin 512) (q : Fin 2048) :
    modArr m c (ix2 R q) = modRow (row (argMix m c) (argX m c) (argGate m c) (argW m c) R) (argG m c) (argShift m c) (argScale m c) ⟨R.val / 4, by omega⟩ q := by
  have hl : modLoc (ix2 R q) = ix2 (⟨R.val % 512, by omega⟩ : Fin 512) q := by
    funext a; match a with
    | ⟨0, _⟩ => rfl
    | ⟨1, _⟩ => rfl
  unfold modArr
  rw [hl]
  refine (modAt_apply m c (modPt (ix2 R q)) ⟨R.val % 512, by omega⟩ q (by show 512 * (R.val / 512) + R.val % 512 < 512; omega)).trans ?_
  exact congrArg (fun R : Fin 512 => modRow (row _ _ _ _ R) _ _ _ ⟨R.val / 4, by omega⟩ q) (row_of R)

end

/-! ## The run, read -/

theorem run_values (ρ : Dev nD → PrngReg) : θ_run defs (onTc (τ := τ) (main (F := F))) ⟨m, fun _ => 0, ρ⟩ (fun r => ∀ c : Dev nD,
      r.2.mem ((c.tc : Thread nD τ).loc main_v11_0) = sumArr m c
      ∧ r.2.mem ((c.tc : Thread nD τ).loc main_v11_1) = modArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (final_sum m c), (h c).2.1.trans (final_mod m c), (h c).2.2⟩) (Cert.OutSampleIdeal.Value.run_blocks m ρ)

end Cert.OutSampleIdeal.Out

end
-- ==== Proof.OutSampleRef.lean ====
/-
  The output call's (samples) reference, read at an index.
-/
module

public import proofs.«01_k».proof.Proof.Gen.OutSampleRefIdeal.Run
public import proofs.«01_k».proof.Proof.OutSampleMath

@[expose] public section

set_option maxRecDepth 16384

noncomputable section

namespace Cert.OutSampleRefIdeal.Out

open Cert.OutSampleRefIdeal Cert.OutSampleRefIdeal.Gen Idealize.ShloMosaic Idealize.ShloMosaic.TcCoe Idealize.SL.Sem
open Cert.OutSample.Math

variable {F : FTy → Type} [FloatOps F]

/-- The residual with the gated projection added, as the reference computes it. -/
def added (mix : FVec F S512x2048 .bf16) (x : FVec F S128x4x2048 .f32) (gate : FVec F S128x2048 .f32) (w : FVec F S1x2048x2048 .f32) : FVec F S128x4x2048 .f32 :=
  addf x (mulf (broadcastInDim S128x4x2048 ![0, 1, 2] bcast_S128x1x2048_S128x4x2048_0_1_2 (broadcastInDim S128x1x2048 ![0, 2] bcast_S128x2048_S128x1x2048_0_2 gate))
    (Host.dotGeneral dot_S128x4x2048_S2048x2048_S128x4x2048_2_0_01_1_n_n none (shapeCast _ (extf .f32 mix bitsLt_bf16_f32) shapeCasts_S512x2048_S128x4x2048) (shapeCast _ w shapeCasts_S1x2048x2048_S2048x2048)))

/-- The rows normalised and modulated. -/
def modulated (y : FVec F S128x4x2048 .f32) (g : FVec F S1x2048 .f32) (sh sc : FVec F S128x2048 .f32) : FVec F S128x4x2048 .f32 :=
  addf (mulf (mulf (mulf y (broadcastInDim S128x4x2048 ![0, 1, 2] bcast_S128x4x1_S128x4x2048_0_1_2 (Host.rsqrt (addf (Host.divf (broadcastInDim S128x4x1 ![0, 1] bcast_S128x4_S128x4x1_0_1 (Host.reduceAdd (mulf y y) (constant S_ .f32 0x00000000#32) reducesTo_S128x4x2048_S128x4_d2 h_S_)) (broadcastInDim S128x4x1 ![] bcast_S_S128x4x1 (constant S_ .f32 0x45000000#32))) (broadcastInDim S128x4x1 ![] bcast_S_S128x4x1 (constant S_ .f32 0x358637BD#32))))))
      (broadcastInDim S128x4x2048 ![0, 1, 2] bcast_S1x1x2048_S128x4x2048_0_1_2 (broadcastInDim S1x1x2048 ![2] bcast_S2048_S1x1x2048_2 (shapeCast _ g shapeCasts_S1x2048_S2048))))
      (broadcastInDim S128x4x2048 ![0, 1, 2] bcast_S128x1x2048_S128x4x2048_0_1_2 (addf (broadcastInDim S128x1x2048 ![] bcast_S_S128x1x2048 (constant S_ .f32 0x3F800000#32)) (broadcastInDim S128x1x2048 ![0, 2] bcast_S128x2048_S128x1x2048_0_2 sc))))
    (broadcastInDim S128x4x2048 ![0, 1, 2] bcast_S128x1x2048_S128x4x2048_0_1_2 (broadcastInDim S128x1x2048 ![0, 2] bcast_S128x2048_S128x1x2048_0_2 sh))

/-- The two results as arrays of the arguments. -/
def sumArr (m : (ℓ : Loc nD τ sig) → Buf (Elt F) ℓ) (c : Dev nD) : FVec F S512x2048 .f32 :=
  shapeCast _ (added (m ((c.tc : Thread nD τ).loc main_arg0)) (m ((c.tc : Thread nD τ).loc main_arg1)) (m ((c.tc : Thread nD τ).loc main_arg2)) (m ((c.tc : Thread nD τ).loc main_arg6))) shapeCasts_S128x4x2048_S512x2048
def modArr (m : (ℓ : Loc nD τ sig) → Buf (Elt F) ℓ) (c : Dev nD) : FVec F S512x2048 .bf16 :=
  truncf .bf16 (shapeCast _ (modulated (added (m ((c.tc : Thread nD τ).loc main_arg0)) (m ((c.tc : Thread nD τ).loc main_arg1)) (m ((c.tc : Thread nD τ).loc main_arg2)) (m ((c.tc : Thread nD τ).loc main_arg6))) (m ((c.tc : Thread nD τ).loc main_arg5)) (m ((c.tc : Thread nD τ).loc main_arg3)) (m ((c.tc : Thread nD τ).loc main_arg4))) shapeCasts_S128x4x2048_S512x2048 : FVec F S512x2048 .f32) bitsLt_bf16_f32

theorem run_values (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30) = sumArr m c
      ∧ r.2.mem ((c.tc : Thread nD τ).loc main_v32) = modArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans rfl, (h c).2.1.trans rfl, (h c).2.2⟩) (Cert.OutSampleRefIdeal.Value.run m ρ)

theorem added_apply (mix : FVec Ideal S512x2048 .bf16) (x : FVec Ideal S128x4x2048 .f32) (gate : FVec Ideal S128x2048 .f32) (w : FVec Ideal S1x2048x2048 .f32)
    (b : Fin 128) (s : Fin 4) (q : Fin 2048) :
    added mix x gate w (ix3 b s q) = x (ix3 b s q) + gate (ix2 b q) * ∑ k : Fin 2048, mix (ix2 ⟨b.val * 4 + s.val, by omega⟩ k) * w (ix3 0 k q) := by
  pointwise [added]

theorem modulated_apply (y : FVec Ideal S128x4x2048 .f32) (g : FVec Ideal S1x2048 .f32) (sh sc : FVec Ideal S128x2048 .f32) (b : Fin 128) (s : Fin 4) (q : Fin 2048) :
    modulated y g sh sc (ix3 b s q) = modRow (fun i => y (ix3 b s i)) g sh sc b q := by
  pointwise [modulated, modRow]

theorem flat_apply {α : Type} (y : S128x4x2048.Idx → α) (R : Fin 512) (q : Fin 2048) :
    shapeCast S512x2048 y shapeCasts_S128x4x2048_S512x2048 (ix2 R q) = y (ix3 ⟨R.val / 4, by omega⟩ ⟨R.val % 4, by omega⟩ q) := by
  pointwise

theorem flat_trunc (y : FVec Ideal S128x4x2048 .f32) (R : Fin 512) (q : Fin 2048) :
    truncf .bf16 (shapeCast S512x2048 y shapeCasts_S128x4x2048_S512x2048 : FVec Ideal S512x2048 .f32) bitsLt_bf16_f32 (ix2 R q) = y (ix3 ⟨R.val / 4, by omega⟩ ⟨R.val % 4, by omega⟩ q) := by
  pointwise

variable (m : (ℓ : Loc nD τ sig) → Buf (Elt Ideal) ℓ)

theorem row_eq (mix : FVec Ideal S512x2048 .bf16) (x : FVec Ideal S128x4x2048 .f32) (gate : FVec Ideal S128x2048 .f32) (w : FVec Ideal S1x2048x2048 .f32) (R : Fin 512) (q : Fin 2048) :
    added mix x gate w (ix3 ⟨R.val / 4, by omega⟩ ⟨R.val % 4, by omega⟩ q) = row mix x gate w R q := by
  have hR : (⟨(⟨R.val / 4, by omega⟩ : Fin 128).val * 4 + (⟨R.val % 4, by omega⟩ : Fin 4).val, by dsimp only; omega⟩ : Fin 512) = R :=
    Fin.ext (by dsimp only; omega)
  rw [added_apply, hR]
  rfl

theorem sum_apply (c : Dev nD) (R : Fin 512) (q : Fin 2048) : sumArr m c (ix2 R q) = row (m ((c.tc : Thread nD τ).loc main_arg0)) (m ((c.tc : Thread nD τ).loc main_arg1)) (m ((c.tc : Thread nD τ).loc main_arg2)) (m ((c.tc : Thread nD τ).loc main_arg6)) R q :=
  (flat_apply _ R q).trans (row_eq _ _ _ _ R q)

theorem mod_apply (c : Dev nD) (R : Fin 512) (q : Fin 2048) :
    modArr m c (ix2 R q) = modRow (row (m ((c.tc : Thread nD τ).loc main_arg0)) (m ((c.tc : Thread nD τ).loc main_arg1)) (m ((c.tc : Thread nD τ).loc main_arg2)) (m ((c.tc : Thread nD τ).loc main_arg6)) R) (m ((c.tc : Thread nD τ).loc main_arg5)) (m ((c.tc : Thread nD τ).loc main_arg3)) (m ((c.tc : Thread nD τ).loc main_arg4)) ⟨R.val / 4, by omega⟩ q :=
  (flat_trunc _ R q).trans ((modulated_apply _ _ _ _ _ _ q).trans (congrArg (fun y => modRow y _ _ _ _ q) (funext fun i => row_eq _ _ _ _ R i)))

end Cert.OutSampleRefIdeal.Out

end
-- ==== Proof.OutSampleClaims.lean ====
/-
  The claims about the output call for the samples.
-/
module

public import proofs.«01_k».proof.Defs
public import proofs.«01_k».proof.Proof.OutSampleValue
public import proofs.«01_k».proof.Proof.OutSampleRef
public import proofs.«01_k».proof.Proof.Gen.OutSample

@[expose] public section

noncomputable section

namespace Cert.Proof.OutSample

open Idealize.ShloMosaic Idealize.ShloMosaic.TcCoe Idealize.SL.Sem

theorem frame_kernel_ideal : Cert.quiescent_OutSampleIdeal := fun m ρ _ => Cert.OutSampleIdeal.Gen.frame m ρ

/-- The two prints of the kernel have one text: their body tables are one table. -/
theorem bodies_eq {F : FTy → Type} [FloatOps F] : Cert.OutSample.defs₀ (F := F) = Cert.OutSampleIdeal.defs₀ (F := F) := by
  unfold Cert.OutSample.defs₀ Cert.OutSampleIdeal.defs₀
  refine congrArg _ (funext fun l => funext fun a => ?_)
  match l, a with
  | 0, (t, s) => rfl
  | ⟨_ + 1, h⟩, _ => exact absurd h (Nat.not_lt.2 (Nat.le_add_left _ _))

theorem defs_eq {F : FTy → Type} [FloatOps F] : Cert.OutSample.defs (F := F) = Cert.OutSampleIdeal.defs (F := F) := by
  unfold Cert.OutSample.defs Cert.OutSampleIdeal.defs
  rw [bodies_eq]
  rfl

/-- So the kernel's run at the machine's floats is the run above there. -/
theorem frame_kernel : Cert.quiescent_OutSample := fun m ρ _ => by
  rw [defs_eq]
  exact Cert.OutSampleIdeal.Gen.frame (F := Bits) m ρ

theorem frame_reference : Cert.quiescent_OutSampleRefIdeal := fun m ρ _ =>
  (θ_run Cert.OutSampleRefIdeal.defs _ _).mono (fun r h => ⟨fun c => (h c).2.2, sem_eq_zero_of_no_sems (by decide) r.2⟩)
    (Cert.OutSampleRefIdeal.Value.run (F := Ideal) m ρ)

theorem preserves : Cert.preserves_OutSample_OutSampleIdeal := trivial

/-- Both pairs of results are the same rows and the same modulated rows. -/
theorem algebraic : Cert.algebraic_OutSampleIdeal_OutSampleRefIdeal := by
  intro m ρ m' ρ' _ hagree
  refine ⟨fun c => Cert.OutSampleIdeal.Out.sumArr m c, fun c => Cert.OutSampleIdeal.Out.modArr m c, Cert.OutSampleIdeal.Out.run_values (F := Ideal) m ρ, ?_⟩
  refine (θ_run Cert.OutSampleRefIdeal.defs _ _).mono (fun _ h c => ?_) (Cert.OutSampleRefIdeal.Out.run_values (F := Ideal) m' ρ')
  obtain ⟨a0, a1, a2, a3, a4, a5, a6⟩ := hagree c
  refine ⟨(h c).1.trans (funext fun i => ?_), (h c).2.1.trans (funext fun i => ?_), (h c).2.2⟩
  · refine (congrArg _ (eq_ix2 (n0 := 512) (n1 := 2048) i)).trans ((Cert.OutSampleRefIdeal.Out.sum_apply m' c _ _).trans ?_)
    rw [a0, a1, a2, a6]
    exact ((congrArg (Cert.OutSampleIdeal.Out.sumArr m c) (eq_ix2 i)).trans (Cert.OutSampleIdeal.Out.sum_apply m c _ _)).symm
  · refine (congrArg _ (eq_ix2 (n0 := 512) (n1 := 2048) i)).trans ((Cert.OutSampleRefIdeal.Out.mod_apply m' c _ _).trans ?_)
    rw [a0, a1, a2, a3, a4, a5, a6]
    exact ((congrArg (Cert.OutSampleIdeal.Out.modArr m c) (eq_ix2 i)).trans (Cert.OutSampleIdeal.Out.mod_apply m c _ _)).symm

end Cert.Proof.OutSample

end
-- ==== Proof.PoolSampleMath.lean ====
/-
  The mathematics of the pooling of the samples over the extended reals, in coordinates: per group of channels the mean of
  the rows of a trailing window, less the row itself.
-/
module

public import Idealize.ShloMosaic.Lib.Pointwise

@[expose] public section

noncomputable section

namespace Cert.PoolSample.Math

open Idealize.ShloMosaic

/-- Channel `q` of sequence `n`'s row `p`. -/
def at_ (x : FVec Ideal ⟨3, ![128, 19, 1024]⟩ .f32) (n : Fin 128) (q : Fin 1024) (p : ℕ) : EReal :=
  if h : p < 19 then x (ix3 n ⟨p, h⟩ q) else 0

/-- The mean of the `N` rows ending at row `p`, less the row. -/
def dev (x : FVec Ideal ⟨3, ![128, 19, 1024]⟩ .f32) (n : Fin 128) (q : Fin 1024) (N p : ℕ) : EReal :=
  Ideal.div (∑ k ∈ Finset.range N, at_ x n q (p - k)) ((N : ℝ) : EReal) - at_ x n q p

/-- The entry for the new row `t` of sequence `n`, channel `q`. -/
def out (x : FVec Ideal ⟨3, ![128, 19, 1024]⟩ .f32) (t : Fin 4) (n : Fin 128) (q : Fin 1024) : EReal :=
  dev x n q (2 ^ (q.val / 256 + 1)) (15 + t.val)

theorem toInt_small (n : ℕ) (h : n < 2147483648) : (BitVec.ofNat 32 n).toInt = n := by
  rw [BitVec.toInt_eq_toNat_cond, BitVec.toNat_ofNat, Nat.mod_eq_of_lt (by omega), if_pos (by omega)]

theorem toInt_sub (a b : ℕ) (ha : a < 65536) (hb : b < 65536) : (BitVec.ofNat 32 a - BitVec.ofNat 32 b).toInt = (a : ℤ) - b := by
  rw [BitVec.toInt_sub, toInt_small a (by omega), toInt_small b (by omega)]
  exact Int.bmod_eq_of_le (by omega) (by omega)

/-- A sum over all rows with an indicator of the window is the sum over the window. -/
theorem sum_window (f : ℕ → EReal) (p N : ℕ) (hp : p < 19) (hN : N ≤ p + 1) :
    (∑ s : Fin 19, f s.val * (if s.val ≤ p ∧ p - s.val < N then (1 : EReal) else 0)) = ∑ k ∈ Finset.range N, f (p - k) := by
  rw [Fin.sum_univ_eq_sum_range (fun s => f s * (if s ≤ p ∧ p - s < N then (1 : EReal) else 0)) 19]
  simp only [mul_ite, mul_one, mul_zero]
  rw [← Finset.sum_filter]
  refine Finset.sum_nbij' (fun s => p - s) (fun k => p - k) ?_ ?_ ?_ ?_ ?_
  · intro s hs; simp only [Finset.mem_filter, Finset.mem_range] at hs ⊢; omega
  · intro k hk; simp only [Finset.mem_filter, Finset.mem_range] at hk ⊢; omega
  · intro s hs; simp only [Finset.mem_filter, Finset.mem_range] at hs; omega
  · intro k hk; simp only [Finset.mem_range] at hk; omega
  · intro s hs; simp only [Finset.mem_filter, Finset.mem_range] at hs; exact congrArg f (by omega)

theorem two : Ideal.ofBits .f32 0x40000000#32 = ((2 : ℝ) : EReal) := by
  simp [Ideal.ofBits, Ideal.ieee, -EReal.coe_mul]; norm_num
theorem four : Ideal.ofBits .f32 0x40800000#32 = ((4 : ℝ) : EReal) := by
  simp [Ideal.ofBits, Ideal.ieee, -EReal.coe_mul]; norm_num
theorem eight : Ideal.ofBits .f32 0x41000000#32 = ((8 : ℝ) : EReal) := by
  simp [Ideal.ofBits, Ideal.ieee, -EReal.coe_mul]; norm_num
theorem sixteen : Ideal.ofBits .f32 0x41800000#32 = ((16 : ℝ) : EReal) := by
  simp [Ideal.ofBits, Ideal.ieee, -EReal.coe_mul]; norm_num

end Cert.PoolSample.Math

end
-- ==== Proof.PoolSampleTile.lean ====
/-
  What the point of the samples' pooling stores, and the result as an array.
-/
module

public import proofs.«01_k».proof.Proof.Gen.PoolSampleIdeal.Value
public import proofs.«01_k».proof.Proof.PoolSampleMath

@[expose] public section

set_option maxRecDepth 16384

noncomputable section

namespace Cert.PoolSampleIdeal.Pool

open Idealize.ShloMosaic Idealize.ShloMosaic.TcCoe Idealize.ShloMosaic.Tactic
open Idealize.SL.Sem
open Idealize.ShloMosaic.Pipeline (Dat Cfg Window)
open Cert.PoolSampleIdeal Cert.PoolSampleIdeal.Gen Cert.PoolSample.Math

variable {F : FTy → Type} [FloatOps F]
variable (m : (ℓ : Loc nD τ sig) → Buf (Elt F) ℓ)

/-- One row of every sequence, a group's channels. -/
def slab (x : Vec F S19x128x1024 .f32) (p q : ℕ) (h : ∀ a, (![p, 0, q] : Fin 3 → ℕ) a + S1x128x256.size a ≤ S19x128x1024.size a) : Vec F S1x128x256 .f32 :=
  View.ld x (Rect.unit (s := S19x128x1024) ![p, 0, q] S1x128x256.size h)

/-! ## The pieces, over the extended reals -/

section
variable (X : FVec Ideal ⟨3, ![128, 19, 1024]⟩ .f32) (x0 : Vec Ideal S19x128x1024 .f32)

theorem slab_at (hx : ∀ (p : Fin 19) (n : Fin 128) (q : Fin 1024), x0 (ix3 p n q) = at_ X n q p.val) (p q : ℕ) (h) (n : Fin 128) (e : Fin 256) (hq : q + e.val < 1024) :
    slab x0 p q h (ix3 0 n e) = at_ X n ⟨q + e.val, hq⟩ p := by
  have hp : p < 19 := h 0
  refine Eq.trans (congrArg x0 ?_) (hx ⟨p, hp⟩ n ⟨q + e.val, hq⟩)
  funext a; apply Fin.ext
  match a with
  | ⟨0, _⟩ => show p + 1 * 0 = p; omega
  | ⟨1, _⟩ => show 0 + 1 * n.val = n.val; omega
  | ⟨2, _⟩ => show q + 1 * e.val = q + e.val; omega

theorem piece_3_3 (hx : ∀ (p : Fin 19) (n : Fin 128) (q : Fin 1024), x0 (ix3 p n q) = at_ X n q p.val) (n : Fin 128) (e : Fin 256) :
    (k0_pay1 (k0_pay34 (k0_pay33 (slab x0 18 768 inb_S19x128x1024_S1x128x256_18_0_768) (slab x0 17 768 inb_S19x128x1024_S1x128x256_17_0_768) (slab x0 16 768 inb_S19x128x1024_S1x128x256_16_0_768) (slab x0 15 768 inb_S19x128x1024_S1x128x256_15_0_768) (slab x0 14 768 inb_S19x128x1024_S1x128x256_14_0_768) (slab x0 13 768 inb_S19x128x1024_S1x128x256_13_0_768)) (slab x0 12 768 inb_S19x128x1024_S1x128x256_12_0_768) (slab x0 11 768 inb_S19x128x1024_S1x128x256_11_0_768) (slab x0 10 768 inb_S19x128x1024_S1x128x256_10_0_768) (slab x0 9 768 inb_S19x128x1024_S1x128x256_9_0_768) (slab x0 8 768 inb_S19x128x1024_S1x128x256_8_0_768) (slab x0 7 768 inb_S19x128x1024_S1x128x256_7_0_768) (slab x0 6 768 inb_S19x128x1024_S1x128x256_6_0_768) (slab x0 5 768 inb_S19x128x1024_S1x128x256_5_0_768) (slab x0 4 768 inb_S19x128x1024_S1x128x256_4_0_768) (slab x0 3 768 inb_S19x128x1024_S1x128x256_3_0_768)) (slab x0 18 768 inb_S19x128x1024_S1x128x256_18_0_768)) (ix3 0 n e) = dev X n ⟨768 + e.val, by omega⟩ 16 18 := by
  pointwise [k0_pay1, k0_pay34, k0_pay33]
  rw [slab_at X x0 hx 18 768 _ n e (by omega)]
  rw [slab_at X x0 hx 17 768 _ n e (by omega)]
  rw [slab_at X x0 hx 16 768 _ n e (by omega)]
  rw [slab_at X x0 hx 15 768 _ n e (by omega)]
  rw [slab_at X x0 hx 14 768 _ n e (by omega)]
  rw [slab_at X x0 hx 13 768 _ n e (by omega)]
  rw [slab_at X x0 hx 12 768 _ n e (by omega)]
  rw [slab_at X x0 hx 11 768 _ n e (by omega)]
  rw [slab_at X x0 hx 10 768 _ n e (by omega)]
  rw [slab_at X x0 hx 9 768 _ n e (by omega)]
  rw [slab_at X x0 hx 8 768 _ n e (by omega)]
  rw [slab_at X x0 hx 7 768 _ n e (by omega)]
  rw [slab_at X x0 hx 6 768 _ n e (by omega)]
  rw [slab_at X x0 hx 5 768 _ n e (by omega)]
  rw [slab_at X x0 hx 4 768 _ n e (by omega)]
  rw [slab_at X x0 hx 3 768 _ n e (by omega)]
  unfold dev
  simp only [Finset.sum_range_succ, Finset.sum_range_zero, zero_add, Nat.sub_zero]
  rw [sixteen]
  rfl

theorem piece_3_2 (hx : ∀ (p : Fin 19) (n : Fin 128) (q : Fin 1024), x0 (ix3 p n q) = at_ X n q p.val) (n : Fin 128) (e : Fin 256) :
    (k0_pay32 (k0_pay31 (slab x0 18 512 inb_S19x128x1024_S1x128x256_18_0_512) (slab x0 17 512 inb_S19x128x1024_S1x128x256_17_0_512) (slab x0 16 512 inb_S19x128x1024_S1x128x256_16_0_512) (slab x0 15 512 inb_S19x128x1024_S1x128x256_15_0_512) (slab x0 14 512 inb_S19x128x1024_S1x128x256_14_0_512) (slab x0 13 512 inb_S19x128x1024_S1x128x256_13_0_512)) (slab x0 12 512 inb_S19x128x1024_S1x128x256_12_0_512) (slab x0 11 512 inb_S19x128x1024_S1x128x256_11_0_512) (slab x0 18 512 inb_S19x128x1024_S1x128x256_18_0_512)) (ix3 0 n e) = dev X n ⟨512 + e.val, by omega⟩ 8 18 := by
  pointwise [k0_pay32, k0_pay31]
  rw [slab_at X x0 hx 18 512 _ n e (by omega)]
  rw [slab_at X x0 hx 17 512 _ n e (by omega)]
  rw [slab_at X x0 hx 16 512 _ n e (by omega)]
  rw [slab_at X x0 hx 15 512 _ n e (by omega)]
  rw [slab_at X x0 hx 14 512 _ n e (by omega)]
  rw [slab_at X x0 hx 13 512 _ n e (by omega)]
  rw [slab_at X x0 hx 12 512 _ n e (by omega)]
  rw [slab_at X x0 hx 11 512 _ n e (by omega)]
  unfold dev
  simp only [Finset.sum_range_succ, Finset.sum_range_zero, zero_add, Nat.sub_zero]
  rw [eight]
  rfl

theorem piece_3_1 (hx : ∀ (p : Fin 19) (n : Fin 128) (q : Fin 1024), x0 (ix3 p n q) = at_ X n q p.val) (n : Fin 128) (e : Fin 256) :
    (k0_pay30 (k0_pay29 (slab x0 18 256 inb_S19x128x1024_S1x128x256_18_0_256) (slab x0 17 256 inb_S19x128x1024_S1x128x256_17_0_256) (slab x0 16 256 inb_S19x128x1024_S1x128x256_16_0_256)) (slab x0 15 256 inb_S19x128x1024_S1x128x256_15_0_256) (slab x0 18 256 inb_S19x128x1024_S1x128x256_18_0_256)) (ix3 0 n e) = dev X n ⟨256 + e.val, by omega⟩ 4 18 := by
  pointwise [k0_pay30, k0_pay29]
  rw [slab_at X x0 hx 18 256 _ n e (by omega)]
  rw [slab_at X x0 hx 17 256 _ n e (by omega)]
  rw [slab_at X x0 hx 16 256 _ n e (by omega)]
  rw [slab_at X x0 hx 15 256 _ n e (by omega)]
  unfold dev
  simp only [Finset.sum_range_succ, Finset.sum_range_zero, zero_add, Nat.sub_zero]
  rw [four]
  rfl

theorem piece_3_0 (hx : ∀ (p : Fin 19) (n : Fin 128) (q : Fin 1024), x0 (ix3 p n q) = at_ X n q p.val) (n : Fin 128) (e : Fin 256) :
    (k0_pay28 (slab x0 18 0 inb_S19x128x1024_S1x128x256_18_0_0) (slab x0 17 0 inb_S19x128x1024_S1x128x256_17_0_0) (slab x0 18 0 inb_S19x128x1024_S1x128x256_18_0_0)) (ix3 0 n e) = dev X n ⟨0 + e.val, by omega⟩ 2 18 := by
  pointwise [k0_pay28]
  rw [slab_at X x0 hx 18 0 _ n e (by omega)]
  rw [slab_at X x0 hx 17 0 _ n e (by omega)]
  unfold dev
  simp only [Finset.sum_range_succ, Finset.sum_range_zero, zero_add, Nat.sub_zero]
  rw [two]
  rfl

theorem piece_2_3 (hx : ∀ (p : Fin 19) (n : Fin 128) (q : Fin 1024), x0 (ix3 p n q) = at_ X n q p.val) (n : Fin 128) (e : Fin 256) :
    (k0_pay27 (k0_pay26 (k0_pay25 (slab x0 17 768 inb_S19x128x1024_S1x128x256_17_0_768) (slab x0 16 768 inb_S19x128x1024_S1x128x256_16_0_768) (slab x0 15 768 inb_S19x128x1024_S1x128x256_15_0_768) (slab x0 14 768 inb_S19x128x1024_S1x128x256_14_0_768) (slab x0 13 768 inb_S19x128x1024_S1x128x256_13_0_768) (slab x0 12 768 inb_S19x128x1024_S1x128x256_12_0_768)) (slab x0 11 768 inb_S19x128x1024_S1x128x256_11_0_768) (slab x0 10 768 inb_S19x128x1024_S1x128x256_10_0_768) (slab x0 9 768 inb_S19x128x1024_S1x128x256_9_0_768) (slab x0 8 768 inb_S19x128x1024_S1x128x256_8_0_768) (slab x0 7 768 inb_S19x128x1024_S1x128x256_7_0_768) (slab x0 6 768 inb_S19x128x1024_S1x128x256_6_0_768) (slab x0 5 768 inb_S19x128x1024_S1x128x256_5_0_768) (slab x0 4 768 inb_S19x128x1024_S1x128x256_4_0_768) (slab x0 3 768 inb_S19x128x1024_S1x128x256_3_0_768) (slab x0 2 768 inb_S19x128x1024_S1x128x256_2_0_768)) (slab x0 17 768 inb_S19x128x1024_S1x128x256_17_0_768)) (ix3 0 n e) = dev X n ⟨768 + e.val, by omega⟩ 16 17 := by
  pointwise [k0_pay27, k0_pay26, k0_pay25]
  rw [slab_at X x0 hx 17 768 _ n e (by omega)]
  rw [slab_at X x0 hx 16 768 _ n e (by omega)]
  rw [slab_at X x0 hx 15 768 _ n e (by omega)]
  rw [slab_at X x0 hx 14 768 _ n e (by omega)]
  rw [slab_at X x0 hx 13 768 _ n e (by omega)]
  rw [slab_at X x0 hx 12 768 _ n e (by omega)]
  rw [slab_at X x0 hx 11 768 _ n e (by omega)]
  rw [slab_at X x0 hx 10 768 _ n e (by omega)]
  rw [slab_at X x0 hx 9 768 _ n e (by omega)]
  rw [slab_at X x0 hx 8 768 _ n e (by omega)]
  rw [slab_at X x0 hx 7 768 _ n e (by omega)]
  rw [slab_at X x0 hx 6 768 _ n e (by omega)]
  rw [slab_at X x0 hx 5 768 _ n e (by omega)]
  rw [slab_at X x0 hx 4 768 _ n e (by omega)]
  rw [slab_at X x0 hx 3 768 _ n e (by omega)]
  rw [slab_at X x0 hx 2 768 _ n e (by omega)]
  unfold dev
  simp only [Finset.sum_range_succ, Finset.sum_range_zero, zero_add, Nat.sub_zero]
  rw [sixteen]
  rfl

theorem piece_2_2 (hx : ∀ (p : Fin 19) (n : Fin 128) (q : Fin 1024), x0 (ix3 p n q) = at_ X n q p.val) (n : Fin 128) (e : Fin 256) :
    (k0_pay24 (k0_pay23 (slab x0 17 512 inb_S19x128x1024_S1x128x256_17_0_512) (slab x0 16 512 inb_S19x128x1024_S1x128x256_16_0_512) (slab x0 15 512 inb_S19x128x1024_S1x128x256_15_0_512) (slab x0 14 512 inb_S19x128x1024_S1x128x256_14_0_512) (slab x0 13 512 inb_S19x128x1024_S1x128x256_13_0_512) (slab x0 12 512 inb_S19x128x1024_S1x128x256_12_0_512) (slab x0 11 512 inb_S19x128x1024_S1x128x256_11_0_512)) (slab x0 10 512 inb_S19x128x1024_S1x128x256_10_0_512) (slab x0 17 512 inb_S19x128x1024_S1x128x256_17_0_512)) (ix3 0 n e) = dev X n ⟨512 + e.val, by omega⟩ 8 17 := by
  pointwise [k0_pay24, k0_pay23]
  rw [slab_at X x0 hx 17 512 _ n e (by omega)]
  rw [slab_at X x0 hx 16 512 _ n e (by omega)]
  rw [slab_at X x0 hx 15 512 _ n e (by omega)]
  rw [slab_at X x0 hx 14 512 _ n e (by omega)]
  rw [slab_at X x0 hx 13 512 _ n e (by omega)]
  rw [slab_at X x0 hx 12 512 _ n e (by omega)]
  rw [slab_at X x0 hx 11 512 _ n e (by omega)]
  rw [slab_at X x0 hx 10 512 _ n e (by omega)]
  unfold dev
  simp only [Finset.sum_range_succ, Finset.sum_range_zero, zero_add, Nat.sub_zero]
  rw [eight]
  rfl

theorem piece_2_1 (hx : ∀ (p : Fin 19) (n : Fin 128) (q : Fin 1024), x0 (ix3 p n q) = at_ X n q p.val) (n : Fin 128) (e : Fin 256) :
    (k0_pay22 (k0_pay21 (slab x0 17 256 inb_S19x128x1024_S1x128x256_17_0_256) (slab x0 16 256 inb_S19x128x1024_S1x128x256_16_0_256) (slab x0 15 256 inb_S19x128x1024_S1x128x256_15_0_256) (slab x0 14 256 inb_S19x128x1024_S1x128x256_14_0_256)) (slab x0 17 256 inb_S19x128x1024_S1x128x256_17_0_256)) (ix3 0 n e) = dev X n ⟨256 + e.val, by omega⟩ 4 17 := by
  pointwise [k0_pay22, k0_pay21]
  rw [slab_at X x0 hx 17 256 _ n e (by omega)]
  rw [slab_at X x0 hx 16 256 _ n e (by omega)]
  rw [slab_at X x0 hx 15 256 _ n e (by omega)]
  rw [slab_at X x0 hx 14 256 _ n e (by omega)]
  unfold dev
  simp only [Finset.sum_range_succ, Finset.sum_range_zero, zero_add, Nat.sub_zero]
  rw [four]
  rfl

theorem piece_2_0 (hx : ∀ (p : Fin 19) (n : Fin 128) (q : Fin 1024), x0 (ix3 p n q) = at_ X n q p.val) (n : Fin 128) (e : Fin 256) :
    (k0_pay20 (slab x0 17 0 inb_S19x128x1024_S1x128x256_17_0_0) (slab x0 16 0 inb_S19x128x1024_S1x128x256_16_0_0) (slab x0 17 0 inb_S19x128x1024_S1x128x256_17_0_0)) (ix3 0 n e) = dev X n ⟨0 + e.val, by omega⟩ 2 17 := by
  pointwise [k0_pay20]
  rw [slab_at X x0 hx 17 0 _ n e (by omega)]
  rw [slab_at X x0 hx 16 0 _ n e (by omega)]
  unfold dev
  simp only [Finset.sum_range_succ, Finset.sum_range_zero, zero_add, Nat.sub_zero]
  rw [two]
  rfl

theorem piece_1_3 (hx : ∀ (p : Fin 19) (n : Fin 128) (q : Fin 1024), x0 (ix3 p n q) = at_ X n q p.val) (n : Fin 128) (e : Fin 256) :
    (k0_pay19 (k0_pay17 (k0_pay16 (slab x0 16 768 inb_S19x128x1024_S1x128x256_16_0_768) (slab x0 15 768 inb_S19x128x1024_S1x128x256_15_0_768) (slab x0 14 768 inb_S19x128x1024_S1x128x256_14_0_768) (slab x0 13 768 inb_S19x128x1024_S1x128x256_13_0_768) (slab x0 12 768 inb_S19x128x1024_S1x128x256_12_0_768) (slab x0 11 768 inb_S19x128x1024_S1x128x256_11_0_768) (slab x0 10 768 inb_S19x128x1024_S1x128x256_10_0_768)) (slab x0 9 768 inb_S19x128x1024_S1x128x256_9_0_768) (slab x0 8 768 inb_S19x128x1024_S1x128x256_8_0_768) (slab x0 7 768 inb_S19x128x1024_S1x128x256_7_0_768) (slab x0 6 768 inb_S19x128x1024_S1x128x256_6_0_768) (slab x0 5 768 inb_S19x128x1024_S1x128x256_5_0_768) (slab x0 4 768 inb_S19x128x1024_S1x128x256_4_0_768) (slab x0 3 768 inb_S19x128x1024_S1x128x256_3_0_768) (slab x0 2 768 inb_S19x128x1024_S1x128x256_2_0_768) (slab x0 1 768 inb_S19x128x1024_S1x128x256_1_0_768)) (k0_pay18 (slab x0 16 768 inb_S19x128x1024_S1x128x256_16_0_768))) (ix3 0 n e) = dev X n ⟨768 + e.val, by omega⟩ 16 16 := by
  pointwise [k0_pay19, k0_pay17, k0_pay16, k0_pay18]
  rw [slab_at X x0 hx 16 768 _ n e (by omega)]
  rw [slab_at X x0 hx 15 768 _ n e (by omega)]
  rw [slab_at X x0 hx 14 768 _ n e (by omega)]
  rw [slab_at X x0 hx 13 768 _ n e (by omega)]
  rw [slab_at X x0 hx 12 768 _ n e (by omega)]
  rw [slab_at X x0 hx 11 768 _ n e (by omega)]
  rw [slab_at X x0 hx 10 768 _ n e (by omega)]
  rw [slab_at X x0 hx 9 768 _ n e (by omega)]
  rw [slab_at X x0 hx 8 768 _ n e (by omega)]
  rw [slab_at X x0 hx 7 768 _ n e (by omega)]
  rw [slab_at X x0 hx 6 768 _ n e (by omega)]
  rw [slab_at X x0 hx 5 768 _ n e (by omega)]
  rw [slab_at X x0 hx 4 768 _ n e (by omega)]
  rw [slab_at X x0 hx 3 768 _ n e (by omega)]
  rw [slab_at X x0 hx 2 768 _ n e (by omega)]
  rw [slab_at X x0 hx 1 768 _ n e (by omega)]
  unfold dev
  simp only [Finset.sum_range_succ, Finset.sum_range_zero, zero_add, Nat.sub_zero]
  rw [sixteen]
  rfl

theorem piece_1_2 (hx : ∀ (p : Fin 19) (n : Fin 128) (q : Fin 1024), x0 (ix3 p n q) = at_ X n q p.val) (n : Fin 128) (e : Fin 256) :
    (k0_pay15 (k0_pay14 (slab x0 16 512 inb_S19x128x1024_S1x128x256_16_0_512) (slab x0 15 512 inb_S19x128x1024_S1x128x256_15_0_512) (slab x0 14 512 inb_S19x128x1024_S1x128x256_14_0_512) (slab x0 13 512 inb_S19x128x1024_S1x128x256_13_0_512) (slab x0 12 512 inb_S19x128x1024_S1x128x256_12_0_512) (slab x0 11 512 inb_S19x128x1024_S1x128x256_11_0_512) (slab x0 10 512 inb_S19x128x1024_S1x128x256_10_0_512) (slab x0 9 512 inb_S19x128x1024_S1x128x256_9_0_512)) (slab x0 16 512 inb_S19x128x1024_S1x128x256_16_0_512)) (ix3 0 n e) = dev X n ⟨512 + e.val, by omega⟩ 8 16 := by
  pointwise [k0_pay15, k0_pay14]
  rw [slab_at X x0 hx 16 512 _ n e (by omega)]
  rw [slab_at X x0 hx 15 512 _ n e (by omega)]
  rw [slab_at X x0 hx 14 512 _ n e (by omega)]
  rw [slab_at X x0 hx 13 512 _ n e (by omega)]
  rw [slab_at X x0 hx 12 512 _ n e (by omega)]
  rw [slab_at X x0 hx 11 512 _ n e (by omega)]
  rw [slab_at X x0 hx 10 512 _ n e (by omega)]
  rw [slab_at X x0 hx 9 512 _ n e (by omega)]
  unfold dev
  simp only [Finset.sum_range_succ, Finset.sum_range_zero, zero_add, Nat.sub_zero]
  rw [eight]
  rfl

theorem piece_1_1 (hx : ∀ (p : Fin 19) (n : Fin 128) (q : Fin 1024), x0 (ix3 p n q) = at_ X n q p.val) (n : Fin 128) (e : Fin 256) :
    (k0_pay13 (k0_pay12 (slab x0 16 256 inb_S19x128x1024_S1x128x256_16_0_256) (slab x0 15 256 inb_S19x128x1024_S1x128x256_15_0_256) (slab x0 14 256 inb_S19x128x1024_S1x128x256_14_0_256) (slab x0 13 256 inb_S19x128x1024_S1x128x256_13_0_256)) (slab x0 16 256 inb_S19x128x1024_S1x128x256_16_0_256)) (ix3 0 n e) = dev X n ⟨256 + e.val, by omega⟩ 4 16 := by
  pointwise [k0_pay13, k0_pay12]
  rw [slab_at X x0 hx 16 256 _ n e (by omega)]
  rw [slab_at X x0 hx 15 256 _ n e (by omega)]
  rw [slab_at X x0 hx 14 256 _ n e (by omega)]
  rw [slab_at X x0 hx 13 256 _ n e (by omega)]
  unfold dev
  simp only [Finset.sum_range_succ, Finset.sum_range_zero, zero_add, Nat.sub_zero]
  rw [four]
  rfl

theorem piece_1_0 (hx : ∀ (p : Fin 19) (n : Fin 128) (q : Fin 1024), x0 (ix3 p n q) = at_ X n q p.val) (n : Fin 128) (e : Fin 256) :
    (k0_pay11 (slab x0 16 0 inb_S19x128x1024_S1x128x256_16_0_0) (slab x0 15 0 inb_S19x128x1024_S1x128x256_15_0_0) (slab x0 16 0 inb_S19x128x1024_S1x128x256_16_0_0)) (ix3 0 n e) = dev X n ⟨0 + e.val, by omega⟩ 2 16 := by
  pointwise [k0_pay11]
  rw [slab_at X x0 hx 16 0 _ n e (by omega)]
  rw [slab_at X x0 hx 15 0 _ n e (by omega)]
  unfold dev
  simp only [Finset.sum_range_succ, Finset.sum_range_zero, zero_add, Nat.sub_zero]
  rw [two]
  rfl

theorem piece_0_3 (hx : ∀ (p : Fin 19) (n : Fin 128) (q : Fin 1024), x0 (ix3 p n q) = at_ X n q p.val) (n : Fin 128) (e : Fin 256) :
    (k0_pay10 (k0_pay9 (k0_pay8 (slab x0 15 768 inb_S19x128x1024_S1x128x256_15_0_768) (slab x0 14 768 inb_S19x128x1024_S1x128x256_14_0_768) (slab x0 13 768 inb_S19x128x1024_S1x128x256_13_0_768) (slab x0 12 768 inb_S19x128x1024_S1x128x256_12_0_768) (slab x0 11 768 inb_S19x128x1024_S1x128x256_11_0_768) (slab x0 10 768 inb_S19x128x1024_S1x128x256_10_0_768) (slab x0 9 768 inb_S19x128x1024_S1x128x256_9_0_768) (slab x0 8 768 inb_S19x128x1024_S1x128x256_8_0_768)) (slab x0 7 768 inb_S19x128x1024_S1x128x256_7_0_768) (slab x0 6 768 inb_S19x128x1024_S1x128x256_6_0_768) (slab x0 5 768 inb_S19x128x1024_S1x128x256_5_0_768) (slab x0 4 768 inb_S19x128x1024_S1x128x256_4_0_768) (slab x0 3 768 inb_S19x128x1024_S1x128x256_3_0_768) (slab x0 2 768 inb_S19x128x1024_S1x128x256_2_0_768) (slab x0 1 768 inb_S19x128x1024_S1x128x256_1_0_768) (slab x0 0 768 inb_S19x128x1024_S1x128x256_0_0_768) (slab x0 15 768 inb_S19x128x1024_S1x128x256_15_0_768))) (ix3 0 n e) = dev X n ⟨768 + e.val, by omega⟩ 16 15 := by
  pointwise [k0_pay10, k0_pay9, k0_pay8]
  rw [slab_at X x0 hx 15 768 _ n e (by omega)]
  rw [slab_at X x0 hx 14 768 _ n e (by omega)]
  rw [slab_at X x0 hx 13 768 _ n e (by omega)]
  rw [slab_at X x0 hx 12 768 _ n e (by omega)]
  rw [slab_at X x0 hx 11 768 _ n e (by omega)]
  rw [slab_at X x0 hx 10 768 _ n e (by omega)]
  rw [slab_at X x0 hx 9 768 _ n e (by omega)]
  rw [slab_at X x0 hx 8 768 _ n e (by omega)]
  rw [slab_at X x0 hx 7 768 _ n e (by omega)]
  rw [slab_at X x0 hx 6 768 _ n e (by omega)]
  rw [slab_at X x0 hx 5 768 _ n e (by omega)]
  rw [slab_at X x0 hx 4 768 _ n e (by omega)]
  rw [slab_at X x0 hx 3 768 _ n e (by omega)]
  rw [slab_at X x0 hx 2 768 _ n e (by omega)]
  rw [slab_at X x0 hx 1 768 _ n e (by omega)]
  rw [slab_at X x0 hx 0 768 _ n e (by omega)]
  unfold dev
  simp only [Finset.sum_range_succ, Finset.sum_range_zero, zero_add, Nat.sub_zero]
  rw [sixteen]
  rfl

theorem piece_0_2 (hx : ∀ (p : Fin 19) (n : Fin 128) (q : Fin 1024), x0 (ix3 p n q) = at_ X n q p.val) (n : Fin 128) (e : Fin 256) :
    (k0_pay7 (k0_pay6 (slab x0 15 512 inb_S19x128x1024_S1x128x256_15_0_512) (slab x0 14 512 inb_S19x128x1024_S1x128x256_14_0_512) (slab x0 13 512 inb_S19x128x1024_S1x128x256_13_0_512) (slab x0 12 512 inb_S19x128x1024_S1x128x256_12_0_512) (slab x0 11 512 inb_S19x128x1024_S1x128x256_11_0_512) (slab x0 10 512 inb_S19x128x1024_S1x128x256_10_0_512) (slab x0 9 512 inb_S19x128x1024_S1x128x256_9_0_512) (slab x0 8 512 inb_S19x128x1024_S1x128x256_8_0_512)) (slab x0 15 512 inb_S19x128x1024_S1x128x256_15_0_512)) (ix3 0 n e) = dev X n ⟨512 + e.val, by omega⟩ 8 15 := by
  pointwise [k0_pay7, k0_pay6]
  rw [slab_at X x0 hx 15 512 _ n e (by omega)]
  rw [slab_at X x0 hx 14 512 _ n e (by omega)]
  rw [slab_at X x0 hx 13 512 _ n e (by omega)]
  rw [slab_at X x0 hx 12 512 _ n e (by omega)]
  rw [slab_at X x0 hx 11 512 _ n e (by omega)]
  rw [slab_at X x0 hx 10 512 _ n e (by omega)]
  rw [slab_at X x0 hx 9 512 _ n e (by omega)]
  rw [slab_at X x0 hx 8 512 _ n e (by omega)]
  unfold dev
  simp only [Finset.sum_range_succ, Finset.sum_range_zero, zero_add, Nat.sub_zero]
  rw [eight]
  rfl

theorem piece_0_1 (hx : ∀ (p : Fin 19) (n : Fin 128) (q : Fin 1024), x0 (ix3 p n q) = at_ X n q p.val) (n : Fin 128) (e : Fin 256) :
    (k0_pay5 (k0_pay3 (slab x0 15 256 inb_S19x128x1024_S1x128x256_15_0_256) (slab x0 14 256 inb_S19x128x1024_S1x128x256_14_0_256) (slab x0 13 256 inb_S19x128x1024_S1x128x256_13_0_256) (slab x0 12 256 inb_S19x128x1024_S1x128x256_12_0_256)) (k0_pay4 (slab x0 15 256 inb_S19x128x1024_S1x128x256_15_0_256))) (ix3 0 n e) = dev X n ⟨256 + e.val, by omega⟩ 4 15 := by
  pointwise [k0_pay5, k0_pay3, k0_pay4]
  rw [slab_at X x0 hx 15 256 _ n e (by omega)]
  rw [slab_at X x0 hx 14 256 _ n e (by omega)]
  rw [slab_at X x0 hx 13 256 _ n e (by omega)]
  rw [slab_at X x0 hx 12 256 _ n e (by omega)]
  unfold dev
  simp only [Finset.sum_range_succ, Finset.sum_range_zero, zero_add, Nat.sub_zero]
  rw [four]
  rfl

theorem piece_0_0 (hx : ∀ (p : Fin 19) (n : Fin 128) (q : Fin 1024), x0 (ix3 p n q) = at_ X n q p.val) (n : Fin 128) (e : Fin 256) :
    (k0_pay2 (slab x0 15 0 inb_S19x128x1024_S1x128x256_15_0_0) (slab x0 14 0 inb_S19x128x1024_S1x128x256_14_0_0) (slab x0 15 0 inb_S19x128x1024_S1x128x256_15_0_0)) (ix3 0 n e) = dev X n ⟨0 + e.val, by omega⟩ 2 15 := by
  pointwise [k0_pay2]
  rw [slab_at X x0 hx 15 0 _ n e (by omega)]
  rw [slab_at X x0 hx 14 0 _ n e (by omega)]
  unfold dev
  simp only [Finset.sum_range_succ, Finset.sum_range_zero, zero_add, Nat.sub_zero]
  rw [two]
  rfl

end

end Cert.PoolSampleIdeal.Pool

end
-- ==== Proof.PoolSampleValue.lean ====
/-
  The array the samples' pooling stores, entry by entry, and its run.
-/
module

public import proofs.«01_k».proof.Proof.PoolSampleTile

@[expose] public section

set_option maxRecDepth 16384

noncomputable section

namespace Cert.PoolSampleIdeal.Pool

open Idealize.ShloMosaic Idealize.ShloMosaic.TcCoe Idealize.ShloMosaic.Tactic
open Idealize.SL.Sem
open Idealize.ShloMosaic.Pipeline (Dat Cfg Window)
open Cert.PoolSampleIdeal Cert.PoolSampleIdeal.Gen Cert.PoolSample.Math

variable {F : FTy → Type} [FloatOps F]
variable (m : (ℓ : Loc nD τ sig) → Buf (Elt F) ℓ)

/-! ## The result's array -/

/-- The one point of the grid. -/
abbrev pt : Fin cfg0.N := ⟨0, by show 0 < 1; omega⟩

/-- The result's array: what the one point stores. -/
def poolArr (c : Dev nD) : Vec F S4x128x1024 .bf16 := out0_1 (iblk m c 0 pt)

theorem index_in : ∀ t : Fin cfg0.N, win0_0.index t (0 : Fin 3) = 0 ∧ win0_0.index t (1 : Fin 3) = 0 ∧ win0_0.index t (2 : Fin 3) = 0 :=
  (by decide +kernel : ∀ t : Fin grid0.N, _)
theorem index_out : ∀ t : Fin cfg0.N, win0_1.index t (0 : Fin 3) = 0 ∧ win0_1.index t (1 : Fin 3) = 0 ∧ win0_1.index t (2 : Fin 3) = 0 :=
  (by decide +kernel : ∀ t : Fin grid0.N, _)
theorem writes_out : ∀ t : Fin cfg0.N, (cfg0.win 1).flush t = true :=
  (by decide +kernel : ∀ t : Fin grid0.N, win0_1.flush t = true)
theorem pt_eq (t : Fin cfg0.N) : t = pt := Fin.ext (by have h : t.val < 1 := t.isLt; show t.val = 0; omega)

theorem cut_out (o : Vec F S4x128x1024 .bf16) : (cfg0.win 1).cut (grid0.coords pt) o = ((cfg0.win 1).blk pt).view.read (Elt F) o := by
  obtain ⟨e0, e1, e2⟩ := index_out pt
  funext y
  have hl : (cfg0.win 1).xinj (grid0.coords pt) y = ((cfg0.win 1).blk pt).view.emb y := by
    funext a; apply Fin.ext
    match a with
    | ⟨0, _⟩ => show (y 0).val = win0_1.index pt (0 : Fin 3) * 4 + 1 * (y 0).val; omega
    | ⟨1, _⟩ => show (y 1).val = win0_1.index pt (1 : Fin 3) * 128 + 1 * (y 1).val; omega
    | ⟨2, _⟩ => show (y 2).val = win0_1.index pt (2 : Fin 3) * 1024 + 1 * (y 2).val; omega
  show o ((cfg0.win 1).xinj (grid0.coords pt) y) = o (((cfg0.win 1).blk pt).view.emb y)
  rw [hl]

theorem flushed_out (c : Dev nD) (t : Fin cfg0.N) : (dats m 0 c).flushed 1 t = ((cfg0.win 1).blk t).view.read (Elt F) (poolArr m c) := by
  rw [pt_eq t]
  exact (Value.flushed1 m c pt).trans (cut_out (poolArr m c))

theorem final_pool (c : Dev nD) : (dats m 0 c).arrAt 1 cfg0.N = poolArr m c :=
  (dats m 0 c).arrAt_eq_of_cover 1 _ (fun t _ => flushed_out m c t) fun i => by
    have h0 : (i 0).val < 4 := (i 0).isLt
    have h1 : (i 1).val < 128 := (i 1).isLt
    have h2 : (i 2).val < 1024 := (i 2).isLt
    obtain ⟨e0, e1, e2⟩ := index_out pt
    refine ⟨pt, writes_out pt, ?_⟩
    show i ∈ ((View.whole (Pipeline.arrRef spec0 1)).slice (win0_1.rect pt)).set
    rw [View.set_slice_whole, Rect.mem_set_unit]
    intro a
    match a with
    | ⟨0, _⟩ => show win0_1.index pt (0 : Fin 3) * 4 ≤ (i 0).val ∧ (i 0).val < win0_1.index pt (0 : Fin 3) * 4 + 4; omega
    | ⟨1, _⟩ => show win0_1.index pt (1 : Fin 3) * 128 ≤ (i 1).val ∧ (i 1).val < win0_1.index pt (1 : Fin 3) * 128 + 128; omega
    | ⟨2, _⟩ => show win0_1.index pt (2 : Fin 3) * 1024 ≤ (i 2).val ∧ (i 2).val < win0_1.index pt (2 : Fin 3) * 1024 + 1024; omega

/-! ## The argument's block -/

theorem host_in (c : Dev nD) : V m c main_v0 = (transpose S19x128x1024 [1, 0, 2] (m ((c : Thread nD τ).loc main_arg0)) transposes_S128x19x1024_S19x128x1024_1_0_2 : FVec F S19x128x1024 .f32) := by
  show StableHlo.after hostOps0 (fun b => m (c, b)) _ = _
  after_results <;> rfl

theorem block_in (c : Dev nD) (t : Fin cfg0.N) (p : Fin 19) (n : Fin 128) (q : Fin 1024) :
    (iblk m c 0 t : Vec F S19x128x1024 .f32) (ix3 p n q) = V m c main_v0 (ix3 p n q) := by
  unfold iblk
  rw [View.read_apply]
  show V m c main_v0 _ = _
  congr 1
  obtain ⟨e0, e1, e2⟩ := index_in t
  funext a; apply Fin.ext
  match a with
  | ⟨0, _⟩ => show win0_0.index t (0 : Fin 3) * 19 + 1 * p.val = _; rw [e0]; show _ = p.val; omega
  | ⟨1, _⟩ => show win0_0.index t (1 : Fin 3) * 128 + 1 * n.val = _; rw [e1]; show _ = n.val; omega
  | ⟨2, _⟩ => show win0_0.index t (2 : Fin 3) * 1024 + 1 * q.val = _; rw [e2]; show _ = q.val; omega

/-! ## The entries, over the extended reals -/

section
variable (X : FVec Ideal ⟨3, ![128, 19, 1024]⟩ .f32) (x0 : Vec Ideal S19x128x1024 .f32)

/-- The whole array, as a function of the index. -/
def whole : Vec Ideal S4x128x1024 .bf16 := fun i => Cert.PoolSample.Math.out X (i 0) (i 1) (i 2)

theorem turned (x : FVec Ideal S128x19x1024 .f32) (p : Fin 19) (n : Fin 128) (q : Fin 1024) :
    (transpose S19x128x1024 [1, 0, 2] x transposes_S128x19x1024_S19x128x1024_1_0_2 : FVec Ideal S19x128x1024 .f32) (ix3 p n q) = at_ x n q p.val := by
  rw [at_, dif_pos p.isLt]
  pointwise

theorem out_congr {t t' : Fin 4} {n n' : Fin 128} {q q' : Fin 1024} (ht : t = t') (hn : n = n') (hq : q = q') : Cert.PoolSample.Math.out X t n q = Cert.PoolSample.Math.out X t' n' q' := by
  rw [ht, hn, hq]

/-- A piece with the right entries is the whole array's part at its place. -/
theorem of_piece (t g : Fin 4) (h) (f : S1x128x256.Idx → EReal)
    (hf : ∀ (n : Fin 128) (e : Fin 256), f (ix3 0 n e) = dev X n ⟨256 * g.val + e.val, by omega⟩ (2 ^ (g.val + 1)) (15 + t.val)) (x : S1x128x256.Idx) :
    f x = whole X ((Rect.unit (s := S4x128x1024) ![t.val, 0, 256 * g.val] S1x128x256.size h).emb x) := by
  have hx : x = ix3 (0 : Fin 1) (x 1) (x 2) := by
    refine (eq_ix3 (n0 := 1) (n1 := 128) (n2 := 256) x).trans ?_
    exact congrArg (fun z : Fin 1 => ix3 z (x 1) (x 2)) (Fin.ext (by have : (x 0).val < 1 := (x 0).isLt; show (x 0).val = 0; omega))
  rw [hx]
  refine (hf (x 1) (x 2)).trans ?_
  have h2 : (x 2).val < 256 := (x 2).isLt
  have hg : (256 * g.val + (x 2).val) / 256 = g.val := by omega
  have a0 : ((Rect.unit (s := S4x128x1024) ![t.val, 0, 256 * g.val] S1x128x256.size h).emb (ix3 (0 : Fin 1) (x 1) (x 2))) 0 = t := Fin.ext (by show t.val + 1 * 0 = t.val; omega)
  have a1 : ((Rect.unit (s := S4x128x1024) ![t.val, 0, 256 * g.val] S1x128x256.size h).emb (ix3 (0 : Fin 1) (x 1) (x 2))) 1 = x 1 := Fin.ext (by show 0 + 1 * (x 1).val = (x 1).val; omega)
  have a2 : ((Rect.unit (s := S4x128x1024) ![t.val, 0, 256 * g.val] S1x128x256.size h).emb (ix3 (0 : Fin 1) (x 1) (x 2))) 2 = (⟨256 * g.val + (x 2).val, by omega⟩ : Fin 1024) := Fin.ext (by show 256 * g.val + 1 * (x 2).val = _; dsimp only; omega)
  have hd : dev X (x 1) ⟨256 * g.val + (x 2).val, by omega⟩ (2 ^ (g.val + 1)) (15 + t.val) = Cert.PoolSample.Math.out X t (x 1) ⟨256 * g.val + (x 2).val, by omega⟩ := by
    unfold Cert.PoolSample.Math.out
    dsimp only
    rw [hg]
  exact hd.trans (out_congr X a0.symm a1.symm a2.symm)

theorem out_apply (hx : ∀ (p : Fin 19) (n : Fin 128) (q : Fin 1024), x0 (ix3 p n q) = at_ X n q p.val) (y : S4x128x1024.Idx) :
    (out0_1 x0 : Vec Ideal S4x128x1024 .bf16) y = whole X y := by
  unfold out0_1
  refine View.canon_apply_of_pieces (Val := Elt Ideal) (whole X) _ ?_ y (cover0_1 _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl
  · exact of_piece X 3 3 inb_S4x128x1024_S1x128x256_3_0_768 _ (piece_3_3 X x0 hx)
  · exact of_piece X 3 2 inb_S4x128x1024_S1x128x256_3_0_512 _ (piece_3_2 X x0 hx)
  · exact of_piece X 3 1 inb_S4x128x1024_S1x128x256_3_0_256 _ (piece_3_1 X x0 hx)
  · exact of_piece X 3 0 inb_S4x128x1024_S1x128x256_3_0_0 _ (piece_3_0 X x0 hx)
  · exact of_piece X 2 3 inb_S4x128x1024_S1x128x256_2_0_768 _ (piece_2_3 X x0 hx)
  · exact of_piece X 2 2 inb_S4x128x1024_S1x128x256_2_0_512 _ (piece_2_2 X x0 hx)
  · exact of_piece X 2 1 inb_S4x128x1024_S1x128x256_2_0_256 _ (piece_2_1 X x0 hx)
  · exact of_piece X 2 0 inb_S4x128x1024_S1x128x256_2_0_0 _ (piece_2_0 X x0 hx)
  · exact of_piece X 1 3 inb_S4x128x1024_S1x128x256_1_0_768 _ (piece_1_3 X x0 hx)
  · exact of_piece X 1 2 inb_S4x128x1024_S1x128x256_1_0_512 _ (piece_1_2 X x0 hx)
  · exact of_piece X 1 1 inb_S4x128x1024_S1x128x256_1_0_256 _ (piece_1_1 X x0 hx)
  · exact of_piece X 1 0 inb_S4x128x1024_S1x128x256_1_0_0 _ (piece_1_0 X x0 hx)
  · exact of_piece X 0 3 inb_S4x128x1024_S1x128x256_0_0_768 _ (piece_0_3 X x0 hx)
  · exact of_piece X 0 2 inb_S4x128x1024_S1x128x256_0_0_512 _ (piece_0_2 X x0 hx)
  · exact of_piece X 0 1 inb_S4x128x1024_S1x128x256_0_0_256 _ (piece_0_1 X x0 hx)
  · exact of_piece X 0 0 inb_S4x128x1024_S1x128x256_0_0_0 _ (piece_0_0 X x0 hx)

end

section
variable (m : (ℓ : Loc nD τ sig) → Buf (Elt Ideal) ℓ)

theorem pool_apply (c : Dev nD) (t : Fin 4) (n : Fin 128) (q : Fin 1024) :
    poolArr m c (ix3 t n q) = Cert.PoolSample.Math.out (m ((c : Thread nD τ).loc main_arg0)) t n q :=
  out_apply (m ((c : Thread nD τ).loc main_arg0)) (iblk m c 0 pt) (fun p n q => by rw [block_in, host_in, turned]) (ix3 t n q)

end

/-! ## The run, read -/

theorem run_values (ρ : Dev nD → PrngReg) : θ_run defs (onTc (τ := τ) (main (F := F))) ⟨m, fun _ => 0, ρ⟩ (fun r => ∀ c : Dev nD,
      r.2.mem ((c.tc : Thread nD τ).loc main_v1) = poolArr m c
      ∧ r.2.mem ((c.tc : Thread nD τ).loc main_arg0) = m ((c.tc : Thread nD τ).loc main_arg0)) :=
  (θ_run defs _ _).mono (fun r h c => ⟨(h c).1.trans (final_pool m c), (h c).2⟩) (Cert.PoolSampleIdeal.Value.run_blocks m ρ)

end Cert.PoolSampleIdeal.Pool

end
-- ==== Proof.PoolSampleRef.lean ====
/-
  The reference of the samples' pooling, read at an index.
-/
module

public import proofs.«01_k».proof.Proof.Gen.PoolSampleRefIdeal.Run
public import proofs.«01_k».proof.Proof.PoolSampleMath

@[expose] public section

set_option maxRecDepth 16384

noncomputable section

namespace Cert.PoolSampleRefIdeal.Pool

open Cert.PoolSampleRefIdeal Cert.PoolSampleRefIdeal.Gen Idealize.ShloMosaic Idealize.ShloMosaic.TcCoe Idealize.SL.Sem
open Cert.PoolSample.Math

variable {F : FTy → Type} [FloatOps F]

/-- Which rows lie in which new row's window, per group. -/
def inWindow : IVec S4x4x19 1 :=
  andi (broadcastInDim S4x4x19 ![0, 1, 2] bcast_S1x4x19_S4x4x19_0_1_2 (broadcastInDim S1x4x19 ![1, 2] bcast_S4x19_S1x4x19_1_2 (cmpi .sle (broadcastInDim S4x19 ![0, 1] bcast_S1x19_S4x19_0_1 (broadcastInDim S1x19 ![1] bcast_S19_S1x19_1 (iotaInDim S19 32 0))) (broadcastInDim S4x19 ![0, 1] bcast_S4x1_S4x19_0_1 (broadcastInDim S4x1 ![0] bcast_S4_S4x1_0 (addi (broadcastInDim S4 ![] bcast_S_S4 (constantI S_ 32 15#32)) (iotaInDim S4 32 0))))))) (cmpi .slt (broadcastInDim S4x4x19 ![0, 1, 2] bcast_S1x4x19_S4x4x19_0_1_2 (broadcastInDim S1x4x19 ![1, 2] bcast_S4x19_S1x4x19_1_2 (subi (broadcastInDim S4x19 ![0, 1] bcast_S4x1_S4x19_0_1 (broadcastInDim S4x1 ![0] bcast_S4_S4x1_0 (addi (broadcastInDim S4 ![] bcast_S_S4 (constantI S_ 32 15#32)) (iotaInDim S4 32 0)))) (broadcastInDim S4x19 ![0, 1] bcast_S1x19_S4x19_0_1 (broadcastInDim S1x19 ![1] bcast_S19_S1x19_1 (iotaInDim S19 32 0)))))) (broadcastInDim S4x4x19 ![0, 1, 2] bcast_S4x1x1_S4x4x19_0_1_2 (broadcastInDim S4x1x1 ![0] bcast_S4_S4x1x1_0 ((fun i => lit0 (S4.rowMajor i))))))

/-- The rows' channels, by group. -/
def rows (x : FVec F S128x19x1024 .f32) : FVec F S128x19x4x256 .f32 :=
  shapeCast _ x shapeCasts_S128x19x1024_S128x19x4x256

/-- The windows' means less the rows. -/
def deviation (x : FVec F S128x19x1024 .f32) : FVec F S128x4x4x256 .f32 :=
  subf (Host.divf (transpose S128x4x4x256 [1, 3, 0, 2] (Host.dotGeneral dot_S128x19x4x256_S4x4x19_S4x128x256x4_1_2_03_1_2_0 none (rows x) (uitofp .f32 inWindow)) transposes_S4x128x256x4_S128x4x4x256_1_3_0_2) (broadcastInDim S128x4x4x256 ![0, 1, 2, 3] bcast_S1x1x4x1_S128x4x4x256_0_1_2_3 (broadcastInDim S1x1x4x1 ![2, 3] bcast_S4x1_S1x1x4x1_2_3 (broadcastInDim S4x1 ![0] bcast_S4_S4x1_0 (sitofp .f32 ((fun i => lit0 (S4.rowMajor i)))))))) (extractStridedSlice S128x4x4x256 ![0, 15, 0, 0] (rows x) slices_S128x19x4x256_S128x4x4x256_0_15_0_0)

/-- The result as an array of the argument. -/
def poolArr (m : (ℓ : Loc nD τ sig) → Buf (Elt F) ℓ) (c : Dev nD) : FVec F S4x128x1024 .bf16 :=
  truncf .bf16 (transpose S4x128x1024 [1, 0, 2] (shapeCast _ (deviation (m ((c.tc : Thread nD τ).loc main_arg0))) shapeCasts_S128x4x4x256_S128x4x1024) transposes_S128x4x1024_S4x128x1024_1_0_2) bitsLt_bf16_f32

theorem run_values (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35) = poolArr m c
      ∧ r.2.mem ((c.tc : Thread nD τ).loc main_arg0) = m ((c.tc : Thread nD τ).loc main_arg0) :=
  (θ_run defs _ _).mono (fun _ h c => ⟨(h c).1.trans rfl, (h c).2⟩) (Cert.PoolSampleRefIdeal.Value.run m ρ)

/-- The four lengths. -/
theorem lit_eq (g : Fin 4) : lit0 (S4.rowMajor (ix1 g)) = BitVec.ofNat 32 (2 ^ (g.val + 1)) := by
  fin_cases g <;> rfl

theorem pow_le (g : Fin 4) : 2 ^ (g.val + 1) ≤ 16 := by
  fin_cases g <;> decide

theorem inWindow_apply (g t : Fin 4) (s : Fin 19) :
    inWindow (ix3 g t s) = BitVec.ofBool (decide (s.val ≤ 15 + t.val ∧ 15 + t.val - s.val < 2 ^ (g.val + 1))) := by
  pointwise [inWindow]
  have hg := pow_le g
  rw [lit_eq]
  generalize 2 ^ (g.val + 1) = N at hg
  have e : IntOp.addi 15#32 (BitVec.ofNat 32 t.val) = BitVec.ofNat 32 (15 + t.val) := by
    unfold IntOp.addi; rw [BitVec.ofNat_add]
  rw [e]
  unfold IntOp.cmpi IntOp.subi IntOp.andi
  simp only [BitVec.slt_eq_decide, BitVec.sle_eq_decide]
  rw [toInt_sub _ _ (by omega) (by omega), toInt_small _ (by omega), toInt_small _ (by omega), toInt_small _ (by omega)]
  by_cases h1 : (s.val : ℤ) ≤ (15 + t.val : ℕ)
  · by_cases h2 : ((15 + t.val : ℕ) : ℤ) - s.val < N
    · rw [decide_eq_true h1, decide_eq_true h2, decide_eq_true ⟨by omega, by omega⟩]; rfl
    · rw [decide_eq_true h1, decide_eq_false h2, decide_eq_false (by omega)]; rfl
  · rw [decide_eq_false h1, decide_eq_false (p := s.val ≤ 15 + t.val ∧ _) (by omega)]
    by_cases h2 : ((15 + t.val : ℕ) : ℤ) - s.val < N
    · rw [decide_eq_true h2]; rfl
    · rw [decide_eq_false h2]; rfl

theorem rows_apply (x : FVec Ideal S128x19x1024 .f32) (n : Fin 128) (p : Fin 19) (g : Fin 4) (e : Fin 256) :
    rows x (ix4 n p g e) = at_ x n ⟨256 * g.val + e.val, by omega⟩ p.val := by
  rw [at_, dif_pos p.isLt]
  pointwise [rows]
  exact congrArg x (congrArg (fun q => ix3 n p q) (Fin.ext (by dsimp only; omega)))

theorem indicator (p : Prop) [Decidable p] : (FloatOps.uitofp .f32 (BitVec.ofBool (decide p)) : Ideal .f32) = if p then (1 : EReal) else 0 := by
  show (((BitVec.ofBool (decide p)).toNat : ℝ) : EReal) = _
  by_cases h : p
  · rw [if_pos h, decide_eq_true h]; simp
  · rw [if_neg h, decide_eq_false h]; simp

theorem deviation_apply (x : FVec Ideal S128x19x1024 .f32) (n : Fin 128) (t g : Fin 4) (e : Fin 256) :
    deviation x (ix4 n t g e) = dev x n ⟨256 * g.val + e.val, by omega⟩ (2 ^ (g.val + 1)) (15 + t.val) := by
  pointwise [deviation]
  have hg := pow_le g
  have hc : (FloatOps.sitofp .f32 (lit0 (S4.rowMajor (ix1 g))) : Ideal .f32) = (((2 ^ (g.val + 1) : ℕ) : ℝ) : EReal) := by
    show (((lit0 (S4.rowMajor (ix1 g))).toInt : ℝ) : EReal) = _
    rw [lit_eq, toInt_small _ (by omega)]; rfl
  rw [hc, rows_apply]
  unfold dev
  refine congrArg (fun z => Ideal.div z _ - _) (Eq.trans (Finset.sum_congr rfl fun s _ => ?_) (sum_window _ _ _ (by omega) (by omega)))
  rw [rows_apply, inWindow_apply, indicator]

theorem flat_apply (y : FVec Ideal S128x4x4x256 .f32) (t : Fin 4) (n : Fin 128) (q : Fin 1024) :
    truncf .bf16 (transpose S4x128x1024 [1, 0, 2] (shapeCast S128x4x1024 y shapeCasts_S128x4x4x256_S128x4x1024) transposes_S128x4x1024_S4x128x1024_1_0_2 : FVec Ideal S4x128x1024 .f32) bitsLt_bf16_f32 (ix3 t n q)
      = y (ix4 n t ⟨q.val / 256, by omega⟩ ⟨q.val % 256, by omega⟩) := by
  pointwise

theorem pool_apply (m : (ℓ : Loc nD τ sig) → Buf (Elt Ideal) ℓ) (c : Dev nD) (t : Fin 4) (n : Fin 128) (q : Fin 1024) :
    poolArr m c (ix3 t n q) = out (m ((c.tc : Thread nD τ).loc main_arg0)) t n q := by
  refine (flat_apply _ t n q).trans ((deviation_apply _ _ _ _ _).trans ?_)
  unfold out
  exact congrArg (fun q' : Fin 1024 => dev _ n q' _ _) (Fin.ext (by dsimp only; omega))

end Cert.PoolSampleRefIdeal.Pool

end
-- ==== Proof.PoolSampleClaims.lean ====
/-
  The claims about the pooling of the samples.
-/
module

public import proofs.«01_k».proof.Defs
public import proofs.«01_k».proof.Proof.PoolSampleValue
public import proofs.«01_k».proof.Proof.PoolSampleRef
public import proofs.«01_k».proof.Proof.Gen.PoolSample

@[expose] public section

noncomputable section

namespace Cert.Proof.PoolSample

open Idealize.ShloMosaic Idealize.ShloMosaic.TcCoe Idealize.SL.Sem

theorem frame_kernel_ideal : Cert.quiescent_PoolSampleIdeal := fun m ρ _ => Cert.PoolSampleIdeal.Gen.frame m ρ

/-- The two prints of the kernel have one text: their body tables are one table. -/
theorem bodies_eq {F : FTy → Type} [FloatOps F] : Cert.PoolSample.defs₀ (F := F) = Cert.PoolSampleIdeal.defs₀ (F := F) := by
  unfold Cert.PoolSample.defs₀ Cert.PoolSampleIdeal.defs₀
  refine congrArg _ (funext fun l => funext fun a => ?_)
  match l, a with
  | 0, (t, s) => rfl
  | ⟨_ + 1, h⟩, _ => exact absurd h (Nat.not_lt.2 (Nat.le_add_left _ _))

theorem defs_eq {F : FTy → Type} [FloatOps F] : Cert.PoolSample.defs (F := F) = Cert.PoolSampleIdeal.defs (F := F) := by
  unfold Cert.PoolSample.defs Cert.PoolSampleIdeal.defs
  rw [bodies_eq]
  rfl

/-- So the kernel's run at the machine's floats is the run above there. -/
theorem frame_kernel : Cert.quiescent_PoolSample := fun m ρ _ => by
  rw [defs_eq]
  exact Cert.PoolSampleIdeal.Gen.frame (F := Bits) m ρ

theorem frame_reference : Cert.quiescent_PoolSampleRefIdeal := fun m ρ _ =>
  (θ_run Cert.PoolSampleRefIdeal.defs _ _).mono (fun r h => ⟨fun c => (h c).2, sem_eq_zero_of_no_sems (by decide) r.2⟩)
    (Cert.PoolSampleRefIdeal.Value.run (F := Ideal) m ρ)

theorem preserves : Cert.preserves_PoolSample_PoolSampleIdeal := trivial

/-- Both results are the same deviations of the same rows. -/
theorem algebraic : Cert.algebraic_PoolSampleIdeal_PoolSampleRefIdeal := by
  intro m ρ m' ρ' _ hagree
  refine ⟨fun c => Cert.PoolSampleIdeal.Pool.poolArr m c, Cert.PoolSampleIdeal.Pool.run_values (F := Ideal) m ρ, ?_⟩
  refine (θ_run Cert.PoolSampleRefIdeal.defs _ _).mono (fun _ h c => ?_) (Cert.PoolSampleRefIdeal.Pool.run_values (F := Ideal) m' ρ')
  have a0 := hagree c
  refine ⟨(h c).1.trans (funext fun i => ?_), (h c).2⟩
  refine (congrArg _ (eq_ix3 (n0 := 4) (n1 := 128) (n2 := 1024) i)).trans ((Cert.PoolSampleRefIdeal.Pool.pool_apply m' c _ _ _).trans ?_)
  rw [a0]
  exact ((congrArg (Cert.PoolSampleIdeal.Pool.poolArr m c) (eq_ix3 i)).trans (Cert.PoolSampleIdeal.Pool.pool_apply m c _ _ _)).symm

end Cert.Proof.PoolSample

end
-- ==== Proof.MixSampleMath.lean ====
/-
  The mathematics of the mixing call for the samples over the extended reals, in coordinates: the deviations' projection per
  group of channels, the channel scale, and the gated sum of the two up-projections.
-/
module

public import Idealize.ShloMosaic.Lib.Pointwise

@[expose] public section

noncomputable section

namespace Cert.MixSample.Math

open Idealize.ShloMosaic

/-- The logistic function. -/
def sg (a : EReal) : EReal := Ideal.div 1 (1 + Ideal.exp (-a))

/-- Channel `q` of the grouped projection of row `R`, before the scale. -/
def grouped (d : FVec Ideal ⟨2, ![512, 1024]⟩ .bf16) (w : FVec Ideal ⟨4, ![1, 4, 256, 256]⟩ .f32) (R : Fin 512) (q : Fin 1024) : EReal :=
  ∑ e : Fin 256, d (ix2 R ⟨256 * (q.val / 256) + e.val, by omega⟩) * w (ix4 0 ⟨q.val / 256, by omega⟩ e ⟨q.val % 256, by omega⟩)

/-- Feature `q` of row `R` of the mix. -/
def out (d : FVec Ideal ⟨2, ![512, 1024]⟩ .bf16) (attn : FVec Ideal ⟨2, ![512, 2048]⟩ .bf16) (gates : FVec Ideal ⟨2, ![512, 8192]⟩ .bf16)
    (w : FVec Ideal ⟨4, ![1, 4, 256, 256]⟩ .f32) (s : FVec Ideal ⟨2, ![1, 1024]⟩ .f32) (wp : FVec Ideal ⟨3, ![1, 1024, 2048]⟩ .f32)
    (wa : FVec Ideal ⟨3, ![1, 2048, 2048]⟩ .f32) (R : Fin 512) (q : Fin 2048) : EReal :=
  sg (gates (ix2 R ⟨2048 + q.val, by omega⟩)) * (∑ k : Fin 1024, grouped d w R k * s (ix2 0 k) * wp (ix3 0 k q))
    + sg (gates (ix2 R ⟨4096 + q.val, by omega⟩)) * ∑ k : Fin 2048, attn (ix2 R k) * wa (ix3 0 k q)

end Cert.MixSample.Math

end
-- ==== Proof.MixSampleValue.lean ====
/-
  What the point of the mixing call for the samples stores, and the result as an array.
-/
module

public import proofs.«01_k».proof.Proof.Gen.MixSampleIdeal.Value
public import proofs.«01_k».proof.Proof.MixSampleMath

@[expose] public section

set_option maxRecDepth 16384

noncomputable section

namespace Cert.MixSampleIdeal.Mix

open Idealize.ShloMosaic Idealize.ShloMosaic.TcCoe Idealize.ShloMosaic.Tactic
open Idealize.SL.Sem
open Idealize.ShloMosaic.Pipeline (Dat Cfg Window)
open Cert.MixSampleIdeal Cert.MixSampleIdeal.Gen Cert.MixSample.Math

variable {F : FTy → Type} [FloatOps F]
variable (m : (ℓ : Loc nD τ sig) → Buf (Elt F) ℓ)

theorem hz : (![0, 0] : Fin 2 → ℕ) = fun _ => 0 := by decide

/-- A group's columns of the deviations. -/
def slab (b : Vec F S512x1024 .bf16) (q : ℕ) (h : ∀ a, (![0, q] : Fin 2 → ℕ) a + (![512, 256] : Fin 2 → ℕ) a ≤ S512x1024.size a) : Vec F S512x256 .bf16 :=
  View.ld b (Rect.unit (s := S512x1024) ![0, q] ![512, 256] h)

/-- The four groups' projections, scaled. -/
def groupsOf (d : Vec F S512x1024 .bf16) (w : Vec F S4x256x256 .bf16) (s : Vec F S1x1024 .f32) : FVec F S512x1024 .bf16 :=
  k0_pay3 (slab d 0 inb_S512x1024_S512x256_0_0) (slab d 256 inb_S512x1024_S512x256_0_256) (slab d 512 inb_S512x1024_S512x256_0_512) (slab d 768 inb_S512x1024_S512x256_0_768)
    (View.ld w (Rect.unit ![0, 0, 0] ![1, 256, 256] inb_S4x256x256_S1x256x256_0_0_0)) (View.ld w (Rect.unit ![1, 0, 0] ![1, 256, 256] inb_S4x256x256_S1x256x256_1_0_0))
    (View.ld w (Rect.unit ![2, 0, 0] ![1, 256, 256] inb_S4x256x256_S1x256x256_2_0_0)) (View.ld w (Rect.unit ![3, 0, 0] ![1, 256, 256] inb_S4x256x256_S1x256x256_3_0_0)) s

theorem slab_apply (b : Vec F S512x1024 .bf16) (q : ℕ) (h) (r : Fin 512) (e : Fin 256) (hq : q + e.val < 1024) :
    slab b q h (ix2 r e) = b (ix2 r ⟨q + e.val, hq⟩) := by
  unfold slab
  refine congrArg b ?_
  funext a; apply Fin.ext
  match a with
  | ⟨0, _⟩ => show 0 + 1 * r.val = r.val; omega
  | ⟨1, _⟩ => show q + 1 * e.val = q + e.val; omega

/-! ## The result's array -/

/-- What a point stores in this result's block. -/
def tileAt (c : Dev nD) (t : Fin cfg0.N) : Vec F S512x2048 .bf16 := k0_pay1 (k0_pay2 (iblk m c 1 t) (iblk m c 7 t)) (groupsOf (iblk m c 0 t) (iblk m c 4 t) (iblk m c 5 t)) (iblk m c 6 t) (iblk m c 2 t) (iblk m c 3 t)

theorem tileAt_eq (c : Dev nD) (t : Fin cfg0.N) : out0_8 (iblk m c 0 t) (iblk m c 1 t) (iblk m c 2 t) (iblk m c 3 t) (iblk m c 4 t) (iblk m c 5 t) (iblk m c 6 t) (iblk m c 7 t) = tileAt m c t := by
  unfold out0_8 tileAt
  rw [View.canon_unit_zero hz]
  simp only [View.ld_unit_zero (S := S512x2048) hz, View.ld_unit_zero (S := S1x1024) hz, View.ld_unit_zero (S := S1024x2048) hz, View.ld_unit_zero (S := S2048x2048) hz]
  rfl

/-- The point whose block holds an index, and the index's place there. -/
abbrev tilePt (i : S512x2048.Idx) : Fin cfg0.N := ⟨(i 0).val / 512, by have h : (i 0).val < 512 := (i 0).isLt; show _ < 1; omega⟩
abbrev tileLoc (i : S512x2048.Idx) : S512x2048.Idx := fun a => match a with
  | ⟨0, _⟩ => ⟨(i 0).val % 512, Nat.mod_lt _ (by decide)⟩
  | ⟨1, _⟩ => ⟨(i 1).val, (i 1).isLt⟩

/-- The result's array: each row block as its point stores it. -/
def tileArr (c : Dev nD) : Vec F S512x2048 .bf16 := fun i => tileAt m c (tilePt i) (tileLoc i)

theorem index_tile : ∀ t : Fin cfg0.N, win0_8.index t (0 : Fin 2) = t.val ∧ win0_8.index t (1 : Fin 2) = 0 :=
  (by decide +kernel : ∀ t : Fin grid0.N, _)
theorem writes_tile : ∀ t : Fin cfg0.N, (cfg0.win 8).flush t = true :=
  (by decide +kernel : ∀ t : Fin grid0.N, win0_8.flush t = true)

theorem flushed_tile (c : Dev nD) (t : Fin cfg0.N) : (dats m 0 c).flushed 8 t = ((cfg0.win 8).blk t).view.read (Elt F) (tileArr m c) := by
  rw [Value.flushed8, tileAt_eq]
  obtain ⟨e0, e1⟩ := index_tile t
  funext y
  have hy0 : (y 0).val < 512 := (y 0).isLt
  have hy1 : (y 1).val < 2048 := (y 1).isLt
  have hb0 : (((cfg0.win 8).blk t).view.emb y 0).val = win0_8.index t (0 : Fin 2) * 512 + 1 * (y 0).val := rfl
  have hb1 : (((cfg0.win 8).blk t).view.emb y 1).val = win0_8.index t (1 : Fin 2) * 2048 + 1 * (y 1).val := rfl
  have hp : tilePt (((cfg0.win 8).blk t).view.emb y) = t := by
    apply Fin.ext
    show (((cfg0.win 8).blk t).view.emb y 0).val / 512 = t.val
    rw [hb0]; omega
  have hl : tileLoc (((cfg0.win 8).blk t).view.emb y) = (cfg0.win 8).xinj (grid0.coords t) y := by
    funext a; apply Fin.ext
    match a with
    | ⟨0, _⟩ => show (((cfg0.win 8).blk t).view.emb y 0).val % 512 = (y 0).val; rw [hb0]; omega
    | ⟨1, _⟩ => show (((cfg0.win 8).blk t).view.emb y 1).val = (y 1).val; rw [hb1]; omega
  show tileAt m c t ((cfg0.win 8).xinj (grid0.coords t) y) = tileArr m c (((cfg0.win 8).blk t).view.emb y)
  unfold tileArr
  rw [hp, hl]

theorem final_tile (c : Dev nD) : (dats m 0 c).arrAt 8 cfg0.N = tileArr m c :=
  (dats m 0 c).arrAt_eq_of_cover 8 _ (fun t _ => flushed_tile m c t) fun i => by
    have h0 : (i 0).val < 512 := (i 0).isLt
    have h1 : (i 1).val < 2048 := (i 1).isLt
    obtain ⟨t, ht⟩ : ∃ t, t = tilePt i := ⟨_, rfl⟩
    have hv : t.val = (i 0).val / 512 := by rw [ht]
    obtain ⟨e0, e1⟩ := index_tile t
    refine ⟨t, writes_tile t, ?_⟩
    show i ∈ ((View.whole (Pipeline.arrRef spec0 8)).slice (win0_8.rect t)).set
    rw [View.set_slice_whole, Rect.mem_set_unit]
    intro a
    match a with
    | ⟨0, _⟩ => show win0_8.index t (0 : Fin 2) * 512 ≤ (i 0).val ∧ (i 0).val < win0_8.index t (0 : Fin 2) * 512 + 512; rw [e0]; omega
    | ⟨1, _⟩ => show win0_8.index t (1 : Fin 2) * 2048 ≤ (i 1).val ∧ (i 1).val < win0_8.index t (1 : Fin 2) * 2048 + 2048; rw [e1]; omega

/-! ## The host's casts and reshapes -/

theorem host_w (c : Dev nD) : V m c main_v1 = truncf .bf16 (shapeCast S4x256x256 (m ((c : Thread nD τ).loc main_arg3)) shapeCasts_S1x4x256x256_S4x256x256 : FVec F S4x256x256 .f32) bitsLt_bf16_f32 := by
  show StableHlo.after hostOps0 (fun b => m (c, b)) _ = _
  after_results <;> rfl
theorem host_s (c : Dev nD) : V m c main_v3 = shapeCast S1x1024 (shapeCast S1024 (m ((c : Thread nD τ).loc main_arg4)) shapeCasts_S1x1024_S1024) shapeCasts_S1024_S1x1024 := by
  show StableHlo.after hostOps0 (fun b => m (c, b)) _ = _
  after_results <;> rfl
theorem host_p (c : Dev nD) : V m c main_v5 = truncf .bf16 (shapeCast S1024x2048 (m ((c : Thread nD τ).loc main_arg5)) shapeCasts_S1x1024x2048_S1024x2048 : FVec F S1024x2048 .f32) bitsLt_bf16_f32 := by
  show StableHlo.after hostOps0 (fun b => m (c, b)) _ = _
  after_results <;> rfl
theorem host_a (c : Dev nD) : V m c main_v7 = truncf .bf16 (shapeCast S2048x2048 (m ((c : Thread nD τ).loc main_arg6)) shapeCasts_S1x2048x2048_S2048x2048 : FVec F S2048x2048 .f32) bitsLt_bf16_f32 := by
  show StableHlo.after hostOps0 (fun b => m (c, b)) _ = _
  after_results <;> rfl

/-! ## Where the blocks lie -/

theorem index_d : ∀ t : Fin cfg0.N, win0_0.index t (0 : Fin 2) = t.val ∧ win0_0.index t (1 : Fin 2) = 0 :=
  (by decide +kernel : ∀ t : Fin grid0.N, _)
theorem index_attn : ∀ t : Fin cfg0.N, win0_1.index t (0 : Fin 2) = t.val ∧ win0_1.index t (1 : Fin 2) = 0 :=
  (by decide +kernel : ∀ t : Fin grid0.N, _)
theorem index_ga : ∀ t : Fin cfg0.N, win0_2.index t (0 : Fin 2) = t.val ∧ win0_2.index t (1 : Fin 2) = 1 :=
  (by decide +kernel : ∀ t : Fin grid0.N, _)
theorem index_gb : ∀ t : Fin cfg0.N, win0_3.index t (0 : Fin 2) = t.val ∧ win0_3.index t (1 : Fin 2) = 2 :=
  (by decide +kernel : ∀ t : Fin grid0.N, _)
theorem index_w : ∀ t : Fin cfg0.N, win0_4.index t (0 : Fin 3) = 0 ∧ win0_4.index t (1 : Fin 3) = 0 ∧ win0_4.index t (2 : Fin 3) = 0 :=
  (by decide +kernel : ∀ t : Fin grid0.N, _)
theorem index_s : ∀ t : Fin cfg0.N, win0_5.index t (0 : Fin 2) = 0 ∧ win0_5.index t (1 : Fin 2) = 0 :=
  (by decide +kernel : ∀ t : Fin grid0.N, _)
theorem index_p : ∀ t : Fin cfg0.N, win0_6.index t (0 : Fin 2) = 0 ∧ win0_6.index t (1 : Fin 2) = 0 :=
  (by decide +kernel : ∀ t : Fin grid0.N, _)
theorem index_a : ∀ t : Fin cfg0.N, win0_7.index t (0 : Fin 2) = 0 ∧ win0_7.index t (1 : Fin 2) = 0 :=
  (by decide +kernel : ∀ t : Fin grid0.N, _)

theorem block_d (c : Dev nD) (t : Fin cfg0.N) (r : Fin 512) (k : Fin 1024) (hR : 512 * t.val + r.val < 512) :
    (iblk m c 0 t : Vec F S512x1024 .bf16) (ix2 r k) = V m c main_arg0 (ix2 ⟨512 * t.val + r.val, hR⟩ k) := by
  unfold iblk
  rw [View.read_apply]
  show V m c main_arg0 _ = _
  congr 1
  obtain ⟨e0, e1⟩ := index_d t
  funext a; apply Fin.ext
  match a with
  | ⟨0, _⟩ => show win0_0.index t (0 : Fin 2) * 512 + 1 * r.val = _; rw [e0]; show _ = 512 * t.val + r.val; omega
  | ⟨1, _⟩ => show win0_0.index t (1 : Fin 2) * 1024 + 1 * k.val = _; rw [e1]; show _ = k.val; omega

theorem block_attn (c : Dev nD) (t : Fin cfg0.N) (r : Fin 512) (k : Fin 2048) (hR : 512 * t.val + r.val < 512) :
    (iblk m c 1 t : Vec F S512x2048 .bf16) (ix2 r k) = V m c main_arg1 (ix2 ⟨512 * t.val + r.val, hR⟩ k) := by
  unfold iblk
  rw [View.read_apply]
  show V m c main_arg1 _ = _
  congr 1
  obtain ⟨e0, e1⟩ := index_attn t
  funext a; apply Fin.ext
  match a with
  | ⟨0, _⟩ => show win0_1.index t (0 : Fin 2) * 512 + 1 * r.val = _; rw [e0]; show _ = 512 * t.val + r.val; omega
  | ⟨1, _⟩ => show win0_1.index t (1 : Fin 2) * 2048 + 1 * k.val = _; rw [e1]; show _ = k.val; omega

theorem block_ga (c : Dev nD) (t : Fin cfg0.N) (r : Fin 512) (k : Fin 2048) (hR : 512 * t.val + r.val < 512) :
    (iblk m c 2 t : Vec F S512x2048 .bf16) (ix2 r k) = V m c main_arg2 (ix2 ⟨512 * t.val + r.val, hR⟩ ⟨2048 + k.val, by omega⟩) := by
  unfold iblk
  rw [View.read_apply]
  show V m c main_arg2 _ = _
  congr 1
  obtain ⟨e0, e1⟩ := index_ga t
  funext a; apply Fin.ext
  match a with
  | ⟨0, _⟩ => show win0_2.index t (0 : Fin 2) * 512 + 1 * r.val = _; rw [e0]; show _ = 512 * t.val + r.val; omega
  | ⟨1, _⟩ => show win0_2.index t (1 : Fin 2) * 2048 + 1 * k.val = _; rw [e1]; show _ = 2048 + k.val; omega

theorem block_gb (c : Dev nD) (t : Fin cfg0.N) (r : Fin 512) (k : Fin 2048) (hR : 512 * t.val + r.val < 512) :
    (iblk m c 3 t : Vec F S512x2048 .bf16) (ix2 r k) = V m c main_arg2 (ix2 ⟨512 * t.val + r.val, hR⟩ ⟨4096 + k.val, by omega⟩) := by
  unfold iblk
  rw [View.read_apply]
  show V m c main_arg2 _ = _
  congr 1
  obtain ⟨e0, e1⟩ := index_gb t
  funext a; apply Fin.ext
  match a with
  | ⟨0, _⟩ => show win0_3.index t (0 : Fin 2) * 512 + 1 * r.val = _; rw [e0]; show _ = 512 * t.val + r.val; omega
  | ⟨1, _⟩ => show win0_3.index t (1 : Fin 2) * 2048 + 1 * k.val = _; rw [e1]; show _ = 4096 + k.val; omega

theorem block_w (c : Dev nD) (t : Fin cfg0.N) (g : Fin 4) (e n : Fin 256) :
    (iblk m c 4 t : Vec F S4x256x256 .bf16) (ix3 g e n) = V m c main_v1 (ix3 g e n) := by
  unfold iblk
  rw [View.read_apply]
  show V m c main_v1 _ = _
  congr 1
  obtain ⟨e0, e1, e2⟩ := index_w t
  funext a; apply Fin.ext
  match a with
  | ⟨0, _⟩ => show win0_4.index t (0 : Fin 3) * 4 + 1 * g.val = _; rw [e0]; show _ = g.val; omega
  | ⟨1, _⟩ => show win0_4.index t (1 : Fin 3) * 256 + 1 * e.val = _; rw [e1]; show _ = e.val; omega
  | ⟨2, _⟩ => show win0_4.index t (2 : Fin 3) * 256 + 1 * n.val = _; rw [e2]; show _ = n.val; omega

theorem block_s (c : Dev nD) (t : Fin cfg0.N) (k : Fin 1024) :
    (iblk m c 5 t : Vec F S1x1024 .f32) (ix2 0 k) = V m c main_v3 (ix2 0 k) := by
  unfold iblk
  rw [View.read_apply]
  show V m c main_v3 _ = _
  congr 1
  obtain ⟨e0, e1⟩ := index_s t
  funext a; apply Fin.ext
  match a with
  | ⟨0, _⟩ => show win0_5.index t (0 : Fin 2) * 1 + 1 * 0 = _; rw [e0]; show _ = 0; omega
  | ⟨1, _⟩ => show win0_5.index t (1 : Fin 2) * 1024 + 1 * k.val = _; rw [e1]; show _ = k.val; omega

theorem block_p (c : Dev nD) (t : Fin cfg0.N) (k : Fin 1024) (q : Fin 2048) :
    (iblk m c 6 t : Vec F S1024x2048 .bf16) (ix2 k q) = V m c main_v5 (ix2 k q) := by
  unfold iblk
  rw [View.read_apply]
  show V m c main_v5 _ = _
  congr 1
  obtain ⟨e0, e1⟩ := index_p t
  funext a; apply Fin.ext
  match a with
  | ⟨0, _⟩ => show win0_6.index t (0 : Fin 2) * 1024 + 1 * k.val = _; rw [e0]; show _ = k.val; omega
  | ⟨1, _⟩ => show win0_6.index t (1 : Fin 2) * 2048 + 1 * q.val = _; rw [e1]; show _ = q.val; omega

theorem block_a (c : Dev nD) (t : Fin cfg0.N) (k : Fin 2048) (q : Fin 2048) :
    (iblk m c 7 t : Vec F S2048x2048 .bf16) (ix2 k q) = V m c main_v7 (ix2 k q) := by
  unfold iblk
  rw [View.read_apply]
  show V m c main_v7 _ = _
  congr 1
  obtain ⟨e0, e1⟩ := index_a t
  funext a; apply Fin.ext
  match a with
  | ⟨0, _⟩ => show win0_7.index t (0 : Fin 2) * 2048 + 1 * k.val = _; rw [e0]; show _ = k.val; omega
  | ⟨1, _⟩ => show win0_7.index t (1 : Fin 2) * 2048 + 1 * q.val = _; rw [e1]; show _ = q.val; omega

/-! ## The entries, over the extended reals -/

section
variable (m : (ℓ : Loc nD τ sig) → Buf (Elt Ideal) ℓ)

/-- The arguments, by name. -/
abbrev argD (c : Dev nD) : FVec Ideal ⟨2, ![512, 1024]⟩ .bf16 := m ((c : Thread nD τ).loc main_arg0)
abbrev argAttn (c : Dev nD) : FVec Ideal ⟨2, ![512, 2048]⟩ .bf16 := m ((c : Thread nD τ).loc main_arg1)
abbrev argGates (c : Dev nD) : FVec Ideal ⟨2, ![512, 8192]⟩ .bf16 := m ((c : Thread nD τ).loc main_arg2)
abbrev argW (c : Dev nD) : FVec Ideal ⟨4, ![1, 4, 256, 256]⟩ .f32 := m ((c : Thread nD τ).loc main_arg3)
abbrev argS (c : Dev nD) : FVec Ideal ⟨2, ![1, 1024]⟩ .f32 := m ((c : Thread nD τ).loc main_arg4)
abbrev argP (c : Dev nD) : FVec Ideal ⟨3, ![1, 1024, 2048]⟩ .f32 := m ((c : Thread nD τ).loc main_arg5)
abbrev argA (c : Dev nD) : FVec Ideal ⟨3, ![1, 2048, 2048]⟩ .f32 := m ((c : Thread nD τ).loc main_arg6)

theorem cast_w (x : FVec Ideal S1x4x256x256 .f32) (g : Fin 4) (e n : Fin 256) :
    truncf .bf16 (shapeCast S4x256x256 x shapeCasts_S1x4x256x256_S4x256x256 : FVec Ideal S4x256x256 .f32) bitsLt_bf16_f32 (ix3 g e n) = x (ix4 0 g e n) := by
  pointwise
theorem cast_s {α : Type} (x : S1x1024.Idx → α) (k : Fin 1024) :
    shapeCast S1x1024 (shapeCast S1024 x shapeCasts_S1x1024_S1024) shapeCasts_S1024_S1x1024 (ix2 0 k) = x (ix2 0 k) := by
  pointwise
theorem cast_p (x : FVec Ideal S1x1024x2048 .f32) (k : Fin 1024) (q : Fin 2048) :
    truncf .bf16 (shapeCast S1024x2048 x shapeCasts_S1x1024x2048_S1024x2048 : FVec Ideal S1024x2048 .f32) bitsLt_bf16_f32 (ix2 k q) = x (ix3 0 k q) := by
  pointwise
theorem cast_a (x : FVec Ideal S1x2048x2048 .f32) (k : Fin 2048) (q : Fin 2048) :
    truncf .bf16 (shapeCast S2048x2048 x shapeCasts_S1x2048x2048_S2048x2048 : FVec Ideal S2048x2048 .f32) bitsLt_bf16_f32 (ix2 k q) = x (ix3 0 k q) := by
  pointwise

theorem w_at (c : Dev nD) (t : Fin cfg0.N) (g : Fin 4) (e n : Fin 256) : (iblk m c 4 t : Vec Ideal S4x256x256 .bf16) (ix3 g e n) = argW m c (ix4 0 g e n) := by
  rw [block_w, host_w, cast_w]
theorem s_at (c : Dev nD) (t : Fin cfg0.N) (k : Fin 1024) : (iblk m c 5 t : Vec Ideal S1x1024 .f32) (ix2 0 k) = argS m c (ix2 0 k) := by
  rw [block_s, host_s, cast_s]
theorem p_at (c : Dev nD) (t : Fin cfg0.N) (k : Fin 1024) (q : Fin 2048) : (iblk m c 6 t : Vec Ideal S1024x2048 .bf16) (ix2 k q) = argP m c (ix3 0 k q) := by
  rw [block_p, host_p, cast_p]
theorem a_at (c : Dev nD) (t : Fin cfg0.N) (k : Fin 2048) (q : Fin 2048) : (iblk m c 7 t : Vec Ideal S2048x2048 .bf16) (ix2 k q) = argA m c (ix3 0 k q) := by
  rw [block_a, host_a, cast_a]
theorem d_at (c : Dev nD) (t : Fin cfg0.N) (r : Fin 512) (k : Fin 1024) (hR : 512 * t.val + r.val < 512) : (iblk m c 0 t : Vec Ideal S512x1024 .bf16) (ix2 r k) = argD m c (ix2 ⟨512 * t.val + r.val, hR⟩ k) := by
  rw [block_d m c t r k hR, V_main_arg0]
theorem attn_at (c : Dev nD) (t : Fin cfg0.N) (r : Fin 512) (k : Fin 2048) (hR : 512 * t.val + r.val < 512) : (iblk m c 1 t : Vec Ideal S512x2048 .bf16) (ix2 r k) = argAttn m c (ix2 ⟨512 * t.val + r.val, hR⟩ k) := by
  rw [block_attn m c t r k hR, V_main_arg1]
theorem ga_at (c : Dev nD) (t : Fin cfg0.N) (r : Fin 512) (k : Fin 2048) (hR : 512 * t.val + r.val < 512) : (iblk m c 2 t : Vec Ideal S512x2048 .bf16) (ix2 r k) = argGates m c (ix2 ⟨512 * t.val + r.val, hR⟩ ⟨2048 + k.val, by omega⟩) := by
  rw [block_ga m c t r k hR, V_main_arg2]
theorem gb_at (c : Dev nD) (t : Fin cfg0.N) (r : Fin 512) (k : Fin 2048) (hR : 512 * t.val + r.val < 512) : (iblk m c 3 t : Vec Ideal S512x2048 .bf16) (ix2 r k) = argGates m c (ix2 ⟨512 * t.val + r.val, hR⟩ ⟨4096 + k.val, by omega⟩) := by
  rw [block_gb m c t r k hR, V_main_arg2]

theorem tile_payload (attn : Vec Ideal S512x2048 .bf16) (wa : Vec Ideal S2048x2048 .bf16) (y : FVec Ideal S512x1024 .bf16) (wp : Vec Ideal S1024x2048 .bf16)
    (ga gb : Vec Ideal S512x2048 .bf16) (r : Fin 512) (q : Fin 2048) :
    k0_pay1 (k0_pay2 attn wa) y wp ga gb (ix2 r q) = sg (ga (ix2 r q)) * (∑ k : Fin 1024, y (ix2 r k) * wp (ix2 k q)) + sg (gb (ix2 r q)) * ∑ k : Fin 2048, attn (ix2 r k) * wa (ix2 k q) := by
  pointwise [k0_pay1, k0_pay2, sg]
  rfl

theorem congr_ix3 {a b c : ℕ} {i i' : Fin a} {j j' : Fin b} {k k' : Fin c} (hi : i = i') (hj : j = j') (hk : k = k') : ix3 i j k = ix3 i' j' k' := by
  rw [hi, hj, hk]

theorem at_col (b : Vec Ideal S512x1024 .bf16) (q : ℕ) (h) (r : Fin 512) (e : Fin 256) (k : Fin 1024) (hk : q + e.val = k.val) : slab b q h (ix2 r e) = b (ix2 r k) := by
  rw [slab_apply b q h r e (by omega)]
  exact congrArg (fun k => b (ix2 r k)) (Fin.ext hk)

/-- The projections, channel by channel. -/
theorem groups_apply (d : Vec Ideal S512x1024 .bf16) (w : Vec Ideal S4x256x256 .bf16) (s : Vec Ideal S1x1024 .f32) (r : Fin 512) (k : Fin 1024) :
    groupsOf d w s (ix2 r k) = (∑ e : Fin 256, d (ix2 r ⟨256 * (k.val / 256) + e.val, by omega⟩) * w (ix3 ⟨k.val / 256, by omega⟩ e ⟨k.val % 256, by omega⟩)) * s (ix2 0 k) := by
  unfold groupsOf
  pointwise [k0_pay3]
  refine congrArg (fun z => z * _) ?_
  by_cases h0 : k.val < 256
  · rw [dif_pos h0]
    have hg : k.val / 256 = 0 := by omega
    exact Finset.sum_congr rfl fun e _ => congrArg₂ (· * ·) (at_col d 0 _ r e _ (by dsimp only; omega)) (congrArg w (congr_ix3 (Fin.ext (by simp only [hg]; rfl)) rfl (Fin.ext (by dsimp only; omega))))
  · rw [dif_neg h0]
    by_cases h1 : k.val - 256 < 256
    · rw [dif_pos h1]
      have hg : k.val / 256 = 1 := by omega
      exact Finset.sum_congr rfl fun e _ => congrArg₂ (· * ·) (at_col d 256 _ r e _ (by dsimp only; omega)) (congrArg w (congr_ix3 (Fin.ext (by simp only [hg]; rfl)) rfl (Fin.ext (by dsimp only; omega))))
    · rw [dif_neg h1]
      by_cases h2 : k.val - 256 - 256 < 256
      · rw [dif_pos h2]
        have hg : k.val / 256 = 2 := by omega
        exact Finset.sum_congr rfl fun e _ => congrArg₂ (· * ·) (at_col d 512 _ r e _ (by dsimp only; omega)) (congrArg w (congr_ix3 (Fin.ext (by simp only [hg]; rfl)) rfl (Fin.ext (by dsimp only; omega))))
      · rw [dif_neg h2]
        have hg : k.val / 256 = 3 := by omega
        exact Finset.sum_congr rfl fun e _ => congrArg₂ (· * ·) (at_col d 768 _ r e _ (by dsimp only; omega)) (congrArg w (congr_ix3 (Fin.ext (by simp only [hg]; rfl)) rfl (Fin.ext (by dsimp only; omega))))

theorem tileAt_apply (c : Dev nD) (t : Fin cfg0.N) (r : Fin 512) (q : Fin 2048) (hR : 512 * t.val + r.val < 512) :
    tileAt m c t (ix2 r q) = out (argD m c) (argAttn m c) (argGates m c) (argW m c) (argS m c) (argP m c) (argA m c) ⟨512 * t.val + r.val, hR⟩ q := by
  refine (tile_payload _ _ _ _ _ _ r q).trans (congrArg₂ (· + ·) (congrArg₂ (· * ·) (congrArg sg (ga_at m c t r q hR)) (Finset.sum_congr rfl fun k _ => congrArg₂ (· * ·) ?_ (p_at m c t k q)))
    (congrArg₂ (· * ·) (congrArg sg (gb_at m c t r q hR)) (Finset.sum_congr rfl fun k _ => congrArg₂ (· * ·) (attn_at m c t r k hR) (a_at m c t k q))))
  exact (groups_apply _ _ _ r k).trans (congrArg₂ (· * ·) (Finset.sum_congr rfl fun e _ => congrArg₂ (· * ·) (d_at m c t r _ hR) (w_at m c t _ e _)) (s_at m c t k))

theorem tile_apply (c : Dev nD) (R : Fin 512) (q : Fin 2048) : tileArr m c (ix2 R q) = out (argD m c) (argAttn m c) (argGates m c) (argW m c) (argS m c) (argP m c) (argA m c) R q := by
  have hl : tileLoc (ix2 R q) = ix2 (⟨R.val % 512, by omega⟩ : Fin 512) q := by
    funext a; match a with
    | ⟨0, _⟩ => rfl
    | ⟨1, _⟩ => rfl
  unfold tileArr
  rw [hl]
  refine (tileAt_apply m c (tilePt (ix2 R q)) ⟨R.val % 512, by omega⟩ q (by show 512 * (R.val / 512) + R.val % 512 < 512; omega)).trans ?_
  exact congrArg (fun R => out _ _ _ _ _ _ _ R q) (Fin.ext (by show 512 * (R.val / 512) + R.val % 512 = R.val; omega))

end

/-! ## The run, read -/

theorem run_values (ρ : Dev nD → PrngReg) : θ_run defs (onTc (τ := τ) (main (F := F))) ⟨m, fun _ => 0, ρ⟩ (fun r => ∀ c : Dev nD,
      r.2.mem ((c.tc : Thread nD τ).loc main_v8) = tileArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (final_tile m c), (h c).2⟩) (Cert.MixSampleIdeal.Value.run_blocks m ρ)

end Cert.MixSampleIdeal.Mix

end
-- ==== Proof.MixSampleRef.lean ====
/-
  The reference of the mixing call for the samples, read at an index.
-/
module

public import proofs.«01_k».proof.Proof.Gen.MixSampleRefIdeal.Run
public import proofs.«01_k».proof.Proof.MixSampleMath

@[expose] public section

set_option maxRecDepth 16384

noncomputable section

namespace Cert.MixSampleRefIdeal.Mix

open Cert.MixSampleRefIdeal Cert.MixSampleRefIdeal.Gen Idealize.ShloMosaic Idealize.ShloMosaic.TcCoe Idealize.SL.Sem
open Cert.MixSample.Math

variable {F : FTy → Type} [FloatOps F]

/-- The rows' deviations, by group. -/
def deviations (d : FVec F S512x1024 .bf16) : FVec F S128x4x4x256 .f32 :=
  shapeCast _ (extf .f32 d bitsLt_bf16_f32) shapeCasts_S512x1024_S128x4x4x256

/-- The projection per group, scaled. -/
def projected (d : FVec F S128x4x4x256 .f32) (w : FVec F S1x4x256x256 .f32) (s : FVec F S1x1024 .f32) : FVec F S128x4x1024 .f32 :=
  mulf (shapeCast _ (transpose S128x4x4x256 [2, 3, 0, 1] (Host.dotGeneral dot_S4x256x256_S128x4x4x256_S4x256x128x4_1_3_2_01_0_2 none (shapeCast _ w shapeCasts_S1x4x256x256_S4x256x256) d) transposes_S4x256x128x4_S128x4x4x256_2_3_0_1) shapeCasts_S128x4x4x256_S128x4x1024)
    (broadcastInDim S128x4x1024 ![0, 1, 2] bcast_S1x1x1024_S128x4x1024_0_1_2 (broadcastInDim S1x1x1024 ![2] bcast_S1024_S1x1x1024_2 (shapeCast _ s shapeCasts_S1x1024_S1024)))

/-- The logistic of a gate. -/
def sigma (a : FVec F S128x4x2048 .f32) : FVec F S128x4x2048 .f32 :=
  Host.divf (broadcastInDim S128x4x2048 ![] bcast_S_S128x4x2048 (constant S_ .f32 0x3F800000#32)) (addf (broadcastInDim S128x4x2048 ![] bcast_S_S128x4x2048 (constant S_ .f32 0x3F800000#32)) (Host.exp (Host.negf a)))

/-- The gated sum of the two up-projections. -/
def merged (y : FVec F S128x4x1024 .f32) (attn : FVec F S512x2048 .bf16) (gates : FVec F S512x8192 .bf16) (wp : FVec F S1x1024x2048 .f32) (wa : FVec F S1x2048x2048 .f32) : FVec F S128x4x2048 .f32 :=
  addf (mulf (sigma (shapeCast _ (extf .f32 (extractStridedSlice S512x2048 ![0, 2048] gates slices_S512x8192_S512x2048_0_2048) bitsLt_bf16_f32) shapeCasts_S512x2048_S128x4x2048))
      (Host.dotGeneral dot_S128x4x1024_S1024x2048_S128x4x2048_2_0_01_1_n_n none y (shapeCast _ wp shapeCasts_S1x1024x2048_S1024x2048)))
    (mulf (sigma (shapeCast _ (extf .f32 (extractStridedSlice S512x2048 ![0, 4096] gates slices_S512x8192_S512x2048_0_4096) bitsLt_bf16_f32) shapeCasts_S512x2048_S128x4x2048))
      (Host.dotGeneral dot_S128x4x2048_S2048x2048_S128x4x2048_2_0_01_1_n_n none (shapeCast _ (extf .f32 attn bitsLt_bf16_f32) shapeCasts_S512x2048_S128x4x2048) (shapeCast _ wa shapeCasts_S1x2048x2048_S2048x2048)))

/-- The result as an array of the arguments. -/
def mixArr (m : (ℓ : Loc nD τ sig) → Buf (Elt F) ℓ) (c : Dev nD) : FVec F S512x2048 .bf16 :=
  truncf .bf16 (shapeCast _ (merged (projected (deviations (m ((c.tc : Thread nD τ).loc main_arg0))) (m ((c.tc : Thread nD τ).loc main_arg3)) (m ((c.tc : Thread nD τ).loc main_arg4))) (m ((c.tc : Thread nD τ).loc main_arg1)) (m ((c.tc : Thread nD τ).loc main_arg2)) (m ((c.tc : Thread nD τ).loc main_arg5)) (m ((c.tc : Thread nD τ).loc main_arg6))) shapeCasts_S128x4x2048_S512x2048 : FVec F S512x2048 .f32) bitsLt_bf16_f32

theorem run_values (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38) = mixArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans rfl, (h c).2⟩) (Cert.MixSampleRefIdeal.Value.run m ρ)

/-! ## The entries -/

theorem deviations_apply (d : FVec Ideal S512x1024 .bf16) (b : Fin 128) (t : Fin 4) (g : Fin 4) (e : Fin 256) :
    deviations d (ix4 b t g e) = d (ix2 ⟨b.val * 4 + t.val, by omega⟩ ⟨256 * g.val + e.val, by omega⟩) := by
  pointwise [deviations]
  exact congrArg d (congrArg₂ ix2 rfl (Fin.ext (by dsimp only; omega)))

theorem projected_apply (d : FVec Ideal S128x4x4x256 .f32) (w : FVec Ideal S1x4x256x256 .f32) (s : FVec Ideal S1x1024 .f32) (b : Fin 128) (t : Fin 4) (q : Fin 1024) :
    projected d w s (ix3 b t q) = (∑ e : Fin 256, d (ix4 b t ⟨q.val / 256, by omega⟩ e) * w (ix4 0 ⟨q.val / 256, by omega⟩ e ⟨q.val % 256, by omega⟩)) * s (ix2 0 q) := by
  pointwise [projected]
  exact congrArg (fun z => z * _) (Finset.sum_congr rfl fun e _ => mul_comm _ _)

theorem merged_apply (y : FVec Ideal S128x4x1024 .f32) (attn : FVec Ideal S512x2048 .bf16) (gates : FVec Ideal S512x8192 .bf16) (wp : FVec Ideal S1x1024x2048 .f32) (wa : FVec Ideal S1x2048x2048 .f32)
    (b : Fin 128) (t : Fin 4) (q : Fin 2048) :
    merged y attn gates wp wa (ix3 b t q) = sg (gates (ix2 ⟨b.val * 4 + t.val, by omega⟩ ⟨2048 + q.val, by omega⟩)) * (∑ k : Fin 1024, y (ix3 b t k) * wp (ix3 0 k q))
      + sg (gates (ix2 ⟨b.val * 4 + t.val, by omega⟩ ⟨4096 + q.val, by omega⟩)) * ∑ k : Fin 2048, attn (ix2 ⟨b.val * 4 + t.val, by omega⟩ k) * wa (ix3 0 k q) := by
  pointwise [merged, sigma, sg]

theorem flat_trunc (y : FVec Ideal S128x4x2048 .f32) (R : Fin 512) (q : Fin 2048) :
    truncf .bf16 (shapeCast S512x2048 y shapeCasts_S128x4x2048_S512x2048 : FVec Ideal S512x2048 .f32) bitsLt_bf16_f32 (ix2 R q) = y (ix3 ⟨R.val / 4, by omega⟩ ⟨R.val % 4, by omega⟩ q) := by
  pointwise

variable (m : (ℓ : Loc nD τ sig) → Buf (Elt Ideal) ℓ)

theorem mix_apply (c : Dev nD) (R : Fin 512) (q : Fin 2048) :
    mixArr m c (ix2 R q) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) R q := by
  have hR : (⟨(⟨R.val / 4, by omega⟩ : Fin 128).val * 4 + (⟨R.val % 4, by omega⟩ : Fin 4).val, by dsimp only; omega⟩ : Fin 512) = R :=
    Fin.ext (by dsimp only; omega)
  refine (flat_trunc _ R q).trans ?_
  rw [merged_apply, hR]
  unfold out
  refine congrArg (fun z => sg _ * z + _) (Finset.sum_congr rfl fun k _ => congrArg (fun z => z * _) ?_)
  rw [projected_apply]
  unfold grouped
  refine congrArg (fun z => z * _) (Finset.sum_congr rfl fun e _ => congrArg (fun z => z * _) ?_)
  rw [deviations_apply, hR]

end Cert.MixSampleRefIdeal.Mix

end
-- ==== Proof.MixSampleClaims.lean ====
/-
  The claims about the mixing call for the samples.
-/
module

public import proofs.«01_k».proof.Defs
public import proofs.«01_k».proof.Proof.MixSampleValue
public import proofs.«01_k».proof.Proof.MixSampleRef
public import proofs.«01_k».proof.Proof.Gen.MixSample

@[expose] public section

noncomputable section

namespace Cert.Proof.MixSample

open Idealize.ShloMosaic Idealize.ShloMosaic.TcCoe Idealize.SL.Sem

theorem frame_kernel_ideal : Cert.quiescent_MixSampleIdeal := fun m ρ _ => Cert.MixSampleIdeal.Gen.frame m ρ

/-- The two prints of the kernel have one text: their body tables are one table. -/
theorem bodies_eq {F : FTy → Type} [FloatOps F] : Cert.MixSample.defs₀ (F := F) = Cert.MixSampleIdeal.defs₀ (F := F) := by
  unfold Cert.MixSample.defs₀ Cert.MixSampleIdeal.defs₀
  refine congrArg _ (funext fun l => funext fun a => ?_)
  match l, a with
  | 0, (t, s) => rfl
  | ⟨_ + 1, h⟩, _ => exact absurd h (Nat.not_lt.2 (Nat.le_add_left _ _))

theorem defs_eq {F : FTy → Type} [FloatOps F] : Cert.MixSample.defs (F := F) = Cert.MixSampleIdeal.defs (F := F) := by
  unfold Cert.MixSample.defs Cert.MixSampleIdeal.defs
  rw [bodies_eq]
  rfl

/-- So the kernel's run at the machine's floats is the run above there. -/
theorem frame_kernel : Cert.quiescent_MixSample := fun m ρ _ => by
  rw [defs_eq]
  exact Cert.MixSampleIdeal.Gen.frame (F := Bits) m ρ

theorem frame_reference : Cert.quiescent_MixSampleRefIdeal := fun m ρ _ =>
  (θ_run Cert.MixSampleRefIdeal.defs _ _).mono (fun r h => ⟨fun c => (h c).2, sem_eq_zero_of_no_sems (by decide) r.2⟩)
    (Cert.MixSampleRefIdeal.Value.run (F := Ideal) m ρ)

theorem preserves : Cert.preserves_MixSample_MixSampleIdeal := trivial

/-- Both results are the same mix of the same rows. -/
theorem algebraic : Cert.algebraic_MixSampleIdeal_MixSampleRefIdeal := by
  intro m ρ m' ρ' _ hagree
  refine ⟨fun c => Cert.MixSampleIdeal.Mix.tileArr m c, Cert.MixSampleIdeal.Mix.run_values (F := Ideal) m ρ, ?_⟩
  refine (θ_run Cert.MixSampleRefIdeal.defs _ _).mono (fun _ h c => ?_) (Cert.MixSampleRefIdeal.Mix.run_values (F := Ideal) m' ρ')
  obtain ⟨a0, a1, a2, a3, a4, a5, a6⟩ := hagree c
  refine ⟨(h c).1.trans (funext fun i => ?_), (h c).2⟩
  refine (congrArg _ (eq_ix2 (n0 := 512) (n1 := 2048) i)).trans ((Cert.MixSampleRefIdeal.Mix.mix_apply m' c _ _).trans ?_)
  rw [a0, a1, a2, a3, a4, a5, a6]
  exact ((congrArg (Cert.MixSampleIdeal.Mix.tileArr m c) (eq_ix2 i)).trans (Cert.MixSampleIdeal.Mix.tile_apply m c _ _)).symm

end Cert.Proof.MixSample

end
-- ==== Proof.lean ====
module

public import proofs.«01_k».proof.Proof.Gen.KernelIdeal.Frame
public import proofs.«01_k».proof.Proof.Gen.KernelIdeal.Skeleton
public import proofs.«01_k».proof.Proof.Gen.ReferenceIdeal.Run
public import proofs.«01_k».proof.Proof.FrontClaims
public import proofs.«01_k».proof.Proof.Gen.Kernel
public import proofs.«01_k».proof.Proof.Gen.KernelIdeal
public import proofs.«01_k».proof.Proof.Gen.ReferenceIdeal
public import proofs.«01_k».proof.Proof.Gen.FfnIdeal.Value
public import proofs.«01_k».proof.Proof.Gen.FfnRefIdeal.Run
public import proofs.«01_k».proof.Proof.FfnClaims
public import proofs.«01_k».proof.Proof.Gen.Ffn
public import proofs.«01_k».proof.Proof.Gen.FfnIdeal
public import proofs.«01_k».proof.Proof.Gen.FfnRefIdeal
public import proofs.«01_k».proof.Proof.Gen.OutIdeal.Value
public import proofs.«01_k».proof.Proof.Gen.OutRefIdeal.Run
public import proofs.«01_k».proof.Proof.OutClaims
public import proofs.«01_k».proof.Proof.Gen.Out
public import proofs.«01_k».proof.Proof.Gen.OutIdeal
public import proofs.«01_k».proof.Proof.Gen.OutRefIdeal
public import proofs.«01_k».proof.Proof.Gen.FrontSampleIdeal.Frame
public import proofs.«01_k».proof.Proof.Gen.FrontSampleIdeal.Skeleton
public import proofs.«01_k».proof.Proof.Gen.FrontSampleRefIdeal.Run
public import proofs.«01_k».proof.Proof.FrontSampleClaims
public import proofs.«01_k».proof.Proof.Gen.FrontSample
public import proofs.«01_k».proof.Proof.Gen.FrontSampleIdeal
public import proofs.«01_k».proof.Proof.Gen.FrontSampleRefIdeal
public import proofs.«01_k».proof.Proof.Gen.FfnSampleIdeal.Value
public import proofs.«01_k».proof.Proof.Gen.FfnSampleRefIdeal.Run
public import proofs.«01_k».proof.Proof.FfnSampleClaims
public import proofs.«01_k».proof.Proof.Gen.FfnSample
public import proofs.«01_k».proof.Proof.Gen.FfnSampleIdeal
public import proofs.«01_k».proof.Proof.Gen.FfnSampleRefIdeal
public import proofs.«01_k».proof.Proof.Gen.MixIdeal.Value
public import proofs.«01_k».proof.Proof.Gen.MixRefIdeal.Run
public import proofs.«01_k».proof.Proof.MixClaims
public import proofs.«01_k».proof.Proof.Gen.Mix
public import proofs.«01_k».proof.Proof.Gen.MixIdeal
public import proofs.«01_k».proof.Proof.Gen.MixRefIdeal
public import proofs.«01_k».proof.Proof.Gen.AdaIdeal.Value
public import proofs.«01_k».proof.Proof.Gen.AdaRefIdeal.Run
public import proofs.«01_k».proof.Proof.AdaClaims
public import proofs.«01_k».proof.Proof.Gen.Ada
public import proofs.«01_k».proof.Proof.Gen.AdaIdeal
public import proofs.«01_k».proof.Proof.Gen.AdaRefIdeal
public import proofs.«01_k».proof.Proof.Gen.OutSampleIdeal.Value
public import proofs.«01_k».proof.Proof.Gen.OutSampleRefIdeal.Run
public import proofs.«01_k».proof.Proof.OutSampleClaims
public import proofs.«01_k».proof.Proof.Gen.OutSample
public import proofs.«01_k».proof.Proof.Gen.OutSampleIdeal
public import proofs.«01_k».proof.Proof.Gen.OutSampleRefIdeal
public import proofs.«01_k».proof.Proof.Gen.PoolSampleIdeal.Value
public import proofs.«01_k».proof.Proof.Gen.PoolSampleRefIdeal.Run
public import proofs.«01_k».proof.Proof.PoolSampleClaims
public import proofs.«01_k».proof.Proof.Gen.PoolSample
public import proofs.«01_k».proof.Proof.Gen.PoolSampleIdeal
public import proofs.«01_k».proof.Proof.Gen.PoolSampleRefIdeal
public import proofs.«01_k».proof.Proof.Gen.MixSampleIdeal.Value
public import proofs.«01_k».proof.Proof.Gen.MixSampleRefIdeal.Run
public import proofs.«01_k».proof.Proof.MixSampleClaims
public import proofs.«01_k».proof.Proof.Gen.MixSample
public import proofs.«01_k».proof.Proof.Gen.MixSampleIdeal
public import proofs.«01_k».proof.Proof.Gen.MixSampleRefIdeal
public import proofs.«01_k».proof.Defs
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Ffn.Gen.facts, Cert.FfnIdeal.Gen.facts, Cert.FfnRefIdeal.Gen.facts,
  Cert.Out.Gen.facts, Cert.OutIdeal.Gen.facts, Cert.OutRefIdeal.Gen.facts,
  Cert.FrontSample.Gen.facts, Cert.FrontSampleIdeal.Gen.facts, Cert.FrontSampleRefIdeal.Gen.facts,
  Cert.FfnSample.Gen.facts, Cert.FfnSampleIdeal.Gen.facts, Cert.FfnSampleRefIdeal.Gen.facts,
  Cert.Mix.Gen.facts, Cert.MixIdeal.Gen.facts, Cert.MixRefIdeal.Gen.facts,
  Cert.Ada.Gen.facts, Cert.AdaIdeal.Gen.facts, Cert.AdaRefIdeal.Gen.facts,
  Cert.OutSample.Gen.facts, Cert.OutSampleIdeal.Gen.facts, Cert.OutSampleRefIdeal.Gen.facts,
  Cert.PoolSample.Gen.facts, Cert.PoolSampleIdeal.Gen.facts, Cert.PoolSampleRefIdeal.Gen.facts,
  Cert.MixSample.Gen.facts, Cert.MixSampleIdeal.Gen.facts, Cert.MixSampleRefIdeal.Gen.facts,
  Front.frame_kernel, Front.frame_kernel_ideal, Front.frame_reference,
  Ffn.frame_kernel, Ffn.frame_kernel_ideal, Ffn.frame_reference,
  Out.frame_kernel, Out.frame_kernel_ideal, Out.frame_reference,
  FrontSample.frame_kernel, FrontSample.frame_kernel_ideal, FrontSample.frame_reference,
  FfnSample.frame_kernel, FfnSample.frame_kernel_ideal, FfnSample.frame_reference,
  Mix.frame_kernel, Mix.frame_kernel_ideal, Mix.frame_reference,
  Ada.frame_kernel, Ada.frame_kernel_ideal, Ada.frame_reference,
  OutSample.frame_kernel, OutSample.frame_kernel_ideal, OutSample.frame_reference,
  PoolSample.frame_kernel, PoolSample.frame_kernel_ideal, PoolSample.frame_reference,
  MixSample.frame_kernel, MixSample.frame_kernel_ideal, MixSample.frame_reference,
  Front.preserves, Front.algebraic,
  Ffn.preserves, Ffn.algebraic,
  Out.preserves, Out.algebraic,
  FrontSample.preserves, FrontSample.algebraic,
  FfnSample.preserves, FfnSample.algebraic,
  Mix.preserves, Mix.algebraic,
  Ada.preserves, Ada.algebraic,
  OutSample.preserves, OutSample.algebraic,
  PoolSample.preserves, PoolSample.algebraic,
  MixSample.preserves, MixSample.algebraic⟩

end Cert.Proof

end
